-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleIdeal_reals [hPre_reals : Cert.Pre_reals.Facts] (m : (ℓ : Loc Cert.MiddleIdeal.nD Cert.MiddleIdeal.τ Cert.MiddleIdeal.sig) → Buf (Elt Ideal) ℓ) : Prop :=
  ∀ c : Dev Cert.MiddleIdeal.nD,
    (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.2.2.2.2.2.1 = (fun _ => 1#1)
    ∧ (Cert.Pre_reals.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11))).2.2.2.2.2.2.2.2.2.2.2 = (fun _ => 1#1)

def Pre_MiddleReferenceIdeal (m : (ℓ : Loc Cert.MiddleReferenceIdeal.nD Cert.MiddleReferenceIdeal.τ Cert.MiddleReferenceIdeal.sig) → Buf (Elt Ideal) ℓ) : Prop :=
  True

def Pre_MiddleReferenceIdeal_reals [hPre_reals : Cert.Pre_reals.Facts] (m : (ℓ : Loc Cert.MiddleReferenceIdeal.nD Cert.MiddleReferenceIdeal.τ Cert.MiddleReferenceIdeal.sig) → Buf (Elt Ideal) ℓ) : Prop :=
  ∀ c : Dev Cert.MiddleReferenceIdeal.nD,
    (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.2.2.2.2.2.1 = (fun _ => 1#1)
    ∧ (Cert.Pre_reals.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11))).2.2.2.2.2.2.2.2.2.2.2 = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def Pre_Totals (m : (ℓ : Loc Cert.Totals.nD Cert.Totals.τ Cert.Totals.sig) → Buf (Elt Bits) ℓ) : Prop :=
  True

def Pre_TotalsIdeal (m : (ℓ : Loc Cert.TotalsIdeal.nD Cert.TotalsIdeal.τ Cert.TotalsIdeal.sig) → Buf (Elt Ideal) ℓ) : Prop :=
  True

def Pre_TotalsReferenceIdeal (m : (ℓ : Loc Cert.TotalsReferenceIdeal.nD Cert.TotalsReferenceIdeal.τ Cert.TotalsReferenceIdeal.sig) → Buf (Elt Ideal) ℓ) : Prop :=
  True

def Pre_Feedforward (m : (ℓ : Loc Cert.Feedforward.nD Cert.Feedforward.τ Cert.Feedforward.sig) → Buf (Elt Bits) ℓ) : Prop :=
  True

def Pre_FeedforwardIdeal (m : (ℓ : Loc Cert.FeedforwardIdeal.nD Cert.FeedforwardIdeal.τ Cert.FeedforwardIdeal.sig) → Buf (Elt Ideal) ℓ) : Prop :=
  True

def Pre_FeedforwardReferenceIdeal (m : (ℓ : Loc Cert.FeedforwardReferenceIdeal.nD Cert.FeedforwardReferenceIdeal.τ Cert.FeedforwardReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8)
      ∧ r.2.mem ((c.tc : Thread Cert.Middle.nD Cert.Middle.τ).loc Cert.Middle.main_arg9) = m ((c.tc : Thread Cert.Middle.nD Cert.Middle.τ).loc Cert.Middle.main_arg9)
      ∧ r.2.mem ((c.tc : Thread Cert.Middle.nD Cert.Middle.τ).loc Cert.Middle.main_arg10) = m ((c.tc : Thread Cert.Middle.nD Cert.Middle.τ).loc Cert.Middle.main_arg10)
      ∧ r.2.mem ((c.tc : Thread Cert.Middle.nD Cert.Middle.τ).loc Cert.Middle.main_arg11) = m ((c.tc : Thread Cert.Middle.nD Cert.Middle.τ).loc Cert.Middle.main_arg11))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ r.2.sem = fun _ => 0)

def quiescent_MiddleIdeal_pre_reals [hMiddleIdeal : Cert.MiddleIdeal.Facts] [hPre_reals : Cert.Pre_reals.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal_reals m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8)
      ∧ r.2.mem ((c.tc : Thread Cert.MiddleReferenceIdeal.nD Cert.MiddleReferenceIdeal.τ).loc Cert.MiddleReferenceIdeal.main_arg9) = m ((c.tc : Thread Cert.MiddleReferenceIdeal.nD Cert.MiddleReferenceIdeal.τ).loc Cert.MiddleReferenceIdeal.main_arg9)
      ∧ r.2.mem ((c.tc : Thread Cert.MiddleReferenceIdeal.nD Cert.MiddleReferenceIdeal.τ).loc Cert.MiddleReferenceIdeal.main_arg10) = m ((c.tc : Thread Cert.MiddleReferenceIdeal.nD Cert.MiddleReferenceIdeal.τ).loc Cert.MiddleReferenceIdeal.main_arg10)
      ∧ r.2.mem ((c.tc : Thread Cert.MiddleReferenceIdeal.nD Cert.MiddleReferenceIdeal.τ).loc Cert.MiddleReferenceIdeal.main_arg11) = m ((c.tc : Thread Cert.MiddleReferenceIdeal.nD Cert.MiddleReferenceIdeal.τ).loc Cert.MiddleReferenceIdeal.main_arg11))
      ∧ r.2.sem = fun _ => 0)

def quiescent_MiddleReferenceIdeal_pre_reals [hMiddleReferenceIdeal : Cert.MiddleReferenceIdeal.Facts] [hPre_reals : Cert.Pre_reals.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal_reals m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8)
      ∧ r.2.mem ((c.tc : Thread Cert.MiddleReferenceIdeal.nD Cert.MiddleReferenceIdeal.τ).loc Cert.MiddleReferenceIdeal.main_arg9) = m ((c.tc : Thread Cert.MiddleReferenceIdeal.nD Cert.MiddleReferenceIdeal.τ).loc Cert.MiddleReferenceIdeal.main_arg9)
      ∧ r.2.mem ((c.tc : Thread Cert.MiddleReferenceIdeal.nD Cert.MiddleReferenceIdeal.τ).loc Cert.MiddleReferenceIdeal.main_arg10) = m ((c.tc : Thread Cert.MiddleReferenceIdeal.nD Cert.MiddleReferenceIdeal.τ).loc Cert.MiddleReferenceIdeal.main_arg10)
      ∧ r.2.mem ((c.tc : Thread Cert.MiddleReferenceIdeal.nD Cert.MiddleReferenceIdeal.τ).loc Cert.MiddleReferenceIdeal.main_arg11) = m ((c.tc : Thread Cert.MiddleReferenceIdeal.nD Cert.MiddleReferenceIdeal.τ).loc Cert.MiddleReferenceIdeal.main_arg11))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5)
      ∧ r.2.mem ((c.tc : Thread Cert.Weights.nD Cert.Weights.τ).loc Cert.Weights.main_arg6) = m ((c.tc : Thread Cert.Weights.nD Cert.Weights.τ).loc Cert.Weights.main_arg6)
      ∧ r.2.mem ((c.tc : Thread Cert.Weights.nD Cert.Weights.τ).loc Cert.Weights.main_arg7) = m ((c.tc : Thread Cert.Weights.nD Cert.Weights.τ).loc Cert.Weights.main_arg7)
      ∧ r.2.mem ((c.tc : Thread Cert.Weights.nD Cert.Weights.τ).loc Cert.Weights.main_arg8) = m ((c.tc : Thread Cert.Weights.nD Cert.Weights.τ).loc Cert.Weights.main_arg8))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
      ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
      ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
      ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4)
      ∧ r.2.mem ((c.tc : Thread Cert.WeightsReferenceIdeal.nD Cert.WeightsReferenceIdeal.τ).loc Cert.WeightsReferenceIdeal.main_arg5) = m ((c.tc : Thread Cert.WeightsReferenceIdeal.nD Cert.WeightsReferenceIdeal.τ).loc Cert.WeightsReferenceIdeal.main_arg5)
      ∧ r.2.mem ((c.tc : Thread Cert.WeightsReferenceIdeal.nD Cert.WeightsReferenceIdeal.τ).loc Cert.WeightsReferenceIdeal.main_arg6) = m ((c.tc : Thread Cert.WeightsReferenceIdeal.nD Cert.WeightsReferenceIdeal.τ).loc Cert.WeightsReferenceIdeal.main_arg6)
      ∧ r.2.mem ((c.tc : Thread Cert.WeightsReferenceIdeal.nD Cert.WeightsReferenceIdeal.τ).loc Cert.WeightsReferenceIdeal.main_arg7) = m ((c.tc : Thread Cert.WeightsReferenceIdeal.nD Cert.WeightsReferenceIdeal.τ).loc Cert.WeightsReferenceIdeal.main_arg7)
      ∧ r.2.mem ((c.tc : Thread Cert.WeightsReferenceIdeal.nD Cert.WeightsReferenceIdeal.τ).loc Cert.WeightsReferenceIdeal.main_arg8) = m ((c.tc : Thread Cert.WeightsReferenceIdeal.nD Cert.WeightsReferenceIdeal.τ).loc Cert.WeightsReferenceIdeal.main_arg8))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9)
      ∧ r.2.mem ((c.tc : Thread Cert.Update.nD Cert.Update.τ).loc Cert.Update.main_arg10) = m ((c.tc : Thread Cert.Update.nD Cert.Update.τ).loc Cert.Update.main_arg10)
      ∧ r.2.mem ((c.tc : Thread Cert.Update.nD Cert.Update.τ).loc Cert.Update.main_arg11) = m ((c.tc : Thread Cert.Update.nD Cert.Update.τ).loc Cert.Update.main_arg11)
      ∧ r.2.mem ((c.tc : Thread Cert.Update.nD Cert.Update.τ).loc Cert.Update.main_arg12) = m ((c.tc : Thread Cert.Update.nD Cert.Update.τ).loc Cert.Update.main_arg12)
      ∧ r.2.mem ((c.tc : Thread Cert.Update.nD Cert.Update.τ).loc Cert.Update.main_arg13) = m ((c.tc : Thread Cert.Update.nD Cert.Update.τ).loc Cert.Update.main_arg13)
      ∧ r.2.mem ((c.tc : Thread Cert.Update.nD Cert.Update.τ).loc Cert.Update.main_arg14) = m ((c.tc : Thread Cert.Update.nD Cert.Update.τ).loc Cert.Update.main_arg14)
      ∧ r.2.mem ((c.tc : Thread Cert.Update.nD Cert.Update.τ).loc Cert.Update.main_arg15) = m ((c.tc : Thread Cert.Update.nD Cert.Update.τ).loc Cert.Update.main_arg15))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
      ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
      ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
      ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
      ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3)
      ∧ r.2.mem ((c.tc : Thread Cert.UpdateReferenceIdeal.nD Cert.UpdateReferenceIdeal.τ).loc Cert.UpdateReferenceIdeal.main_arg4) = m ((c.tc : Thread Cert.UpdateReferenceIdeal.nD Cert.UpdateReferenceIdeal.τ).loc Cert.UpdateReferenceIdeal.main_arg4)
      ∧ r.2.mem ((c.tc : Thread Cert.UpdateReferenceIdeal.nD Cert.UpdateReferenceIdeal.τ).loc Cert.UpdateReferenceIdeal.main_arg5) = m ((c.tc : Thread Cert.UpdateReferenceIdeal.nD Cert.UpdateReferenceIdeal.τ).loc Cert.UpdateReferenceIdeal.main_arg5)
      ∧ r.2.mem ((c.tc : Thread Cert.UpdateReferenceIdeal.nD Cert.UpdateReferenceIdeal.τ).loc Cert.UpdateReferenceIdeal.main_arg6) = m ((c.tc : Thread Cert.UpdateReferenceIdeal.nD Cert.UpdateReferenceIdeal.τ).loc Cert.UpdateReferenceIdeal.main_arg6)
      ∧ r.2.mem ((c.tc : Thread Cert.UpdateReferenceIdeal.nD Cert.UpdateReferenceIdeal.τ).loc Cert.UpdateReferenceIdeal.main_arg7) = m ((c.tc : Thread Cert.UpdateReferenceIdeal.nD Cert.UpdateReferenceIdeal.τ).loc Cert.UpdateReferenceIdeal.main_arg7)
      ∧ r.2.mem ((c.tc : Thread Cert.UpdateReferenceIdeal.nD Cert.UpdateReferenceIdeal.τ).loc Cert.UpdateReferenceIdeal.main_arg8) = m ((c.tc : Thread Cert.UpdateReferenceIdeal.nD Cert.UpdateReferenceIdeal.τ).loc Cert.UpdateReferenceIdeal.main_arg8)
      ∧ r.2.mem ((c.tc : Thread Cert.UpdateReferenceIdeal.nD Cert.UpdateReferenceIdeal.τ).loc Cert.UpdateReferenceIdeal.main_arg9) = m ((c.tc : Thread Cert.UpdateReferenceIdeal.nD Cert.UpdateReferenceIdeal.τ).loc Cert.UpdateReferenceIdeal.main_arg9)
      ∧ r.2.mem ((c.tc : Thread Cert.UpdateReferenceIdeal.nD Cert.UpdateReferenceIdeal.τ).loc Cert.UpdateReferenceIdeal.main_arg10) = m ((c.tc : Thread Cert.UpdateReferenceIdeal.nD Cert.UpdateReferenceIdeal.τ).loc Cert.UpdateReferenceIdeal.main_arg10)
      ∧ r.2.mem ((c.tc : Thread Cert.UpdateReferenceIdeal.nD Cert.UpdateReferenceIdeal.τ).loc Cert.UpdateReferenceIdeal.main_arg11) = m ((c.tc : Thread Cert.UpdateReferenceIdeal.nD Cert.UpdateReferenceIdeal.τ).loc Cert.UpdateReferenceIdeal.main_arg11)
      ∧ r.2.mem ((c.tc : Thread Cert.UpdateReferenceIdeal.nD Cert.UpdateReferenceIdeal.τ).loc Cert.UpdateReferenceIdeal.main_arg12) = m ((c.tc : Thread Cert.UpdateReferenceIdeal.nD Cert.UpdateReferenceIdeal.τ).loc Cert.UpdateReferenceIdeal.main_arg12)
      ∧ r.2.mem ((c.tc : Thread Cert.UpdateReferenceIdeal.nD Cert.UpdateReferenceIdeal.τ).loc Cert.UpdateReferenceIdeal.main_arg13) = m ((c.tc : Thread Cert.UpdateReferenceIdeal.nD Cert.UpdateReferenceIdeal.τ).loc Cert.UpdateReferenceIdeal.main_arg13)
      ∧ r.2.mem ((c.tc : Thread Cert.UpdateReferenceIdeal.nD Cert.UpdateReferenceIdeal.τ).loc Cert.UpdateReferenceIdeal.main_arg14) = m ((c.tc : Thread Cert.UpdateReferenceIdeal.nD Cert.UpdateReferenceIdeal.τ).loc Cert.UpdateReferenceIdeal.main_arg14)
      ∧ r.2.mem ((c.tc : Thread Cert.UpdateReferenceIdeal.nD Cert.UpdateReferenceIdeal.τ).loc Cert.UpdateReferenceIdeal.main_arg15) = m ((c.tc : Thread Cert.UpdateReferenceIdeal.nD Cert.UpdateReferenceIdeal.τ).loc Cert.UpdateReferenceIdeal.main_arg15))
      ∧ r.2.sem = fun _ => 0)

def quiescent_Totals [hTotals : Cert.Totals.Facts] : Prop :=
  ∀ (m : (ℓ : Loc Cert.Totals.nD Cert.Totals.τ Cert.Totals.sig) → Buf (Elt Bits) ℓ) (g : Dev Cert.Totals.nD → PrngReg), Pre_Totals m →
    θ_run (Cert.Totals.defs (F := Bits)) (onTc (τ := Cert.Totals.τ) (Cert.Totals.main (F := Bits))) ⟨m, fun _ => 0, g⟩ (fun r => (∀ c : Dev Cert.Totals.nD,
      r.2.mem ((c.tc : Thread Cert.Totals.nD Cert.Totals.τ).loc Cert.Totals.main_arg0) = m ((c.tc : Thread Cert.Totals.nD Cert.Totals.τ).loc Cert.Totals.main_arg0))
      ∧ r.2.sem = fun _ => 0)

def quiescent_TotalsIdeal [hTotalsIdeal : Cert.TotalsIdeal.Facts] : Prop :=
  ∀ (m : (ℓ : Loc Cert.TotalsIdeal.nD Cert.TotalsIdeal.τ Cert.TotalsIdeal.sig) → Buf (Elt Ideal) ℓ) (g : Dev Cert.TotalsIdeal.nD → PrngReg), Pre_TotalsIdeal m →
    θ_run (Cert.TotalsIdeal.defs (F := Ideal)) (onTc (τ := Cert.TotalsIdeal.τ) (Cert.TotalsIdeal.main (F := Ideal))) ⟨m, fun _ => 0, g⟩ (fun r => (∀ c : Dev Cert.TotalsIdeal.nD,
      r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ r.2.sem = fun _ => 0)

def quiescent_TotalsReferenceIdeal [hTotalsReferenceIdeal : Cert.TotalsReferenceIdeal.Facts] : Prop :=
  ∀ (m : (ℓ : Loc Cert.TotalsReferenceIdeal.nD Cert.TotalsReferenceIdeal.τ Cert.TotalsReferenceIdeal.sig) → Buf (Elt Ideal) ℓ) (g : Dev Cert.TotalsReferenceIdeal.nD → PrngReg), Pre_TotalsReferenceIdeal m →
    θ_run (Cert.TotalsReferenceIdeal.defs (F := Ideal)) (onTc (τ := Cert.TotalsReferenceIdeal.τ) (Cert.TotalsReferenceIdeal.main (F := Ideal))) ⟨m, fun _ => 0, g⟩ (fun r => (∀ c : Dev Cert.TotalsReferenceIdeal.nD,
      r.2.mem ((c.tc : Thread Cert.TotalsReferenceIdeal.nD Cert.TotalsReferenceIdeal.τ).loc Cert.TotalsReferenceIdeal.main_arg0) = m ((c.tc : Thread Cert.TotalsReferenceIdeal.nD Cert.TotalsReferenceIdeal.τ).loc Cert.TotalsReferenceIdeal.main_arg0))
      ∧ r.2.sem = fun _ => 0)

def quiescent_Feedforward [hFeedforward : Cert.Feedforward.Facts] : Prop :=
  ∀ (m : (ℓ : Loc Cert.Feedforward.nD Cert.Feedforward.τ Cert.Feedforward.sig) → Buf (Elt Bits) ℓ) (g : Dev Cert.Feedforward.nD → PrngReg), Pre_Feedforward m →
    θ_run (Cert.Feedforward.defs (F := Bits)) (onTc (τ := Cert.Feedforward.τ) (Cert.Feedforward.main (F := Bits))) ⟨m, fun _ => 0, g⟩ (fun r => (∀ c : Dev Cert.Feedforward.nD,
      r.2.mem ((c.tc : Thread Cert.Feedforward.nD Cert.Feedforward.τ).loc Cert.Feedforward.main_arg0) = m ((c.tc : Thread Cert.Feedforward.nD Cert.Feedforward.τ).loc Cert.Feedforward.main_arg0)
      ∧ r.2.mem ((c.tc : Thread Cert.Feedforward.nD Cert.Feedforward.τ).loc Cert.Feedforward.main_arg1) = m ((c.tc : Thread Cert.Feedforward.nD Cert.Feedforward.τ).loc Cert.Feedforward.main_arg1)
      ∧ r.2.mem ((c.tc : Thread Cert.Feedforward.nD Cert.Feedforward.τ).loc Cert.Feedforward.main_arg2) = m ((c.tc : Thread Cert.Feedforward.nD Cert.Feedforward.τ).loc Cert.Feedforward.main_arg2)
      ∧ r.2.mem ((c.tc : Thread Cert.Feedforward.nD Cert.Feedforward.τ).loc Cert.Feedforward.main_arg3) = m ((c.tc : Thread Cert.Feedforward.nD Cert.Feedforward.τ).loc Cert.Feedforward.main_arg3)
      ∧ r.2.mem ((c.tc : Thread Cert.Feedforward.nD Cert.Feedforward.τ).loc Cert.Feedforward.main_arg4) = m ((c.tc : Thread Cert.Feedforward.nD Cert.Feedforward.τ).loc Cert.Feedforward.main_arg4)
      ∧ r.2.mem ((c.tc : Thread Cert.Feedforward.nD Cert.Feedforward.τ).loc Cert.Feedforward.main_arg5) = m ((c.tc : Thread Cert.Feedforward.nD Cert.Feedforward.τ).loc Cert.Feedforward.main_arg5)
      ∧ r.2.mem ((c.tc : Thread Cert.Feedforward.nD Cert.Feedforward.τ).loc Cert.Feedforward.main_arg6) = m ((c.tc : Thread Cert.Feedforward.nD Cert.Feedforward.τ).loc Cert.Feedforward.main_arg6)
      ∧ r.2.mem ((c.tc : Thread Cert.Feedforward.nD Cert.Feedforward.τ).loc Cert.Feedforward.main_arg7) = m ((c.tc : Thread Cert.Feedforward.nD Cert.Feedforward.τ).loc Cert.Feedforward.main_arg7)
      ∧ r.2.mem ((c.tc : Thread Cert.Feedforward.nD Cert.Feedforward.τ).loc Cert.Feedforward.main_arg8) = m ((c.tc : Thread Cert.Feedforward.nD Cert.Feedforward.τ).loc Cert.Feedforward.main_arg8)
      ∧ r.2.mem ((c.tc : Thread Cert.Feedforward.nD Cert.Feedforward.τ).loc Cert.Feedforward.main_arg9) = m ((c.tc : Thread Cert.Feedforward.nD Cert.Feedforward.τ).loc Cert.Feedforward.main_arg9)
      ∧ r.2.mem ((c.tc : Thread Cert.Feedforward.nD Cert.Feedforward.τ).loc Cert.Feedforward.main_arg10) = m ((c.tc : Thread Cert.Feedforward.nD Cert.Feedforward.τ).loc Cert.Feedforward.main_arg10)
      ∧ r.2.mem ((c.tc : Thread Cert.Feedforward.nD Cert.Feedforward.τ).loc Cert.Feedforward.main_arg11) = m ((c.tc : Thread Cert.Feedforward.nD Cert.Feedforward.τ).loc Cert.Feedforward.main_arg11))
      ∧ r.2.sem = fun _ => 0)

def quiescent_FeedforwardIdeal [hFeedforwardIdeal : Cert.FeedforwardIdeal.Facts] : Prop :=
  ∀ (m : (ℓ : Loc Cert.FeedforwardIdeal.nD Cert.FeedforwardIdeal.τ Cert.FeedforwardIdeal.sig) → Buf (Elt Ideal) ℓ) (g : Dev Cert.FeedforwardIdeal.nD → PrngReg), Pre_FeedforwardIdeal m →
    θ_run (Cert.FeedforwardIdeal.defs (F := Ideal)) (onTc (τ := Cert.FeedforwardIdeal.τ) (Cert.FeedforwardIdeal.main (F := Ideal))) ⟨m, fun _ => 0, g⟩ (fun r => (∀ c : Dev Cert.FeedforwardIdeal.nD,
      r.2.mem ((c.tc : Thread Cert.FeedforwardIdeal.nD Cert.FeedforwardIdeal.τ).loc Cert.FeedforwardIdeal.main_arg0) = m ((c.tc : Thread Cert.FeedforwardIdeal.nD Cert.FeedforwardIdeal.τ).loc Cert.FeedforwardIdeal.main_arg0)
      ∧ r.2.mem ((c.tc : Thread Cert.FeedforwardIdeal.nD Cert.FeedforwardIdeal.τ).loc Cert.FeedforwardIdeal.main_arg1) = m ((c.tc : Thread Cert.FeedforwardIdeal.nD Cert.FeedforwardIdeal.τ).loc Cert.FeedforwardIdeal.main_arg1)
      ∧ r.2.mem ((c.tc : Thread Cert.FeedforwardIdeal.nD Cert.FeedforwardIdeal.τ).loc Cert.FeedforwardIdeal.main_arg2) = m ((c.tc : Thread Cert.FeedforwardIdeal.nD Cert.FeedforwardIdeal.τ).loc Cert.FeedforwardIdeal.main_arg2)
      ∧ r.2.mem ((c.tc : Thread Cert.FeedforwardIdeal.nD Cert.FeedforwardIdeal.τ).loc Cert.FeedforwardIdeal.main_arg3) = m ((c.tc : Thread Cert.FeedforwardIdeal.nD Cert.FeedforwardIdeal.τ).loc Cert.FeedforwardIdeal.main_arg3)
      ∧ r.2.mem ((c.tc : Thread Cert.FeedforwardIdeal.nD Cert.FeedforwardIdeal.τ).loc Cert.FeedforwardIdeal.main_arg4) = m ((c.tc : Thread Cert.FeedforwardIdeal.nD Cert.FeedforwardIdeal.τ).loc Cert.FeedforwardIdeal.main_arg4)
      ∧ r.2.mem ((c.tc : Thread Cert.FeedforwardIdeal.nD Cert.FeedforwardIdeal.τ).loc Cert.FeedforwardIdeal.main_arg5) = m ((c.tc : Thread Cert.FeedforwardIdeal.nD Cert.FeedforwardIdeal.τ).loc Cert.FeedforwardIdeal.main_arg5)
      ∧ r.2.mem ((c.tc : Thread Cert.FeedforwardIdeal.nD Cert.FeedforwardIdeal.τ).loc Cert.FeedforwardIdeal.main_arg6) = m ((c.tc : Thread Cert.FeedforwardIdeal.nD Cert.FeedforwardIdeal.τ).loc Cert.FeedforwardIdeal.main_arg6)
      ∧ r.2.mem ((c.tc : Thread Cert.FeedforwardIdeal.nD Cert.FeedforwardIdeal.τ).loc Cert.FeedforwardIdeal.main_arg7) = m ((c.tc : Thread Cert.FeedforwardIdeal.nD Cert.FeedforwardIdeal.τ).loc Cert.FeedforwardIdeal.main_arg7)
      ∧ r.2.mem ((c.tc : Thread Cert.FeedforwardIdeal.nD Cert.FeedforwardIdeal.τ).loc Cert.FeedforwardIdeal.main_arg8) = m ((c.tc : Thread Cert.FeedforwardIdeal.nD Cert.FeedforwardIdeal.τ).loc Cert.FeedforwardIdeal.main_arg8)
      ∧ r.2.mem ((c.tc : Thread Cert.FeedforwardIdeal.nD Cert.FeedforwardIdeal.τ).loc Cert.FeedforwardIdeal.main_arg9) = m ((c.tc : Thread Cert.FeedforwardIdeal.nD Cert.FeedforwardIdeal.τ).loc Cert.FeedforwardIdeal.main_arg9)
      ∧ r.2.mem ((c.tc : Thread Cert.FeedforwardIdeal.nD Cert.FeedforwardIdeal.τ).loc Cert.FeedforwardIdeal.main_arg10) = m ((c.tc : Thread Cert.FeedforwardIdeal.nD Cert.FeedforwardIdeal.τ).loc Cert.FeedforwardIdeal.main_arg10)
      ∧ r.2.mem ((c.tc : Thread Cert.FeedforwardIdeal.nD Cert.FeedforwardIdeal.τ).loc Cert.FeedforwardIdeal.main_arg11) = m ((c.tc : Thread Cert.FeedforwardIdeal.nD Cert.FeedforwardIdeal.τ).loc Cert.FeedforwardIdeal.main_arg11))
      ∧ r.2.sem = fun _ => 0)

def quiescent_FeedforwardReferenceIdeal [hFeedforwardReferenceIdeal : Cert.FeedforwardReferenceIdeal.Facts] : Prop :=
  ∀ (m : (ℓ : Loc Cert.FeedforwardReferenceIdeal.nD Cert.FeedforwardReferenceIdeal.τ Cert.FeedforwardReferenceIdeal.sig) → Buf (Elt Ideal) ℓ) (g : Dev Cert.FeedforwardReferenceIdeal.nD → PrngReg), Pre_FeedforwardReferenceIdeal m →
    θ_run (Cert.FeedforwardReferenceIdeal.defs (F := Ideal)) (onTc (τ := Cert.FeedforwardReferenceIdeal.τ) (Cert.FeedforwardReferenceIdeal.main (F := Ideal))) ⟨m, fun _ => 0, g⟩ (fun r => (∀ c : Dev Cert.FeedforwardReferenceIdeal.nD,
      r.2.mem ((c.tc : Thread Cert.FeedforwardReferenceIdeal.nD Cert.FeedforwardReferenceIdeal.τ).loc Cert.FeedforwardReferenceIdeal.main_arg0) = m ((c.tc : Thread Cert.FeedforwardReferenceIdeal.nD Cert.FeedforwardReferenceIdeal.τ).loc Cert.FeedforwardReferenceIdeal.main_arg0)
      ∧ r.2.mem ((c.tc : Thread Cert.FeedforwardReferenceIdeal.nD Cert.FeedforwardReferenceIdeal.τ).loc Cert.FeedforwardReferenceIdeal.main_arg1) = m ((c.tc : Thread Cert.FeedforwardReferenceIdeal.nD Cert.FeedforwardReferenceIdeal.τ).loc Cert.FeedforwardReferenceIdeal.main_arg1)
      ∧ r.2.mem ((c.tc : Thread Cert.FeedforwardReferenceIdeal.nD Cert.FeedforwardReferenceIdeal.τ).loc Cert.FeedforwardReferenceIdeal.main_arg2) = m ((c.tc : Thread Cert.FeedforwardReferenceIdeal.nD Cert.FeedforwardReferenceIdeal.τ).loc Cert.FeedforwardReferenceIdeal.main_arg2)
      ∧ r.2.mem ((c.tc : Thread Cert.FeedforwardReferenceIdeal.nD Cert.FeedforwardReferenceIdeal.τ).loc Cert.FeedforwardReferenceIdeal.main_arg3) = m ((c.tc : Thread Cert.FeedforwardReferenceIdeal.nD Cert.FeedforwardReferenceIdeal.τ).loc Cert.FeedforwardReferenceIdeal.main_arg3)
      ∧ r.2.mem ((c.tc : Thread Cert.FeedforwardReferenceIdeal.nD Cert.FeedforwardReferenceIdeal.τ).loc Cert.FeedforwardReferenceIdeal.main_arg4) = m ((c.tc : Thread Cert.FeedforwardReferenceIdeal.nD Cert.FeedforwardReferenceIdeal.τ).loc Cert.FeedforwardReferenceIdeal.main_arg4)
      ∧ r.2.mem ((c.tc : Thread Cert.FeedforwardReferenceIdeal.nD Cert.FeedforwardReferenceIdeal.τ).loc Cert.FeedforwardReferenceIdeal.main_arg5) = m ((c.tc : Thread Cert.FeedforwardReferenceIdeal.nD Cert.FeedforwardReferenceIdeal.τ).loc Cert.FeedforwardReferenceIdeal.main_arg5)
      ∧ r.2.mem ((c.tc : Thread Cert.FeedforwardReferenceIdeal.nD Cert.FeedforwardReferenceIdeal.τ).loc Cert.FeedforwardReferenceIdeal.main_arg6) = m ((c.tc : Thread Cert.FeedforwardReferenceIdeal.nD Cert.FeedforwardReferenceIdeal.τ).loc Cert.FeedforwardReferenceIdeal.main_arg6)
      ∧ r.2.mem ((c.tc : Thread Cert.FeedforwardReferenceIdeal.nD Cert.FeedforwardReferenceIdeal.τ).loc Cert.FeedforwardReferenceIdeal.main_arg7) = m ((c.tc : Thread Cert.FeedforwardReferenceIdeal.nD Cert.FeedforwardReferenceIdeal.τ).loc Cert.FeedforwardReferenceIdeal.main_arg7)
      ∧ r.2.mem ((c.tc : Thread Cert.FeedforwardReferenceIdeal.nD Cert.FeedforwardReferenceIdeal.τ).loc Cert.FeedforwardReferenceIdeal.main_arg8) = m ((c.tc : Thread Cert.FeedforwardReferenceIdeal.nD Cert.FeedforwardReferenceIdeal.τ).loc Cert.FeedforwardReferenceIdeal.main_arg8)
      ∧ r.2.mem ((c.tc : Thread Cert.FeedforwardReferenceIdeal.nD Cert.FeedforwardReferenceIdeal.τ).loc Cert.FeedforwardReferenceIdeal.main_arg9) = m ((c.tc : Thread Cert.FeedforwardReferenceIdeal.nD Cert.FeedforwardReferenceIdeal.τ).loc Cert.FeedforwardReferenceIdeal.main_arg9)
      ∧ r.2.mem ((c.tc : Thread Cert.FeedforwardReferenceIdeal.nD Cert.FeedforwardReferenceIdeal.τ).loc Cert.FeedforwardReferenceIdeal.main_arg10) = m ((c.tc : Thread Cert.FeedforwardReferenceIdeal.nD Cert.FeedforwardReferenceIdeal.τ).loc Cert.FeedforwardReferenceIdeal.main_arg10)
      ∧ r.2.mem ((c.tc : Thread Cert.FeedforwardReferenceIdeal.nD Cert.FeedforwardReferenceIdeal.τ).loc Cert.FeedforwardReferenceIdeal.main_arg11) = m ((c.tc : Thread Cert.FeedforwardReferenceIdeal.nD Cert.FeedforwardReferenceIdeal.τ).loc Cert.FeedforwardReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Middle_MiddleIdeal : Prop :=
  True

def algebraic_MiddleIdeal_MiddleReferenceIdeal_pre_reals [hMiddleIdeal : Cert.MiddleIdeal.Facts] [hMiddleReferenceIdeal : Cert.MiddleReferenceIdeal.Facts] [hPre_reals : Cert.Pre_reals.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal_reals m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)
      ∧ m' ((c.tc : Thread Cert.MiddleReferenceIdeal.nD Cert.MiddleReferenceIdeal.τ).loc Cert.MiddleReferenceIdeal.main_arg2) = m ((c.tc : Thread Cert.MiddleIdeal.nD Cert.MiddleIdeal.τ).loc Cert.MiddleIdeal.main_arg2)
      ∧ m' ((c.tc : Thread Cert.MiddleReferenceIdeal.nD Cert.MiddleReferenceIdeal.τ).loc Cert.MiddleReferenceIdeal.main_arg3) = m ((c.tc : Thread Cert.MiddleIdeal.nD Cert.MiddleIdeal.τ).loc Cert.MiddleIdeal.main_arg3)
      ∧ m' ((c.tc : Thread Cert.MiddleReferenceIdeal.nD Cert.MiddleReferenceIdeal.τ).loc Cert.MiddleReferenceIdeal.main_arg4) = m ((c.tc : Thread Cert.MiddleIdeal.nD Cert.MiddleIdeal.τ).loc Cert.MiddleIdeal.main_arg4)
      ∧ m' ((c.tc : Thread Cert.MiddleReferenceIdeal.nD Cert.MiddleReferenceIdeal.τ).loc Cert.MiddleReferenceIdeal.main_arg5) = m ((c.tc : Thread Cert.MiddleIdeal.nD Cert.MiddleIdeal.τ).loc Cert.MiddleIdeal.main_arg5)
      ∧ m' ((c.tc : Thread Cert.MiddleReferenceIdeal.nD Cert.MiddleReferenceIdeal.τ).loc Cert.MiddleReferenceIdeal.main_arg6) = m ((c.tc : Thread Cert.MiddleIdeal.nD Cert.MiddleIdeal.τ).loc Cert.MiddleIdeal.main_arg6)
      ∧ m' ((c.tc : Thread Cert.MiddleReferenceIdeal.nD Cert.MiddleReferenceIdeal.τ).loc Cert.MiddleReferenceIdeal.main_arg7) = m ((c.tc : Thread Cert.MiddleIdeal.nD Cert.MiddleIdeal.τ).loc Cert.MiddleIdeal.main_arg7)
      ∧ m' ((c.tc : Thread Cert.MiddleReferenceIdeal.nD Cert.MiddleReferenceIdeal.τ).loc Cert.MiddleReferenceIdeal.main_arg8) = m ((c.tc : Thread Cert.MiddleIdeal.nD Cert.MiddleIdeal.τ).loc Cert.MiddleIdeal.main_arg8)
      ∧ m' ((c.tc : Thread Cert.MiddleReferenceIdeal.nD Cert.MiddleReferenceIdeal.τ).loc Cert.MiddleReferenceIdeal.main_arg9) = m ((c.tc : Thread Cert.MiddleIdeal.nD Cert.MiddleIdeal.τ).loc Cert.MiddleIdeal.main_arg9)
      ∧ m' ((c.tc : Thread Cert.MiddleReferenceIdeal.nD Cert.MiddleReferenceIdeal.τ).loc Cert.MiddleReferenceIdeal.main_arg10) = m ((c.tc : Thread Cert.MiddleIdeal.nD Cert.MiddleIdeal.τ).loc Cert.MiddleIdeal.main_arg10)
      ∧ m' ((c.tc : Thread Cert.MiddleReferenceIdeal.nD Cert.MiddleReferenceIdeal.τ).loc Cert.MiddleReferenceIdeal.main_arg11) = m ((c.tc : Thread Cert.MiddleIdeal.nD Cert.MiddleIdeal.τ).loc Cert.MiddleIdeal.main_arg11)) →
    ∃ (v0 : (c : Dev Cert.MiddleIdeal.nD) → Buf (Elt Ideal) ((c.tc : Thread Cert.MiddleIdeal.nD Cert.MiddleIdeal.τ).loc Cert.MiddleIdeal.main_v0_0)) (v1 : (c : Dev Cert.MiddleIdeal.nD) → Buf (Elt Ideal) ((c.tc : Thread Cert.MiddleIdeal.nD Cert.MiddleIdeal.τ).loc Cert.MiddleIdeal.main_v0_1)) (v2 : (c : Dev Cert.MiddleIdeal.nD) → Buf (Elt Ideal) ((c.tc : Thread Cert.MiddleIdeal.nD Cert.MiddleIdeal.τ).loc Cert.MiddleIdeal.main_v0_2)) (v3 : (c : Dev Cert.MiddleIdeal.nD) → Buf (Elt Ideal) ((c.tc : Thread Cert.MiddleIdeal.nD Cert.MiddleIdeal.τ).loc Cert.MiddleIdeal.main_v0_3)) (v4 : (c : Dev Cert.MiddleIdeal.nD) → Buf (Elt Ideal) ((c.tc : Thread Cert.MiddleIdeal.nD Cert.MiddleIdeal.τ).loc Cert.MiddleIdeal.main_v0_4)) (v5 : (c : Dev Cert.MiddleIdeal.nD) → Buf (Elt Ideal) ((c.tc : Thread Cert.MiddleIdeal.nD Cert.MiddleIdeal.τ).loc Cert.MiddleIdeal.main_v0_5)) (v6 : (c : Dev Cert.MiddleIdeal.nD) → Buf (Elt Ideal) ((c.tc : Thread Cert.MiddleIdeal.nD Cert.MiddleIdeal.τ).loc Cert.MiddleIdeal.main_v0_6)) (v7 : (c : Dev Cert.MiddleIdeal.nD) → Buf (Elt Ideal) ((c.tc : Thread Cert.MiddleIdeal.nD Cert.MiddleIdeal.τ).loc Cert.MiddleIdeal.main_v0_7)) (v8 : (c : Dev Cert.MiddleIdeal.nD) → Buf (Elt Ideal) ((c.tc : Thread Cert.MiddleIdeal.nD Cert.MiddleIdeal.τ).loc Cert.MiddleIdeal.main_v0_8)) (v9 : (c : Dev Cert.MiddleIdeal.nD) → Buf (Elt Ideal) ((c.tc : Thread Cert.MiddleIdeal.nD Cert.MiddleIdeal.τ).loc Cert.MiddleIdeal.main_v0_9)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v0_0) = v0 c
          ∧ r.2.mem ((c.tc : Thread Cert.MiddleIdeal.nD Cert.MiddleIdeal.τ).loc Cert.MiddleIdeal.main_v0_1) = v1 c
          ∧ r.2.mem ((c.tc : Thread Cert.MiddleIdeal.nD Cert.MiddleIdeal.τ).loc Cert.MiddleIdeal.main_v0_2) = v2 c
          ∧ r.2.mem ((c.tc : Thread Cert.MiddleIdeal.nD Cert.MiddleIdeal.τ).loc Cert.MiddleIdeal.main_v0_3) = v3 c
          ∧ r.2.mem ((c.tc : Thread Cert.MiddleIdeal.nD Cert.MiddleIdeal.τ).loc Cert.MiddleIdeal.main_v0_4) = v4 c
          ∧ r.2.mem ((c.tc : Thread Cert.MiddleIdeal.nD Cert.MiddleIdeal.τ).loc Cert.MiddleIdeal.main_v0_5) = v5 c
          ∧ r.2.mem ((c.tc : Thread Cert.MiddleIdeal.nD Cert.MiddleIdeal.τ).loc Cert.MiddleIdeal.main_v0_6) = v6 c
          ∧ r.2.mem ((c.tc : Thread Cert.MiddleIdeal.nD Cert.MiddleIdeal.τ).loc Cert.MiddleIdeal.main_v0_7) = v7 c
          ∧ r.2.mem ((c.tc : Thread Cert.MiddleIdeal.nD Cert.MiddleIdeal.τ).loc Cert.MiddleIdeal.main_v0_8) = v8 c
          ∧ r.2.mem ((c.tc : Thread Cert.MiddleIdeal.nD Cert.MiddleIdeal.τ).loc Cert.MiddleIdeal.main_v0_9) = v9 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
          ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
          ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
          ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v180) = v0 c
          ∧ r.2.mem ((c.tc : Thread Cert.MiddleReferenceIdeal.nD Cert.MiddleReferenceIdeal.τ).loc Cert.MiddleReferenceIdeal.main_v181) = v1 c
          ∧ r.2.mem ((c.tc : Thread Cert.MiddleReferenceIdeal.nD Cert.MiddleReferenceIdeal.τ).loc Cert.MiddleReferenceIdeal.main_v182) = v2 c
          ∧ r.2.mem ((c.tc : Thread Cert.MiddleReferenceIdeal.nD Cert.MiddleReferenceIdeal.τ).loc Cert.MiddleReferenceIdeal.main_v183) = v3 c
          ∧ r.2.mem ((c.tc : Thread Cert.MiddleReferenceIdeal.nD Cert.MiddleReferenceIdeal.τ).loc Cert.MiddleReferenceIdeal.main_v184) = v4 c
          ∧ r.2.mem ((c.tc : Thread Cert.MiddleReferenceIdeal.nD Cert.MiddleReferenceIdeal.τ).loc Cert.MiddleReferenceIdeal.main_v185) = v5 c
          ∧ r.2.mem ((c.tc : Thread Cert.MiddleReferenceIdeal.nD Cert.MiddleReferenceIdeal.τ).loc Cert.MiddleReferenceIdeal.main_v134) = v6 c
          ∧ r.2.mem ((c.tc : Thread Cert.MiddleReferenceIdeal.nD Cert.MiddleReferenceIdeal.τ).loc Cert.MiddleReferenceIdeal.main_v186) = v7 c
          ∧ r.2.mem ((c.tc : Thread Cert.MiddleReferenceIdeal.nD Cert.MiddleReferenceIdeal.τ).loc Cert.MiddleReferenceIdeal.main_v187) = v8 c
          ∧ r.2.mem ((c.tc : Thread Cert.MiddleReferenceIdeal.nD Cert.MiddleReferenceIdeal.τ).loc Cert.MiddleReferenceIdeal.main_v179) = v9 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
          ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
          ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
          ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
          ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5)
          ∧ r.2.mem ((c.tc : Thread Cert.MiddleReferenceIdeal.nD Cert.MiddleReferenceIdeal.τ).loc Cert.MiddleReferenceIdeal.main_arg6) = m' ((c.tc : Thread Cert.MiddleReferenceIdeal.nD Cert.MiddleReferenceIdeal.τ).loc Cert.MiddleReferenceIdeal.main_arg6)
          ∧ r.2.mem ((c.tc : Thread Cert.MiddleReferenceIdeal.nD Cert.MiddleReferenceIdeal.τ).loc Cert.MiddleReferenceIdeal.main_arg7) = m' ((c.tc : Thread Cert.MiddleReferenceIdeal.nD Cert.MiddleReferenceIdeal.τ).loc Cert.MiddleReferenceIdeal.main_arg7)
          ∧ r.2.mem ((c.tc : Thread Cert.MiddleReferenceIdeal.nD Cert.MiddleReferenceIdeal.τ).loc Cert.MiddleReferenceIdeal.main_arg8) = m' ((c.tc : Thread Cert.MiddleReferenceIdeal.nD Cert.MiddleReferenceIdeal.τ).loc Cert.MiddleReferenceIdeal.main_arg8)
          ∧ r.2.mem ((c.tc : Thread Cert.MiddleReferenceIdeal.nD Cert.MiddleReferenceIdeal.τ).loc Cert.MiddleReferenceIdeal.main_arg9) = m' ((c.tc : Thread Cert.MiddleReferenceIdeal.nD Cert.MiddleReferenceIdeal.τ).loc Cert.MiddleReferenceIdeal.main_arg9)
          ∧ r.2.mem ((c.tc : Thread Cert.MiddleReferenceIdeal.nD Cert.MiddleReferenceIdeal.τ).loc Cert.MiddleReferenceIdeal.main_arg10) = m' ((c.tc : Thread Cert.MiddleReferenceIdeal.nD Cert.MiddleReferenceIdeal.τ).loc Cert.MiddleReferenceIdeal.main_arg10)
          ∧ r.2.mem ((c.tc : Thread Cert.MiddleReferenceIdeal.nD Cert.MiddleReferenceIdeal.τ).loc Cert.MiddleReferenceIdeal.main_arg11) = m' ((c.tc : Thread Cert.MiddleReferenceIdeal.nD Cert.MiddleReferenceIdeal.τ).loc Cert.MiddleReferenceIdeal.main_arg11))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)
      ∧ m' ((c.tc : Thread Cert.WeightsReferenceIdeal.nD Cert.WeightsReferenceIdeal.τ).loc Cert.WeightsReferenceIdeal.main_arg2) = m ((c.tc : Thread Cert.WeightsIdeal.nD Cert.WeightsIdeal.τ).loc Cert.WeightsIdeal.main_arg2)
      ∧ m' ((c.tc : Thread Cert.WeightsReferenceIdeal.nD Cert.WeightsReferenceIdeal.τ).loc Cert.WeightsReferenceIdeal.main_arg3) = m ((c.tc : Thread Cert.WeightsIdeal.nD Cert.WeightsIdeal.τ).loc Cert.WeightsIdeal.main_arg3)
      ∧ m' ((c.tc : Thread Cert.WeightsReferenceIdeal.nD Cert.WeightsReferenceIdeal.τ).loc Cert.WeightsReferenceIdeal.main_arg4) = m ((c.tc : Thread Cert.WeightsIdeal.nD Cert.WeightsIdeal.τ).loc Cert.WeightsIdeal.main_arg4)
      ∧ m' ((c.tc : Thread Cert.WeightsReferenceIdeal.nD Cert.WeightsReferenceIdeal.τ).loc Cert.WeightsReferenceIdeal.main_arg5) = m ((c.tc : Thread Cert.WeightsIdeal.nD Cert.WeightsIdeal.τ).loc Cert.WeightsIdeal.main_arg5)
      ∧ m' ((c.tc : Thread Cert.WeightsReferenceIdeal.nD Cert.WeightsReferenceIdeal.τ).loc Cert.WeightsReferenceIdeal.main_arg6) = m ((c.tc : Thread Cert.WeightsIdeal.nD Cert.WeightsIdeal.τ).loc Cert.WeightsIdeal.main_arg6)
      ∧ m' ((c.tc : Thread Cert.WeightsReferenceIdeal.nD Cert.WeightsReferenceIdeal.τ).loc Cert.WeightsReferenceIdeal.main_arg7) = m ((c.tc : Thread Cert.WeightsIdeal.nD Cert.WeightsIdeal.τ).loc Cert.WeightsIdeal.main_arg7)
      ∧ m' ((c.tc : Thread Cert.WeightsReferenceIdeal.nD Cert.WeightsReferenceIdeal.τ).loc Cert.WeightsReferenceIdeal.main_arg8) = m ((c.tc : Thread Cert.WeightsIdeal.nD Cert.WeightsIdeal.τ).loc Cert.WeightsIdeal.main_arg8)) →
    ∃ (v0 : (c : Dev Cert.WeightsIdeal.nD) → Buf (Elt Ideal) ((c.tc : Thread Cert.WeightsIdeal.nD Cert.WeightsIdeal.τ).loc Cert.WeightsIdeal.main_v0)) (v1 : (c : Dev Cert.WeightsIdeal.nD) → Buf (Elt Ideal) ((c.tc : Thread Cert.WeightsIdeal.nD Cert.WeightsIdeal.τ).loc Cert.WeightsIdeal.main_v1)) (v2 : (c : Dev Cert.WeightsIdeal.nD) → Buf (Elt Ideal) ((c.tc : Thread Cert.WeightsIdeal.nD Cert.WeightsIdeal.τ).loc Cert.WeightsIdeal.main_v2)) (v3 : (c : Dev Cert.WeightsIdeal.nD) → Buf (Elt Ideal) ((c.tc : Thread Cert.WeightsIdeal.nD Cert.WeightsIdeal.τ).loc Cert.WeightsIdeal.main_v3)) (v4 : (c : Dev Cert.WeightsIdeal.nD) → Buf (Elt Ideal) ((c.tc : Thread Cert.WeightsIdeal.nD Cert.WeightsIdeal.τ).loc Cert.WeightsIdeal.main_v4)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v0) = v0 c
          ∧ r.2.mem ((c.tc : Thread Cert.WeightsIdeal.nD Cert.WeightsIdeal.τ).loc Cert.WeightsIdeal.main_v1) = v1 c
          ∧ r.2.mem ((c.tc : Thread Cert.WeightsIdeal.nD Cert.WeightsIdeal.τ).loc Cert.WeightsIdeal.main_v2) = v2 c
          ∧ r.2.mem ((c.tc : Thread Cert.WeightsIdeal.nD Cert.WeightsIdeal.τ).loc Cert.WeightsIdeal.main_v3) = v3 c
          ∧ r.2.mem ((c.tc : Thread Cert.WeightsIdeal.nD Cert.WeightsIdeal.τ).loc Cert.WeightsIdeal.main_v4) = v4 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5)
          ∧ r.2.mem ((c.tc : Thread Cert.WeightsIdeal.nD Cert.WeightsIdeal.τ).loc Cert.WeightsIdeal.main_arg6) = m ((c.tc : Thread Cert.WeightsIdeal.nD Cert.WeightsIdeal.τ).loc Cert.WeightsIdeal.main_arg6)
          ∧ r.2.mem ((c.tc : Thread Cert.WeightsIdeal.nD Cert.WeightsIdeal.τ).loc Cert.WeightsIdeal.main_arg7) = m ((c.tc : Thread Cert.WeightsIdeal.nD Cert.WeightsIdeal.τ).loc Cert.WeightsIdeal.main_arg7)
          ∧ r.2.mem ((c.tc : Thread Cert.WeightsIdeal.nD Cert.WeightsIdeal.τ).loc Cert.WeightsIdeal.main_arg8) = m ((c.tc : Thread Cert.WeightsIdeal.nD Cert.WeightsIdeal.τ).loc Cert.WeightsIdeal.main_arg8))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v9) = v0 c
          ∧ r.2.mem ((c.tc : Thread Cert.WeightsReferenceIdeal.nD Cert.WeightsReferenceIdeal.τ).loc Cert.WeightsReferenceIdeal.main_v10) = v1 c
          ∧ r.2.mem ((c.tc : Thread Cert.WeightsReferenceIdeal.nD Cert.WeightsReferenceIdeal.τ).loc Cert.WeightsReferenceIdeal.main_v11) = v2 c
          ∧ r.2.mem ((c.tc : Thread Cert.WeightsReferenceIdeal.nD Cert.WeightsReferenceIdeal.τ).loc Cert.WeightsReferenceIdeal.main_v13) = v3 c
          ∧ r.2.mem ((c.tc : Thread Cert.WeightsReferenceIdeal.nD Cert.WeightsReferenceIdeal.τ).loc Cert.WeightsReferenceIdeal.main_v14) = v4 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1)
          ∧ r.2.mem ((c.tc : Thread Cert.WeightsReferenceIdeal.nD Cert.WeightsReferenceIdeal.τ).loc Cert.WeightsReferenceIdeal.main_arg2) = m' ((c.tc : Thread Cert.WeightsReferenceIdeal.nD Cert.WeightsReferenceIdeal.τ).loc Cert.WeightsReferenceIdeal.main_arg2)
          ∧ r.2.mem ((c.tc : Thread Cert.WeightsReferenceIdeal.nD Cert.WeightsReferenceIdeal.τ).loc Cert.WeightsReferenceIdeal.main_arg3) = m' ((c.tc : Thread Cert.WeightsReferenceIdeal.nD Cert.WeightsReferenceIdeal.τ).loc Cert.WeightsReferenceIdeal.main_arg3)
          ∧ r.2.mem ((c.tc : Thread Cert.WeightsReferenceIdeal.nD Cert.WeightsReferenceIdeal.τ).loc Cert.WeightsReferenceIdeal.main_arg4) = m' ((c.tc : Thread Cert.WeightsReferenceIdeal.nD Cert.WeightsReferenceIdeal.τ).loc Cert.WeightsReferenceIdeal.main_arg4)
          ∧ r.2.mem ((c.tc : Thread Cert.WeightsReferenceIdeal.nD Cert.WeightsReferenceIdeal.τ).loc Cert.WeightsReferenceIdeal.main_arg5) = m' ((c.tc : Thread Cert.WeightsReferenceIdeal.nD Cert.WeightsReferenceIdeal.τ).loc Cert.WeightsReferenceIdeal.main_arg5)
          ∧ r.2.mem ((c.tc : Thread Cert.WeightsReferenceIdeal.nD Cert.WeightsReferenceIdeal.τ).loc Cert.WeightsReferenceIdeal.main_arg6) = m' ((c.tc : Thread Cert.WeightsReferenceIdeal.nD Cert.WeightsReferenceIdeal.τ).loc Cert.WeightsReferenceIdeal.main_arg6)
          ∧ r.2.mem ((c.tc : Thread Cert.WeightsReferenceIdeal.nD Cert.WeightsReferenceIdeal.τ).loc Cert.WeightsReferenceIdeal.main_arg7) = m' ((c.tc : Thread Cert.WeightsReferenceIdeal.nD Cert.WeightsReferenceIdeal.τ).loc Cert.WeightsReferenceIdeal.main_arg7)
          ∧ r.2.mem ((c.tc : Thread Cert.WeightsReferenceIdeal.nD Cert.WeightsReferenceIdeal.τ).loc Cert.WeightsReferenceIdeal.main_arg8) = m' ((c.tc : Thread Cert.WeightsReferenceIdeal.nD Cert.WeightsReferenceIdeal.τ).loc Cert.WeightsReferenceIdeal.main_arg8))

def preserves_Update_UpdateIdeal : Prop :=
  True

def algebraic_UpdateIdeal_UpdateReferenceIdeal [hUpdateIdeal : Cert.UpdateIdeal.Facts] [hUpdateReferenceIdeal : Cert.UpdateReferenceIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateIdeal m →
    (∀ c : Dev Cert.UpdateIdeal.nD,
      m' ((c.tc : Thread Cert.UpdateReferenceIdeal.nD Cert.UpdateReferenceIdeal.τ).loc Cert.UpdateReferenceIdeal.main_arg0) = m ((c.tc : Thread Cert.UpdateIdeal.nD Cert.UpdateIdeal.τ).loc Cert.UpdateIdeal.main_arg0)
      ∧ m' ((c.tc : Thread Cert.UpdateReferenceIdeal.nD Cert.UpdateReferenceIdeal.τ).loc Cert.UpdateReferenceIdeal.main_arg1) = m ((c.tc : Thread Cert.UpdateIdeal.nD Cert.UpdateIdeal.τ).loc Cert.UpdateIdeal.main_arg1)
      ∧ m' ((c.tc : Thread Cert.UpdateReferenceIdeal.nD Cert.UpdateReferenceIdeal.τ).loc Cert.UpdateReferenceIdeal.main_arg2) = m ((c.tc : Thread Cert.UpdateIdeal.nD Cert.UpdateIdeal.τ).loc Cert.UpdateIdeal.main_arg2)
      ∧ m' ((c.tc : Thread Cert.UpdateReferenceIdeal.nD Cert.UpdateReferenceIdeal.τ).loc Cert.UpdateReferenceIdeal.main_arg3) = m ((c.tc : Thread Cert.UpdateIdeal.nD Cert.UpdateIdeal.τ).loc Cert.UpdateIdeal.main_arg3)
      ∧ m' ((c.tc : Thread Cert.UpdateReferenceIdeal.nD Cert.UpdateReferenceIdeal.τ).loc Cert.UpdateReferenceIdeal.main_arg4) = m ((c.tc : Thread Cert.UpdateIdeal.nD Cert.UpdateIdeal.τ).loc Cert.UpdateIdeal.main_arg4)
      ∧ m' ((c.tc : Thread Cert.UpdateReferenceIdeal.nD Cert.UpdateReferenceIdeal.τ).loc Cert.UpdateReferenceIdeal.main_arg5) = m ((c.tc : Thread Cert.UpdateIdeal.nD Cert.UpdateIdeal.τ).loc Cert.UpdateIdeal.main_arg5)
      ∧ m' ((c.tc : Thread Cert.UpdateReferenceIdeal.nD Cert.UpdateReferenceIdeal.τ).loc Cert.UpdateReferenceIdeal.main_arg6) = m ((c.tc : Thread Cert.UpdateIdeal.nD Cert.UpdateIdeal.τ).loc Cert.UpdateIdeal.main_arg6)
      ∧ m' ((c.tc : Thread Cert.UpdateReferenceIdeal.nD Cert.UpdateReferenceIdeal.τ).loc Cert.UpdateReferenceIdeal.main_arg7) = m ((c.tc : Thread Cert.UpdateIdeal.nD Cert.UpdateIdeal.τ).loc Cert.UpdateIdeal.main_arg7)
      ∧ m' ((c.tc : Thread Cert.UpdateReferenceIdeal.nD Cert.UpdateReferenceIdeal.τ).loc Cert.UpdateReferenceIdeal.main_arg8) = m ((c.tc : Thread Cert.UpdateIdeal.nD Cert.UpdateIdeal.τ).loc Cert.UpdateIdeal.main_arg8)
      ∧ m' ((c.tc : Thread Cert.UpdateReferenceIdeal.nD Cert.UpdateReferenceIdeal.τ).loc Cert.UpdateReferenceIdeal.main_arg9) = m ((c.tc : Thread Cert.UpdateIdeal.nD Cert.UpdateIdeal.τ).loc Cert.UpdateIdeal.main_arg9)
      ∧ m' ((c.tc : Thread Cert.UpdateReferenceIdeal.nD Cert.UpdateReferenceIdeal.τ).loc Cert.UpdateReferenceIdeal.main_arg10) = m ((c.tc : Thread Cert.UpdateIdeal.nD Cert.UpdateIdeal.τ).loc Cert.UpdateIdeal.main_arg10)
      ∧ m' ((c.tc : Thread Cert.UpdateReferenceIdeal.nD Cert.UpdateReferenceIdeal.τ).loc Cert.UpdateReferenceIdeal.main_arg11) = m ((c.tc : Thread Cert.UpdateIdeal.nD Cert.UpdateIdeal.τ).loc Cert.UpdateIdeal.main_arg11)
      ∧ m' ((c.tc : Thread Cert.UpdateReferenceIdeal.nD Cert.UpdateReferenceIdeal.τ).loc Cert.UpdateReferenceIdeal.main_arg12) = m ((c.tc : Thread Cert.UpdateIdeal.nD Cert.UpdateIdeal.τ).loc Cert.UpdateIdeal.main_arg12)
      ∧ m' ((c.tc : Thread Cert.UpdateReferenceIdeal.nD Cert.UpdateReferenceIdeal.τ).loc Cert.UpdateReferenceIdeal.main_arg13) = m ((c.tc : Thread Cert.UpdateIdeal.nD Cert.UpdateIdeal.τ).loc Cert.UpdateIdeal.main_arg13)
      ∧ m' ((c.tc : Thread Cert.UpdateReferenceIdeal.nD Cert.UpdateReferenceIdeal.τ).loc Cert.UpdateReferenceIdeal.main_arg14) = m ((c.tc : Thread Cert.UpdateIdeal.nD Cert.UpdateIdeal.τ).loc Cert.UpdateIdeal.main_arg14)
      ∧ m' ((c.tc : Thread Cert.UpdateReferenceIdeal.nD Cert.UpdateReferenceIdeal.τ).loc Cert.UpdateReferenceIdeal.main_arg15) = m ((c.tc : Thread Cert.UpdateIdeal.nD Cert.UpdateIdeal.τ).loc Cert.UpdateIdeal.main_arg15)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v1_0)) (v4 : (c : Dev Cert.UpdateIdeal.nD) → Buf (Elt Ideal) ((c.tc : Thread Cert.UpdateIdeal.nD Cert.UpdateIdeal.τ).loc Cert.UpdateIdeal.main_v1_1)) (v5 : (c : Dev Cert.UpdateIdeal.nD) → Buf (Elt Ideal) ((c.tc : Thread Cert.UpdateIdeal.nD Cert.UpdateIdeal.τ).loc Cert.UpdateIdeal.main_v1_2)) (v6 : (c : Dev Cert.UpdateIdeal.nD) → Buf (Elt Ideal) ((c.tc : Thread Cert.UpdateIdeal.nD Cert.UpdateIdeal.τ).loc Cert.UpdateIdeal.main_v2_0)) (v7 : (c : Dev Cert.UpdateIdeal.nD) → Buf (Elt Ideal) ((c.tc : Thread Cert.UpdateIdeal.nD Cert.UpdateIdeal.τ).loc Cert.UpdateIdeal.main_v2_1)) (v8 : (c : Dev Cert.UpdateIdeal.nD) → Buf (Elt Ideal) ((c.tc : Thread Cert.UpdateIdeal.nD Cert.UpdateIdeal.τ).loc Cert.UpdateIdeal.main_v2_2)) (v9 : (c : Dev Cert.UpdateIdeal.nD) → Buf (Elt Ideal) ((c.tc : Thread Cert.UpdateIdeal.nD Cert.UpdateIdeal.τ).loc Cert.UpdateIdeal.main_v3_0)) (v10 : (c : Dev Cert.UpdateIdeal.nD) → Buf (Elt Ideal) ((c.tc : Thread Cert.UpdateIdeal.nD Cert.UpdateIdeal.τ).loc Cert.UpdateIdeal.main_v3_1)) (v11 : (c : Dev Cert.UpdateIdeal.nD) → Buf (Elt Ideal) ((c.tc : Thread Cert.UpdateIdeal.nD Cert.UpdateIdeal.τ).loc Cert.UpdateIdeal.main_v3_2)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v1_0) = v3 c
          ∧ r.2.mem ((c.tc : Thread Cert.UpdateIdeal.nD Cert.UpdateIdeal.τ).loc Cert.UpdateIdeal.main_v1_1) = v4 c
          ∧ r.2.mem ((c.tc : Thread Cert.UpdateIdeal.nD Cert.UpdateIdeal.τ).loc Cert.UpdateIdeal.main_v1_2) = v5 c
          ∧ r.2.mem ((c.tc : Thread Cert.UpdateIdeal.nD Cert.UpdateIdeal.τ).loc Cert.UpdateIdeal.main_v2_0) = v6 c
          ∧ r.2.mem ((c.tc : Thread Cert.UpdateIdeal.nD Cert.UpdateIdeal.τ).loc Cert.UpdateIdeal.main_v2_1) = v7 c
          ∧ r.2.mem ((c.tc : Thread Cert.UpdateIdeal.nD Cert.UpdateIdeal.τ).loc Cert.UpdateIdeal.main_v2_2) = v8 c
          ∧ r.2.mem ((c.tc : Thread Cert.UpdateIdeal.nD Cert.UpdateIdeal.τ).loc Cert.UpdateIdeal.main_v3_0) = v9 c
          ∧ r.2.mem ((c.tc : Thread Cert.UpdateIdeal.nD Cert.UpdateIdeal.τ).loc Cert.UpdateIdeal.main_v3_1) = v10 c
          ∧ r.2.mem ((c.tc : Thread Cert.UpdateIdeal.nD Cert.UpdateIdeal.τ).loc Cert.UpdateIdeal.main_v3_2) = v11 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
          ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
          ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
          ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
          ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
          ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
          ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v23) = v0 c
          ∧ r.2.mem ((c.tc : Thread Cert.UpdateReferenceIdeal.nD Cert.UpdateReferenceIdeal.τ).loc Cert.UpdateReferenceIdeal.main_v4) = v1 c
          ∧ r.2.mem ((c.tc : Thread Cert.UpdateReferenceIdeal.nD Cert.UpdateReferenceIdeal.τ).loc Cert.UpdateReferenceIdeal.main_v10) = v2 c
          ∧ r.2.mem ((c.tc : Thread Cert.UpdateReferenceIdeal.nD Cert.UpdateReferenceIdeal.τ).loc Cert.UpdateReferenceIdeal.main_v47) = v3 c
          ∧ r.2.mem ((c.tc : Thread Cert.UpdateReferenceIdeal.nD Cert.UpdateReferenceIdeal.τ).loc Cert.UpdateReferenceIdeal.main_v28) = v4 c
          ∧ r.2.mem ((c.tc : Thread Cert.UpdateReferenceIdeal.nD Cert.UpdateReferenceIdeal.τ).loc Cert.UpdateReferenceIdeal.main_v34) = v5 c
          ∧ r.2.mem ((c.tc : Thread Cert.UpdateReferenceIdeal.nD Cert.UpdateReferenceIdeal.τ).loc Cert.UpdateReferenceIdeal.main_v71) = v6 c
          ∧ r.2.mem ((c.tc : Thread Cert.UpdateReferenceIdeal.nD Cert.UpdateReferenceIdeal.τ).loc Cert.UpdateReferenceIdeal.main_v52) = v7 c
          ∧ r.2.mem ((c.tc : Thread Cert.UpdateReferenceIdeal.nD Cert.UpdateReferenceIdeal.τ).loc Cert.UpdateReferenceIdeal.main_v58) = v8 c
          ∧ r.2.mem ((c.tc : Thread Cert.UpdateReferenceIdeal.nD Cert.UpdateReferenceIdeal.τ).loc Cert.UpdateReferenceIdeal.main_v95) = v9 c
          ∧ r.2.mem ((c.tc : Thread Cert.UpdateReferenceIdeal.nD Cert.UpdateReferenceIdeal.τ).loc Cert.UpdateReferenceIdeal.main_v76) = v10 c
          ∧ r.2.mem ((c.tc : Thread Cert.UpdateReferenceIdeal.nD Cert.UpdateReferenceIdeal.τ).loc Cert.UpdateReferenceIdeal.main_v82) = v11 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3)
          ∧ r.2.mem ((c.tc : Thread Cert.UpdateReferenceIdeal.nD Cert.UpdateReferenceIdeal.τ).loc Cert.UpdateReferenceIdeal.main_arg4) = m' ((c.tc : Thread Cert.UpdateReferenceIdeal.nD Cert.UpdateReferenceIdeal.τ).loc Cert.UpdateReferenceIdeal.main_arg4)
          ∧ r.2.mem ((c.tc : Thread Cert.UpdateReferenceIdeal.nD Cert.UpdateReferenceIdeal.τ).loc Cert.UpdateReferenceIdeal.main_arg5) = m' ((c.tc : Thread Cert.UpdateReferenceIdeal.nD Cert.UpdateReferenceIdeal.τ).loc Cert.UpdateReferenceIdeal.main_arg5)
          ∧ r.2.mem ((c.tc : Thread Cert.UpdateReferenceIdeal.nD Cert.UpdateReferenceIdeal.τ).loc Cert.UpdateReferenceIdeal.main_arg6) = m' ((c.tc : Thread Cert.UpdateReferenceIdeal.nD Cert.UpdateReferenceIdeal.τ).loc Cert.UpdateReferenceIdeal.main_arg6)
          ∧ r.2.mem ((c.tc : Thread Cert.UpdateReferenceIdeal.nD Cert.UpdateReferenceIdeal.τ).loc Cert.UpdateReferenceIdeal.main_arg7) = m' ((c.tc : Thread Cert.UpdateReferenceIdeal.nD Cert.UpdateReferenceIdeal.τ).loc Cert.UpdateReferenceIdeal.main_arg7)
          ∧ r.2.mem ((c.tc : Thread Cert.UpdateReferenceIdeal.nD Cert.UpdateReferenceIdeal.τ).loc Cert.UpdateReferenceIdeal.main_arg8) = m' ((c.tc : Thread Cert.UpdateReferenceIdeal.nD Cert.UpdateReferenceIdeal.τ).loc Cert.UpdateReferenceIdeal.main_arg8)
          ∧ r.2.mem ((c.tc : Thread Cert.UpdateReferenceIdeal.nD Cert.UpdateReferenceIdeal.τ).loc Cert.UpdateReferenceIdeal.main_arg9) = m' ((c.tc : Thread Cert.UpdateReferenceIdeal.nD Cert.UpdateReferenceIdeal.τ).loc Cert.UpdateReferenceIdeal.main_arg9)
          ∧ r.2.mem ((c.tc : Thread Cert.UpdateReferenceIdeal.nD Cert.UpdateReferenceIdeal.τ).loc Cert.UpdateReferenceIdeal.main_arg10) = m' ((c.tc : Thread Cert.UpdateReferenceIdeal.nD Cert.UpdateReferenceIdeal.τ).loc Cert.UpdateReferenceIdeal.main_arg10)
          ∧ r.2.mem ((c.tc : Thread Cert.UpdateReferenceIdeal.nD Cert.UpdateReferenceIdeal.τ).loc Cert.UpdateReferenceIdeal.main_arg11) = m' ((c.tc : Thread Cert.UpdateReferenceIdeal.nD Cert.UpdateReferenceIdeal.τ).loc Cert.UpdateReferenceIdeal.main_arg11)
          ∧ r.2.mem ((c.tc : Thread Cert.UpdateReferenceIdeal.nD Cert.UpdateReferenceIdeal.τ).loc Cert.UpdateReferenceIdeal.main_arg12) = m' ((c.tc : Thread Cert.UpdateReferenceIdeal.nD Cert.UpdateReferenceIdeal.τ).loc Cert.UpdateReferenceIdeal.main_arg12)
          ∧ r.2.mem ((c.tc : Thread Cert.UpdateReferenceIdeal.nD Cert.UpdateReferenceIdeal.τ).loc Cert.UpdateReferenceIdeal.main_arg13) = m' ((c.tc : Thread Cert.UpdateReferenceIdeal.nD Cert.UpdateReferenceIdeal.τ).loc Cert.UpdateReferenceIdeal.main_arg13)
          ∧ r.2.mem ((c.tc : Thread Cert.UpdateReferenceIdeal.nD Cert.UpdateReferenceIdeal.τ).loc Cert.UpdateReferenceIdeal.main_arg14) = m' ((c.tc : Thread Cert.UpdateReferenceIdeal.nD Cert.UpdateReferenceIdeal.τ).loc Cert.UpdateReferenceIdeal.main_arg14)
          ∧ r.2.mem ((c.tc : Thread Cert.UpdateReferenceIdeal.nD Cert.UpdateReferenceIdeal.τ).loc Cert.UpdateReferenceIdeal.main_arg15) = m' ((c.tc : Thread Cert.UpdateReferenceIdeal.nD Cert.UpdateReferenceIdeal.τ).loc Cert.UpdateReferenceIdeal.main_arg15))

def preserves_Totals_TotalsIdeal : Prop :=
  True

def algebraic_TotalsIdeal_TotalsReferenceIdeal [hTotalsIdeal : Cert.TotalsIdeal.Facts] [hTotalsReferenceIdeal : Cert.TotalsReferenceIdeal.Facts] : Prop :=
  ∀ (m : (ℓ : Loc Cert.TotalsIdeal.nD Cert.TotalsIdeal.τ Cert.TotalsIdeal.sig) → Buf (Elt Ideal) ℓ) (g : Dev Cert.TotalsIdeal.nD → PrngReg)
    (m' : (ℓ : Loc Cert.TotalsReferenceIdeal.nD Cert.TotalsReferenceIdeal.τ Cert.TotalsReferenceIdeal.sig) → Buf (Elt Ideal) ℓ) (g' : Dev Cert.TotalsReferenceIdeal.nD → PrngReg), Pre_TotalsIdeal m →
    (∀ c : Dev Cert.TotalsIdeal.nD,
      m' ((c.tc : Thread Cert.TotalsReferenceIdeal.nD Cert.TotalsReferenceIdeal.τ).loc Cert.TotalsReferenceIdeal.main_arg0) = m ((c.tc : Thread Cert.TotalsIdeal.nD Cert.TotalsIdeal.τ).loc Cert.TotalsIdeal.main_arg0)) →
    ∃ (v0 : (c : Dev Cert.TotalsIdeal.nD) → Buf (Elt Ideal) ((c.tc : Thread Cert.TotalsIdeal.nD Cert.TotalsIdeal.τ).loc Cert.TotalsIdeal.main_v0)) (v1 : (c : Dev Cert.TotalsIdeal.nD) → Buf (Elt Ideal) ((c.tc : Thread Cert.TotalsIdeal.nD Cert.TotalsIdeal.τ).loc Cert.TotalsIdeal.main_v3)),
      θ_run (Cert.TotalsIdeal.defs (F := Ideal)) (onTc (τ := Cert.TotalsIdeal.τ) (Cert.TotalsIdeal.main (F := Ideal))) ⟨m, fun _ => 0, g⟩ (fun r => ∀ c : Dev Cert.TotalsIdeal.nD,
          r.2.mem ((c.tc : Thread Cert.TotalsIdeal.nD Cert.TotalsIdeal.τ).loc Cert.TotalsIdeal.main_v0) = v0 c
          ∧ r.2.mem ((c.tc : Thread Cert.TotalsIdeal.nD Cert.TotalsIdeal.τ).loc Cert.TotalsIdeal.main_v3) = v1 c
          ∧ r.2.mem ((c.tc : Thread Cert.TotalsIdeal.nD Cert.TotalsIdeal.τ).loc Cert.TotalsIdeal.main_arg0) = m ((c.tc : Thread Cert.TotalsIdeal.nD Cert.TotalsIdeal.τ).loc Cert.TotalsIdeal.main_arg0))
      ∧ θ_run (Cert.TotalsReferenceIdeal.defs (F := Ideal)) (onTc (τ := Cert.TotalsReferenceIdeal.τ) (Cert.TotalsReferenceIdeal.main (F := Ideal))) ⟨m', fun _ => 0, g'⟩ (fun r => ∀ c : Dev Cert.TotalsReferenceIdeal.nD,
          r.2.mem ((c.tc : Thread Cert.TotalsReferenceIdeal.nD Cert.TotalsReferenceIdeal.τ).loc Cert.TotalsReferenceIdeal.main_v0) = v0 c
          ∧ r.2.mem ((c.tc : Thread Cert.TotalsReferenceIdeal.nD Cert.TotalsReferenceIdeal.τ).loc Cert.TotalsReferenceIdeal.main_v3) = v1 c
          ∧ r.2.mem ((c.tc : Thread Cert.TotalsReferenceIdeal.nD Cert.TotalsReferenceIdeal.τ).loc Cert.TotalsReferenceIdeal.main_arg0) = m' ((c.tc : Thread Cert.TotalsReferenceIdeal.nD Cert.TotalsReferenceIdeal.τ).loc Cert.TotalsReferenceIdeal.main_arg0))

def preserves_Feedforward_FeedforwardIdeal : Prop :=
  True

def algebraic_FeedforwardIdeal_FeedforwardReferenceIdeal [hFeedforwardIdeal : Cert.FeedforwardIdeal.Facts] [hFeedforwardReferenceIdeal : Cert.FeedforwardReferenceIdeal.Facts] : Prop :=
  ∀ (m : (ℓ : Loc Cert.FeedforwardIdeal.nD Cert.FeedforwardIdeal.τ Cert.FeedforwardIdeal.sig) → Buf (Elt Ideal) ℓ) (g : Dev Cert.FeedforwardIdeal.nD → PrngReg)
    (m' : (ℓ : Loc Cert.FeedforwardReferenceIdeal.nD Cert.FeedforwardReferenceIdeal.τ Cert.FeedforwardReferenceIdeal.sig) → Buf (Elt Ideal) ℓ) (g' : Dev Cert.FeedforwardReferenceIdeal.nD → PrngReg), Pre_FeedforwardIdeal m →
    (∀ c : Dev Cert.FeedforwardIdeal.nD,
      m' ((c.tc : Thread Cert.FeedforwardReferenceIdeal.nD Cert.FeedforwardReferenceIdeal.τ).loc Cert.FeedforwardReferenceIdeal.main_arg0) = m ((c.tc : Thread Cert.FeedforwardIdeal.nD Cert.FeedforwardIdeal.τ).loc Cert.FeedforwardIdeal.main_arg0)
      ∧ m' ((c.tc : Thread Cert.FeedforwardReferenceIdeal.nD Cert.FeedforwardReferenceIdeal.τ).loc Cert.FeedforwardReferenceIdeal.main_arg1) = m ((c.tc : Thread Cert.FeedforwardIdeal.nD Cert.FeedforwardIdeal.τ).loc Cert.FeedforwardIdeal.main_arg1)
      ∧ m' ((c.tc : Thread Cert.FeedforwardReferenceIdeal.nD Cert.FeedforwardReferenceIdeal.τ).loc Cert.FeedforwardReferenceIdeal.main_arg2) = m ((c.tc : Thread Cert.FeedforwardIdeal.nD Cert.FeedforwardIdeal.τ).loc Cert.FeedforwardIdeal.main_arg2)
      ∧ m' ((c.tc : Thread Cert.FeedforwardReferenceIdeal.nD Cert.FeedforwardReferenceIdeal.τ).loc Cert.FeedforwardReferenceIdeal.main_arg3) = m ((c.tc : Thread Cert.FeedforwardIdeal.nD Cert.FeedforwardIdeal.τ).loc Cert.FeedforwardIdeal.main_arg3)
      ∧ m' ((c.tc : Thread Cert.FeedforwardReferenceIdeal.nD Cert.FeedforwardReferenceIdeal.τ).loc Cert.FeedforwardReferenceIdeal.main_arg4) = m ((c.tc : Thread Cert.FeedforwardIdeal.nD Cert.FeedforwardIdeal.τ).loc Cert.FeedforwardIdeal.main_arg4)
      ∧ m' ((c.tc : Thread Cert.FeedforwardReferenceIdeal.nD Cert.FeedforwardReferenceIdeal.τ).loc Cert.FeedforwardReferenceIdeal.main_arg5) = m ((c.tc : Thread Cert.FeedforwardIdeal.nD Cert.FeedforwardIdeal.τ).loc Cert.FeedforwardIdeal.main_arg5)
      ∧ m' ((c.tc : Thread Cert.FeedforwardReferenceIdeal.nD Cert.FeedforwardReferenceIdeal.τ).loc Cert.FeedforwardReferenceIdeal.main_arg6) = m ((c.tc : Thread Cert.FeedforwardIdeal.nD Cert.FeedforwardIdeal.τ).loc Cert.FeedforwardIdeal.main_arg6)
      ∧ m' ((c.tc : Thread Cert.FeedforwardReferenceIdeal.nD Cert.FeedforwardReferenceIdeal.τ).loc Cert.FeedforwardReferenceIdeal.main_arg7) = m ((c.tc : Thread Cert.FeedforwardIdeal.nD Cert.FeedforwardIdeal.τ).loc Cert.FeedforwardIdeal.main_arg7)
      ∧ m' ((c.tc : Thread Cert.FeedforwardReferenceIdeal.nD Cert.FeedforwardReferenceIdeal.τ).loc Cert.FeedforwardReferenceIdeal.main_arg8) = m ((c.tc : Thread Cert.FeedforwardIdeal.nD Cert.FeedforwardIdeal.τ).loc Cert.FeedforwardIdeal.main_arg8)
      ∧ m' ((c.tc : Thread Cert.FeedforwardReferenceIdeal.nD Cert.FeedforwardReferenceIdeal.τ).loc Cert.FeedforwardReferenceIdeal.main_arg9) = m ((c.tc : Thread Cert.FeedforwardIdeal.nD Cert.FeedforwardIdeal.τ).loc Cert.FeedforwardIdeal.main_arg9)
      ∧ m' ((c.tc : Thread Cert.FeedforwardReferenceIdeal.nD Cert.FeedforwardReferenceIdeal.τ).loc Cert.FeedforwardReferenceIdeal.main_arg10) = m ((c.tc : Thread Cert.FeedforwardIdeal.nD Cert.FeedforwardIdeal.τ).loc Cert.FeedforwardIdeal.main_arg10)
      ∧ m' ((c.tc : Thread Cert.FeedforwardReferenceIdeal.nD Cert.FeedforwardReferenceIdeal.τ).loc Cert.FeedforwardReferenceIdeal.main_arg11) = m ((c.tc : Thread Cert.FeedforwardIdeal.nD Cert.FeedforwardIdeal.τ).loc Cert.FeedforwardIdeal.main_arg11)) →
    ∃ (v0 : (c : Dev Cert.FeedforwardIdeal.nD) → Buf (Elt Ideal) ((c.tc : Thread Cert.FeedforwardIdeal.nD Cert.FeedforwardIdeal.τ).loc Cert.FeedforwardIdeal.main_v0_0)) (v1 : (c : Dev Cert.FeedforwardIdeal.nD) → Buf (Elt Ideal) ((c.tc : Thread Cert.FeedforwardIdeal.nD Cert.FeedforwardIdeal.τ).loc Cert.FeedforwardIdeal.main_v0_1)) (v2 : (c : Dev Cert.FeedforwardIdeal.nD) → Buf (Elt Ideal) ((c.tc : Thread Cert.FeedforwardIdeal.nD Cert.FeedforwardIdeal.τ).loc Cert.FeedforwardIdeal.main_v0_2)) (v3 : (c : Dev Cert.FeedforwardIdeal.nD) → Buf (Elt Ideal) ((c.tc : Thread Cert.FeedforwardIdeal.nD Cert.FeedforwardIdeal.τ).loc Cert.FeedforwardIdeal.main_v0_3)) (v4 : (c : Dev Cert.FeedforwardIdeal.nD) → Buf (Elt Ideal) ((c.tc : Thread Cert.FeedforwardIdeal.nD Cert.FeedforwardIdeal.τ).loc Cert.FeedforwardIdeal.main_v0_4)) (v5 : (c : Dev Cert.FeedforwardIdeal.nD) → Buf (Elt Ideal) ((c.tc : Thread Cert.FeedforwardIdeal.nD Cert.FeedforwardIdeal.τ).loc Cert.FeedforwardIdeal.main_v0_5)) (v6 : (c : Dev Cert.FeedforwardIdeal.nD) → Buf (Elt Ideal) ((c.tc : Thread Cert.FeedforwardIdeal.nD Cert.FeedforwardIdeal.τ).loc Cert.FeedforwardIdeal.main_v0_6)) (v7 : (c : Dev Cert.FeedforwardIdeal.nD) → Buf (Elt Ideal) ((c.tc : Thread Cert.FeedforwardIdeal.nD Cert.FeedforwardIdeal.τ).loc Cert.FeedforwardIdeal.main_v0_7)) (v8 : (c : Dev Cert.FeedforwardIdeal.nD) → Buf (Elt Ideal) ((c.tc : Thread Cert.FeedforwardIdeal.nD Cert.FeedforwardIdeal.τ).loc Cert.FeedforwardIdeal.main_v0_8)),
      θ_run (Cert.FeedforwardIdeal.defs (F := Ideal)) (onTc (τ := Cert.FeedforwardIdeal.τ) (Cert.FeedforwardIdeal.main (F := Ideal))) ⟨m, fun _ => 0, g⟩ (fun r => ∀ c : Dev Cert.FeedforwardIdeal.nD,
          r.2.mem ((c.tc : Thread Cert.FeedforwardIdeal.nD Cert.FeedforwardIdeal.τ).loc Cert.FeedforwardIdeal.main_v0_0) = v0 c
          ∧ r.2.mem ((c.tc : Thread Cert.FeedforwardIdeal.nD Cert.FeedforwardIdeal.τ).loc Cert.FeedforwardIdeal.main_v0_1) = v1 c
          ∧ r.2.mem ((c.tc : Thread Cert.FeedforwardIdeal.nD Cert.FeedforwardIdeal.τ).loc Cert.FeedforwardIdeal.main_v0_2) = v2 c
          ∧ r.2.mem ((c.tc : Thread Cert.FeedforwardIdeal.nD Cert.FeedforwardIdeal.τ).loc Cert.FeedforwardIdeal.main_v0_3) = v3 c
          ∧ r.2.mem ((c.tc : Thread Cert.FeedforwardIdeal.nD Cert.FeedforwardIdeal.τ).loc Cert.FeedforwardIdeal.main_v0_4) = v4 c
          ∧ r.2.mem ((c.tc : Thread Cert.FeedforwardIdeal.nD Cert.FeedforwardIdeal.τ).loc Cert.FeedforwardIdeal.main_v0_5) = v5 c
          ∧ r.2.mem ((c.tc : Thread Cert.FeedforwardIdeal.nD Cert.FeedforwardIdeal.τ).loc Cert.FeedforwardIdeal.main_v0_6) = v6 c
          ∧ r.2.mem ((c.tc : Thread Cert.FeedforwardIdeal.nD Cert.FeedforwardIdeal.τ).loc Cert.FeedforwardIdeal.main_v0_7) = v7 c
          ∧ r.2.mem ((c.tc : Thread Cert.FeedforwardIdeal.nD Cert.FeedforwardIdeal.τ).loc Cert.FeedforwardIdeal.main_v0_8) = v8 c
          ∧ r.2.mem ((c.tc : Thread Cert.FeedforwardIdeal.nD Cert.FeedforwardIdeal.τ).loc Cert.FeedforwardIdeal.main_arg0) = m ((c.tc : Thread Cert.FeedforwardIdeal.nD Cert.FeedforwardIdeal.τ).loc Cert.FeedforwardIdeal.main_arg0)
          ∧ r.2.mem ((c.tc : Thread Cert.FeedforwardIdeal.nD Cert.FeedforwardIdeal.τ).loc Cert.FeedforwardIdeal.main_arg1) = m ((c.tc : Thread Cert.FeedforwardIdeal.nD Cert.FeedforwardIdeal.τ).loc Cert.FeedforwardIdeal.main_arg1)
          ∧ r.2.mem ((c.tc : Thread Cert.FeedforwardIdeal.nD Cert.FeedforwardIdeal.τ).loc Cert.FeedforwardIdeal.main_arg2) = m ((c.tc : Thread Cert.FeedforwardIdeal.nD Cert.FeedforwardIdeal.τ).loc Cert.FeedforwardIdeal.main_arg2)
          ∧ r.2.mem ((c.tc : Thread Cert.FeedforwardIdeal.nD Cert.FeedforwardIdeal.τ).loc Cert.FeedforwardIdeal.main_arg3) = m ((c.tc : Thread Cert.FeedforwardIdeal.nD Cert.FeedforwardIdeal.τ).loc Cert.FeedforwardIdeal.main_arg3)
          ∧ r.2.mem ((c.tc : Thread Cert.FeedforwardIdeal.nD Cert.FeedforwardIdeal.τ).loc Cert.FeedforwardIdeal.main_arg4) = m ((c.tc : Thread Cert.FeedforwardIdeal.nD Cert.FeedforwardIdeal.τ).loc Cert.FeedforwardIdeal.main_arg4)
          ∧ r.2.mem ((c.tc : Thread Cert.FeedforwardIdeal.nD Cert.FeedforwardIdeal.τ).loc Cert.FeedforwardIdeal.main_arg5) = m ((c.tc : Thread Cert.FeedforwardIdeal.nD Cert.FeedforwardIdeal.τ).loc Cert.FeedforwardIdeal.main_arg5)
          ∧ r.2.mem ((c.tc : Thread Cert.FeedforwardIdeal.nD Cert.FeedforwardIdeal.τ).loc Cert.FeedforwardIdeal.main_arg6) = m ((c.tc : Thread Cert.FeedforwardIdeal.nD Cert.FeedforwardIdeal.τ).loc Cert.FeedforwardIdeal.main_arg6)
          ∧ r.2.mem ((c.tc : Thread Cert.FeedforwardIdeal.nD Cert.FeedforwardIdeal.τ).loc Cert.FeedforwardIdeal.main_arg7) = m ((c.tc : Thread Cert.FeedforwardIdeal.nD Cert.FeedforwardIdeal.τ).loc Cert.FeedforwardIdeal.main_arg7)
          ∧ r.2.mem ((c.tc : Thread Cert.FeedforwardIdeal.nD Cert.FeedforwardIdeal.τ).loc Cert.FeedforwardIdeal.main_arg8) = m ((c.tc : Thread Cert.FeedforwardIdeal.nD Cert.FeedforwardIdeal.τ).loc Cert.FeedforwardIdeal.main_arg8)
          ∧ r.2.mem ((c.tc : Thread Cert.FeedforwardIdeal.nD Cert.FeedforwardIdeal.τ).loc Cert.FeedforwardIdeal.main_arg9) = m ((c.tc : Thread Cert.FeedforwardIdeal.nD Cert.FeedforwardIdeal.τ).loc Cert.FeedforwardIdeal.main_arg9)
          ∧ r.2.mem ((c.tc : Thread Cert.FeedforwardIdeal.nD Cert.FeedforwardIdeal.τ).loc Cert.FeedforwardIdeal.main_arg10) = m ((c.tc : Thread Cert.FeedforwardIdeal.nD Cert.FeedforwardIdeal.τ).loc Cert.FeedforwardIdeal.main_arg10)
          ∧ r.2.mem ((c.tc : Thread Cert.FeedforwardIdeal.nD Cert.FeedforwardIdeal.τ).loc Cert.FeedforwardIdeal.main_arg11) = m ((c.tc : Thread Cert.FeedforwardIdeal.nD Cert.FeedforwardIdeal.τ).loc Cert.FeedforwardIdeal.main_arg11))
      ∧ θ_run (Cert.FeedforwardReferenceIdeal.defs (F := Ideal)) (onTc (τ := Cert.FeedforwardReferenceIdeal.τ) (Cert.FeedforwardReferenceIdeal.main (F := Ideal))) ⟨m', fun _ => 0, g'⟩ (fun r => ∀ c : Dev Cert.FeedforwardReferenceIdeal.nD,
          r.2.mem ((c.tc : Thread Cert.FeedforwardReferenceIdeal.nD Cert.FeedforwardReferenceIdeal.τ).loc Cert.FeedforwardReferenceIdeal.main_v23) = v0 c
          ∧ r.2.mem ((c.tc : Thread Cert.FeedforwardReferenceIdeal.nD Cert.FeedforwardReferenceIdeal.τ).loc Cert.FeedforwardReferenceIdeal.main_v4) = v1 c
          ∧ r.2.mem ((c.tc : Thread Cert.FeedforwardReferenceIdeal.nD Cert.FeedforwardReferenceIdeal.τ).loc Cert.FeedforwardReferenceIdeal.main_v10) = v2 c
          ∧ r.2.mem ((c.tc : Thread Cert.FeedforwardReferenceIdeal.nD Cert.FeedforwardReferenceIdeal.τ).loc Cert.FeedforwardReferenceIdeal.main_v47) = v3 c
          ∧ r.2.mem ((c.tc : Thread Cert.FeedforwardReferenceIdeal.nD Cert.FeedforwardReferenceIdeal.τ).loc Cert.FeedforwardReferenceIdeal.main_v28) = v4 c
          ∧ r.2.mem ((c.tc : Thread Cert.FeedforwardReferenceIdeal.nD Cert.FeedforwardReferenceIdeal.τ).loc Cert.FeedforwardReferenceIdeal.main_v34) = v5 c
          ∧ r.2.mem ((c.tc : Thread Cert.FeedforwardReferenceIdeal.nD Cert.FeedforwardReferenceIdeal.τ).loc Cert.FeedforwardReferenceIdeal.main_v71) = v6 c
          ∧ r.2.mem ((c.tc : Thread Cert.FeedforwardReferenceIdeal.nD Cert.FeedforwardReferenceIdeal.τ).loc Cert.FeedforwardReferenceIdeal.main_v52) = v7 c
          ∧ r.2.mem ((c.tc : Thread Cert.FeedforwardReferenceIdeal.nD Cert.FeedforwardReferenceIdeal.τ).loc Cert.FeedforwardReferenceIdeal.main_v58) = v8 c
          ∧ r.2.mem ((c.tc : Thread Cert.FeedforwardReferenceIdeal.nD Cert.FeedforwardReferenceIdeal.τ).loc Cert.FeedforwardReferenceIdeal.main_arg0) = m' ((c.tc : Thread Cert.FeedforwardReferenceIdeal.nD Cert.FeedforwardReferenceIdeal.τ).loc Cert.FeedforwardReferenceIdeal.main_arg0)
          ∧ r.2.mem ((c.tc : Thread Cert.FeedforwardReferenceIdeal.nD Cert.FeedforwardReferenceIdeal.τ).loc Cert.FeedforwardReferenceIdeal.main_arg1) = m' ((c.tc : Thread Cert.FeedforwardReferenceIdeal.nD Cert.FeedforwardReferenceIdeal.τ).loc Cert.FeedforwardReferenceIdeal.main_arg1)
          ∧ r.2.mem ((c.tc : Thread Cert.FeedforwardReferenceIdeal.nD Cert.FeedforwardReferenceIdeal.τ).loc Cert.FeedforwardReferenceIdeal.main_arg2) = m' ((c.tc : Thread Cert.FeedforwardReferenceIdeal.nD Cert.FeedforwardReferenceIdeal.τ).loc Cert.FeedforwardReferenceIdeal.main_arg2)
          ∧ r.2.mem ((c.tc : Thread Cert.FeedforwardReferenceIdeal.nD Cert.FeedforwardReferenceIdeal.τ).loc Cert.FeedforwardReferenceIdeal.main_arg3) = m' ((c.tc : Thread Cert.FeedforwardReferenceIdeal.nD Cert.FeedforwardReferenceIdeal.τ).loc Cert.FeedforwardReferenceIdeal.main_arg3)
          ∧ r.2.mem ((c.tc : Thread Cert.FeedforwardReferenceIdeal.nD Cert.FeedforwardReferenceIdeal.τ).loc Cert.FeedforwardReferenceIdeal.main_arg4) = m' ((c.tc : Thread Cert.FeedforwardReferenceIdeal.nD Cert.FeedforwardReferenceIdeal.τ).loc Cert.FeedforwardReferenceIdeal.main_arg4)
          ∧ r.2.mem ((c.tc : Thread Cert.FeedforwardReferenceIdeal.nD Cert.FeedforwardReferenceIdeal.τ).loc Cert.FeedforwardReferenceIdeal.main_arg5) = m' ((c.tc : Thread Cert.FeedforwardReferenceIdeal.nD Cert.FeedforwardReferenceIdeal.τ).loc Cert.FeedforwardReferenceIdeal.main_arg5)
          ∧ r.2.mem ((c.tc : Thread Cert.FeedforwardReferenceIdeal.nD Cert.FeedforwardReferenceIdeal.τ).loc Cert.FeedforwardReferenceIdeal.main_arg6) = m' ((c.tc : Thread Cert.FeedforwardReferenceIdeal.nD Cert.FeedforwardReferenceIdeal.τ).loc Cert.FeedforwardReferenceIdeal.main_arg6)
          ∧ r.2.mem ((c.tc : Thread Cert.FeedforwardReferenceIdeal.nD Cert.FeedforwardReferenceIdeal.τ).loc Cert.FeedforwardReferenceIdeal.main_arg7) = m' ((c.tc : Thread Cert.FeedforwardReferenceIdeal.nD Cert.FeedforwardReferenceIdeal.τ).loc Cert.FeedforwardReferenceIdeal.main_arg7)
          ∧ r.2.mem ((c.tc : Thread Cert.FeedforwardReferenceIdeal.nD Cert.FeedforwardReferenceIdeal.τ).loc Cert.FeedforwardReferenceIdeal.main_arg8) = m' ((c.tc : Thread Cert.FeedforwardReferenceIdeal.nD Cert.FeedforwardReferenceIdeal.τ).loc Cert.FeedforwardReferenceIdeal.main_arg8)
          ∧ r.2.mem ((c.tc : Thread Cert.FeedforwardReferenceIdeal.nD Cert.FeedforwardReferenceIdeal.τ).loc Cert.FeedforwardReferenceIdeal.main_arg9) = m' ((c.tc : Thread Cert.FeedforwardReferenceIdeal.nD Cert.FeedforwardReferenceIdeal.τ).loc Cert.FeedforwardReferenceIdeal.main_arg9)
          ∧ r.2.mem ((c.tc : Thread Cert.FeedforwardReferenceIdeal.nD Cert.FeedforwardReferenceIdeal.τ).loc Cert.FeedforwardReferenceIdeal.main_arg10) = m' ((c.tc : Thread Cert.FeedforwardReferenceIdeal.nD Cert.FeedforwardReferenceIdeal.τ).loc Cert.FeedforwardReferenceIdeal.main_arg10)
          ∧ r.2.mem ((c.tc : Thread Cert.FeedforwardReferenceIdeal.nD Cert.FeedforwardReferenceIdeal.τ).loc Cert.FeedforwardReferenceIdeal.main_arg11) = m' ((c.tc : Thread Cert.FeedforwardReferenceIdeal.nD Cert.FeedforwardReferenceIdeal.τ).loc Cert.FeedforwardReferenceIdeal.main_arg11))

def Claim : Prop :=
  ∃ (hKernel : Cert.Kernel.Facts) (hKernelIdeal : Cert.KernelIdeal.Facts) (hReferenceIdeal : Cert.ReferenceIdeal.Facts) (hMiddle : Cert.Middle.Facts) (hMiddleIdeal : Cert.MiddleIdeal.Facts) (hMiddleReferenceIdeal : Cert.MiddleReferenceIdeal.Facts) (hWeights : Cert.Weights.Facts) (hWeightsIdeal : Cert.WeightsIdeal.Facts) (hWeightsReferenceIdeal : Cert.WeightsReferenceIdeal.Facts) (hUpdate : Cert.Update.Facts) (hUpdateIdeal : Cert.UpdateIdeal.Facts) (hUpdateReferenceIdeal : Cert.UpdateReferenceIdeal.Facts) (hTotals : Cert.Totals.Facts) (hTotalsIdeal : Cert.TotalsIdeal.Facts) (hTotalsReferenceIdeal : Cert.TotalsReferenceIdeal.Facts) (hFeedforward : Cert.Feedforward.Facts) (hFeedforwardIdeal : Cert.FeedforwardIdeal.Facts) (hFeedforwardReferenceIdeal : Cert.FeedforwardReferenceIdeal.Facts) (hPre_finite : Cert.Pre_finite.Facts) (hPre_reals : Cert.Pre_reals.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Middle (hMiddle := hMiddle)
    ∧ quiescent_MiddleIdeal (hMiddleIdeal := hMiddleIdeal)
    ∧ quiescent_MiddleIdeal_pre_reals (hMiddleIdeal := hMiddleIdeal) (hPre_reals := hPre_reals)
    ∧ quiescent_MiddleReferenceIdeal (hMiddleReferenceIdeal := hMiddleReferenceIdeal)
    ∧ quiescent_MiddleReferenceIdeal_pre_reals (hMiddleReferenceIdeal := hMiddleReferenceIdeal) (hPre_reals := hPre_reals)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_Update (hUpdate := hUpdate)
    ∧ quiescent_UpdateIdeal (hUpdateIdeal := hUpdateIdeal)
    ∧ quiescent_UpdateReferenceIdeal (hUpdateReferenceIdeal := hUpdateReferenceIdeal)
    ∧ quiescent_Totals (hTotals := hTotals)
    ∧ quiescent_TotalsIdeal (hTotalsIdeal := hTotalsIdeal)
    ∧ quiescent_TotalsReferenceIdeal (hTotalsReferenceIdeal := hTotalsReferenceIdeal)
    ∧ quiescent_Feedforward (hFeedforward := hFeedforward)
    ∧ quiescent_FeedforwardIdeal (hFeedforwardIdeal := hFeedforwardIdeal)
    ∧ quiescent_FeedforwardReferenceIdeal (hFeedforwardReferenceIdeal := hFeedforwardReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Middle_MiddleIdeal
    ∧ algebraic_MiddleIdeal_MiddleReferenceIdeal_pre_reals (hMiddleIdeal := hMiddleIdeal) (hMiddleReferenceIdeal := hMiddleReferenceIdeal) (hPre_reals := hPre_reals)
    ∧ preserves_Weights_WeightsIdeal
    ∧ algebraic_WeightsIdeal_WeightsReferenceIdeal (hWeightsIdeal := hWeightsIdeal) (hWeightsReferenceIdeal := hWeightsReferenceIdeal)
    ∧ preserves_Update_UpdateIdeal
    ∧ algebraic_UpdateIdeal_UpdateReferenceIdeal (hUpdateIdeal := hUpdateIdeal) (hUpdateReferenceIdeal := hUpdateReferenceIdeal)
    ∧ preserves_Totals_TotalsIdeal
    ∧ algebraic_TotalsIdeal_TotalsReferenceIdeal (hTotalsIdeal := hTotalsIdeal) (hTotalsReferenceIdeal := hTotalsReferenceIdeal)
    ∧ preserves_Feedforward_FeedforwardIdeal
    ∧ algebraic_FeedforwardIdeal_FeedforwardReferenceIdeal (hFeedforwardIdeal := hFeedforwardIdeal) (hFeedforwardReferenceIdeal := hFeedforwardReferenceIdeal)
-- ==== Pre_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v4 : IVec S_ 1) (main_v9 : IVec S_ 1) (main_v14 : IVec S_ 1) (main_v16 : FVec F S8192x512 .f32) (main_cst_4 : FVec F S_ .f32) : IVec S_ 1 × IVec S_ 1 × IVec S_ 1 × IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  (main_v4, main_v9, main_v14, main_v19)

def fn {F : FTy → Type} [FloatOps F] (main_arg0 : FVec F S8192x1024 .bf16) (main_arg1 : FVec F S8192x1024 .bf16) (main_arg2 : FVec F S8192x512 .bf16) (main_arg3 : FVec F S8192x512 .bf16) : IVec S_ 1 × IVec S_ 1 × IVec S_ 1 × IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : FVec F S8192x512 .f32 := (extf .f32 · bitsLt_bf16_f32) main_arg2
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_c_3 : IVec S_ 1 := constantI S_ 1 1#1
  let main_v14 : IVec S_ 1 := (fun x v => Host.reduce IntOp.andi x v reducesTo_S8192x512_S_d0_1 h_S_) main_v13 main_c_3
  let main_v15 : FVec F S8192x512 .f32 := (extf .f32 · bitsLt_bf16_f32) main_arg3
  let main_v16 : FVec F S8192x512 .f32 := Host.absf main_v15
  let main_cst_4 : FVec F S_ .f32 := constant S_ .f32 0x7F800000#32
  fn_part1 (F := F) main_v4 main_v9 main_v14 main_v16 main_cst_4
-- ==== Pre_reals.lean ====
abbrev S8192x512 : Shape := ⟨2, ![8192, 512]⟩
abbrev S8192x1024 : Shape := ⟨2, ![8192, 1024]⟩
abbrev S1x512 : Shape := ⟨2, ![1, 512]⟩
abbrev S1x1024 : Shape := ⟨2, ![1, 1024]⟩
abbrev S1024x1024 : Shape := ⟨2, ![1024, 1024]⟩
abbrev S2816x1024 : Shape := ⟨2, ![2816, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v36 : IVec S_ 1) (main_v41 : IVec S_ 1) (main_v46 : IVec S_ 1) (main_v48 : FVec F S2816x1024 .f32) (main_cst_20 : FVec F S_ .f32) : IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v49 : FVec F S2816x1024 .f32 := broadcastInDim S2816x1024 ![] bcast_S_S2816x1024 main_cst_20
  let main_v50 : IVec S2816x1024 1 := cmpf .olt main_v48 main_v49
  let main_c_21 : IVec S_ 1 := constantI S_ 1 1#1
  let main_v51 : IVec S_ 1 := (fun x v => Host.reduce IntOp.andi x v reducesTo_S2816x1024_S_d0_1 h_S_) main_v50 main_c_21
  (main_v3, main_v7, main_v11, main_v15, main_v19, main_v23, main_v27, main_v31, main_v36, main_v41, main_v46, main_v51)

def fn_part2 {F : FTy → Type} [FloatOps F] (main_arg8 : FVec F S1024x1024 .bf16) (main_arg9 : FVec F S2816x1024 .bf16) (main_arg10 : FVec F S2816x1024 .bf16) (main_arg11 : FVec F S2816x1024 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v32 : FVec F S1024x1024 .f32 := (extf .f32 · bitsLt_bf16_f32) main_arg8
  let main_v33 : FVec F S1024x1024 .f32 := Host.absf main_v32
  let main_cst_14 : FVec F S_ .f32 := constant S_ .f32 0x7F800000#32
  let main_v34 : FVec F S1024x1024 .f32 := broadcastInDim S1024x1024 ![] bcast_S_S1024x1024 main_cst_14
  let main_v35 : IVec S1024x1024 1 := cmpf .olt main_v33 main_v34
  let main_c_15 : IVec S_ 1 := constantI S_ 1 1#1
  let main_v36 : IVec S_ 1 := (fun x v => Host.reduce IntOp.andi x v reducesTo_S1024x1024_S_d0_1 h_S_) main_v35 main_c_15
  let main_v37 : FVec F S2816x1024 .f32 := (extf .f32 · bitsLt_bf16_f32) main_arg9
  let main_v38 : FVec F S2816x1024 .f32 := Host.absf main_v37
  let main_cst_16 : FVec F S_ .f32 := constant S_ .f32 0x7F800000#32
  let main_v39 : FVec F S2816x1024 .f32 := broadcastInDim S2816x1024 ![] bcast_S_S2816x1024 main_cst_16
  let main_v40 : IVec S2816x1024 1 := cmpf .olt main_v38 main_v39
  let main_c_17 : IVec S_ 1 := constantI S_ 1 1#1
  let main_v41 : IVec S_ 1 := (fun x v => Host.reduce IntOp.andi x v reducesTo_S2816x1024_S_d0_1 h_S_) main_v40 main_c_17
  let main_v42 : FVec F S2816x1024 .f32 := (extf .f32 · bitsLt_bf16_f32) main_arg10
  let main_v43 : FVec F S2816x1024 .f32 := Host.absf main_v42
  let main_cst_18 : FVec F S_ .f32 := constant S_ .f32 0x7F800000#32
  let main_v44 : FVec F S2816x1024 .f32 := broadcastInDim S2816x1024 ![] bcast_S_S2816x1024 main_cst_18
  let main_v45 : IVec S2816x1024 1 := cmpf .olt main_v43 main_v44
  let main_c_19 : IVec S_ 1 := constantI S_ 1 1#1
  let main_v46 : IVec S_ 1 := (fun x v => Host.reduce IntOp.andi x v reducesTo_S2816x1024_S_d0_1 h_S_) main_v45 main_c_19
  let main_v47 : FVec F S2816x1024 .f32 := (extf .f32 · bitsLt_bf16_f32) main_arg11
  let main_v48 : FVec F S2816x1024 .f32 := Host.absf main_v47
  let main_cst_20 : FVec F S_ .f32 := constant S_ .f32 0x7F800000#32
  fn_part3 (F := F) main_v3 main_v7 main_v11 main_v15 main_v19 main_v23 main_v27 main_v31 main_v36 main_v41 main_v46 main_v48 main_cst_20

def fn_part1 {F : FTy → Type} [FloatOps F] (main_arg4 : FVec F S1x512 .f32) (main_arg5 : FVec F S1x512 .f32) (main_arg6 : FVec F S1x1024 .f32) (main_arg7 : FVec F S1x1024 .f32) (main_arg8 : FVec F S1024x1024 .bf16) (main_arg9 : FVec F S2816x1024 .bf16) (main_arg10 : FVec F S2816x1024 .bf16) (main_arg11 : FVec F S2816x1024 .bf16) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v16 : FVec F S1x512 .f32 := Host.absf main_arg4
  let main_cst_6 : FVec F S_ .f32 := constant S_ .f32 0x7F800000#32
  let main_v17 : FVec F S1x512 .f32 := broadcastInDim S1x512 ![] bcast_S_S1x512 main_cst_6
  let main_v18 : IVec S1x512 1 := cmpf .olt main_v16 main_v17
  let main_c_7 : IVec S_ 1 := constantI S_ 1 1#1
  let main_v19 : IVec S_ 1 := (fun x v => Host.reduce IntOp.andi x v reducesTo_S1x512_S_d0_1 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S8192x512 .f32) (main_arg1 : FVec F S8192x512 .f32) (main_arg2 : FVec F S8192x1024 .f32) (main_arg3 : FVec F S8192x1024 .f32) (main_arg4 : FVec F S1x512 .f32) (main_arg5 : FVec F S1x512 .f32) (main_arg6 : FVec F S1x1024 .f32) (main_arg7 : FVec F S1x1024 .f32) (main_arg8 : FVec F S1024x1024 .bf16) (main_arg9 : FVec F S2816x1024 .bf16) (main_arg10 : FVec F S2816x1024 .bf16) (main_arg11 : FVec F S2816x1024 .bf16) : IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_arg5 main_arg6 main_arg7 main_arg8 main_arg9 main_arg10 main_arg11 main_v3 main_v7 main_v11 main_v15
-- ==== Kernel.lean ====
abbrev S8192x1024 : Shape := ⟨2, ![8192, 1024]⟩
abbrev S8192x512 : Shape := ⟨2, ![8192, 512]⟩
abbrev S4x2048x8x128 : Shape := ⟨4, ![4, 2048, 8, 128]⟩
abbrev S4x8x2048x128 : Shape := ⟨4, ![4, 8, 2048, 128]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x2048 : Shape := ⟨3, ![4, 8, 2048]⟩
abbrev S4x8x2048x1 : Shape := ⟨4, ![4, 8, 2048, 1]⟩
abbrev S4x2048x8x64 : Shape := ⟨4, ![4, 2048, 8, 64]⟩
abbrev S4x8x2048x64 : Shape := ⟨4, ![4, 8, 2048, 64]⟩
abbrev S2048x256 : Shape := ⟨2, ![2048, 256]⟩
abbrev S512x256 : Shape := ⟨2, ![512, 256]⟩
abbrev S512x128 : Shape := ⟨2, ![512, 128]⟩
abbrev S2048x128 : Shape := ⟨2, ![2048, 128]⟩
abbrev S2x2048x128 : Shape := ⟨3, ![2, 2048, 128]⟩
abbrev S2x8x128 : Shape := ⟨3, ![2, 8, 128]⟩
abbrev S512x512 : Shape := ⟨2, ![512, 512]⟩
abbrev S1x2048x128 : Shape := ⟨3, ![1, 2048, 128]⟩
abbrev S128x512 : Shape := ⟨2, ![128, 512]⟩
abbrev S1x512 : Shape := ⟨2, ![1, 512]⟩
abbrev S1x512x128 : Shape := ⟨3, ![1, 512, 128]⟩

abbrev nBuf : Space → Nat
  | .hbm => 46
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S4x2048x8x128, .bf16⟩
  | .hbm, ⟨5, _⟩ => ⟨S4x8x2048x128, .bf16⟩
  | .hbm, ⟨6, _⟩ => ⟨S4x2048x8x128, .bf16⟩
  | .hbm, ⟨7, _⟩ => ⟨S4x8x2048x128, .bf16⟩
  | .hbm, ⟨8, _⟩ => ⟨S4x8x2048x2048, .f32⟩
  | .hbm, ⟨9, _⟩ => ⟨S2048, .i32⟩
  | .hbm, ⟨10, _⟩ => ⟨S1x2048, .i32⟩
  | .hbm, ⟨11, _⟩ => ⟨S2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S4x8x2048x2048, .i1⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x2048x8x64, .bf16⟩
  | .hbm, ⟨33, _⟩ => ⟨S4x8x2048x64, .bf16⟩
  | .hbm, ⟨34, _⟩ => ⟨S4x8x2048x64, .f32⟩
  | .hbm, ⟨35, _⟩ => ⟨S4x8x2048x64, .f32⟩
  | .hbm, ⟨36, _⟩ => ⟨S4x2048x8x64, .f32⟩
  | .hbm, ⟨37, _⟩ => ⟨S8192x512, .f32⟩
  | .hbm, ⟨38, _⟩ => ⟨S4x8x2048x1, .f32⟩
  | .hbm, ⟨39, _⟩ => ⟨S4x8x2048x1, .f32⟩
  | .hbm, ⟨40, _⟩ => ⟨S4x8x2048x128, .f32⟩
  | .hbm, ⟨41, _⟩ => ⟨S4x2048x8x128, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S8192x512, .bf16⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S2x2048x128, .f32⟩
  | .local _ .vmem, ⟨19, _⟩ => ⟨S2x8x128, .f32⟩
  | .local _ .vmem, ⟨20, _⟩ => ⟨S2048x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let c3_i32 : BitVec 32 := 3#32
  let arg2 : BitVec 32 := BitVec.ofNat 32 (i 2).val
  let v0 : BitVec 32 := Scalar.subi c3_i32 arg2
  let c512_i32 : BitVec 32 := 512#32
  let v11 : BitVec 32 := Scalar.muli v0 c512_i32
  v11
def k0_off1 (i : grid0.Coords) : Fin 2 → Nat :=
  let c3_i32 : BitVec 32 := 3#32
  let arg2 : BitVec 32 := BitVec.ofNat 32 (i 2).val
  let v0 : BitVec 32 := Scalar.subi c3_i32 arg2
  let c512_i32 : BitVec 32 := 512#32
  let v11 : BitVec 32 := Scalar.muli v0 c512_i32
  let v12 : BitVec 32 := v11
  let v13 : Index := Scalar.indexCast v12
  let c0_3 : Index := 0#32
  ![v13.toNat, 0]
def k0_off2 (i : grid0.Coords) : Fin 2 → Nat :=
  let c3_i32 : BitVec 32 := 3#32
  let arg2 : BitVec 32 := BitVec.ofNat 32 (i 2).val
  let v0 : BitVec 32 := Scalar.subi c3_i32 arg2
  let c512_i32 : BitVec 32 := 512#32
  let v11 : BitVec 32 := Scalar.muli v0 c512_i32
  let v12 : BitVec 32 := v11
  let v15 : Index := Scalar.indexCast v12
  let c0_4 : Index := 0#32
  ![v15.toNat, 0]
def k0_off3 (i : grid0.Coords) : Fin 3 → Nat :=
  let c0_12 : Index := 0#32
  let c3_i32 : BitVec 32 := 3#32
  let arg2 : BitVec 32 := BitVec.ofNat 32 (i 2).val
  let v0 : BitVec 32 := Scalar.subi c3_i32 arg2
  let c512_i32 : BitVec 32 := 512#32
  let v11 : BitVec 32 := Scalar.muli v0 c512_i32
  let v12 : BitVec 32 := v11
  let v33 : Index := Scalar.indexCast v12
  let c0_13 : Index := 0#32
  ![0, v33.toNat, 0]
def k0_off4 (i : grid0.Coords) : Fin 2 → Nat :=
  let c3_i32 : BitVec 32 := 3#32
  let arg2 : BitVec 32 := BitVec.ofNat 32 (i 2).val
  let v0 : BitVec 32 := Scalar.subi c3_i32 arg2
  let c512_i32 : BitVec 32 := 512#32
  let v11 : BitVec 32 := Scalar.muli v0 c512_i32
  let v12 : BitVec 32 := v11
  let v53 : Index := Scalar.indexCast v12
  let c128 : Index := 128#32
  ![v53.toNat, 128]
def k0_off5 (i : grid0.Coords) : Fin 3 → Nat :=
  let c1 : Index := 1#32
  let c3_i32 : BitVec 32 := 3#32
  let arg2 : BitVec 32 := BitVec.ofNat 32 (i 2).val
  let v0 : BitVec 32 := Scalar.subi c3_i32 arg2
  let c512_i32 : BitVec 32 := 512#32
  let v11 : BitVec 32 := Scalar.muli v0 c512_i32
  let v12 : BitVec 32 := v11
  let v71 : Index := Scalar.indexCast v12
  let c0_27 : Index := 0#32
  ![1, v71.toNat, 0]
@[reducible] def k0_t1_loop (i : grid0.Coords) : Scf.Loop 32 :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_34 : BitVec 32 := 1#32
  ⟨v91, v96, c1_i32_34⟩
def k0_mult2 (i : grid0.Coords) (k0_t1 : Fin (k0_t1_loop i).trips) : BitVec 32 :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c1_i32_34 : BitVec 32 := 1#32
  let arg15 : BitVec 32 := Scf.iv v91 c1_i32_34 k0_t1
  let c512_i32_44 : BitVec 32 := 512#32
  let v111 : BitVec 32 := Scalar.muli arg15 c512_i32_44
  v111
def k0_off6 (i : grid0.Coords) (k0_t1 : Fin (k0_t1_loop i).trips) : Fin 2 → Nat :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c1_i32_34 : BitVec 32 := 1#32
  let arg15 : BitVec 32 := Scf.iv v91 c1_i32_34 k0_t1
  let c512_i32_44 : BitVec 32 := 512#32
  let v111 : BitVec 32 := Scalar.muli arg15 c512_i32_44
  let v112 : BitVec 32 := v111
  let v113 : Index := Scalar.indexCast v112
  let c0_45 : Index := 0#32
  ![v113.toNat, 0]
def k0_off7 (i : grid0.Coords) (k0_t1 : Fin (k0_t1_loop i).trips) : Fin 2 → Nat :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c1_i32_34 : BitVec 32 := 1#32
  let arg15 : BitVec 32 := Scf.iv v91 c1_i32_34 k0_t1
  let c512_i32_44 : BitVec 32 := 512#32
  let v111 : BitVec 32 := Scalar.muli arg15 c512_i32_44
  let v112 : BitVec 32 := v111
  let v115 : Index := Scalar.indexCast v112
  let c0_46 : Index := 0#32
  ![v115.toNat, 0]
def k0_off8 (i : grid0.Coords) (k0_t1 : Fin (k0_t1_loop i).trips) : Fin 3 → Nat :=
  let c0_54 : Index := 0#32
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c1_i32_34 : BitVec 32 := 1#32
  let arg15 : BitVec 32 := Scf.iv v91 c1_i32_34 k0_t1
  let c512_i32_44 : BitVec 32 := 512#32
  let v111 : BitVec 32 := Scalar.muli arg15 c512_i32_44
  let v112 : BitVec 32 := v111
  let v130 : Index := Scalar.indexCast v112
  let c0_55 : Index := 0#32
  ![0, v130.toNat, 0]
def k0_off9 (i : grid0.Coords) (k0_t1 : Fin (k0_t1_loop i).trips) : Fin 2 → Nat :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c1_i32_34 : BitVec 32 := 1#32
  let arg15 : BitVec 32 := Scf.iv v91 c1_i32_34 k0_t1
  let c512_i32_44 : BitVec 32 := 512#32
  let v111 : BitVec 32 := Scalar.muli arg15 c512_i32_44
  let v112 : BitVec 32 := v111
  let v150 : Index := Scalar.indexCast v112
  let c128_61 : Index := 128#32
  ![v150.toNat, 128]
def k0_off10 (i : grid0.Coords) (k0_t1 : Fin (k0_t1_loop i).trips) : Fin 3 → Nat :=
  let c1_69 : Index := 1#32
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c1_i32_34 : BitVec 32 := 1#32
  let arg15 : BitVec 32 := Scf.iv v91 c1_i32_34 k0_t1
  let c512_i32_44 : BitVec 32 := 512#32
  let v111 : BitVec 32 := Scalar.muli arg15 c512_i32_44
  let v112 : BitVec 32 := v111
  let v165 : Index := Scalar.indexCast v112
  let c0_70 : Index := 0#32
  ![1, v165.toNat, 0]
@[reducible] def k0_t2_loop (i : grid0.Coords) : Scf.Loop 32 :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let v93 : BitVec 32 := Scalar.addi v91 v92
  let c1_i32_35 : BitVec 32 := 1#32
  ⟨v96, v93, c1_i32_35⟩
def k0_mult3 (i : grid0.Coords) (k0_t2 : Fin (k0_t2_loop i).trips) : BitVec 32 :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_35 : BitVec 32 := 1#32
  let arg15 : BitVec 32 := Scf.iv v96 c1_i32_35 k0_t2
  let c512_i32_44 : BitVec 32 := 512#32
  let v111 : BitVec 32 := Scalar.muli arg15 c512_i32_44
  v111
def k0_off11 (i : grid0.Coords) (k0_t2 : Fin (k0_t2_loop i).trips) : Fin 2 → Nat :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_35 : BitVec 32 := 1#32
  let arg15 : BitVec 32 := Scf.iv v96 c1_i32_35 k0_t2
  let c512_i32_44 : BitVec 32 := 512#32
  let v111 : BitVec 32 := Scalar.muli arg15 c512_i32_44
  let v112 : BitVec 32 := v111
  let v113 : Index := Scalar.indexCast v112
  let c0_45 : Index := 0#32
  ![v113.toNat, 0]
def k0_off12 (i : grid0.Coords) (k0_t2 : Fin (k0_t2_loop i).trips) : Fin 2 → Nat :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_35 : BitVec 32 := 1#32
  let arg15 : BitVec 32 := Scf.iv v96 c1_i32_35 k0_t2
  let c512_i32_44 : BitVec 32 := 512#32
  let v111 : BitVec 32 := Scalar.muli arg15 c512_i32_44
  let v112 : BitVec 32 := v111
  let v115 : Index := Scalar.indexCast v112
  let c0_46 : Index := 0#32
  ![v115.toNat, 0]
def k0_off13 (i : grid0.Coords) (k0_t2 : Fin (k0_t2_loop i).trips) : Fin 3 → Nat :=
  let c0_54 : Index := 0#32
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_35 : BitVec 32 := 1#32
  let arg15 : BitVec 32 := Scf.iv v96 c1_i32_35 k0_t2
  let c512_i32_44 : BitVec 32 := 512#32
  let v111 : BitVec 32 := Scalar.muli arg15 c512_i32_44
  let v112 : BitVec 32 := v111
  let v130 : Index := Scalar.indexCast v112
  let c0_55 : Index := 0#32
  ![0, v130.toNat, 0]
def k0_off14 (i : grid0.Coords) (k0_t2 : Fin (k0_t2_loop i).trips) : Fin 2 → Nat :=
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_35 : BitVec 32 := 1#32
  let arg15 : BitVec 32 := Scf.iv v96 c1_i32_35 k0_t2
  let c512_i32_44 : BitVec 32 := 512#32
  let v111 : BitVec 32 := Scalar.muli arg15 c512_i32_44
  let v112 : BitVec 32 := v111
  let v150 : Index := Scalar.indexCast v112
  let c128_61 : Index := 128#32
  ![v150.toNat, 128]
def k0_off15 (i : grid0.Coords) (k0_t2 : Fin (k0_t2_loop i).trips) : Fin 3 → Nat :=
  let c1_69 : Index := 1#32
  let c3_i32 : BitVec 32 := 3#32
  let arg2 : BitVec 32 := BitVec.ofNat 32 (i 2).val
  let v0 : BitVec 32 := Scalar.subi c3_i32 arg2
  let c1_i32 : BitVec 32 := 1#32
  let v91 : BitVec 32 := Scalar.addi v0 c1_i32
  let c4_i32 : BitVec 32 := 4#32
  let v92 : BitVec 32 := Scalar.subi c4_i32 v91
  let c1_i32_33 : BitVec 32 := 1#32
  let v94 : BitVec 32 := Scalar.divsi v92 c1_i32_33
  let v95 : BitVec 32 := Scalar.muli v94 c1_i32_33
  let v96 : BitVec 32 := Scalar.addi v91 v95
  let c1_i32_35 : BitVec 32 := 1#32
  let arg15 : BitVec 32 := Scf.iv v96 c1_i32_35 k0_t2
  let c512_i32_44 : BitVec 32 := 512#32
  let v111 : BitVec 32 := Scalar.muli arg15 c512_i32_44
  let v112 : BitVec 32 := v111
  let v165 : Index := Scalar.indexCast v112
  let c0_70 : Index := 0#32
  ![1, v165.toNat, 0]
def k0_cond2 (i : grid0.Coords) : BitVec 1 :=
  let arg2 : BitVec 32 := BitVec.ofNat 32 (i 2).val
  let c3_i32_42 : BitVec 32 := 3#32
  let v108 : BitVec 1 := Scalar.cmpi .eq arg2 c3_i32_42
  let v109 : BitVec 32 := Scalar.extui v108
  let c0_i32_43 : BitVec 32 := 0#32
  let v110 : BitVec 1 := Scalar.cmpi .ne v109 c0_i32_43
  v110

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x512 : Shape := ⟨2, ![8192, 512]⟩
abbrev S4x2048x8x128 : Shape := ⟨4, ![4, 2048, 8, 128]⟩
abbrev S4x8x2048x128 : Shape := ⟨4, ![4, 8, 2048, 128]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S4x2048x8x128, .f32⟩
  | .hbm, ⟨9, _⟩ => ⟨S4x8x2048x128, .f32⟩
  | .hbm, ⟨10, _⟩ => ⟨S4x2048x8x128, .f32⟩
  | .hbm, ⟨11, _⟩ => ⟨S4x8x2048x128, .f32⟩
  | .hbm, ⟨12, _⟩ => ⟨S4x2048x8x64, .f32⟩
  | .hbm, ⟨13, _⟩ => ⟨S4x8x2048x64, .f32⟩
  | .hbm, ⟨14, _⟩ => ⟨S4x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x8x2048x2048, .i1⟩
  | .hbm, ⟨24, _⟩ => ⟨S4x8x2048x2048, .f32⟩
  | .hbm, ⟨25, _⟩ => ⟨S4x8x2048x2048, .f32⟩
  | .hbm, ⟨26, _⟩ => ⟨S_, .f32⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .i1⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .i1⟩
  | .hbm, ⟨42, _⟩ => ⟨S_, .f32⟩
  | .hbm, ⟨43, _⟩ => ⟨S4x8x2048, .f32⟩
  | .hbm, ⟨44, _⟩ => ⟨S4x8x2048, .i1⟩
  | .hbm, ⟨45, _⟩ => ⟨S_, .f32⟩
  | .hbm, ⟨46, _⟩ => ⟨S4x8x2048, .f32⟩
  | .hbm, ⟨47, _⟩ => ⟨S_, .f32⟩
  | .hbm, ⟨48, _⟩ => ⟨S4x8x2048, .f32⟩
  | .hbm, ⟨49, _⟩ => ⟨S_, .f32⟩
  | .hbm, ⟨50, _⟩ => ⟨S4x8x2048, .f32⟩
  | .hbm, ⟨51, _⟩ => ⟨S4x8x2048, .f32⟩
  | .hbm, ⟨52, _⟩ => ⟨S4x8x2048, .f32⟩
  | .hbm, ⟨53, _⟩ => ⟨S4x8x2048x1, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S_, .f32⟩
  | .hbm, ⟨58, _⟩ => ⟨S4x8x2048, .f32⟩
  | .hbm, ⟨59, _⟩ => ⟨S4x8x2048x1, .f32⟩
  | .hbm, ⟨60, _⟩ => ⟨S4x8x2048x2048, .f32⟩
  | .hbm, ⟨61, _⟩ => ⟨S4x8x2048x2048, .f32⟩
  | .hbm, ⟨62, _⟩ => ⟨S4x8x2048x1, .f32⟩
  | .hbm, ⟨63, _⟩ => ⟨S_, .f32⟩
  | .hbm, ⟨64, _⟩ => ⟨S4x8x2048x1, .f32⟩
  | .hbm, ⟨65, _⟩ => ⟨S4x8x2048x1, .f32⟩
  | .hbm, ⟨66, _⟩ => ⟨S4x8x2048x64, .f32⟩
  | .hbm, ⟨67, _⟩ => ⟨S4x2048x8x64, .f32⟩
  | .hbm, ⟨68, _⟩ => ⟨S8192x512, .f32⟩
  | .hbm, ⟨69, _⟩ => ⟨S4x2048x8x64, .f32⟩
  | .hbm, ⟨70, _⟩ => ⟨S4x8x2048x64, .f32⟩
  | .hbm, ⟨71, _⟩ => ⟨S4x8x64x2048, .f32⟩
  | .hbm, ⟨72, _⟩ => ⟨S4x8x2048x64, .f32⟩
  | .hbm, ⟨73, _⟩ => ⟨S4x8x2048x2048, .f32⟩
  | .hbm, ⟨74, _⟩ => ⟨S4x8x2048x2048, .f32⟩
  | .hbm, ⟨75, _⟩ => ⟨S4x8x2048x2048, .f32⟩
  | .hbm, ⟨76, _⟩ => ⟨S4x8x2048x2048, .f32⟩
  | .hbm, ⟨77, _⟩ => ⟨S_, .f32⟩
  | .hbm, ⟨78, _⟩ => ⟨S4x8x2048, .f32⟩
  | .hbm, ⟨79, _⟩ => ⟨S4x8x2048x1, .f32⟩
  | .hbm, ⟨80, _⟩ => ⟨S4x8x2048x1, .f32⟩
  | .hbm, ⟨81, _⟩ => ⟨S4x8x2048x2048, .f32⟩
  | .hbm, ⟨82, _⟩ => ⟨S4x8x2048x2048, .f32⟩
  | .hbm, ⟨83, _⟩ => ⟨S_, .f32⟩
  | .hbm, ⟨84, _⟩ => ⟨S4x8x2048, .f32⟩
  | .hbm, ⟨85, _⟩ => ⟨S4x8x2048x2048, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048x2048, .f32⟩
  | .hbm, ⟨90, _⟩ => ⟨S4x8x2048x2048, .f32⟩
  | .hbm, ⟨91, _⟩ => ⟨S4x8x2048x128, .f32⟩
  | .hbm, ⟨92, _⟩ => ⟨S4x8x2048x128, .f32⟩
  | .hbm, ⟨93, _⟩ => ⟨S4x2048x8x64, .f32⟩
  | .hbm, ⟨94, _⟩ => ⟨S8192x512, .f32⟩
  | .hbm, ⟨95, _⟩ => ⟨S4x2048x8x128, .f32⟩
  | .hbm, ⟨96, _⟩ => ⟨S8192x1024, .f32⟩
  | .hbm, ⟨97, _⟩ => ⟨S4x2048x8x128, .f32⟩
  | .hbm, ⟨98, _⟩ => ⟨S8192x1024, .f32⟩
  | .hbm, ⟨99, _⟩ => ⟨S8192x1024, .bf16⟩
  | .hbm, ⟨100, _⟩ => ⟨S8192x1024, .bf16⟩
  | .hbm, ⟨101, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_v17_1 : Ref sig .tc := ⟨.hbm, 23, rfl⟩
abbrev main_call0_v2 : Ref sig .tc := ⟨.hbm, 24, rfl⟩
abbrev main_v17_0 : Ref sig .tc := ⟨.hbm, 25, rfl⟩
abbrev main_call0_cst : Ref sig .tc := ⟨.hbm, 26, rfl⟩
abbrev main_v17_2 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call1_cst : Ref sig .tc := ⟨.hbm, 88, rfl⟩
abbrev main_call1_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Middle.lean ====
abbrev S8192x512 : Shape := ⟨2, ![8192, 512]⟩
abbrev S8192x1024 : Shape := ⟨2, ![8192, 1024]⟩
abbrev S1x512 : Shape := ⟨2, ![1, 512]⟩
abbrev S1x1024 : Shape := ⟨2, ![1, 1024]⟩
abbrev S1024x1024 : Shape := ⟨2, ![1024, 1024]⟩
abbrev S2816x1024 : Shape := ⟨2, ![2816, 1024]⟩
abbrev S8192x2816 : Shape := ⟨2, ![8192, 2816]⟩
abbrev S8x1024 : Shape := ⟨2, ![8, 1024]⟩
abbrev S256x512 : Shape := ⟨2, ![256, 512]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S512 : Shape := ⟨1, ![512]⟩

abbrev nBuf : Space → Nat
  | .hbm => 22
  | .vmem => 35
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S2816x1024, .bf16⟩
  | .hbm, ⟨10, _⟩ => ⟨S2816x1024, .bf16⟩
  | .hbm, ⟨11, _⟩ => ⟨S2816x1024, .bf16⟩
  | .hbm, ⟨12, _⟩ => ⟨S8192x1024, .bf16⟩
  | .hbm, ⟨13, _⟩ => ⟨S8192x1024, .bf16⟩
  | .hbm, ⟨14, _⟩ => ⟨S8192x2816, .bf16⟩
  | .hbm, ⟨15, _⟩ => ⟨S8192x2816, .bf16⟩
  | .hbm, ⟨16, _⟩ => ⟨S8192x2816, .bf16⟩
  | .hbm, ⟨17, _⟩ => ⟨S8192x1024, .bf16⟩
  | .hbm, ⟨18, _⟩ => ⟨S8192x1024, .f32⟩
  | .hbm, ⟨19, _⟩ => ⟨S8192x512, .bf16⟩
  | .hbm, ⟨20, _⟩ => ⟨S8192x512, .bf16⟩
  | .hbm, ⟨21, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .f32⟩
  | .local _ .vmem, ⟨29, _⟩ => ⟨S256x1024, .f32⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== MiddleReferenceIdeal.lean ====
abbrev S8192x512 : Shape := ⟨2, ![8192, 512]⟩
abbrev S8192x1024 : Shape := ⟨2, ![8192, 1024]⟩
abbrev S1x512 : Shape := ⟨2, ![1, 512]⟩
abbrev S1x1024 : Shape := ⟨2, ![1, 1024]⟩
abbrev S1024x1024 : Shape := ⟨2, ![1024, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S512 : Shape := ⟨1, ![512]⟩
abbrev S8x1024 : Shape := ⟨2, ![8, 1024]⟩

abbrev nBuf : Space → Nat
  | .hbm => 255
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S8192x1024, .f32⟩
  | 4 => ⟨S1x512, .f32⟩
  | 5 => ⟨S1x512, .f32⟩
  | 6 => ⟨S1x1024, .f32⟩
  | 7 => ⟨S1x1024, .f32⟩
  | 8 => ⟨S1024x1024, .bf16⟩
  | 9 => ⟨S2816x1024, .bf16⟩
  | 10 => ⟨S2816x1024, .bf16⟩
  | 11 => ⟨S2816x1024, .bf16⟩
  | 12 => ⟨S1024x1024, .f32⟩
  | 13 => ⟨S2816x1024, .f32⟩
  | 14 => ⟨S2816x1024, .f32⟩
  | 15 => ⟨S2816x1024, .f32⟩
  | 16 => ⟨S8192x512, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x512, .f32⟩
  | 51 => ⟨S8192x512, .f32⟩
  | 52 => ⟨S8192x512, .f32⟩
  | 53 => ⟨S8192x512, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S8192x1024, .f32⟩
  | 76 => ⟨S8192x2816, .f32⟩
  | 77 => ⟨S8192x2816, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S_, .f32⟩
  | 84 => ⟨S8192x2816, .f32⟩
  | 85 => ⟨S8192x2816, .f32⟩
  | 86 => ⟨S_, .f32⟩
  | 87 => ⟨S8192x2816, .f32⟩
  | 88 => ⟨S8192x2816, .f32⟩
  | 89 => ⟨S8192x2816, .f32⟩
  | 90 => ⟨S8192x2816, .f32⟩
  | 91 => ⟨S8192x2816, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S_, .f32⟩
  | 119 => ⟨S1024, .f32⟩
  | 120 => ⟨S_, .f32⟩
  | 121 => ⟨S1024, .f32⟩
  | 122 => ⟨S1024, .f32⟩
  | 123 => ⟨S_, .f32⟩
  | 124 => ⟨S1024, .f32⟩
  | 125 => ⟨S1024, .f32⟩
  | 126 => ⟨S_, .f32⟩
  | 127 => ⟨S1024, .f32⟩
  | _ => ⟨S8192x512, .f32⟩

abbrev hbmTy0_1 (i : Nat) : BufTy := match i % 128 with
  | 0 => ⟨S_, .f32⟩
  | 1 => ⟨S1024, .f32⟩
  | 2 => ⟨S1024, .f32⟩
  | 3 => ⟨S_, .f32⟩
  | 4 => ⟨S1024, .f32⟩
  | 5 => ⟨S1024, .f32⟩
  | 6 => ⟨S8192x1024, .f32⟩
  | 7 => ⟨S8192x1024, .f32⟩
  | 8 => ⟨S8192x1024, .f32⟩
  | 9 => ⟨S_, .f32⟩
  | 10 => ⟨S1024, .f32⟩
  | 11 => ⟨S1x1024, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S8192x1024, .f32⟩
  | 19 => ⟨S8192x1024, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S8192x1024, .f32⟩
  | 52 => ⟨S8192x1024, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x512, .f32⟩
  | 67 => ⟨S8192x512, .f32⟩
  | 68 => ⟨S8192x512, .f32⟩
  | 69 => ⟨S_, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S_, .f32⟩
  | 76 => ⟨S8192, .f32⟩
  | 77 => ⟨S8192x1, .f32⟩
  | 78 => ⟨S8192x512, .f32⟩
  | 79 => ⟨S8192x512, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S_, .f32⟩
  | 93 => ⟨S512, .f32⟩
  | 94 => ⟨S1x512, .f32⟩
  | 95 => ⟨S8192x512, .f32⟩
  | 96 => ⟨S8192x512, .f32⟩
  | 97 => ⟨S8192x512, .f32⟩
  | 98 => ⟨S_, .f32⟩
  | 99 => ⟨S8192, .f32⟩
  | 100 => ⟨S8192x1, .f32⟩
  | 101 => ⟨S8192x512, .f32⟩
  | 102 => ⟨S8192x512, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S_, .f32⟩
  | 115 => ⟨S1x1024, .f32⟩
  | 116 => ⟨S1x1024, .f32⟩
  | 117 => ⟨S1x1024, .f32⟩
  | 118 => ⟨S8x1024, .f32⟩
  | 119 => ⟨S8192x1024, .bf16⟩
  | 120 => ⟨S8192x1024, .bf16⟩
  | 121 => ⟨S8192x2816, .bf16⟩
  | 122 => ⟨S8192x2816, .bf16⟩
  | 123 => ⟨S8192x2816, .bf16⟩
  | 124 => ⟨S8192x1024, .bf16⟩
  | 125 => ⟨S8192x512, .bf16⟩
  | 126 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_v54_2 : Ref sig .tc := ⟨.hbm, 85, rfl⟩
abbrev main_call0_cst_1 : Ref sig .tc := ⟨.hbm, 86, rfl⟩
abbrev main_call0_v6 : Ref sig .tc := ⟨.hbm, 87, rfl⟩
abbrev main_call0_v7 : Ref sig .tc := ⟨.hbm, 88, rfl⟩
abbrev main_v54_1 : Ref sig .tc := ⟨.hbm, 89, rfl⟩
abbrev main_v54_0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_cst_13 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_15 : Ref sig .tc := ⟨.hbm, 115, rfl⟩
abbrev main_v75 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_cst_17 : Ref sig .tc := ⟨.hbm, 120, rfl⟩
abbrev main_v78 : Ref sig .tc := ⟨.hbm, 121, rfl⟩
abbrev main_v79 : Ref sig .tc := ⟨.hbm, 122, rfl⟩
abbrev main_cst_18 : Ref sig .tc := ⟨.hbm, 123, rfl⟩
abbrev main_v80 : Ref sig .tc := ⟨.hbm, 124, rfl⟩
abbrev main_v81 : Ref sig .tc := ⟨.hbm, 125, rfl⟩
abbrev main_cst_19 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_cst_21 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_22 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_23 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_24 : Ref sig .tc := ⟨.hbm, 149, rfl⟩
abbrev main_v100 : Ref sig .tc := ⟨.hbm, 150, rfl⟩
abbrev main_v101 : Ref sig .tc := ⟨.hbm, 151, rfl⟩
abbrev main_cst_25 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_26 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_27 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_28 : Ref sig .tc := ⟨.hbm, 182, rfl⟩
abbrev main_v126 : Ref sig .tc := ⟨.hbm, 183, rfl⟩
abbrev main_v127 : Ref sig .tc := ⟨.hbm, 184, rfl⟩
abbrev main_cst_29 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_30 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_31 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_32 : Ref sig .tc := ⟨.hbm, 209, rfl⟩
abbrev main_v149 : Ref sig .tc := ⟨.hbm, 210, rfl⟩
abbrev main_v150 : Ref sig .tc := ⟨.hbm, 211, rfl⟩
abbrev main_cst_33 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_34 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_cst_35 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_36 : Ref sig .tc := ⟨.hbm, 232, rfl⟩
abbrev main_v168 : Ref sig .tc := ⟨.hbm, 233, rfl⟩
abbrev main_v169 : Ref sig .tc := ⟨.hbm, 234, rfl⟩
abbrev main_cst_37 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_38 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩

abbrev nD : Nat := 1
abbrev τ : Topo := Topo.v7x

variable {F : FTy → Type} [FloatOps F]
-- ==== Weights.lean ====
abbrev S8192x1024 : Shape := ⟨2, ![8192, 1024]⟩
abbrev S8192x2816 : Shape := ⟨2, ![8192, 2816]⟩
abbrev S8192x2048 : Shape := ⟨2, ![8192, 2048]⟩
abbrev S1024x1024 : Shape := ⟨2, ![1024, 1024]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩
abbrev S2048x2048 : Shape := ⟨2, ![2048, 2048]⟩

abbrev nBuf : Space → Nat
  | .hbm => 14
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S8192x2816, .bf16⟩
  | .hbm, ⟨5, _⟩ => ⟨S8192x2816, .bf16⟩
  | .hbm, ⟨6, _⟩ => ⟨S8192x1024, .bf16⟩
  | .hbm, ⟨7, _⟩ => ⟨S8192x2048, .bf16⟩
  | .hbm, ⟨8, _⟩ => ⟨S8192x1024, .bf16⟩
  | .hbm, ⟨9, _⟩ => ⟨S1024x1024, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S2048x1408, .bf16⟩
  | .local _ .vmem, ⟨6, _⟩ => ⟨S2048x1408, .bf16⟩
  | .local _ .vmem, ⟨7, _⟩ => ⟨S2048x1024, .bf16⟩
  | .local _ .vmem, ⟨8, _⟩ => ⟨S2048x1024, .bf16⟩
  | .local _ .vmem, ⟨9, _⟩ => ⟨S1408x1024, .f32⟩
  | .local _ .vmem, ⟨10, _⟩ => ⟨S1408x1024, .f32⟩
  | .local _ .vmem, ⟨11, _⟩ => ⟨S2048x1408, .bf16⟩
  | .local _ .vmem, ⟨12, _⟩ => ⟨S2048x1408, .bf16⟩
  | .local _ .vmem, ⟨13, _⟩ => ⟨S2048x1024, .bf16⟩
  | .local _ .vmem, ⟨14, _⟩ => ⟨S2048x1024, .bf16⟩
  | .local _ .vmem, ⟨15, _⟩ => ⟨S1408x1024, .f32⟩
  | .local _ .vmem, ⟨16, _⟩ => ⟨S1408x1024, .f32⟩
  | .local _ .vmem, ⟨17, _⟩ => ⟨S2048x1408, .bf16⟩
  | .local _ .vmem, ⟨18, _⟩ => ⟨S2048x1408, .bf16⟩
  | .local _ .vmem, ⟨19, _⟩ => ⟨S2048x1024, .bf16⟩
  | .local _ .vmem, ⟨20, _⟩ => ⟨S2048x1024, .bf16⟩
  | .local _ .vmem, ⟨21, _⟩ => ⟨S1408x1024, .f32⟩
  | .local _ .vmem, ⟨22, _⟩ => ⟨S1408x1024, .f32⟩
  | .local _ .vmem, ⟨23, _⟩ => ⟨S2048x2048, .bf16⟩
  | .local _ .vmem, ⟨24, _⟩ => ⟨S2048x2048, .bf16⟩
  | .local _ .vmem, ⟨25, _⟩ => ⟨S2048x1024, .bf16⟩
  | .local _ .vmem, ⟨26, _⟩ => ⟨S2048x1024, .bf16⟩
  | .local _ .vmem, ⟨27, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S2048x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]
-- ==== WeightsReferenceIdeal.lean ====
abbrev S8192x1024 : Shape := ⟨2, ![8192, 1024]⟩
abbrev S8192x2816 : Shape := ⟨2, ![8192, 2816]⟩
abbrev S8192x2048 : Shape := ⟨2, ![8192, 2048]⟩
abbrev S1024x1024 : Shape := ⟨2, ![1024, 1024]⟩
abbrev S2816x1024 : Shape := ⟨2, ![2816, 1024]⟩
abbrev S1024x2816 : Shape := ⟨2, ![1024, 2816]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S8192x2816, .bf16⟩
  | .hbm, ⟨5, _⟩ => ⟨S8192x2816, .bf16⟩
  | .hbm, ⟨6, _⟩ => ⟨S8192x1024, .bf16⟩
  | .hbm, ⟨7, _⟩ => ⟨S8192x2048, .bf16⟩
  | .hbm, ⟨8, _⟩ => ⟨S8192x1024, .bf16⟩
  | .hbm, ⟨9, _⟩ => ⟨S8192x1024, .f32⟩
  | .hbm, ⟨10, _⟩ => ⟨S8192x2816, .f32⟩
  | .hbm, ⟨11, _⟩ => ⟨S8192x1024, .f32⟩
  | .hbm, ⟨12, _⟩ => ⟨S8192x2816, .f32⟩
  | .hbm, ⟨13, _⟩ => ⟨S8192x2816, .f32⟩
  | .hbm, ⟨14, _⟩ => ⟨S8192x1024, .f32⟩
  | .hbm, ⟨15, _⟩ => ⟨S8192x2048, .f32⟩
  | .hbm, ⟨16, _⟩ => ⟨S8192x1024, .f32⟩
  | .hbm, ⟨17, _⟩ => ⟨S1024x1024, .f32⟩
  | .hbm, ⟨18, _⟩ => ⟨S1024x1024, .f32⟩
  | .hbm, ⟨19, _⟩ => ⟨S2816x1024, .f32⟩
  | .hbm, ⟨20, _⟩ => ⟨S2816x1024, .f32⟩
  | .hbm, ⟨21, _⟩ => ⟨S1024x2816, .f32⟩
  | .hbm, ⟨22, _⟩ => ⟨S2816x1024, .f32⟩
  | .hbm, ⟨23, _⟩ => ⟨S2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Update.lean ====
abbrev S490x1024 : Shape := ⟨2, ![490, 1024]⟩
abbrev S192x256 : Shape := ⟨2, ![192, 256]⟩
abbrev S128x256 : Shape := ⟨2, ![128, 256]⟩
abbrev S256x1024 : Shape := ⟨2, ![256, 1024]⟩
abbrev S48x256 : Shape := ⟨2, ![48, 256]⟩
abbrev S32x256 : Shape := ⟨2, ![32, 256]⟩
abbrev S64x1024 : Shape := ⟨2, ![64, 1024]⟩

abbrev nBuf : Space → Nat
  | .hbm => 28
  | .vmem => 49
  | .smem => 0
  | _ => 0

abbrev bufTy : (tb : Table) → Fin (tcTables nBuf tb) → BufTy
  | .hbm, ⟨0, _⟩ => ⟨S490x1024, .f32⟩
  | .hbm, ⟨1, _⟩ => ⟨S490x1024, .f32⟩
  | .hbm, ⟨2, _⟩ => ⟨S490x1024, .f32⟩
  | .hbm, ⟨3, _⟩ => ⟨S490x1024, .f32⟩
  | .hbm, ⟨4, _⟩ => ⟨S192x256, .f32⟩
  | .hbm, ⟨5, _⟩ => ⟨S192x256, .f32⟩
  | .hbm, ⟨6, _⟩ => ⟨S192x256, .f32⟩
  | .hbm, ⟨7, _⟩ => ⟨S192x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S490x1024, .f32⟩
  | .hbm, ⟨17, _⟩ => ⟨S490x1024, .f32⟩
  | .hbm, ⟨18, _⟩ => ⟨S490x1024, .f32⟩
  | .hbm, ⟨19, _⟩ => ⟨S192x256, .f32⟩
  | .hbm, ⟨20, _⟩ => ⟨S192x256, .f32⟩
  | .hbm, ⟨21, _⟩ => ⟨S192x256, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S256x1024, .f32⟩
  | .hbm, ⟨26, _⟩ => ⟨S256x1024, .f32⟩
  | .hbm, ⟨27, _⟩ => ⟨S256x1024, .f32⟩
  | .local _ .vmem, ⟨0, _⟩ => ⟨S490x1024, .f32⟩
  | .local _ .vmem, ⟨1, _⟩ => ⟨S490x1024, .f32⟩
  | .local _ .vmem, ⟨2, _⟩ => ⟨S490x1024, .f32⟩
  | .local _ .vmem, ⟨3, _⟩ => ⟨S490x1024, .f32⟩
  | .local _ .vmem, ⟨4, _⟩ => ⟨S490x1024, .f32⟩
  | .local _ .vmem, ⟨5, _⟩ => ⟨S490x1024, .f32⟩
  | .local _ .vmem, ⟨6, _⟩ => ⟨S490x1024, .f32⟩
  | .local _ .vmem, ⟨7, _⟩ => ⟨S48x256, .f32⟩
  | .local _ .vmem, ⟨8, _⟩ => ⟨S48x256, .f32⟩
  | .local _ .vmem, ⟨9, _⟩ => ⟨S48x256, .f32⟩
  | .local _ .vmem, ⟨10, _⟩ => ⟨S48x256, .f32⟩
  | .local _ .vmem, ⟨11, _⟩ => ⟨S48x256, .f32⟩
  | .local _ .vmem, ⟨12, _⟩ => ⟨S48x256, .f32⟩
  | .local _ .vmem, ⟨13, _⟩ => ⟨S48x256, .f32⟩
  | .local _ .vmem, ⟨14, _⟩ => ⟨S48x256, .f32⟩
  | .local _ .vmem, ⟨15, _⟩ => ⟨S48x256, .f32⟩
  | .local _ .vmem, ⟨16, _⟩ => ⟨S48x256, .f32⟩
  | .local _ .vmem, ⟨17, _⟩ => ⟨S48x256, .f32⟩
  | .local _ .vmem, ⟨18, _⟩ => ⟨S48x256, .f32⟩
  | .local _ .vmem, ⟨19, _⟩ => ⟨S48x256, .f32⟩
  | .local _ .vmem, ⟨20, _⟩ => ⟨S48x256, .f32⟩
  | .local _ .vmem, ⟨21, _⟩ => ⟨S32x256, .f32⟩
  | .local _ .vmem, ⟨22, _⟩ => ⟨S32x256, .f32⟩
  | .local _ .vmem, ⟨23, _⟩ => ⟨S32x256, .f32⟩
  | .local _ .vmem, ⟨24, _⟩ => ⟨S32x256, .f32⟩
  | .local _ .vmem, ⟨25, _⟩ => ⟨S32x256, .f32⟩
  | .local _ .vmem, ⟨26, _⟩ => ⟨S32x256, .f32⟩
  | .local _ .vmem, ⟨27, _⟩ => ⟨S32x256, .f32⟩
  | .local _ .vmem, ⟨28, _⟩ => ⟨S32x256, .f32⟩
  | .local _ .vmem, ⟨29, _⟩ => ⟨S32x256, .f32⟩
  | .local _ .vmem, ⟨30, _⟩ => ⟨S32x256, .f32⟩
  | .local _ .vmem, ⟨31, _⟩ => ⟨S32x256, .f32⟩
  | .local _ .vmem, ⟨32, _⟩ => ⟨S32x256, .f32⟩
  | .local _ .vmem, ⟨33, _⟩ => ⟨S32x256, .f32⟩
  | .local _ .vmem, ⟨34, _⟩ => ⟨S32x256, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | _, _ => ⟨S490x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v2_0 : Ref sig .tc := ⟨.hbm, 22, rfl⟩
abbrev main_v2_1 : Ref sig .tc := ⟨.hbm, 23, rfl⟩
abbrev main_v2_2 : Ref sig .tc := ⟨.hbm, 24, rfl⟩
abbrev main_v3_0 : Ref sig .tc := ⟨.hbm, 25, rfl⟩
abbrev main_v3_1 : Ref sig .tc := ⟨.hbm, 26, rfl⟩
abbrev main_v3_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S490x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S490x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S490x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S490x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S490x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S490x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S490x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S48x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S48x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S48x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S48x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S48x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S48x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S48x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S32x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S32x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S32x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S64x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S64x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S64x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== UpdateReferenceIdeal.lean ====
abbrev S490x1024 : Shape := ⟨2, ![490, 1024]⟩
abbrev S192x256 : Shape := ⟨2, ![192, 256]⟩
abbrev S128x256 : Shape := ⟨2, ![128, 256]⟩
abbrev S256x1024 : Shape := ⟨2, ![256, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S490x1024, .f32⟩
  | 1 => ⟨S490x1024, .f32⟩
  | 2 => ⟨S490x1024, .f32⟩
  | 3 => ⟨S490x1024, .f32⟩
  | 4 => ⟨S192x256, .f32⟩
  | 5 => ⟨S192x256, .f32⟩
  | 6 => ⟨S192x256, .f32⟩
  | 7 => ⟨S192x256, .f32⟩
  | 8 => ⟨S128x256, .f32⟩
  | 9 => ⟨S128x256, .f32⟩
  | 10 => ⟨S128x256, .f32⟩
  | 11 => ⟨S128x256, .f32⟩
  | 12 => ⟨S256x1024, .f32⟩
  | 13 => ⟨S256x1024, .f32⟩
  | 14 => ⟨S256x1024, .f32⟩
  | 15 => ⟨S256x1024, .f32⟩
  | 16 => ⟨S_, .f32⟩
  | 17 => ⟨S490x1024, .f32⟩
  | 18 => ⟨S490x1024, .f32⟩
  | 19 => ⟨S_, .f32⟩
  | 20 => ⟨S490x1024, .f32⟩
  | 21 => ⟨S490x1024, .f32⟩
  | 22 => ⟨S490x1024, .f32⟩
  | 23 => ⟨S_, .f32⟩
  | 24 => ⟨S490x1024, .f32⟩
  | 25 => ⟨S490x1024, .f32⟩
  | 26 => ⟨S490x1024, .f32⟩
  | 27 => ⟨S_, .f32⟩
  | 28 => ⟨S490x1024, .f32⟩
  | 29 => ⟨S490x1024, .f32⟩
  | 30 => ⟨S490x1024, .f32⟩
  | 31 => ⟨S_, .f32⟩
  | 32 => ⟨S490x1024, .f32⟩
  | 33 => ⟨S490x1024, .f32⟩
  | 34 => ⟨S_, .f32⟩
  | 35 => ⟨S490x1024, .f32⟩
  | 36 => ⟨S490x1024, .f32⟩
  | 37 => ⟨S490x1024, .f32⟩
  | 38 => ⟨S_, .f32⟩
  | 39 => ⟨S490x1024, .f32⟩
  | 40 => ⟨S490x1024, .f32⟩
  | 41 => ⟨S490x1024, .f32⟩
  | 42 => ⟨S_, .f32⟩
  | 43 => ⟨S490x1024, .f32⟩
  | 44 => ⟨S490x1024, .f32⟩
  | 45 => ⟨S490x1024, .f32⟩
  | 46 => ⟨S_, .f32⟩
  | 47 => ⟨S490x1024, .f32⟩
  | 48 => ⟨S490x1024, .f32⟩
  | 49 => ⟨S_, .f32⟩
  | 50 => ⟨S192x256, .f32⟩
  | 51 => ⟨S192x256, .f32⟩
  | 52 => ⟨S_, .f32⟩
  | 53 => ⟨S192x256, .f32⟩
  | 54 => ⟨S192x256, .f32⟩
  | 55 => ⟨S192x256, .f32⟩
  | 56 => ⟨S_, .f32⟩
  | 57 => ⟨S192x256, .f32⟩
  | 58 => ⟨S192x256, .f32⟩
  | 59 => ⟨S192x256, .f32⟩
  | 60 => ⟨S_, .f32⟩
  | 61 => ⟨S192x256, .f32⟩
  | 62 => ⟨S192x256, .f32⟩
  | 63 => ⟨S192x256, .f32⟩
  | 64 => ⟨S_, .f32⟩
  | 65 => ⟨S192x256, .f32⟩
  | 66 => ⟨S192x256, .f32⟩
  | 67 => ⟨S_, .f32⟩
  | 68 => ⟨S192x256, .f32⟩
  | 69 => ⟨S192x256, .f32⟩
  | 70 => ⟨S192x256, .f32⟩
  | 71 => ⟨S_, .f32⟩
  | 72 => ⟨S192x256, .f32⟩
  | 73 => ⟨S192x256, .f32⟩
  | 74 => ⟨S192x256, .f32⟩
  | 75 => ⟨S_, .f32⟩
  | 76 => ⟨S192x256, .f32⟩
  | 77 => ⟨S192x256, .f32⟩
  | 78 => ⟨S192x256, .f32⟩
  | 79 => ⟨S_, .f32⟩
  | 80 => ⟨S192x256, .f32⟩
  | 81 => ⟨S192x256, .f32⟩
  | 82 => ⟨S_, .f32⟩
  | 83 => ⟨S128x256, .f32⟩
  | 84 => ⟨S128x256, .f32⟩
  | 85 => ⟨S_, .f32⟩
  | 86 => ⟨S128x256, .f32⟩
  | 87 => ⟨S128x256, .f32⟩
  | 88 => ⟨S128x256, .f32⟩
  | 89 => ⟨S_, .f32⟩
  | 90 => ⟨S128x256, .f32⟩
  | 91 => ⟨S128x256, .f32⟩
  | 92 => ⟨S128x256, .f32⟩
  | 93 => ⟨S_, .f32⟩
  | 94 => ⟨S128x256, .f32⟩
  | 95 => ⟨S128x256, .f32⟩
  | 96 => ⟨S128x256, .f32⟩
  | 97 => ⟨S_, .f32⟩
  | 98 => ⟨S128x256, .f32⟩
  | 99 => ⟨S128x256, .f32⟩
  | 100 => ⟨S_, .f32⟩
  | 101 => ⟨S128x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .f32⟩
  | 108 => ⟨S_, .f32⟩
  | 109 => ⟨S128x256, .f32⟩
  | 110 => ⟨S128x256, .f32⟩
  | 111 => ⟨S128x256, .f32⟩
  | 112 => ⟨S_, .f32⟩
  | 113 => ⟨S128x256, .f32⟩
  | 114 => ⟨S128x256, .f32⟩
  | 115 => ⟨S_, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S256x1024, .f32⟩
  | 126 => ⟨S_, .f32⟩
  | 127 => ⟨S256x1024, .f32⟩
  | _ => ⟨S490x1024, .f32⟩

abbrev hbmTy0_1 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S_, .f32⟩
  | 6 => ⟨S256x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S256x1024, .f32⟩
  | 17 => ⟨S_, .f32⟩
  | 18 => ⟨S256x1024, .f32⟩
  | 19 => ⟨S256x1024, .f32⟩
  | _ => ⟨S490x1024, .f32⟩

abbrev hbmTy (i : Nat) : BufTy := match i / 128 with
  | 0 => hbmTy0_0 i
  | 1 => hbmTy0_1 i
  | _ => ⟨S490x1024, .f32⟩

abbrev bufTy : (tb : Table) → Fin (tcTables nBuf tb) → BufTy
  | .hbm, ⟨i, _⟩ => hbmTy i
  | _, _ => ⟨S490x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Totals.lean ====
abbrev S8x8x1024 : Shape := ⟨3, ![8, 8, 1024]⟩
abbrev S8x1024 : Shape := ⟨2, ![8, 1024]⟩
abbrev S1x8x1024 : Shape := ⟨3, ![1, 8, 1024]⟩
abbrev S1x1024 : Shape := ⟨2, ![1, 1024]⟩
abbrev S1024 : Shape := ⟨1, ![1024]⟩
abbrev S_ : Shape := ⟨0, ![]⟩

abbrev nBuf : Space → Nat
  | .hbm => 6
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S1x1024, .f32⟩
  | .hbm, ⟨3, _⟩ => ⟨S1024, .f32⟩
  | .hbm, ⟨4, _⟩ => ⟨S_, .f32⟩
  | .hbm, ⟨5, _⟩ => ⟨S_, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TotalsReferenceIdeal.lean ====
abbrev S8x8x1024 : Shape := ⟨3, ![8, 8, 1024]⟩
abbrev S_ : Shape := ⟨0, ![]⟩
abbrev S8x1024 : Shape := ⟨2, ![8, 1024]⟩
abbrev S8x1x1024 : Shape := ⟨3, ![8, 1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | .hbm, ⟨3, _⟩ => ⟨S8x1x1024, .f32⟩
  | .hbm, ⟨4, _⟩ => ⟨S8x1024, .f32⟩
  | .hbm, ⟨5, _⟩ => ⟨S_, .f32⟩
  | .hbm, ⟨6, _⟩ => ⟨S_, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Feedforward.lean ====
abbrev S704x1024 : Shape := ⟨2, ![704, 1024]⟩
abbrev S176x1024 : Shape := ⟨2, ![176, 1024]⟩

abbrev nBuf : Space → Nat
  | .hbm => 21
  | .vmem => 42
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== FeedforwardReferenceIdeal.lean ====
abbrev S704x1024 : Shape := ⟨2, ![704, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S704x1024, .f32⟩
  | .hbm, ⟨60, _⟩ => ⟨S_, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | .hbm, ⟨74, _⟩ => ⟨S704x1024, .f32⟩
  | .hbm, ⟨75, _⟩ => ⟨S_, .f32⟩
  | .hbm, ⟨76, _⟩ => ⟨S704x1024, .f32⟩
  | .hbm, ⟨77, _⟩ => ⟨S704x1024, .f32⟩
  | .hbm, ⟨78, _⟩ => ⟨S_, .f32⟩
  | .hbm, ⟨79, _⟩ => ⟨S704x1024, .f32⟩
  | .hbm, ⟨80, _⟩ => ⟨S704x1024, .f32⟩
  | .hbm, ⟨81, _⟩ => ⟨S_, .f32⟩
  | .hbm, ⟨82, _⟩ => ⟨S704x1024, .f32⟩
  | .hbm, ⟨83, _⟩ => ⟨S704x1024, .f32⟩
  | .hbm, ⟨84, _⟩ => ⟨S704x1024, .f32⟩
  | .hbm, ⟨85, _⟩ => ⟨S_, .f32⟩
  | .hbm, ⟨86, _⟩ => ⟨S704x1024, .f32⟩
  | .hbm, ⟨87, _⟩ => ⟨S704x1024, .f32⟩
  | .hbm, ⟨88, _⟩ => ⟨S704x1024, .f32⟩
  | .hbm, ⟨89, _⟩ => ⟨S_, .f32⟩
  | .hbm, ⟨90, _⟩ => ⟨S704x1024, .f32⟩
  | .hbm, ⟨91, _⟩ => ⟨S704x1024, .f32⟩
  | .hbm, ⟨92, _⟩ => ⟨S704x1024, .f32⟩
  | .hbm, ⟨93, _⟩ => ⟨S_, .f32⟩
  | .hbm, ⟨94, _⟩ => ⟨S704x1024, .f32⟩
  | .hbm, ⟨95, _⟩ => ⟨S704x1024, .f32⟩
  | .hbm, ⟨96, _⟩ => ⟨S_, .f32⟩
  | .hbm, ⟨97, _⟩ => ⟨S704x1024, .f32⟩
  | .hbm, ⟨98, _⟩ => ⟨S704x1024, .f32⟩
  | .hbm, ⟨99, _⟩ => ⟨S704x1024, .f32⟩
  | .hbm, ⟨100, _⟩ => ⟨S_, .f32⟩
  | .hbm, ⟨101, _⟩ => ⟨S704x1024, .f32⟩
  | .hbm, ⟨102, _⟩ => ⟨S704x1024, .f32⟩
  | .hbm, ⟨103, _⟩ => ⟨S704x1024, .f32⟩
  | .hbm, ⟨104, _⟩ => ⟨S_, .f32⟩
  | .hbm, ⟨105, _⟩ => ⟨S704x1024, .f32⟩
  | .hbm, ⟨106, _⟩ => ⟨S704x1024, .f32⟩
  | .hbm, ⟨107, _⟩ => ⟨S704x1024, .f32⟩
  | .hbm, ⟨108, _⟩ => ⟨S_, .f32⟩
  | .hbm, ⟨109, _⟩ => ⟨S704x1024, .f32⟩
  | .hbm, ⟨110, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.KernelIdealRun.lean ====
/- The body of the attention gradient, its mask named, at one grid point, run from any contents of its buffers: in each of the three
   kinds of point (the first, a middle one, the last of a batch and pair of heads) what it leaves in each buffer it writes. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (a3 : Memref sig .tc .vmem S2048x256 .bf16) (h3 : a3.IsWhole) (a4 : Memref sig .tc .vmem S512x256 .bf16) (h4 : a4.IsWhole)
  (a5 : Memref sig .tc .vmem S512x128 .bf16) (h5 : a5.IsWhole) (a6 : Memref sig .tc .vmem S2048x128 .f32) (h6 : a6.IsWhole)
  (a7 : Memref sig .tc .vmem S2048x128 .bf16) (h7 : a7.IsWhole) (a8 : Memref sig .tc .vmem S2048x256 .f32) (h8 : a8.IsWhole)
  (a9 : Memref sig .tc .vmem S2048x256 .bf16) (h9 : a9.IsWhole) (a10 : Memref sig .tc .vmem S512x256 .bf16) (h10 : a10.IsWhole)
  (a11 : Memref sig .tc .vmem S512x128 .bf16) (h11 : a11.IsWhole) (a12 : Memref sig .tc .vmem S2x2048x128 .f32) (h12 : a12.IsWhole)
  (a13 : Memref sig .tc .vmem S2x8x128 .f32) (h13 : a13.IsWhole) (a14 : Memref sig .tc .vmem S2048x256 .f32) (h14 : a14.IsWhole)
  (x3 : Vec F S2048x256 .bf16) (x4 : Vec F S512x256 .bf16) (x5 : Vec F S512x128 .bf16) (x6 : Vec F S2048x128 .f32)
  (x7 : Vec F S2048x128 .bf16) (x8 : Vec F S2048x256 .f32) (x9 : Vec F S2048x256 .bf16)
  (x10 : Vec F S512x256 .bf16) (x11 : Vec F S512x128 .bf16) (x12 : Vec F S2x2048x128 .f32) (x14 : Vec F S2048x256 .f32)

/-- The six inputs' buffers, each at its contents. -/
abbrev ins : sProp 𝕄 :=
  iprop(owns (c : Thread nD τ) a3 fullShare x3 ∗ owns (c : Thread nD τ) a4 fullShare x4 ∗ owns (c : Thread nD τ) a5 fullShare x5
    ∗ owns (c : Thread nD τ) a6 fullShare x6 ∗ owns (c : Thread nD τ) a7 fullShare x7 ∗ owns (c : Thread nD τ) a8 fullShare x8)

/-- The point is the first of its batch and pair of heads, as the body's opening branch reads it. -/
abbrev opens : Prop :=
  Scalar.cmpi .ne (Scalar.extui (Scalar.cmpi .eq (BitVec.ofNat 32 (i 2).val) 0#32) : BitVec 32) 0#32 = 1#1

/-- A whole buffer at the contents that read as `X`: its reading is `X`. -/
theorem owns_unread {s : Shape} {e : EltTy} {a : Memref sig .tc .vmem s e} (h : a.IsWhole) (X : s.Idx → Elt F e) :
    (a.view.loc (c : Thread nD τ) ↦[a.view.set]{fullShare} h.unread X : sProp 𝕄)
      ⊢ iprop(∃ f, ⌜a.view.read (Elt F) f = X⌝ ∗ a.view.loc (c : Thread nD τ) ↦[a.view.set]{fullShare} f) := by
  iintro H
  iexists _; isplitr
  swap
  · iexact H
  ipureintro; exact h.read_unread _

/-- A buffer at any contents, and what they read as. -/
theorem owns_read {s : Shape} {e : EltTy} (a : Memref sig .tc .vmem s e) {f : BufTy.Contents (Elt F) a.view.ty} :
    (a.view.loc (c : Thread nD τ) ↦[a.view.set]{fullShare} f : sProp 𝕄)
      ⊢ iprop(∃ g, ⌜a.view.read (Elt F) g = a.view.read (Elt F) f⌝ ∗ a.view.loc (c : Thread nD τ) ↦[a.view.set]{fullShare} g) := by
  iintro H
  iexists _; isplitr
  swap
  · iexact H
  ipureintro; rfl

/-- What a run of the body leaves in the three output buffers and the two scratch buffers it uses. -/
abbrev Left (F : FTy → Type) : Type :=
  Vec F S2048x256 .bf16 × Vec F S512x256 .bf16 × Vec F S512x128 .bf16 × Vec F S2x2048x128 .f32 × Vec F S2048x256 .f32

/-- The body, started with its buffers at the given contents, runs and leaves `L`, its inputs unchanged. -/
abbrev Runs (L : Left F) : Prop :=
  ∀ (E : Set ℕ) (K : PUnit → sProp 𝕄),
    iprop(ins c a3 a4 a5 a6 a7 a8 x3 x4 x5 x6 x7 x8
        ∗ owns (c : Thread nD τ) a9 fullShare x9 ∗ owns (c : Thread nD τ) a10 fullShare x10 ∗ owns (c : Thread nD τ) a11 fullShare x11
        ∗ owns (c : Thread nD τ) a12 fullShare x12 ∗ owns (c : Thread nD τ) a14 fullShare x14
        ∗ (iprop(ins c a3 a4 a5 a6 a7 a8 x3 x4 x5 x6 x7 x8
            ∗ owns (c : Thread nD τ) a9 fullShare L.1 ∗ owns (c : Thread nD τ) a10 fullShare L.2.1
            ∗ owns (c : Thread nD τ) a11 fullShare L.2.2.1 ∗ owns (c : Thread nD τ) a12 fullShare L.2.2.2.1
            ∗ owns (c : Thread nD τ) a14 fullShare L.2.2.2.2) -∗ K ⟨⟩))
      ⊢ wp frame (wpE (defs₀ (F := F)) Variants.none c none) E
          (cc0_mla_bwd i a3 h3 a4 h4 a5 h5 a6 h6 a7 h7 a8 h8 a9 h9 a10 h10 a11 h11 a12 h12 a13 h13 a14 h14) K

set_option maxHeartbeats 1000000 in
/-- A middle point: neither the opening nor the closing branch is taken. -/
noncomputable def runMid (hc0 : ¬ opens i) (hc1 : ¬ k0_cond2 i = 1#1) :
    { L : Left F // Runs c i a3 h3 a4 h4 a5 h5 a6 h6 a7 h7 a8 h8 a9 h9 a10 h10 a11 h11 a12 h12 a13 h13 a14 h14 x3 x4 x5 x6 x7 x8 x9 x10 x11 x12 x14 L } := by
  refine ⟨⟨?_, ?_, ?_, ?_, ?_⟩, fun E K => ?run⟩
  case run =>
    simp only [cc0_mla_bwd_eq_skeleton]; unfold cc0_mla_bwd_skel
    simp only [k0_part1_eq_skeleton, k0_part2_eq_skeleton, k0_part3_eq_skeleton, k0_part4_eq_skeleton]
    unfold ins owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩⟩,
      ⟨%f9, %hf9, H9⟩, ⟨%f10, %hf10, H10⟩, ⟨%f11, %hf11, H11⟩, ⟨%f12, %hf12, H12⟩, ⟨%f14, %hf14, H14⟩, Hk⟩
    obtain rfl := h3.eq_unread hf3; obtain rfl := h4.eq_unread hf4; obtain rfl := h5.eq_unread hf5; obtain rfl := h6.eq_unread hf6
    obtain rfl := h7.eq_unread hf7; obtain rfl := h8.eq_unread hf8; obtain rfl := h9.eq_unread hf9; obtain rfl := h10.eq_unread hf10
    obtain rfl := h11.eq_unread hf11; obtain rfl := h12.eq_unread hf12; obtain rfl := h14.eq_unread hf14
    sl_exec (disch := first | sl_exact hc0 | sl_exact hc1)
    sl_step
    iapply Hk
    isplitl [H3 H4 H5 H6 H7 H8]
    · isplitl [H3]; · iapply (owns_unread c h3 x3); iexact H3
      isplitl [H4]; · iapply (owns_unread c h4 x4); iexact H4
      isplitl [H5]; · iapply (owns_unread c h5 x5); iexact H5
      isplitl [H6]; · iapply (owns_unread c h6 x6); iexact H6
      isplitl [H7]; · iapply (owns_unread c h7 x7); iexact H7
      iapply (owns_unread c h8 x8); iexact H8
    isplitl [H9]; · iapply (owns_unread c h9 x9); iexact H9
    isplitl [H10]; · iapply (owns_read c a10); iexact H10
    isplitl [H11]; · iapply (owns_read c a11); iexact H11
    isplitl [H12]; · iapply (owns_unread c h12 x12); iexact H12
    iapply (owns_read c a14); iexact H14

set_option maxHeartbeats 1000000 in
/-- The first point of a batch and pair of heads: the opening branch sets both scratch buffers. -/
noncomputable def runOpen (hc0 : opens i) (hc1 : ¬ k0_cond2 i = 1#1) :
    { L : Left F // Runs c i a3 h3 a4 h4 a5 h5 a6 h6 a7 h7 a8 h8 a9 h9 a10 h10 a11 h11 a12 h12 a13 h13 a14 h14 x3 x4 x5 x6 x7 x8 x9 x10 x11 x12 x14 L } := by
  refine ⟨⟨?_, ?_, ?_, ?_, ?_⟩, fun E K => ?run⟩
  case run =>
    simp only [cc0_mla_bwd_eq_skeleton]; unfold cc0_mla_bwd_skel
    simp only [k0_part1_eq_skeleton, k0_part2_eq_skeleton, k0_part3_eq_skeleton, k0_part4_eq_skeleton]
    unfold ins owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩⟩,
      ⟨%f9, %hf9, H9⟩, ⟨%f10, %hf10, H10⟩, ⟨%f11, %hf11, H11⟩, ⟨%f12, %hf12, H12⟩, ⟨%f14, %hf14, H14⟩, Hk⟩
    obtain rfl := h3.eq_unread hf3; obtain rfl := h4.eq_unread hf4; obtain rfl := h5.eq_unread hf5; obtain rfl := h6.eq_unread hf6
    obtain rfl := h7.eq_unread hf7; obtain rfl := h8.eq_unread hf8; obtain rfl := h9.eq_unread hf9; obtain rfl := h10.eq_unread hf10
    obtain rfl := h11.eq_unread hf11; obtain rfl := h12.eq_unread hf12; obtain rfl := h14.eq_unread hf14
    sl_exec (disch := first | sl_exact hc0 | sl_exact hc1)
    sl_step
    iapply Hk
    isplitl [H3 H4 H5 H6 H7 H8]
    · isplitl [H3]; · iapply (owns_unread c h3 x3); iexact H3
      isplitl [H4]; · iapply (owns_unread c h4 x4); iexact H4
      isplitl [H5]; · iapply (owns_unread c h5 x5); iexact H5
      isplitl [H6]; · iapply (owns_unread c h6 x6); iexact H6
      isplitl [H7]; · iapply (owns_unread c h7 x7); iexact H7
      iapply (owns_unread c h8 x8); iexact H8
    isplitl [H9]; · iapply (owns_unread c h9 x9); iexact H9
    isplitl [H10]; · iapply (owns_read c a10); iexact H10
    isplitl [H11]; · iapply (owns_read c a11); iexact H11
    isplitl [H12]; · iapply (owns_read c a12); iexact H12
    iapply (owns_read c a14); iexact H14

set_option maxHeartbeats 1000000 in
/-- The last point of a batch and pair of heads: the closing branch writes the queries' gradient out. -/
noncomputable def runClose (hc0 : ¬ opens i) (hc1 : k0_cond2 i = 1#1) :
    { L : Left F // Runs c i a3 h3 a4 h4 a5 h5 a6 h6 a7 h7 a8 h8 a9 h9 a10 h10 a11 h11 a12 h12 a13 h13 a14 h14 x3 x4 x5 x6 x7 x8 x9 x10 x11 x12 x14 L } := by
  refine ⟨⟨?_, ?_, ?_, ?_, ?_⟩, fun E K => ?run⟩
  case run =>
    simp only [cc0_mla_bwd_eq_skeleton]; unfold cc0_mla_bwd_skel
    simp only [k0_part1_eq_skeleton, k0_part2_eq_skeleton, k0_part3_eq_skeleton, k0_part4_eq_skeleton]
    unfold ins owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩⟩,
      ⟨%f9, %hf9, H9⟩, ⟨%f10, %hf10, H10⟩, ⟨%f11, %hf11, H11⟩, ⟨%f12, %hf12, H12⟩, ⟨%f14, %hf14, H14⟩, Hk⟩
    obtain rfl := h3.eq_unread hf3; obtain rfl := h4.eq_unread hf4; obtain rfl := h5.eq_unread hf5; obtain rfl := h6.eq_unread hf6
    obtain rfl := h7.eq_unread hf7; obtain rfl := h8.eq_unread hf8; obtain rfl := h9.eq_unread hf9; obtain rfl := h10.eq_unread hf10
    obtain rfl := h11.eq_unread hf11; obtain rfl := h12.eq_unread hf12; obtain rfl := h14.eq_unread hf14
    sl_exec (disch := first | sl_exact hc0 | sl_exact hc1)
    sl_step
    iapply Hk
    isplitl [H3 H4 H5 H6 H7 H8]
    · isplitl [H3]; · iapply (owns_unread c h3 x3); iexact H3
      isplitl [H4]; · iapply (owns_unread c h4 x4); iexact H4
      isplitl [H5]; · iapply (owns_unread c h5 x5); iexact H5
      isplitl [H6]; · iapply (owns_unread c h6 x6); iexact H6
      isplitl [H7]; · iapply (owns_unread c h7 x7); iexact H7
      iapply (owns_unread c h8 x8); iexact H8
    isplitl [H9]; · iapply (owns_read c a9); iexact H9
    isplitl [H10]; · iapply (owns_read c a10); iexact H10
    isplitl [H11]; · iapply (owns_read c a11); iexact H11
    isplitl [H12]; · iapply (owns_unread c h12 x12); iexact H12
    iapply (owns_read c a14); iexact H14

end Cert.KernelIdeal.Hand
-- ==== Proof.KernelIdealFrame.lean ====
/- The attention gradient's frame, for the program whose mask is named: the body's obligation at every grid point, from the runs of its three kinds of point,
   for any predicate on the scratch buffers that the runs keep and any the outputs then satisfy; the whole program's run
   from it. The frame takes the predicates that always hold. -/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three scratch buffers, whole. -/
abbrev scM0_0 : Memref sig .tc .vmem S2x2048x128 .f32 := Memref.whole cc0_scratch0
abbrev scM0_1 : Memref sig .tc .vmem S2x8x128 .f32 := Memref.whole cc0_scratch1
abbrev scM0_2 : Memref sig .tc .vmem S2048x256 .f32 := Memref.whole cc0_scratch2

/-- What a core holds between the launch's steps: the scratch buffers at anything and the generator register. -/
theorem rest_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- A point's third coordinate is its position within its batch and pair of heads. -/
theorem coords_step (t : Fin cfg0.N) : (grid0.coords t 2).val = t.val % 4 := by
  have h : (grid0.coords t 2).val = t.val / 1 % 4 := Pipeline.Grid.coords_val t 2 (by decide) rfl
  rw [h, Nat.div_one]

/-- The opening branch is taken at the points ≡ 0 (mod 4), -/
theorem opens_iff : ∀ t : Fin cfg0.N, opens (grid0.coords t) ↔ t.val % 4 = 0 := fun t => by
  have ht : t.val < 64 := Nat.lt_of_lt_of_eq t.isLt N_0
  simp only [opens, coords_step]
  word_cmp

/-- and the closing branch at the points ≡ 3. -/
theorem closes_iff : ∀ t : Fin cfg0.N, k0_cond2 (grid0.coords t) = 1#1 ↔ t.val % 4 = 3 := fun t => by
  have ht : t.val < 64 := Nat.lt_of_lt_of_eq t.isLt N_0
  simp only [k0_cond2, coords_step]
  word_cmp

/-- The body's run at point `t`, on what the launch calls it with there: the inputs at their blocks, the outputs and
    the scratch at given contents. -/
def runAt (c : Dev nD) (t : Fin cfg0.N) (x9 : Vec F S2048x256 .bf16) (x10 : Vec F S512x256 .bf16) (x11 : Vec F S512x128 .bf16)
    (x12 : Vec F S2x2048x128 .f32) (x14 : Vec F S2048x256 .f32) :
    { L : Left F // Runs c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (win0_6.stage (cfg0.slots t 6)) (hstage0_6 ((cfg0.slots t 6).cast nbuf0_6))
        (win0_7.stage (cfg0.slots t 7)) (hstage0_7 ((cfg0.slots t 7).cast nbuf0_7))
        (win0_8.stage (cfg0.slots t 8)) (hstage0_8 ((cfg0.slots t 8).cast nbuf0_8))
        scM0_0 (Memref.isWhole_whole _) scM0_1 (Memref.isWhole_whole _) scM0_2 (Memref.isWhole_whole _)
        (iblk m c 0 t) (iblk m c 1 t) (iblk m c 2 t) (iblk m c 3 t) (iblk m c 4 t) (iblk m c 5 t) x9 x10 x11 x12 x14 L } :=
  if h0 : t.val % 4 = 0 then runOpen (hc0 := (opens_iff t).mpr h0) (hc1 := fun h => by rw [closes_iff t] at h; omega) ..
  else if h3 : t.val % 4 = 3 then runClose (hc0 := fun h => h0 ((opens_iff t).mp h)) (hc1 := (closes_iff t).mpr h3) ..
  else runMid (hc0 := fun h => h0 ((opens_iff t).mp h)) (hc1 := fun h => h3 ((closes_iff t).mp h)) ..

/-- What is followed through the launch: a predicate of the two scratch buffers before each point, and one of each
    output's staging buffer after it (of the queries' gradient after the last point of a batch and pair only). -/
structure Track (F : FTy → Type) where
  /-- Of the scratch buffers before point `n`. -/
  inv : Dev nD → ℕ → Vec F S2x2048x128 .f32 → Vec F S2048x256 .f32 → Prop
  /-- Of the queries' gradient after the last point of a batch and pair. -/
  outQ : Dev nD → Fin cfg0.N → Vec F S2048x256 .bf16 → Prop
  /-- Of the keys' gradient after a point. -/
  outK : Dev nD → Fin cfg0.N → Vec F S512x256 .bf16 → Prop
  /-- Of the values' gradient after a point. -/
  outV : Dev nD → Fin cfg0.N → Vec F S512x128 .bf16 → Prop

/-- The runs keep what is followed. -/
structure Track.Kept (K : Track F) : Prop where
  /-- Nothing is known at the start. -/
  start : ∀ c x12 x14, K.inv c 0 x12 x14
  /-- Each point's run passes from the predicate before it to the one after, and gives the outputs'. -/
  step : ∀ (c : Dev nD) (t : Fin cfg0.N) x9 x10 x11 x12 x14, K.inv c t.val x12 x14 →
    K.inv c (t.val + 1) (runAt m c t x9 x10 x11 x12 x14).1.2.2.2.1 (runAt m c t x9 x10 x11 x12 x14).1.2.2.2.2
      ∧ (t.val % 4 = 3 → K.outQ c t (runAt m c t x9 x10 x11 x12 x14).1.1)
      ∧ K.outK c t (runAt m c t x9 x10 x11 x12 x14).1.2.1 ∧ K.outV c t (runAt m c t x9 x10 x11 x12 x14).1.2.2.1

variable (K : Track F)

/-- Between points: the scratch at contents the predicate holds of, the unused scratch at anything, the register. -/
def phi (c : Dev nD) (n : ℕ) : sProp 𝕄 :=
  iprop(iprop(∃ x12 x14, ⌜K.inv c n x12 x14⌝ ∗ owns (c : Thread nD τ) scM0_0 fullShare x12 ∗ owns (c : Thread nD τ) scM0_2 fullShare x14)
    ∗ (∃ d, owns (c : Thread nD τ) scM0_1 fullShare d) ∗ (∃ r, prngReg c r))

/-- The launch's proof data: the inputs' buffers are left as found; of the outputs what is followed. -/
def rdat (c : Dev nD) : RDat τ (Elt F) Unit ℕ (UR sig nD τ) ℕ cfg0 c where
  A w := V m c (Pipeline.arrRef spec0 w)
  after w t := match w with
    | ⟨6, _⟩ => fun _ X => t.val % 4 = 3 → K.outQ c t X
    | ⟨7, _⟩ => fun _ X => K.outK c t X
    | ⟨8, _⟩ => fun _ X => K.outV c t X
    | _ => fun Y X => X = Y
  Φ t := phi K c t.val
  q _ := fullShare
  owed _ := 0

theorem rdat_A (c : Dev nD) (w : Fin cfg0.W) : (rdat m K c).A w = V m c (Pipeline.arrRef spec0 w) := by
  dsimp only [rdat]

/-- Input window 0's buffer holds its block at every point. -/
theorem finds_0 (c : Dev nD) (t : Fin cfg0.N) (Y) (h : (rdat m K c).Finds 0 t Y) : Y = iblk m c 0 t := by
  obtain ⟨d, rfl⟩ := (rdat m K c).finds_in_eq_fetched 0 rfl (fun _ _ _ => rfl) (fun _ _ _ h => h) t Y h
  unfold RDat.fetched RDat.blockOf iblk; rw [rdat_A]; try rfl

/-- Input window 1's buffer holds its block at every point. -/
theorem finds_1 (c : Dev nD) (t : Fin cfg0.N) (Y) (h : (rdat m K c).Finds 1 t Y) : Y = iblk m c 1 t := by
  obtain ⟨d, rfl⟩ := (rdat m K c).finds_in_eq_fetched 1 rfl (fun _ _ _ => rfl) (fun _ _ _ h => h) t Y h
  unfold RDat.fetched RDat.blockOf iblk; rw [rdat_A]; try rfl

/-- Input window 2's buffer holds its block at every point. -/
theorem finds_2 (c : Dev nD) (t : Fin cfg0.N) (Y) (h : (rdat m K c).Finds 2 t Y) : Y = iblk m c 2 t := by
  obtain ⟨d, rfl⟩ := (rdat m K c).finds_in_eq_fetched 2 rfl (fun _ _ _ => rfl) (fun _ _ _ h => h) t Y h
  unfold RDat.fetched RDat.blockOf iblk; rw [rdat_A]; try rfl

/-- Input window 3's buffer holds its block at every point. -/
theorem finds_3 (c : Dev nD) (t : Fin cfg0.N) (Y) (h : (rdat m K c).Finds 3 t Y) : Y = iblk m c 3 t := by
  obtain ⟨d, rfl⟩ := (rdat m K c).finds_in_eq_fetched 3 rfl (fun _ _ _ => rfl) (fun _ _ _ h => h) t Y h
  unfold RDat.fetched RDat.blockOf iblk; rw [rdat_A]; try rfl

/-- Input window 4's buffer holds its block at every point. -/
theorem finds_4 (c : Dev nD) (t : Fin cfg0.N) (Y) (h : (rdat m K c).Finds 4 t Y) : Y = iblk m c 4 t := by
  obtain ⟨d, rfl⟩ := (rdat m K c).finds_in_eq_fetched 4 rfl (fun _ _ _ => rfl) (fun _ _ _ h => h) t Y h
  unfold RDat.fetched RDat.blockOf iblk; rw [rdat_A]; try rfl

/-- Input window 5's buffer holds its block at every point. -/
theorem finds_5 (c : Dev nD) (t : Fin cfg0.N) (Y) (h : (rdat m K c).Finds 5 t Y) : Y = iblk m c 5 t := by
  obtain ⟨d, rfl⟩ := (rdat m K c).finds_in_eq_fetched 5 rfl (fun _ _ _ => rfl) (fun _ _ _ h => h) t Y h
  unfold RDat.fetched RDat.blockOf iblk; rw [rdat_A]; try rfl

/-- The body's row in the launch's table at a point. -/
theorem row_eq (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation (hK : K.Kept m) (c : Dev nD) : (rdat m K c).BodyObligation (defs₀ (F := F)) Variants.none () Set.univ := by
  intro t Y hY
  have y0 := finds_0 m K c t _ (hY 0); have y1 := finds_1 m K c t _ (hY 1); have y2 := finds_2 m K c t _ (hY 2)
  have y3 := finds_3 m K c t _ (hY 3); have y4 := finds_4 m K c t _ (hY 4); have y5 := finds_5 m K c t _ (hY 5)
  rw [bigSep_W0, bigSep_W0, row_eq]
  have body : iprop(phi K c t.val ∗ (rdat m K c).owesAt () t.castSucc
        ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8))
      ⊢ wp frame (wpE (defs₀ (F := F)) Variants.none c none) Set.univ (bodyAt0 t) (fun _ =>
        iprop(phi K c (t.val + 1) ∗ (rdat m K c).owesAt () t.succ
          ∗ (∃ X, ⌜X = Y 0⌝ ∗ owns (c : Thread nD τ) (st0_0 t) fullShare X)
          ∗ (∃ X, ⌜X = Y 1⌝ ∗ owns (c : Thread nD τ) (st0_1 t) fullShare X)
          ∗ (∃ X, ⌜X = Y 2⌝ ∗ owns (c : Thread nD τ) (st0_2 t) fullShare X)
          ∗ (∃ X, ⌜X = Y 3⌝ ∗ owns (c : Thread nD τ) (st0_3 t) fullShare X)
          ∗ (∃ X, ⌜X = Y 4⌝ ∗ owns (c : Thread nD τ) (st0_4 t) fullShare X)
          ∗ (∃ X, ⌜X = Y 5⌝ ∗ owns (c : Thread nD τ) (st0_5 t) fullShare X)
          ∗ (∃ X, ⌜t.val % 4 = 3 → K.outQ c t X⌝ ∗ owns (c : Thread nD τ) (st0_6 t) fullShare X)
          ∗ (∃ X, ⌜K.outK c t X⌝ ∗ owns (c : Thread nD τ) (st0_7 t) fullShare X)
          ∗ (∃ X, ⌜K.outV c t X⌝ ∗ owns (c : Thread nD τ) (st0_8 t) fullShare X))) := by
    rw [y0, y1, y2, y3, y4, y5, show (rdat m K c).owesAt () t.succ = (rdat m K c).owesAt () t.castSucc from rfl]
    unfold phi bodyAt0
    iintro ⟨⟨⟨%x12, %x14, %hinv, HS0, HS2⟩, HS1, Hg⟩, Ho, H0, H1, H2, H3, H4, H5, H6, H7, H8⟩
    have hs := hK.step c t (Y 6) (Y 7) (Y 8) x12 x14 hinv
    generalize hr : runAt m c t (Y 6) (Y 7) (Y 8) x12 x14 = r at hs
    obtain ⟨L, hL⟩ := r
    dsimp only at hs
    iapply (hL Set.univ _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [HS0]; · iexact HS0
    isplitl [HS2]; · iexact HS2
    iintro ⟨⟨H0, H1, H2, H3, H4, H5⟩, H6, H7, H8, HS0, HS2⟩
    isplitl [HS0 HS1 HS2 Hg]
    · isplitl [HS0 HS2]
      · iexists _, _; isplitr
        · ipureintro; exact hs.1
        isplitl [HS0]; · iexact HS0
        iexact HS2
      isplitl [HS1]; · iexact HS1
      iexact Hg
    isplitl [Ho]; · iexact Ho
    isplitl [H0]; · iexists _; isplitr; · (ipureintro; rfl)
                    iexact H0
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    isplitl [H4]; · iexists _; isplitr; · (ipureintro; rfl)
                    iexact H4
    isplitl [H5]; · iexists _; isplitr; · (ipureintro; rfl)
                    iexact H5
    isplitl [H6]; · iexists _; isplitr; · (ipureintro; exact hs.2.1)
                    iexact H6
    isplitl [H7]; · iexists _; isplitr; · (ipureintro; exact hs.2.2.1)
                    iexact H7
    iexists _; isplitr; · (ipureintro; exact hs.2.2.2)
    iexact H8
  exact triple_restated body rfl .rfl fun _ => .rfl

set_option backward.isDefEq.respectTransparency.types false in
/-- The whole program's run: every weakly fair execution terminates with the inputs as they were, the outputs as the
    launch's proof data say, and every counter at zero. -/
theorem run_main (hK : K.Kept m) : θ_run defs (onTc (τ := τ) (main (F := F))) (s₀ m ρ)
    (fun r => RDat.FramePost (cfgs 0) (rdat m K) (V m) r ∧ r.2.sem = fun _ => 0) :=
  RDat.θ_run_frame_track (Q' := _) cfgs (0 : Fin 1) launch0 defs₀ Variants.none (rdat m K) m ρ main
    (hbody := body_obligation m K hK) (hshare := fun c => (rdat m K c).share_full fun _ => rfl)
    (howed := fun _ _ => rfl) (V := V m) (hmain := hmain m Variants.none) (hA := rdat_A m K)
    (hin := fun c => by
      rw [rest_eq, show (rdat m K c).Φ 0 = phi K c 0 from rfl]; unfold phi
      iintro ⟨⟨⟨%x12, H0⟩, H1, ⟨%x14, H2⟩⟩, Hg⟩
      isplitl [H0 H2]
      · iexists _, _; isplitr
        · ipureintro; exact hK.start c x12 x14
        isplitl [H0]; · iexact H0
        iexact H2
      isplitl [H1]; · iexact H1
      iexact Hg)
    (hout := fun c => by
      rw [rest_eq, show (rdat m K c).Φ (Fin.last cfg0.N) = phi K c cfg0.N from rfl]; unfold phi
      iintro ⟨⟨%x12, %x14, -, H0, H2⟩, H1, Hg⟩
      isplitl [H0 H1 H2]
      · isplitl [H0]; · iexists _; iexact H0
        isplitl [H1]; · iexact H1
        iexists _; iexact H2
      iexact Hg)

/-- Nothing followed. -/
def noTrack : Track F where
  inv _ _ _ _ := True
  outQ _ _ _ := True
  outK _ _ _ := True
  outV _ _ _ := True

theorem noTrack_kept : (noTrack (F := F)).Kept m := ⟨fun _ _ _ => trivial, fun _ _ _ _ _ _ _ _ => ⟨trivial, fun _ => trivial, trivial, trivial⟩⟩

/-- The frame: the program terminates with its four arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (h.1.arr_in c 0 rfl).trans ((rdat_A m noTrack c 0).trans (V_main_arg0 m c)),
      (h.1.arr_in c 1 rfl).trans ((rdat_A m noTrack c 1).trans (V_main_arg1 m c)),
      (h.1.arr_in c 2 rfl).trans ((rdat_A m noTrack c 2).trans (V_main_arg2 m c)),
      (h.1.arr_in c 4 rfl).trans ((rdat_A m noTrack c 4).trans (V_main_arg3 m c))⟩, h.2⟩)
    (run_main m ρ noTrack (noTrack_kept m))

end Cert.KernelIdeal.Hand

end
-- ==== Proof.Softmax.lean ====
/- The gradient of one head of causal attention over the real numbers: the weights, the output and the three gradients, and
   the facts about them that neither program's tiling enters. -/
module

public import Idealize.ShloMosaic.PureOps.Ideal
public import Mathlib.Analysis.SpecialFunctions.Log.Basic

@[expose] public section

noncomputable section

namespace Cert.Attn

open Idealize.ShloMosaic

/-! ## Arithmetic of the finite extended reals -/

/-- A finite sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers, taken among the extended reals. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_coe (x : ℝ) : Ideal.exp (x : EReal) = (Real.exp x : EReal) := rfl

theorem exp_bot : Ideal.exp ⊥ = 0 := rfl

theorem log_coe (x : ℝ) (hx : 0 < x) : Ideal.log (x : EReal) = (Real.log x : EReal) := by
  show (if x ≤ 0 then (⊥ : EReal) else (Real.log x : EReal)) = _
  rw [if_neg (not_le.mpr hx)]

/-- The greatest of finitely many numbers below `⊤`, one of them real, is real. -/
theorem fold_max_coe {ι : Type*} [Fintype ι] (f : ι → EReal) (hf : ∀ i, f i ≠ ⊤) (i₀ : ι) (h₀ : f i₀ ≠ ⊥) :
    ∃ M : ℝ, Finset.univ.fold max ⊥ f = (M : EReal) := by
  have hlt : Finset.univ.fold max ⊥ f ≠ ⊤ := by
    refine ne_of_lt ((Finset.fold_max_lt (c := (⊤ : EReal))).mpr ⟨bot_lt_top, fun i _ => lt_of_le_of_ne le_top (hf i)⟩)
  have hgt : Finset.univ.fold max ⊥ f ≠ ⊥ := by
    refine ne_of_gt ((Finset.lt_fold_max (c := (⊥ : EReal))).mpr (Or.inr ⟨i₀, Finset.mem_univ _, bot_lt_iff_ne_bot.mpr h₀⟩))
  exact ⟨_, (EReal.coe_toReal hlt hgt).symm⟩

/-! ## One head -/

section Head

variable {n d e : ℕ} (Q K : Fin n → Fin d → ℝ) (W G : Fin n → Fin e → ℝ)

/-- The logit of query `r` at key `j`. -/
def logit (r j : Fin n) : ℝ := ∑ l, Q r l * K j l

/-- The sum of the exponentials of query `r`'s logits at the keys not after it. -/
def mass (r : Fin n) : ℝ := ∑ j, if j ≤ r then Real.exp (logit Q K r j) else 0

/-- The weight that query `r` gives key `j`. -/
def weight (r j : Fin n) : ℝ := if j ≤ r then Real.exp (logit Q K r j) / mass Q K r else 0

/-- The output of query `r`. -/
def out (r : Fin n) (l : Fin e) : ℝ := ∑ j, weight Q K r j * W j l

/-- The gradient of the weight that query `r` gives key `j`. -/
def dweight (r j : Fin n) : ℝ := ∑ l, G r l * W j l

/-- The mean, under query `r`'s weights, of the gradients of the weights. -/
def mean (r : Fin n) : ℝ := ∑ j, weight Q K r j * dweight W G r j

/-- The gradient of the logit of query `r` at key `j`. -/
def dlogit (r j : Fin n) : ℝ := weight Q K r j * (dweight W G r j - mean Q K W G r)

/-- The gradient of the queries. -/
def dq (r : Fin n) (l : Fin d) : ℝ := ∑ j, dlogit Q K W G r j * K j l

/-- The gradient of the keys. -/
def dk (j : Fin n) (l : Fin d) : ℝ := ∑ r, dlogit Q K W G r j * Q r l

/-- The gradient of the values. -/
def dv (j : Fin n) (l : Fin e) : ℝ := ∑ r, weight Q K r j * G r l

theorem mass_pos (r : Fin n) : 0 < mass Q K r := by
  refine Finset.sum_pos' (fun j _ => ?_) ⟨r, Finset.mem_univ _, ?_⟩
  · split
    · exact (Real.exp_pos _).le
    · exact le_rfl
  · rw [if_pos le_rfl]; exact Real.exp_pos _

/-- A key after the query has no weight. -/
theorem weight_of_lt {r j : Fin n} (h : r < j) : weight Q K r j = 0 := if_neg (not_le.mpr h)

theorem dlogit_of_lt {r j : Fin n} (h : r < j) : dlogit Q K W G r j = 0 := by
  unfold dlogit; rw [weight_of_lt Q K h, zero_mul]

/-- The weight through the logarithm of the mass. -/
theorem weight_eq_exp {r j : Fin n} (h : j ≤ r) :
    weight Q K r j = Real.exp (logit Q K r j - Real.log (mass Q K r)) := by
  rw [weight, if_pos h, Real.exp_sub, Real.exp_log (mass_pos Q K r)]

/-- The mass through logits shifted by any number. -/
theorem mass_shift (r : Fin n) (M : ℝ) :
    (∑ j, if j ≤ r then Real.exp (logit Q K r j - M) else 0) = mass Q K r * Real.exp (-M) := by
  rw [mass, Finset.sum_mul]
  refine Finset.sum_congr rfl fun j _ => ?_
  split
  · rw [← Real.exp_add, sub_eq_add_neg]
  · rw [zero_mul]

/-- The weight through logits shifted by any number. -/
theorem weight_shift (r j : Fin n) (M : ℝ) :
    (if j ≤ r then Real.exp (logit Q K r j - M) else 0) / (mass Q K r * Real.exp (-M)) = weight Q K r j := by
  unfold weight
  split
  · rw [sub_eq_add_neg, Real.exp_add, mul_div_mul_right _ _ (Real.exp_pos _).ne']
  · rw [zero_div]

/-- The mean is the product of the output with its gradient. -/
theorem mean_eq (r : Fin n) : mean Q K W G r = ∑ l, G r l * out Q K W r l := by
  unfold mean out dweight
  simp only [Finset.mul_sum]
  rw [Finset.sum_comm]
  exact Finset.sum_congr rfl fun l _ => Finset.sum_congr rfl fun j _ => by ring

end Head

end Cert.Attn

end
-- ==== Proof.Heads.lean ====
/- The heads of the argument arrays, as real numbers, and the scalar readings both programs share. -/
module

public import proofs.«01_k».proof.Proof.Softmax
public import Idealize.ShloMosaic.Lib.Pointwise
public import Idealize.ShloMosaic.Lib.WordCmp

@[expose] public section

noncomputable section

namespace Cert.Attn

open Idealize.ShloMosaic Idealize.ShloMosaic.WordCmp

/-- Head `h` of sequence `b` of an array whose rows hold eight heads of 128 lanes, its numbers taken real. -/
def wide (x : (⟨2, ![8192, 1024]⟩ : Shape).Idx → EReal) (b : Fin 4) (h : Fin 8) (r : Fin 2048) (l : Fin 128) : ℝ :=
  (x (ix2 ⟨b.val * 2048 + r.val, by omega⟩ ⟨h.val * 128 + l.val, by omega⟩)).toReal

/-- Head `h` of sequence `b` of an array whose rows hold eight heads of 64 lanes, its numbers taken real. -/
def slim (x : (⟨2, ![8192, 512]⟩ : Shape).Idx → EReal) (b : Fin 4) (h : Fin 8) (r : Fin 2048) (l : Fin 64) : ℝ :=
  (x (ix2 ⟨b.val * 2048 + r.val, by omega⟩ ⟨h.val * 64 + l.val, by omega⟩)).toReal

/-- Every number of the array is real. -/
def AllReal {s : Shape} (x : s.Idx → EReal) : Prop := ∀ i, x i ≠ ⊤ ∧ x i ≠ ⊥

theorem AllReal.coe {s : Shape} {x : s.Idx → EReal} (hx : AllReal x) (i : s.Idx) : x i = ((x i).toReal : EReal) :=
  (EReal.coe_toReal (hx i).1 (hx i).2).symm

/-- A choice by a word's comparison of two positions. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  by_cases hab : a ≤ b
  · rw [(cmpi_sle_ofNat_eq_one_iff (by simpa using ha) (by simpa using hb)).mpr hab, if_pos hab]; rfl
  · rw [(cmpi_sle_ofNat_eq_zero_iff (by simpa using ha) (by simpa using hb)).mpr (by omega), if_neg hab]; rfl

/-- The pattern of minus infinity. -/
theorem neg_inf : Ideal.ofBits .f32 0xFF800000#32 = ⊥ := by
  simp [Ideal.ofBits, Ideal.ieee]

/-- A host's running combination along the last of four axes, read at an index. -/
theorem reduce_last {n0 n1 n2 n3 : ℕ} {u : Shape} (y : (⟨4, ![n0, n1, n2, n3]⟩ : Shape).Idx → EReal) (init : u.Idx → EReal)
    (hr : (⟨4, ![n0, n1, n2, n3]⟩ : Shape).ReducesTo [3] ⟨3, ![n0, n1, n2]⟩) (hu : 0 < u.numel) (i0 : Fin n0) (i1 : Fin n1) (i2 : Fin n2) :
    Host.reduce (FloatOps.maximumf (F := Ideal) (φ := .f32)) y init hr hu (ix3 i0 i1 i2)
      = Finset.univ.fold max (init (Shape.Idx.first hu)) fun j : Fin n3 => y (ix4 i0 i1 i2 j) := by
  rw [Host.reduce_eq_fold, Shape.ReducesTo.fold_fiber_r4_a3]
  rfl

end Cert.Attn

end
-- ==== Proof.TileValue.lean ====
/- The payloads of the kernel's body at an index: what each is over the real numbers, given that what it reads is real. -/
module

public import proofs.«01_k».proof.Proof.Gen.KernelIdeal.Skeleton
public import proofs.«01_k».proof.Proof.Heads

@[expose] public section

set_option maxRecDepth 16384

noncomputable section

namespace Cert.KernelIdeal.Tile

open Cert.KernelIdeal Cert.KernelIdeal.Gen Cert.Attn
open Idealize.ShloMosaic Idealize.ShloMosaic.TcCoe Idealize.ShloMosaic.WordCmp

/-! ## The tile over the real numbers -/

section Real

variable (q k : Fin 512 → Fin 128 → ℝ) (s D : Fin 512 → ℝ) (g w : Fin 512 → Fin 128 → ℝ) (p : Fin 512 → Fin 512 → ℝ)

/-- The exponential of a logit less its row's logarithm. -/
def wt (a j : Fin 512) : ℝ := Real.exp ((∑ l, q a l * k j l) - s a)

/-- The same on the diagonal: nothing at the keys after the query. -/
def wtd (a j : Fin 512) : ℝ := if j ≤ a then wt q k s a j else 0

/-- A head's lanes of the gradient: the first half, -/
def lo {ι : Type} (g : ι → Fin 128 → ℝ) (a : ι) (x : Fin 128) : ℝ := if x.val < 64 then g a x else 0

/-- or the second. -/
def hi {ι : Type} (g : ι → Fin 128 → ℝ) (a : ι) (x : Fin 128) : ℝ := if 64 ≤ x.val then g a x else 0

/-- The gradient of the logits. -/
def ds (a j : Fin 512) : ℝ := p a j * ((∑ x, g a x * w j x) - D a)

end Real

/-- A choice by a word's comparison with 64. -/
theorem select_slt {α : Type} (a : ℕ) (ha : a < 128) (x y : α) :
    Scalar.select (IntOp.cmpi .slt (BitVec.ofNat 32 a) 64#32) x y = if a < 64 then x else y := by
  by_cases h : a < 64
  · rw [show IntOp.cmpi .slt (BitVec.ofNat 32 a) 64#32 = 1#1 by word_cmp, if_pos h]; rfl
  · rw [show IntOp.cmpi .slt (BitVec.ofNat 32 a) 64#32 = 0#1 by word_cmp, if_neg h]; rfl

theorem select_sge {α : Type} (a : ℕ) (ha : a < 128) (x y : α) :
    Scalar.select (IntOp.cmpi .sge (BitVec.ofNat 32 a) 64#32) x y = if 64 ≤ a then x else y := by
  by_cases h : 64 ≤ a
  · rw [show IntOp.cmpi .sge (BitVec.ofNat 32 a) 64#32 = 1#1 by word_cmp, if_pos h]; rfl
  · rw [show IntOp.cmpi .sge (BitVec.ofNat 32 a) 64#32 = 0#1 by word_cmp, if_neg h]; rfl

/-- The named mask is minus infinity. -/
theorem mask_eq : Named.named (F := Ideal) (φ := .f32) κ "mask" 0xF149F2CA#32 = ⊥ :=
  (IdealRules.named_const.ideal_named_scalar _ _ _ _ rfl)

/-- The words of a lane's number. -/
abbrev lanes : IVec S512x128 32 := iota .tc S512x128 32 [1] iota_S512x128_d1_w32

variable {qb kb gb wb : Vec Ideal S512x128 .bf16} {sb : Vec Ideal S512x128 .f32} {Db : Vec Ideal S1x512x128 .f32}
  {q k g w : Fin 512 → Fin 128 → ℝ} {s D : Fin 512 → ℝ}

/-! ## The gradients of the outputs, a head's lanes -/

theorem pay20_at (hg : ∀ a x, gb (ix2 a x) = (g a x : EReal)) (a : Fin 512) (x : Fin 128) :
    k0_pay20 (F := Ideal) lanes gb (ix2 a x) = (lo g a x : EReal) := by
  pointwise [k0_pay20]
  rw [select_slt _ x.isLt, hg, lo]
  by_cases h : x.val < 64
  · rw [if_pos h, if_pos h]
  · rw [if_neg h, if_neg h]; exact EReal.coe_zero.symm

theorem pay4_at (hg : ∀ a x, gb (ix2 a x) = (g a x : EReal)) (a : Fin 512) (x : Fin 128) :
    k0_pay4 (F := Ideal) lanes gb (ix2 a x) = (hi g a x : EReal) := by
  pointwise [k0_pay4]
  rw [select_sge _ x.isLt, hg, hi]
  by_cases h : 64 ≤ x.val
  · rw [if_pos h, if_pos h]
  · rw [if_neg h, if_neg h]; exact EReal.coe_zero.symm

theorem pay37_eq : k0_pay37 (F := Ideal) gb = k0_pay20 (F := Ideal) lanes gb := rfl

theorem pay45_eq : k0_pay45 (F := Ideal) lanes gb = k0_pay4 (F := Ideal) lanes gb := rfl

/-! ## The weights -/

theorem pay21_at (hq : ∀ a l, qb (ix2 a l) = (q a l : EReal)) (hk : ∀ a l, kb (ix2 a l) = (k a l : EReal))
    (hs : ∀ a l, sb (ix2 a l) = (s a : EReal)) (a j : Fin 512) :
    k0_pay21 (F := Ideal) qb kb sb (ix2 a j) = (wt q k s a j : EReal) := by
  pointwise [k0_pay21]
  simp only [hq, hk, hs, dite_eq_ite, ite_self, ← EReal.coe_mul, ← coe_sum, ← EReal.coe_sub, exp_coe, wt]

theorem pay5_eq : k0_pay5 (F := Ideal) qb kb sb = k0_pay21 (F := Ideal) qb kb sb := rfl

theorem pay38_at (hq : ∀ a l, qb (ix2 a l) = (q a l : EReal)) (hk : ∀ a l, kb (ix2 a l) = (k a l : EReal))
    (hs : ∀ a l, sb (ix2 a l) = (s a : EReal)) (a j : Fin 512) :
    k0_pay38 (F := Ideal) qb kb sb (ix2 a j) = (wtd q k s a j : EReal) := by
  pointwise [k0_pay38]
  rw [select_sle _ _ (by omega) (by omega)]
  simp only [hq, hk, hs, dite_eq_ite, ite_self, ← EReal.coe_mul, ← coe_sum, wtd, wt, Fin.val_fin_le]
  by_cases h : j ≤ a
  · rw [if_pos h, if_pos h, ← EReal.coe_sub, exp_coe]
  · rw [if_neg h, if_neg h, mask_eq, EReal.bot_sub, exp_bot, EReal.coe_zero]

theorem pay46_eq : k0_pay46 (F := Ideal) (iota .tc S512x512 32 [0] iota_S512x512_d0_w32) (iota .tc S512x512 32 [1] iota_S512x512_d1_w32) qb kb sb
    = k0_pay38 (F := Ideal) qb kb sb := rfl

/-! ## The gradients of the logits -/

theorem pay22_at {p : Fin 512 → Fin 512 → ℝ} {v2 : IVec S512x128 32} (hg : ∀ a x, k0_pay20 (F := Ideal) v2 gb (ix2 a x) = (g a x : EReal))
    (hw : ∀ j x, wb (ix2 j x) = (w j x : EReal)) (hD : ∀ a x, Db (ix3 0 a x) = (D a : EReal))
    (hp : ∀ a j, k0_pay21 (F := Ideal) qb kb sb (ix2 a j) = (p a j : EReal)) (a j : Fin 512) :
    k0_pay22 (F := Ideal) v2 wb gb qb kb sb Db (ix2 a j) = (ds D g w p a j : EReal) := by
  pointwise [k0_pay22]
  simp only [hg, hw, hD, hp, dite_eq_ite, ite_self, ← EReal.coe_mul, ← coe_sum, ← EReal.coe_sub, ds]

theorem pay6_at {p : Fin 512 → Fin 512 → ℝ} {v2 : IVec S512x128 32} (hg : ∀ a x, k0_pay4 (F := Ideal) v2 gb (ix2 a x) = (g a x : EReal))
    (hw : ∀ j x, wb (ix2 j x) = (w j x : EReal)) (hD : ∀ a x, Db (ix3 0 a x) = (D a : EReal))
    (hp : ∀ a j, k0_pay5 (F := Ideal) qb kb sb (ix2 a j) = (p a j : EReal)) (a j : Fin 512) :
    k0_pay6 (F := Ideal) v2 wb gb qb kb sb Db (ix2 a j) = (ds D g w p a j : EReal) := by
  pointwise [k0_pay6]
  simp only [hg, hw, hD, hp, dite_eq_ite, ite_self, ← EReal.coe_mul, ← coe_sum, ← EReal.coe_sub, ds]

theorem pay41_at {p : Fin 512 → Fin 512 → ℝ} {pb : FVec Ideal S512x512 .f32} (hg : ∀ a x, k0_pay37 (F := Ideal) gb (ix2 a x) = (g a x : EReal))
    (hw : ∀ j x, wb (ix2 j x) = (w j x : EReal)) (hD : ∀ a x, Db (ix3 0 a x) = (D a : EReal))
    (hp : ∀ a j, pb (ix2 a j) = (p a j : EReal)) (a j : Fin 512) :
    k0_pay41 (F := Ideal) pb (k0_pay39 wb gb) (k0_pay40 Db) (ix2 a j) = (ds D g w p a j : EReal) := by
  pointwise [k0_pay41, k0_pay39, k0_pay40]
  simp only [hg, hw, hD, hp, dite_eq_ite, ite_self, ← EReal.coe_mul, ← coe_sum, ← EReal.coe_sub, ds]

theorem pay47_at {p : Fin 512 → Fin 512 → ℝ} {v2 : IVec S512x128 32} {v3 v4 : IVec S512x512 32}
    (hg : ∀ a x, k0_pay45 (F := Ideal) v2 gb (ix2 a x) = (g a x : EReal))
    (hw : ∀ j x, wb (ix2 j x) = (w j x : EReal)) (hD : ∀ a x, Db (ix3 0 a x) = (D a : EReal))
    (hp : ∀ a j, k0_pay46 (F := Ideal) v3 v4 qb kb sb (ix2 a j) = (p a j : EReal)) (a j : Fin 512) :
    k0_pay47 (F := Ideal) v2 v3 v4 wb gb qb kb sb Db (ix2 a j) = (ds D g w p a j : EReal) := by
  pointwise [k0_pay47]
  simp only [hg, hw, hD, hp, dite_eq_ite, ite_self, ← EReal.coe_mul, ← coe_sum, ← EReal.coe_sub, ds]

/-! ## What is added to the three gradients -/

section
variable {c : FVec Ideal S128x512 .f32} {z : Fin 128 → Fin 512 → ℝ} {p d : Fin 512 → Fin 512 → ℝ} {v2 : IVec S512x128 32} {v3 v4 : IVec S512x512 32}

theorem pay23_at (hc : ∀ x j, c (ix2 x j) = (z x j : EReal)) (hg : ∀ a x, k0_pay20 (F := Ideal) v2 gb (ix2 a x) = (g a x : EReal))
    (hp : ∀ a j, k0_pay21 (F := Ideal) qb kb sb (ix2 a j) = (p a j : EReal)) (x : Fin 128) (j : Fin 512) :
    k0_pay23 (F := Ideal) v2 c gb qb kb sb (ix2 x j) = ((z x j + ∑ a, g a x * p a j : ℝ) : EReal) := by
  pointwise [k0_pay23]
  simp only [hg, hp, hc, ← EReal.coe_mul, ← coe_sum, ← EReal.coe_add]

theorem pay7_at (hc : ∀ x j, c (ix2 x j) = (z x j : EReal)) (hg : ∀ a x, k0_pay4 (F := Ideal) v2 gb (ix2 a x) = (g a x : EReal))
    (hp : ∀ a j, k0_pay5 (F := Ideal) qb kb sb (ix2 a j) = (p a j : EReal)) (x : Fin 128) (j : Fin 512) :
    k0_pay7 (F := Ideal) v2 gb c qb kb sb (ix2 x j) = ((z x j + ∑ a, g a x * p a j : ℝ) : EReal) := by
  pointwise [k0_pay7]
  simp only [hg, hp, hc, ← EReal.coe_mul, ← coe_sum, ← EReal.coe_add]

theorem pay24_at (hc : ∀ x j, c (ix2 x j) = (z x j : EReal)) (hq : ∀ a x, qb (ix2 a x) = (q a x : EReal))
    (hd : ∀ a j, k0_pay22 (F := Ideal) v2 wb gb qb kb sb Db (ix2 a j) = (d a j : EReal)) (x : Fin 128) (j : Fin 512) :
    k0_pay24 (F := Ideal) v2 wb c gb qb kb sb Db (ix2 x j) = ((z x j + ∑ a, q a x * d a j : ℝ) : EReal) := by
  pointwise [k0_pay24]
  simp only [hq, hd, hc, ← EReal.coe_mul, ← coe_sum, ← EReal.coe_add]

theorem pay8_at (hc : ∀ x j, c (ix2 x j) = (z x j : EReal)) (hq : ∀ a x, qb (ix2 a x) = (q a x : EReal))
    (hd : ∀ a j, k0_pay6 (F := Ideal) v2 wb gb qb kb sb Db (ix2 a j) = (d a j : EReal)) (x : Fin 128) (j : Fin 512) :
    k0_pay8 (F := Ideal) v2 wb c gb qb kb sb Db (ix2 x j) = ((z x j + ∑ a, q a x * d a j : ℝ) : EReal) := by
  pointwise [k0_pay8]
  simp only [hq, hd, hc, ← EReal.coe_mul, ← coe_sum, ← EReal.coe_add]

theorem pay42_at {pb : FVec Ideal S512x512 .f32} (hg : ∀ a x, gb (ix2 a x) = (g a x : EReal))
    (hp : ∀ a j, pb (ix2 a j) = (p a j : EReal)) (x : Fin 128) (j : Fin 512) :
    k0_pay42 (F := Ideal) k0_pay36 gb pb (ix2 x j) = ((∑ a, g a x * p a j : ℝ) : EReal) := by
  pointwise [k0_pay42, k0_pay36]
  simp only [hg, hp, zero_add, ← EReal.coe_mul, ← coe_sum, ← EReal.coe_add]

theorem pay43_at {pb db : FVec Ideal S512x512 .f32} {Db : FVec Ideal S512x128 .f32} (hq : ∀ a x, qb (ix2 a x) = (q a x : EReal))
    (hd : ∀ a j, k0_pay41 (F := Ideal) pb db Db (ix2 a j) = (d a j : EReal)) (x : Fin 128) (j : Fin 512) :
    k0_pay43 (F := Ideal) k0_pay36 qb pb db Db (ix2 x j) = ((∑ a, q a x * d a j : ℝ) : EReal) := by
  pointwise [k0_pay43, k0_pay36]
  simp only [hq, hd, zero_add, ← EReal.coe_mul, ← coe_sum, ← EReal.coe_add]

theorem pay1_at (hc : ∀ x j, c (ix2 x j) = (z x j : EReal)) (hg : ∀ a x, gb (ix2 a x) = (g a x : EReal))
    (hp : ∀ a j, k0_pay46 (F := Ideal) v3 v4 qb kb sb (ix2 a j) = (p a j : EReal)) (x : Fin 128) (j : Fin 512) :
    k0_pay1 (F := Ideal) c gb (k0_pay48 v3 v4 qb kb sb) (ix2 x j) = ((z x j + ∑ a, g a x * p a j : ℝ) : EReal) := by
  pointwise [k0_pay1, k0_pay48]
  simp only [hg, hp, hc, ← EReal.coe_mul, ← coe_sum, ← EReal.coe_add]

theorem pay2_at {db : FVec Ideal S512x512 .bf16} (hq : ∀ a x, qb (ix2 a x) = (q a x : EReal))
    (hd : ∀ a j, db (ix2 a j) = (d a j : EReal)) (x : Fin 128) (j : Fin 512) :
    k0_pay2 (F := Ideal) k0_pay36 qb db (ix2 x j) = ((∑ a, q a x * d a j : ℝ) : EReal) := by
  pointwise [k0_pay2, k0_pay36]
  simp only [hq, hd, zero_add, ← EReal.coe_mul, ← coe_sum, ← EReal.coe_add]

/-! ## The queries' gradient: a row block's sum goes on -/

variable {ab : Vec Ideal S512x128 .f32} {y : ℝ} (a : Fin 512) (x : Fin 128)

theorem pay25_at (ha : ab (ix2 a x) = (y : EReal)) (hk : ∀ j x, kb (ix2 j x) = (k j x : EReal))
    (hd : ∀ a j, k0_pay22 (F := Ideal) v2 wb gb qb kb sb Db (ix2 a j) = (d a j : EReal)) :
    k0_pay25 (F := Ideal) v2 wb gb qb kb sb Db ab (ix2 a x) = ((y + ∑ j, d a j * k j x : ℝ) : EReal) := by
  pointwise [k0_pay25]
  simp only [ha, hk, hd, ← EReal.coe_mul, ← coe_sum, ← EReal.coe_add]

theorem pay9_at (ha : ab (ix2 a x) = (y : EReal)) (hk : ∀ j x, kb (ix2 j x) = (k j x : EReal))
    (hd : ∀ a j, k0_pay6 (F := Ideal) v2 wb gb qb kb sb Db (ix2 a j) = (d a j : EReal)) :
    k0_pay9 (F := Ideal) v2 wb gb qb kb sb Db ab (ix2 a x) = ((y + ∑ j, d a j * k j x : ℝ) : EReal) := by
  pointwise [k0_pay9]
  simp only [ha, hk, hd, ← EReal.coe_mul, ← coe_sum, ← EReal.coe_add]

theorem pay44_at {pb db : FVec Ideal S512x512 .f32} {Db : FVec Ideal S512x128 .f32} (ha : ab (ix2 a x) = (y : EReal))
    (hk : ∀ j x, kb (ix2 j x) = (k j x : EReal)) (hd : ∀ a j, k0_pay41 (F := Ideal) pb db Db (ix2 a j) = (d a j : EReal)) :
    k0_pay44 (F := Ideal) kb pb db Db ab (ix2 a x) = ((y + ∑ j, d a j * k j x : ℝ) : EReal) := by
  pointwise [k0_pay44]
  simp only [ha, hk, hd, ← EReal.coe_mul, ← coe_sum, ← EReal.coe_add]

theorem pay3_at {db : FVec Ideal S512x512 .bf16} (ha : ab (ix2 a x) = (y : EReal))
    (hk : ∀ j x, kb (ix2 j x) = (k j x : EReal)) (hd : ∀ a j, db (ix2 a j) = (d a j : EReal)) :
    k0_pay3 (F := Ideal) kb db ab (ix2 a x) = ((y + ∑ j, d a j * k j x : ℝ) : EReal) := by
  pointwise [k0_pay3]
  simp only [ha, hk, hd, ← EReal.coe_mul, ← coe_sum, ← EReal.coe_add]

end

/-! ## The opening branch: the means, and an empty sum -/

theorem pay32_at (r : Fin 2048) (x : Fin 256) : k0_pay32 (F := Ideal) (ix2 r x) = ((0 : ℝ) : EReal) := by
  pointwise [k0_pay32]
  exact EReal.coe_zero.symm

theorem pay34_at {gb : Vec Ideal S2048x128 .bf16} {ob : Vec Ideal S2048x128 .f32} {g o : Fin 2048 → Fin 128 → ℝ}
    (hg : ∀ r x, gb (ix2 r x) = (g r x : EReal)) (ho : ∀ r x, ob (ix2 r x) = (o r x : EReal)) (r : Fin 2048) (x : Fin 128) :
    k0_pay34 (F := Ideal) gb ob (ix3 0 r x) = ((∑ y : Fin 128, lo g r y * o r y : ℝ) : EReal) := by
  pointwise [k0_pay34, k0_pay33]
  rw [coe_sum]
  refine Finset.sum_congr rfl fun y _ => ?_
  rw [select_slt _ y.isLt, hg, ho, lo]
  by_cases h : y.val < 64
  · rw [if_pos h, if_pos h, EReal.coe_mul]
  · rw [if_neg h, if_neg h, zero_mul, EReal.coe_zero]

theorem pay35_at {gb : Vec Ideal S2048x128 .bf16} {ob : Vec Ideal S2048x128 .f32} {g o : Fin 2048 → Fin 128 → ℝ}
    (hg : ∀ r x, gb (ix2 r x) = (g r x : EReal)) (ho : ∀ r x, ob (ix2 r x) = (o r x : EReal)) (r : Fin 2048) (x : Fin 128) :
    k0_pay35 (F := Ideal) gb ob (ix3 0 r x) = ((∑ y : Fin 128, hi g r y * o r y : ℝ) : EReal) := by
  pointwise [k0_pay35, k0_pay33]
  rw [coe_sum]
  refine Finset.sum_congr rfl fun y _ => ?_
  rw [select_slt _ y.isLt, hg, ho, hi]
  by_cases h : y.val < 64
  · rw [if_pos h, if_neg (by omega), zero_mul, EReal.coe_zero]
  · rw [if_neg h, if_pos (by omega), EReal.coe_mul]

/-! ## What is written out -/

theorem pay16_at (c : FVec Ideal S128x512 .f32) (j : Fin 512) (x : Fin 128) : k0_pay16 (F := Ideal) c (ix2 j x) = c (ix2 x j) := by
  pointwise [k0_pay16]

theorem pay17_at (c : FVec Ideal S128x512 .f32) (j : Fin 512) (x : Fin 128) : k0_pay17 (F := Ideal) c (ix2 j x) = c (ix2 x j) := by
  pointwise [k0_pay17]

theorem pay18_at (c : FVec Ideal S128x512 .f32) (j : Fin 512) (x : Fin 128) : k0_pay18 (F := Ideal) c (ix2 j x) = c (ix2 x j) := by
  pointwise [k0_pay18]

theorem pay19_eq (v : Vec Ideal S2048x256 .f32) : k0_pay19 (F := Ideal) v = v := rfl

end Cert.KernelIdeal.Tile

end
-- ==== Proof.Table.lean ====
/- The tables of one batch and pair of heads over the real numbers: weights, gradients of the logits, and the partial sums the
   kernel holds while it goes over the tiles. -/
module

public import proofs.«01_k».proof.Proof.TileValue

@[expose] public section

noncomputable section

namespace Cert.KernelIdeal.Sweep

open Cert.KernelIdeal.Tile

/-- What one batch and pair of heads is about: the queries and keys of either head, the values, the outputs and their gradient with
   the heads side by side, and the logarithm of each row's sum. -/
structure Tab where
  Q : Fin 2 → Fin 2048 → Fin 128 → ℝ
  K : Fin 2 → Fin 2048 → Fin 128 → ℝ
  V : Fin 2048 → Fin 128 → ℝ
  G : Fin 2048 → Fin 128 → ℝ
  O : Fin 2048 → Fin 128 → ℝ
  S : Fin 2 → Fin 2048 → ℝ

namespace Tab

variable (T : Tab)

/-- A head's lanes of the outputs' gradient. -/
def H (h : Fin 2) : Fin 2048 → Fin 128 → ℝ := ![lo T.G, hi T.G] h

/-- A row's mean of the weights' gradient, from the output. -/
def M (h : Fin 2) (r : Fin 2048) : ℝ := ∑ y, T.H h r y * T.O r y

/-- The weight of a key for a query. -/
def P (h : Fin 2) (r j : Fin 2048) : ℝ := if j ≤ r then Real.exp ((∑ l, T.Q h r l * T.K h j l) - T.S h r) else 0

/-- The gradient of the logit. -/
def D (h : Fin 2) (r j : Fin 2048) : ℝ := T.P h r j * ((∑ x, T.H h r x * T.V j x) - T.M h r)

theorem P_of_lt {h : Fin 2} {r j : Fin 2048} (hj : r < j) : T.P h r j = 0 := by
  rw [P, if_neg (not_le.mpr hj)]

theorem D_of_lt {h : Fin 2} {r j : Fin 2048} (hj : r < j) : T.D h r j = 0 := by
  rw [D, T.P_of_lt hj, zero_mul]

end Tab

/-- Row `a` of the block of rows `b`. -/
def row (b : Fin 4) (a : Fin 512) : Fin 2048 := ⟨512 * b.val + a.val, by omega⟩

/-- Lane `l` of head `h`. -/
def col (h : Fin 2) (l : Fin 128) : Fin 256 := ⟨128 * h.val + l.val, by omega⟩

@[simp] theorem row_val (b : Fin 4) (a : Fin 512) : (row b a).val = 512 * b.val + a.val := rfl
@[simp] theorem col_val (h : Fin 2) (l : Fin 128) : (col h l).val = 128 * h.val + l.val := rfl

/-- The sum over the rows before `N`. -/
def upTo (N : ℕ) (f : Fin 2048 → ℝ) : ℝ := ∑ r : Fin 2048, if r.val < N then f r else 0

/-- The sum over the rows from `N` on. -/
def fromOn (N : ℕ) (f : Fin 2048 → ℝ) : ℝ := ∑ r : Fin 2048, if N ≤ r.val then f r else 0

theorem block (b : Fin 4) (f : Fin 2048 → ℝ) :
    (∑ a, f (row b a)) = ∑ r : Fin 2048, if 512 * b.val ≤ r.val ∧ r.val < 512 * (b.val + 1) then f r else 0 := by
  rw [← Finset.sum_filter]
  refine Finset.sum_bij' (fun a _ => row b a) (fun r hr => ⟨r.val - 512 * b.val, by
      have := (Finset.mem_filter.mp hr).2; omega⟩) ?_ ?_ ?_ ?_ ?_
  · intro a _; rw [Finset.mem_filter]; refine ⟨Finset.mem_univ _, ?_⟩; rw [row_val]; omega
  · intro r hr; exact Finset.mem_univ _
  · intro a _; apply Fin.ext; show 512 * b.val + a.val - 512 * b.val = a.val; omega
  · intro r hr; apply Fin.ext; have := (Finset.mem_filter.mp hr).2; show 512 * b.val + (r.val - 512 * b.val) = r.val; omega
  · intro a _; rfl

theorem upTo_step (b : Fin 4) (f : Fin 2048 → ℝ) : upTo (512 * (b.val + 1)) f = upTo (512 * b.val) f + ∑ a, f (row b a) := by
  rw [block, upTo, upTo, ← Finset.sum_add_distrib]
  refine Finset.sum_congr rfl fun r _ => ?_
  by_cases h : r.val < 512 * b.val
  · rw [if_pos h, if_pos (by omega), if_neg (by omega), add_zero]
  · by_cases h' : r.val < 512 * (b.val + 1)
    · rw [if_pos h', if_neg h, if_pos ⟨by omega, h'⟩, zero_add]
    · rw [if_neg h', if_neg h, if_neg (by omega), add_zero]

theorem fromOn_step (b : Fin 4) (f : Fin 2048 → ℝ) : fromOn (512 * b.val) f = fromOn (512 * (b.val + 1)) f + ∑ a, f (row b a) := by
  rw [block, fromOn, fromOn, ← Finset.sum_add_distrib]
  refine Finset.sum_congr rfl fun r _ => ?_
  by_cases h : 512 * (b.val + 1) ≤ r.val
  · rw [if_pos h, if_pos (by omega), if_neg (by omega), add_zero]
  · by_cases h' : 512 * b.val ≤ r.val
    · rw [if_pos h', if_neg h, if_pos ⟨h', by omega⟩, zero_add]
    · rw [if_neg h', if_neg h, if_neg (by omega), add_zero]

theorem upTo_all (f : Fin 2048 → ℝ) : upTo 2048 f = ∑ r, f r :=
  Finset.sum_congr rfl fun r _ => if_pos r.isLt

theorem fromOn_all (f : Fin 2048 → ℝ) : fromOn 0 f = ∑ r, f r :=
  Finset.sum_congr rfl fun r _ => if_pos (Nat.zero_le _)

theorem fromOn_none (f : Fin 2048 → ℝ) : fromOn 2048 f = 0 :=
  Finset.sum_eq_zero fun r _ => if_neg (by omega)

/-- The sum over the rows before the end of a block is the block's alone, where nothing comes before it. -/
theorem upTo_first (b : Fin 4) (f : Fin 2048 → ℝ) (hf : ∀ r : Fin 2048, r.val < 512 * b.val → f r = 0) :
    upTo (512 * (b.val + 1)) f = ∑ a, f (row b a) := by
  rw [upTo_step, show upTo (512 * b.val) f = 0 from Finset.sum_eq_zero fun r _ => ?_, zero_add]
  by_cases h : r.val < 512 * b.val
  · rw [if_pos h, hf r h]
  · rw [if_neg h]

/-- A block that adds nothing. -/
theorem fromOn_skip (b : Fin 4) (f : Fin 2048 → ℝ) (hf : ∀ a, f (row b a) = 0) : fromOn (512 * b.val) f = fromOn (512 * (b.val + 1)) f := by
  rw [fromOn_step, Finset.sum_eq_zero (fun a _ => hf a), add_zero]

/-! ## A tile of the tables -/

variable (T : Tab) (h : Fin 2)

/-- Off the diagonal, -/
theorem wt_row {b c : Fin 4} (hc : c.val < b.val) (a j : Fin 512) :
    wt (fun a l => T.Q h (row b a) l) (fun j l => T.K h (row c j) l) (fun a => T.S h (row b a)) a j = T.P h (row b a) (row c j) := by
  rw [wt, Tab.P, if_pos (show row c j ≤ row b a by rw [Fin.le_def, row_val, row_val]; omega)]

/-- and on it. -/
theorem wtd_row (b : Fin 4) (a j : Fin 512) :
    wtd (fun a l => T.Q h (row b a) l) (fun j l => T.K h (row b j) l) (fun a => T.S h (row b a)) a j = T.P h (row b a) (row b j) := by
  rw [wtd, wt, Tab.P]
  by_cases hj : j ≤ a
  · rw [if_pos hj, if_pos (show row b j ≤ row b a by rw [Fin.le_def, row_val, row_val]; have := Fin.le_def.mp hj; omega)]
  · rw [if_neg hj, if_neg (show ¬ row b j ≤ row b a by rw [Fin.le_def, row_val, row_val]; have := mt Fin.le_def.mpr hj; omega)]

theorem ds_row (b c : Fin 4) (a j : Fin 512) :
    ds (fun a => T.M h (row b a)) (fun a x => T.H h (row b a) x) (fun j x => T.V (row c j) x) (fun a j => T.P h (row b a) (row c j)) a j
      = T.D h (row b a) (row c j) := rfl

end Cert.KernelIdeal.Sweep
-- ==== Proof.Pair.lean ====
/- The kernel's tables are the attention's: for one batch and pair of heads, the weights, means and gradients of the logits of the tables
   are those of the two heads, and what the kernel sums over them is the gradient of the queries, keys and values. -/
module

public import proofs.«01_k».proof.Proof.Table
public import proofs.«01_k».proof.Proof.Heads

@[expose] public section

noncomputable section

namespace Cert.KernelIdeal.Sweep

open Cert.KernelIdeal.Tile Cert.Attn Idealize.ShloMosaic

/-- The head `h` of pair `p`. -/
def head (p : Fin 4) (h : Fin 2) : Fin 8 := ⟨2 * p.val + h.val, by omega⟩

/-- Which of two heads of 64 lanes side by side lane `x` belongs to, -/
def side (x : Fin 128) : Fin 2 := ⟨x.val / 64, by omega⟩

/-- and its lane there. -/
def lane (x : Fin 128) : Fin 64 := ⟨x.val % 64, by omega⟩

/-- Summing one head's half of the lanes. -/
theorem sum_half (h : Fin 2) (f : Fin 128 → ℝ) (g : Fin 64 → ℝ) (hf : ∀ x, f x = if side x = h then g (lane x) else 0) :
    (∑ x, f x) = ∑ l, g l := by
  refine (Equiv.sum_comp (finProdFinEquiv (m := 2) (n := 64)) f).symm.trans ?_
  rw [Fintype.sum_prod_type,
    Finset.sum_eq_single h (fun a _ ha => Finset.sum_eq_zero fun l _ => ?_) (fun hh => absurd (Finset.mem_univ _) hh)]
  · refine Finset.sum_congr rfl fun l _ => ?_
    have e1 : side (finProdFinEquiv (h, l)) = h := Fin.ext (by show (l.val + 64 * h.val) / 64 = h.val; omega)
    have e2 : lane (finProdFinEquiv (h, l)) = l := Fin.ext (by show (l.val + 64 * h.val) % 64 = l.val; omega)
    rw [hf, e1, e2, if_pos rfl]
  · have e1 : side (finProdFinEquiv (a, l)) = a := Fin.ext (by show (l.val + 64 * a.val) / 64 = a.val; omega)
    rw [hf, e1, if_neg ha]

variable (x0 x1 : (⟨2, ![8192, 1024]⟩ : Shape).Idx → EReal) (x2 x3 : (⟨2, ![8192, 512]⟩ : Shape).Idx → EReal)

/-- The tables of batch `b` and pair `p`. -/
def tab (b p : Fin 4) : Tab where
  Q h := wide x0 b (head p h)
  K h := wide x1 b (head p h)
  V r x := slim x2 b (head p (side x)) r (lane x)
  G r x := slim x3 b (head p (side x)) r (lane x)
  O r x := out (wide x0 b (head p (side x))) (wide x1 b (head p (side x))) (slim x2 b (head p (side x))) r (lane x)
  S h r := Real.log (mass (wide x0 b (head p h)) (wide x1 b (head p h)) r)

section
variable (b p : Fin 4) (h : Fin 2)

theorem tab_H (r : Fin 2048) (x : Fin 128) :
    (tab x0 x1 x2 x3 b p).H h r x = if side x = h then slim x3 b (head p h) r (lane x) else 0 := by
  rcases (by fin_cases h <;> simp : h = 0 ∨ h = 1) with rfl | rfl
  · show lo (tab x0 x1 x2 x3 b p).G r x = _
    rw [lo]
    by_cases hx : x.val < 64
    · have e : side x = 0 := Fin.ext (by show x.val / 64 = 0; omega)
      rw [if_pos hx, if_pos e]; exact congrArg (fun s => slim x3 b (head p s) r (lane x)) e
    · rw [if_neg hx, if_neg (fun e => hx (by have := congrArg Fin.val e; change x.val / 64 = 0 at this; omega))]
  · show hi (tab x0 x1 x2 x3 b p).G r x = _
    rw [hi]
    by_cases hx : 64 ≤ x.val
    · have e : side x = 1 := Fin.ext (by show x.val / 64 = 1; omega)
      rw [if_pos hx, if_pos e]; exact congrArg (fun s => slim x3 b (head p s) r (lane x)) e
    · rw [if_neg hx, if_neg (fun e => hx (by have := congrArg Fin.val e; change x.val / 64 = 1 at this; omega))]

theorem tab_P (r j : Fin 2048) : (tab x0 x1 x2 x3 b p).P h r j = weight (wide x0 b (head p h)) (wide x1 b (head p h)) r j := by
  rw [Tab.P]
  by_cases hj : j ≤ r
  · rw [if_pos hj, weight_eq_exp _ _ hj]; rfl
  · rw [if_neg hj, weight_of_lt _ _ (not_le.mp hj)]

theorem tab_M (r : Fin 2048) : (tab x0 x1 x2 x3 b p).M h r
    = mean (wide x0 b (head p h)) (wide x1 b (head p h)) (slim x2 b (head p h)) (slim x3 b (head p h)) r := by
  rw [Tab.M, mean_eq]
  refine sum_half h _ (fun l => slim x3 b (head p h) r l * out (wide x0 b (head p h)) (wide x1 b (head p h)) (slim x2 b (head p h)) r l) fun x => ?_
  rw [tab_H]
  by_cases e : side x = h
  · subst e; rw [if_pos rfl, if_pos rfl]; rfl
  · rw [if_neg e, if_neg e, zero_mul]

theorem tab_D (r j : Fin 2048) : (tab x0 x1 x2 x3 b p).D h r j
    = dlogit (wide x0 b (head p h)) (wide x1 b (head p h)) (slim x2 b (head p h)) (slim x3 b (head p h)) r j := by
  rw [Tab.D, tab_P, tab_M, dlogit]
  congr 2
  refine sum_half h _ (fun l => slim x3 b (head p h) r l * slim x2 b (head p h) j l) fun x => ?_
  rw [tab_H]
  by_cases e : side x = h
  · subst e; rw [if_pos rfl, if_pos rfl]; rfl
  · rw [if_neg e, if_neg e, zero_mul]

/-- The sum over every key is the queries' gradient, -/
theorem tab_dq (r : Fin 2048) (l : Fin 128) : (fromOn 0 fun j => (tab x0 x1 x2 x3 b p).D h r j * (tab x0 x1 x2 x3 b p).K h j l)
    = dq (wide x0 b (head p h)) (wide x1 b (head p h)) (slim x2 b (head p h)) (slim x3 b (head p h)) r l := by
  rw [fromOn_all, dq]
  refine Finset.sum_congr rfl fun j _ => ?_
  rw [tab_D]; rfl

/-- the sum over every query the keys', -/
theorem tab_dk (j : Fin 2048) (l : Fin 128) : (∑ r, (tab x0 x1 x2 x3 b p).Q h r l * (tab x0 x1 x2 x3 b p).D h r j)
    = dk (wide x0 b (head p h)) (wide x1 b (head p h)) (slim x2 b (head p h)) (slim x3 b (head p h)) j l := by
  rw [dk]
  refine Finset.sum_congr rfl fun r _ => ?_
  rw [tab_D, mul_comm]; rfl

/-- and the two heads' sums side by side the values'. -/
theorem tab_dv (j : Fin 2048) (x : Fin 128) :
    (∑ r, (tab x0 x1 x2 x3 b p).H 0 r x * (tab x0 x1 x2 x3 b p).P 0 r j) + (∑ r, (tab x0 x1 x2 x3 b p).H 1 r x * (tab x0 x1 x2 x3 b p).P 1 r j)
    = dv (wide x0 b (head p (side x))) (wide x1 b (head p (side x))) (slim x3 b (head p (side x))) j (lane x) := by
  have e : ∀ h : Fin 2, (∑ r, (tab x0 x1 x2 x3 b p).H h r x * (tab x0 x1 x2 x3 b p).P h r j)
      = if side x = h then dv (wide x0 b (head p h)) (wide x1 b (head p h)) (slim x3 b (head p h)) j (lane x) else 0 := fun h => by
    by_cases hs : side x = h
    · rw [if_pos hs, dv]
      refine Finset.sum_congr rfl fun r _ => ?_
      rw [tab_H, if_pos hs, tab_P, mul_comm]
    · rw [if_neg hs]
      refine Finset.sum_eq_zero fun r _ => ?_
      rw [tab_H, if_neg hs, zero_mul]
  rw [e 0, e 1]
  rcases (by generalize side x = s; fin_cases s <;> simp : side x = 0 ∨ side x = 1) with hs | hs
  · rw [hs, if_pos rfl, if_neg (by decide), add_zero]
  · rw [hs, if_neg (by decide), if_pos rfl, zero_add]

end

/-- The gradient of the queries as an array, -/
def allDq (i : (⟨2, ![8192, 1024]⟩ : Shape).Idx) : EReal :=
  let b : Fin 4 := ⟨(i 0).val / 2048, by have := (i 0).isLt; change (i 0).val < 8192 at this; omega⟩
  let h : Fin 8 := ⟨(i 1).val / 128, by have := (i 1).isLt; change (i 1).val < 1024 at this; omega⟩
  (dq (wide x0 b h) (wide x1 b h) (slim x2 b h) (slim x3 b h) ⟨(i 0).val % 2048, by omega⟩ ⟨(i 1).val % 128, by omega⟩ : ℝ)

/-- of the keys, -/
def allDk (i : (⟨2, ![8192, 1024]⟩ : Shape).Idx) : EReal :=
  let b : Fin 4 := ⟨(i 0).val / 2048, by have := (i 0).isLt; change (i 0).val < 8192 at this; omega⟩
  let h : Fin 8 := ⟨(i 1).val / 128, by have := (i 1).isLt; change (i 1).val < 1024 at this; omega⟩
  (dk (wide x0 b h) (wide x1 b h) (slim x2 b h) (slim x3 b h) ⟨(i 0).val % 2048, by omega⟩ ⟨(i 1).val % 128, by omega⟩ : ℝ)

/-- and of the values. -/
def allDv (i : (⟨2, ![8192, 512]⟩ : Shape).Idx) : EReal :=
  let b : Fin 4 := ⟨(i 0).val / 2048, by have := (i 0).isLt; change (i 0).val < 8192 at this; omega⟩
  let h : Fin 8 := ⟨(i 1).val / 64, by have := (i 1).isLt; change (i 1).val < 512 at this; omega⟩
  (dv (wide x0 b h) (wide x1 b h) (slim x3 b h) ⟨(i 0).val % 2048, by omega⟩ ⟨(i 1).val % 64, by omega⟩ : ℝ)

variable (b : Fin 4) (h : Fin 8) (r : Fin 2048)

theorem allDq_at {i : (⟨2, ![8192, 1024]⟩ : Shape).Idx} (l : Fin 128) (e0 : (i 0).val = b.val * 2048 + r.val) (e1 : (i 1).val = h.val * 128 + l.val) :
    allDq x0 x1 x2 x3 i = (dq (wide x0 b h) (wide x1 b h) (slim x2 b h) (slim x3 b h) r l : EReal) := by
  unfold allDq
  simp only [show (⟨(i 0).val / 2048, by omega⟩ : Fin 4) = b from Fin.ext (by show (i 0).val / 2048 = b.val; omega),
    show (⟨(i 1).val / 128, by omega⟩ : Fin 8) = h from Fin.ext (by show (i 1).val / 128 = h.val; omega),
    show (⟨(i 0).val % 2048, by omega⟩ : Fin 2048) = r from Fin.ext (by show (i 0).val % 2048 = r.val; omega),
    show (⟨(i 1).val % 128, by omega⟩ : Fin 128) = l from Fin.ext (by show (i 1).val % 128 = l.val; omega)]

theorem allDk_at {i : (⟨2, ![8192, 1024]⟩ : Shape).Idx} (l : Fin 128) (e0 : (i 0).val = b.val * 2048 + r.val) (e1 : (i 1).val = h.val * 128 + l.val) :
    allDk x0 x1 x2 x3 i = (dk (wide x0 b h) (wide x1 b h) (slim x2 b h) (slim x3 b h) r l : EReal) := by
  unfold allDk
  simp only [show (⟨(i 0).val / 2048, by omega⟩ : Fin 4) = b from Fin.ext (by show (i 0).val / 2048 = b.val; omega),
    show (⟨(i 1).val / 128, by omega⟩ : Fin 8) = h from Fin.ext (by show (i 1).val / 128 = h.val; omega),
    show (⟨(i 0).val % 2048, by omega⟩ : Fin 2048) = r from Fin.ext (by show (i 0).val % 2048 = r.val; omega),
    show (⟨(i 1).val % 128, by omega⟩ : Fin 128) = l from Fin.ext (by show (i 1).val % 128 = l.val; omega)]

theorem allDv_at {i : (⟨2, ![8192, 512]⟩ : Shape).Idx} (l : Fin 64) (e0 : (i 0).val = b.val * 2048 + r.val) (e1 : (i 1).val = h.val * 64 + l.val) :
    allDv x0 x1 x3 i = (dv (wide x0 b h) (wide x1 b h) (slim x3 b h) r l : EReal) := by
  unfold allDv
  simp only [show (⟨(i 0).val / 2048, by omega⟩ : Fin 4) = b from Fin.ext (by show (i 0).val / 2048 = b.val; omega),
    show (⟨(i 1).val / 64, by omega⟩ : Fin 8) = h from Fin.ext (by show (i 1).val / 64 = h.val; omega),
    show (⟨(i 0).val % 2048, by omega⟩ : Fin 2048) = r from Fin.ext (by show (i 0).val % 2048 = r.val; omega),
    show (⟨(i 1).val % 64, by omega⟩ : Fin 64) = l from Fin.ext (by show (i 1).val % 64 = l.val; omega)]

end Cert.KernelIdeal.Sweep

end
-- ==== Proof.LoopValue.lean ====
/- The kernel's loop over the blocks of queries below the diagonal, over the real numbers: after each trip the carried gradients are the
   sums over the queries up to that block, and the queries' gradient has the tile's keys added in the rows gone over. -/
module

public import proofs.«01_k».proof.Proof.Table
public import proofs.«01_k».proof.Proof.Gen.KernelIdeal.Loops
public import Idealize.ShloMosaic.Lib.WholeRead
public import Idealize.ShloMosaic.Lib.WritesUnit

@[expose] public section

set_option maxRecDepth 16384

noncomputable section

namespace Cert.KernelIdeal.Sweep

open Cert.KernelIdeal Cert.KernelIdeal.Gen Cert.KernelIdeal.Tile Cert.Attn
open Idealize.ShloMosaic Idealize.ShloMosaic.TcCoe

/-! ## Loads and stores of a rectangle -/

section Rects

variable {sig' : RefSig} {κ : Kind} {sp : Space} {e : EltTy}

/-- A load of a rectangle of a table reads the table at the shifted place. -/
theorem rd2 {R C n w : ℕ} (v : View sig' κ sp (⟨2, ![R, C]⟩ : Shape) e) (f : v.ty.Contents (Elt Ideal)) {off : Fin 2 → ℕ}
    (inb : ∀ a : Fin 2, off a + (![n, w] : Fin 2 → ℕ) a ≤ (![R, C] : Fin 2 → ℕ) a) {r0 c0 : ℕ} (hoff : off = ![r0, c0])
    (a : Fin n) (l : Fin w) (r : Fin R) (c : Fin C) (hr : r.val = r0 + a.val) (hc : c.val = c0 + l.val) :
    View.readAt (Elt Ideal) v (Rect.unit (s := ⟨2, ![R, C]⟩) off ![n, w] inb).toLoadRect f (ix2 a l) = v.read (Elt Ideal) f (ix2 r c) := by
  subst hoff
  rw [View.readAt_apply]
  refine congrArg (v.read (Elt Ideal) f) (funext fun x => Fin.ext ?_)
  fin_cases x
  · show r0 + 1 * a.val = r.val; omega
  · show c0 + 1 * l.val = c.val; omega

/-- The same of one of two stacked tables. -/
theorem rd3 {B R C n w : ℕ} (v : View sig' κ sp (⟨3, ![B, R, C]⟩ : Shape) e) (f : v.ty.Contents (Elt Ideal)) {off : Fin 3 → ℕ}
    (inb : ∀ a : Fin 3, off a + (![1, n, w] : Fin 3 → ℕ) a ≤ (![B, R, C] : Fin 3 → ℕ) a) {b0 r0 c0 : ℕ} (hoff : off = ![b0, r0, c0])
    (a : Fin n) (l : Fin w) (b : Fin B) (r : Fin R) (c : Fin C) (hb : b.val = b0) (hr : r.val = r0 + a.val) (hc : c.val = c0 + l.val) :
    View.readAt (Elt Ideal) v (Rect.unit (s := ⟨3, ![B, R, C]⟩) off ![1, n, w] inb).toLoadRect f (ix3 0 a l)
      = v.read (Elt Ideal) f (ix3 b r c) := by
  subst hoff
  rw [View.readAt_apply]
  refine congrArg (v.read (Elt Ideal) f) (funext fun x => Fin.ext ?_)
  fin_cases x
  · show b0 + 1 * 0 = b.val; omega
  · show r0 + 1 * a.val = r.val; omega
  · show c0 + 1 * l.val = c.val; omega

/-- Two stores, of the left lanes and then of the right lanes of a block of rows, over contents that read as `A`: a read of them. -/
theorem two_stores (v : View sig' κ sp S2048x256 e) (f : v.ty.Contents (Elt Ideal)) {o o' : Fin 2 → ℕ}
    (inb : ∀ a : Fin 2, o a + (![512, 128] : Fin 2 → ℕ) a ≤ (![2048, 256] : Fin 2 → ℕ) a)
    (inb' : ∀ a : Fin 2, o' a + (![512, 128] : Fin 2 → ℕ) a ≤ (![2048, 256] : Fin 2 → ℕ) a) {b : Fin 4}
    (ho : o = ![512 * b.val, 0]) (ho' : o' = ![512 * b.val, 128])
    (w w' : (⟨2, ![512, 128]⟩ : Shape).Idx → Elt Ideal e) (L : List (View.Piece (Elt Ideal) S2048x256 e))
    (B : Fin 2 → Fin 2048 → Fin 128 → Elt Ideal e)
    (hA : ∀ h (r : Fin 2048) x, ¬ (512 * b.val ≤ r.val ∧ r.val < 512 * (b.val + 1)) →
      v.read (Elt Ideal) (v.writes (Elt Ideal) f L) (ix2 r (col h x)) = B h r x)
    (hw : ∀ a x, w (ix2 a x) = B 0 (row b a) x) (hw' : ∀ a x, w' (ix2 a x) = B 1 (row b a) x)
    (h : Fin 2) (r : Fin 2048) (x : Fin 128) :
    v.read (Elt Ideal) (v.writes (Elt Ideal) f (⟨Rect.unit (s := S2048x256) o' ![512, 128] inb', w'⟩
      :: ⟨Rect.unit (s := S2048x256) o ![512, 128] inb, w⟩ :: L)) (ix2 r (col h x)) = B h r x := by
  by_cases hr : 512 * b.val ≤ r.val ∧ r.val < 512 * (b.val + 1)
  · obtain ⟨a, rfl⟩ : ∃ a, r = row b a := ⟨⟨r.val - 512 * b.val, by omega⟩, Fin.ext (by show r.val = 512 * b.val + (r.val - 512 * b.val); omega)⟩
    rcases (by fin_cases h <;> simp : h = 0 ∨ h = 1) with rfl | rfl
    · rw [View.read_writes_cons_unit_of_not_mem (s := S2048x256) v f inb' w' _ (ix2 (row b a) (col 0 x)) ho' (1 : Fin 2)
        (Or.inl (by show 128 * 0 + x.val < 128; omega))]
      rw [View.read_writes_cons_unit_of_mem (s := S2048x256) v f inb w L (ix2 (row b a) (col 0 x)) (ix2 a x) ho
        (Fin.forall_fin_two.mpr ⟨rfl, by show 128 * 0 + x.val = 0 + x.val; omega⟩)]
      exact hw a x
    · rw [View.read_writes_cons_unit_of_mem (s := S2048x256) v f inb' w' _ (ix2 (row b a) (col 1 x)) (ix2 a x) ho'
        (Fin.forall_fin_two.mpr ⟨rfl, by show 128 * 1 + x.val = 128 + x.val; omega⟩)]
      exact hw' a x
  · rw [View.read_writes_cons_unit_of_not_mem (s := S2048x256) v f inb' w' _ (ix2 r (col h x)) ho' (0 : Fin 2)
        (by show r.val < 512 * b.val ∨ 512 * b.val + 512 ≤ r.val; omega),
      View.read_writes_cons_unit_of_not_mem (s := S2048x256) v f inb w _ (ix2 r (col h x)) ho (0 : Fin 2)
        (by show r.val < 512 * b.val ∨ 512 * b.val + 512 ≤ r.val; omega)]
    exact hA h r x hr

end Rects

/-! ## The loop -/

section Loop

variable (c : Dev nD) (i : grid0.Coords)
  (a3 : Memref sig .tc .vmem S2048x256 .bf16) (h3 : a3.IsWhole) (a4 : Memref sig .tc .vmem S512x256 .bf16) (h4 : a4.IsWhole)
  (a5 : Memref sig .tc .vmem S512x128 .bf16) (h5 : a5.IsWhole) (a6 : Memref sig .tc .vmem S2048x128 .f32) (h6 : a6.IsWhole)
  (a7 : Memref sig .tc .vmem S2048x128 .bf16) (h7 : a7.IsWhole) (a8 : Memref sig .tc .vmem S2048x256 .f32) (h8 : a8.IsWhole)
  (a9 : Memref sig .tc .vmem S2048x256 .bf16) (h9 : a9.IsWhole) (a10 : Memref sig .tc .vmem S512x256 .bf16) (h10 : a10.IsWhole)
  (a11 : Memref sig .tc .vmem S512x128 .bf16) (h11 : a11.IsWhole) (a12 : Memref sig .tc .vmem S2x2048x128 .f32) (h12 : a12.IsWhole)
  (a13 : Memref sig .tc .vmem S2x8x128 .f32) (h13 : a13.IsWhole) (a14 : Memref sig .tc .vmem S2048x256 .f32) (h14 : a14.IsWhole)
  (v8 : Vec Ideal S512x128 .bf16) (v91 v96 : BitVec 32)
  (X3 : BufTy.Contents (Elt Ideal) a3.view.ty) (X4 : BufTy.Contents (Elt Ideal) a4.view.ty)
  (X7 : BufTy.Contents (Elt Ideal) a7.view.ty) (X8 : BufTy.Contents (Elt Ideal) a8.view.ty)
  (X12 : BufTy.Contents (Elt Ideal) a12.view.ty) (T : Tab) (kj : Fin 4)

/-- What the body reads at the block of keys `kj`: the tables. -/
structure Reads : Prop where
  q : ∀ h r l, a3.view.read (Elt Ideal) X3 (ix2 r (col h l)) = (T.Q h r l : EReal)
  k : ∀ h j l, a4.view.read (Elt Ideal) X4 (ix2 j (col h l)) = (T.K h (row kj j) l : EReal)
  v : ∀ j x, v8 (ix2 j x) = (T.V (row kj j) x : EReal)
  g : ∀ r x, a7.view.read (Elt Ideal) X7 (ix2 r x) = (T.G r x : EReal)
  s : ∀ h r l, a8.view.read (Elt Ideal) X8 (ix2 r (col h l)) = (T.S h r : EReal)
  m : ∀ h r l, a12.view.read (Elt Ideal) X12 (ix3 h r l) = (T.M h r : EReal)

/-- The carried gradients of the block's keys and values, summed over the queries before `N`. -/
structure Carry (N : ℕ) (acc : FVec Ideal S128x512 .f32 × FVec Ideal S128x512 .f32 × FVec Ideal S128x512 .f32) : Prop where
  k0 : ∀ x j, acc.1 (ix2 x j) = ((upTo N fun r => T.Q 0 r x * T.D 0 r (row kj j) : ℝ) : EReal)
  k1 : ∀ x j, acc.2.1 (ix2 x j) = ((upTo N fun r => T.Q 1 r x * T.D 1 r (row kj j) : ℝ) : EReal)
  v : ∀ x j, acc.2.2 (ix2 x j) = (((upTo N fun r => T.H 0 r x * T.P 0 r (row kj j)) + (upTo N fun r => T.H 1 r x * T.P 1 r (row kj j)) : ℝ) : EReal)

/-- The gradient of the queries so far: the block's keys are in at the queries before `N`. -/
def part (N : ℕ) (h : Fin 2) (r : Fin 2048) (x : Fin 128) : ℝ :=
  fromOn (if r.val < N then 512 * kj.val else 512 * (kj.val + 1)) fun j => T.D h r j * T.K h j x

/-- A block of queries more. -/
theorem part_step {b : Fin 4} (h : Fin 2) (a : Fin 512) (x : Fin 128) :
    part T kj (512 * b.val) h (row b a) x + (∑ j, T.D h (row b a) (row kj j) * T.K h (row kj j) x)
      = part T kj (512 * (b.val + 1)) h (row b a) x := by
  rw [part, part, if_neg (by rw [row_val]; omega), if_pos (by rw [row_val]; omega), fromOn_step]

theorem part_other {b : Fin 4} (h : Fin 2) (r : Fin 2048) (x : Fin 128) (hr : ¬ (512 * b.val ≤ r.val ∧ r.val < 512 * (b.val + 1))) :
    part T kj (512 * b.val) h r x = part T kj (512 * (b.val + 1)) h r x := by
  rw [part, part]
  by_cases hb : r.val < 512 * b.val
  · rw [if_pos hb, if_pos (by omega)]
  · rw [if_neg hb, if_neg (by omega)]

/-- The contents of the scratch read as the gradient so far. -/
def Sums (N : ℕ) (f : BufTy.Contents (Elt Ideal) a14.view.ty) : Prop :=
  ∀ h r x, a14.view.read (Elt Ideal) f (ix2 r (col h x)) = (part T kj N h r x : EReal)

variable {a3 a4 a7 a8 a12 a14 v8 X3 X4 X7 X8 X12 T kj}

set_option maxHeartbeats 1000000 in
/-- One trip takes in the queries of its block. -/
theorem trip1 (hR : Reads a3 a4 a7 a8 a12 v8 X3 X4 X7 X8 X12 T kj) (k : Fin (k0_t1_loop i).trips) {b : Fin 4}
    (hi : kj.val + (i 2).val = 3) (hb : b.val = kj.val + 1 + k.val)
    {acc : FVec Ideal S128x512 .f32 × FVec Ideal S128x512 .f32 × FVec Ideal S128x512 .f32} (hc : Carry T kj (512 * b.val) acc)
    {f : BufTy.Contents (Elt Ideal) a14.view.ty} (hf : Sums a14 T kj (512 * b.val) f) :
    Carry T kj (512 * (b.val + 1)) (tripR_k0_t1 (F := Ideal) Variants.none c none i a3 h3 a4 h4 a5 h5 a6 h6 a7 h7 a8 h8 a9 h9 a10 h10 a11 h11 a12 h12 a13 h13 a14 h14 lanes v8 v91 X3 X4 X7 X8 X12 k acc f)
      ∧ Sums a14 T kj (512 * (b.val + 1)) (a14.view.writes (Elt Ideal) f (tripL_k0_t1 (F := Ideal) Variants.none c none i a3 h3 a4 h4 a5 h5 a6 h6 a7 h7 a8 h8 a9 h9 a10 h10 a11 h11 a12 h12 a13 h13 a14 h14 lanes v8 v91 X3 X4 X7 X8 X12 k acc f)) := by
  have o6 : k0_off6 i k = ![512 * b.val, 0] := by rw [k0_off6_eq, show (512 * k.val + 2048) - 512 * (i 2).val = 512 * b.val by omega]
  have o7 : k0_off7 i k = ![512 * b.val, 0] := by rw [k0_off7_eq, show (512 * k.val + 2048) - 512 * (i 2).val = 512 * b.val by omega]
  have o8 : k0_off8 i k = ![0, 512 * b.val, 0] := by rw [k0_off8_eq, show (512 * k.val + 2048) - 512 * (i 2).val = 512 * b.val by omega]
  have o9 : k0_off9 i k = ![512 * b.val, 128] := by rw [k0_off9_eq, show (512 * k.val + 2048) - 512 * (i 2).val = 512 * b.val by omega]
  have o10 : k0_off10 i k = ![1, 512 * b.val, 0] := by rw [k0_off10_eq, show (512 * k.val + 2048) - 512 * (i 2).val = 512 * b.val by omega]
  have hkb : kj.val < b.val := by omega
  -- the reads
  have g : ∀ a x, View.readAt (Elt Ideal) a7.view (Rect.unit (s := S2048x128) (k0_off6 i k) S512x128.size (k0_off6_inb i k)).toLoadRect X7 (ix2 a x) = (T.G (row b a) x : EReal) :=
    fun a x => (rd2 a7.view X7 (k0_off6_inb i k) o6 a x (row b a) x rfl (Nat.zero_add _).symm).trans (hR.g _ _)
  have q0 : ∀ a l, View.readAt (Elt Ideal) a3.view (Rect.unit (s := S2048x256) (k0_off7 i k) S512x128.size (k0_off7_inb i k)).toLoadRect X3 (ix2 a l) = (T.Q 0 (row b a) l : EReal) :=
    fun a l => (rd2 a3.view X3 (k0_off7_inb i k) o7 a l (row b a) (col 0 l) rfl (by simp)).trans (hR.q _ _ _)
  have q1 : ∀ a l, View.readAt (Elt Ideal) a3.view (Rect.unit (s := S2048x256) (k0_off9 i k) S512x128.size (k0_off9_inb i k)).toLoadRect X3 (ix2 a l) = (T.Q 1 (row b a) l : EReal) :=
    fun a l => (rd2 a3.view X3 (k0_off9_inb i k) o9 a l (row b a) (col 1 l) rfl (by simp)).trans (hR.q _ _ _)
  have k0 : ∀ j l, View.readAt (Elt Ideal) a4.view (Rect.unit (s := S512x256) ![0, 0] S512x128.size inb_S512x256_S512x128_0_0).toLoadRect X4 (ix2 j l) = (T.K 0 (row kj j) l : EReal) :=
    fun j l => (rd2 a4.view X4 inb_S512x256_S512x128_0_0 rfl j l j (col 0 l) (by simp) (by simp)).trans (hR.k _ _ _)
  have k1 : ∀ j l, View.readAt (Elt Ideal) a4.view (Rect.unit (s := S512x256) ![0, 128] S512x128.size inb_S512x256_S512x128_0_128).toLoadRect X4 (ix2 j l) = (T.K 1 (row kj j) l : EReal) :=
    fun j l => (rd2 a4.view X4 inb_S512x256_S512x128_0_128 rfl j l j (col 1 l) (by simp) (by simp)).trans (hR.k _ _ _)
  have s0 : ∀ a l, View.readAt (Elt Ideal) a8.view (Rect.unit (s := S2048x256) (k0_off7 i k) S512x128.size (k0_off7_inb i k)).toLoadRect X8 (ix2 a l) = (T.S 0 (row b a) : EReal) :=
    fun a l => (rd2 a8.view X8 (k0_off7_inb i k) o7 a l (row b a) (col 0 l) rfl (by simp)).trans (hR.s _ _ _)
  have s1 : ∀ a l, View.readAt (Elt Ideal) a8.view (Rect.unit (s := S2048x256) (k0_off9 i k) S512x128.size (k0_off9_inb i k)).toLoadRect X8 (ix2 a l) = (T.S 1 (row b a) : EReal) :=
    fun a l => (rd2 a8.view X8 (k0_off9_inb i k) o9 a l (row b a) (col 1 l) rfl (by simp)).trans (hR.s _ _ _)
  have m0 : ∀ a l, View.readAt (Elt Ideal) a12.view (Rect.unit (s := S2x2048x128) (k0_off8 i k) S1x512x128.size (k0_off8_inb i k)).toLoadRect X12 (ix3 0 a l) = (T.M 0 (row b a) : EReal) :=
    fun a l => (rd3 a12.view X12 (k0_off8_inb i k) o8 a l 0 (row b a) l rfl rfl (Nat.zero_add _).symm).trans (hR.m _ _ _)
  have m1 : ∀ a l, View.readAt (Elt Ideal) a12.view (Rect.unit (s := S2x2048x128) (k0_off10 i k) S1x512x128.size (k0_off10_inb i k)).toLoadRect X12 (ix3 0 a l) = (T.M 1 (row b a) : EReal) :=
    fun a l => (rd3 a12.view X12 (k0_off10_inb i k) o10 a l 1 (row b a) l rfl rfl (Nat.zero_add _).symm).trans (hR.m _ _ _)
  have d0 : ∀ a x, View.readAt (Elt Ideal) a14.view (Rect.unit (s := S2048x256) (k0_off7 i k) S512x128.size (k0_off7_inb i k)).toLoadRect f (ix2 a x) = (part T kj (512 * b.val) 0 (row b a) x : EReal) :=
    fun a x => (rd2 a14.view f (k0_off7_inb i k) o7 a x (row b a) (col 0 x) rfl (by simp)).trans (hf _ _ _)
  have d1 : ∀ a x, View.readAt (Elt Ideal) a14.view (Rect.unit (s := S2048x256) (k0_off9 i k) S512x128.size (k0_off9_inb i k)).toLoadRect f (ix2 a x) = (part T kj (512 * b.val) 1 (row b a) x : EReal) :=
    fun a x => (rd2 a14.view f (k0_off9_inb i k) o9 a x (row b a) (col 1 x) rfl (by simp)).trans (hf _ _ _)
  -- the tile's weights and gradients
  have g0 := pay20_at g
  have g1 := pay4_at g
  have p0 := fun a j => (pay21_at q0 k0 s0 a j).trans (congrArg _ (wt_row T 0 hkb a j))
  have p1 := fun a j => (pay21_at q1 k1 s1 a j).trans (congrArg _ (wt_row T 1 hkb a j))
  have e0 := pay22_at g0 hR.v m0 p0
  have e1 := pay6_at g1 hR.v m1 p1
  refine ⟨⟨fun x j => ?_, fun x j => ?_, fun x j => ?_⟩, ?_⟩
  · unfold tripR_k0_t1 trip_k0_t1
    refine (pay24_at hc.k0 q0 e0 x j).trans (congrArg _ ?_)
    rw [upTo_step]; rfl
  · unfold tripR_k0_t1 trip_k0_t1
    refine (pay8_at hc.k1 q1 e1 x j).trans (congrArg _ ?_)
    rw [upTo_step]; rfl
  · unfold tripR_k0_t1 trip_k0_t1
    refine (pay7_at (pay23_at hc.v g0 p0) g1 p1 x j).trans (congrArg _ ?_)
    rw [upTo_step, upTo_step]
    show _ + (∑ a, T.H 0 (row b a) x * T.P 0 (row b a) (row kj j)) + (∑ a, T.H 1 (row b a) x * T.P 1 (row b a) (row kj j)) = _
    ring
  · unfold tripL_k0_t1 trip_k0_t1
    intro h r x
    refine two_stores a14.view f (k0_off7_inb i k) (k0_off9_inb i k) o7 o9 _ _ []
      (fun h r x => (part T kj (512 * (b.val + 1)) h r x : EReal)) (fun h r x hr => ?_) (fun a x => ?_) (fun a x => ?_) h r x
    · rw [View.writes_nil, hf, part_other T kj h r x hr]
    · exact (pay25_at a x (d0 a x) k0 e0).trans (congrArg _ (part_step T kj 0 a x))
    · exact (pay9_at a x (d1 a x) k1 e1).trans (congrArg _ (part_step T kj 1 a x))

/-- The loop has a trip per block of queries below the diagonal, -/
theorem trips1 : ∀ i : grid0.Coords, (k0_t1_loop i).trips = (i 2).val := by decide +kernel

/-- and what is left over for the second loop is nothing. -/
theorem trips2 : ∀ i : grid0.Coords, (k0_t2_loop i).trips = 0 := by decide +kernel

/-- The trips take in the queries of their blocks. -/
theorem trips (hR : Reads a3 a4 a7 a8 a12 v8 X3 X4 X7 X8 X12 T kj) (hi : kj.val + (i 2).val = 3)
    {init : FVec Ideal S128x512 .f32 × FVec Ideal S128x512 .f32 × FVec Ideal S128x512 .f32} (hc : Carry T kj (512 * (kj.val + 1)) init)
    {G : BufTy.Contents (Elt Ideal) a14.view.ty} (hG : Sums a14 T kj (512 * (kj.val + 1)) G) (n : ℕ) (hn : n ≤ (i 2).val) :
    Carry T kj (512 * (kj.val + 1 + n)) (st_k0_t1 (F := Ideal) Variants.none c none i a3 h3 a4 h4 a5 h5 a6 h6 a7 h7 a8 h8 a9 h9 a10 h10 a11 h11 a12 h12 a13 h13 a14 h14 lanes v8 v91 X3 X4 X7 X8 X12 G init n).1
      ∧ Sums a14 T kj (512 * (kj.val + 1 + n)) (a14.view.writes (Elt Ideal) G (st_k0_t1 (F := Ideal) Variants.none c none i a3 h3 a4 h4 a5 h5 a6 h6 a7 h7 a8 h8 a9 h9 a10 h10 a11 h11 a12 h12 a13 h13 a14 h14 lanes v8 v91 X3 X4 X7 X8 X12 G init n).2) := by
  induction n with
  | zero => exact ⟨hc, hG⟩
  | succ n ih =>
    have h := ih (by omega)
    have hk : n < (k0_t1_loop i).trips := by rw [trips1]; omega
    have e := st_k0_t1_succ (F := Ideal) Variants.none c none i a3 h3 a4 h4 a5 h5 a6 h6 a7 h7 a8 h8 a9 h9 a10 h10 a11 h11 a12 h12 a13 h13 a14 h14 lanes v8 v91 X3 X4 X7 X8 X12 G init ⟨n, hk⟩
    rw [show st_k0_t1 (F := Ideal) Variants.none c none i a3 h3 a4 h4 a5 h5 a6 h6 a7 h7 a8 h8 a9 h9 a10 h10 a11 h11 a12 h12 a13 h13 a14 h14 lanes v8 v91 X3 X4 X7 X8 X12 G init (n + 1) = _ from e]
    have t := trip1 c i h3 h4 a5 h5 a6 h6 h7 h8 a9 h9 a10 h10 a11 h11 h12 a13 h13 h14 v91 hR ⟨n, hk⟩ (b := ⟨kj.val + 1 + n, by omega⟩) hi rfl h.1 h.2
    refine ⟨t.1, ?_⟩
    rw [View.writes_append]
    exact t.2

variable {y0 y1 : Vec Ideal S512x128 .f32} {f : BufTy.Contents (Elt Ideal) a14.view.ty} {L : List (View.Piece (Elt Ideal) S2048x256 .f32)}

set_option maxHeartbeats 1000000 in
/-- The diagonal block: the gradients it starts, and the queries' gradient it adds to. -/
theorem diagonal (hR : Reads a3 a4 a7 a8 a12 v8 X3 X4 X7 X8 X12 T kj) (hi : kj.val + (i 2).val = 3)
    (hy0 : ∀ a x, y0 (ix2 a x) = (part T kj (512 * kj.val) 0 (row kj a) x : EReal))
    (hy1 : ∀ a x, y1 (ix2 a x) = (part T kj (512 * kj.val) 1 (row kj a) x : EReal)) :
    let g := View.readAt (Elt Ideal) a7.view (Rect.unit (s := S2048x128) (k0_off1 i) S512x128.size (k0_off1_inb i)).toLoadRect X7
    let q0 := View.readAt (Elt Ideal) a3.view (Rect.unit (s := S2048x256) (k0_off2 i) S512x128.size (k0_off2_inb i)).toLoadRect X3
    let q1 := View.readAt (Elt Ideal) a3.view (Rect.unit (s := S2048x256) (k0_off4 i) S512x128.size (k0_off4_inb i)).toLoadRect X3
    let k0 := View.readAt (Elt Ideal) a4.view (Rect.unit (s := S512x256) ![0, 0] S512x128.size inb_S512x256_S512x128_0_0).toLoadRect X4
    let k1 := View.readAt (Elt Ideal) a4.view (Rect.unit (s := S512x256) ![0, 128] S512x128.size inb_S512x256_S512x128_0_128).toLoadRect X4
    let s0 := View.readAt (Elt Ideal) a8.view (Rect.unit (s := S2048x256) (k0_off2 i) S512x128.size (k0_off2_inb i)).toLoadRect X8
    let s1 := View.readAt (Elt Ideal) a8.view (Rect.unit (s := S2048x256) (k0_off4 i) S512x128.size (k0_off4_inb i)).toLoadRect X8
    let m0 := View.readAt (Elt Ideal) a12.view (Rect.unit (s := S2x2048x128) (k0_off3 i) S1x512x128.size (k0_off3_inb i)).toLoadRect X12
    let m1 := View.readAt (Elt Ideal) a12.view (Rect.unit (s := S2x2048x128) (k0_off5 i) S1x512x128.size (k0_off5_inb i)).toLoadRect X12
    let rows := iota .tc S512x512 32 [0] iota_S512x512_d0_w32
    let cols := iota .tc S512x512 32 [1] iota_S512x512_d1_w32
    let p0 := k0_pay38 (F := Ideal) q0 k0 s0
    let d1 := k0_pay47 (F := Ideal) lanes rows cols v8 g q1 k1 s1 m1
    Carry T kj (512 * (kj.val + 1)) (k0_pay43 (F := Ideal) k0_pay36 q0 p0 (k0_pay39 v8 g) (k0_pay40 m0), k0_pay2 (F := Ideal) k0_pay36 q1 d1,
        k0_pay1 (F := Ideal) (k0_pay42 k0_pay36 (k0_pay37 g) p0) (k0_pay45 lanes g) (k0_pay48 rows cols q1 k1 s1))
      ∧ (∀ a x, k0_pay44 (F := Ideal) k0 p0 (k0_pay39 v8 g) (k0_pay40 m0) y0 (ix2 a x) = (part T kj (512 * (kj.val + 1)) 0 (row kj a) x : EReal))
      ∧ (∀ a x, k0_pay3 (F := Ideal) k1 d1 y1 (ix2 a x) = (part T kj (512 * (kj.val + 1)) 1 (row kj a) x : EReal)) := by
  intro g q0 q1 k0 k1 s0 s1 m0 m1 rows cols p0 d1
  have o1 : k0_off1 i = ![512 * kj.val, 0] := by rw [k0_off1_eq, show 1536 - 512 * (i 2).val = 512 * kj.val by omega]
  have o2 : k0_off2 i = ![512 * kj.val, 0] := by rw [k0_off2_eq, show 1536 - 512 * (i 2).val = 512 * kj.val by omega]
  have o3 : k0_off3 i = ![0, 512 * kj.val, 0] := by rw [k0_off3_eq, show 1536 - 512 * (i 2).val = 512 * kj.val by omega]
  have o4 : k0_off4 i = ![512 * kj.val, 128] := by rw [k0_off4_eq, show 1536 - 512 * (i 2).val = 512 * kj.val by omega]
  have o5 : k0_off5 i = ![1, 512 * kj.val, 0] := by rw [k0_off5_eq, show 1536 - 512 * (i 2).val = 512 * kj.val by omega]
  have hg : ∀ a x, g (ix2 a x) = (T.G (row kj a) x : EReal) :=
    fun a x => (rd2 a7.view X7 (k0_off1_inb i) o1 a x (row kj a) x rfl (Nat.zero_add _).symm).trans (hR.g _ _)
  have hq0 : ∀ a l, q0 (ix2 a l) = (T.Q 0 (row kj a) l : EReal) :=
    fun a l => (rd2 a3.view X3 (k0_off2_inb i) o2 a l (row kj a) (col 0 l) rfl (by simp)).trans (hR.q _ _ _)
  have hq1 : ∀ a l, q1 (ix2 a l) = (T.Q 1 (row kj a) l : EReal) :=
    fun a l => (rd2 a3.view X3 (k0_off4_inb i) o4 a l (row kj a) (col 1 l) rfl (by simp)).trans (hR.q _ _ _)
  have hk0 : ∀ j l, k0 (ix2 j l) = (T.K 0 (row kj j) l : EReal) :=
    fun j l => (rd2 a4.view X4 inb_S512x256_S512x128_0_0 rfl j l j (col 0 l) (by simp) (by simp)).trans (hR.k _ _ _)
  have hk1 : ∀ j l, k1 (ix2 j l) = (T.K 1 (row kj j) l : EReal) :=
    fun j l => (rd2 a4.view X4 inb_S512x256_S512x128_0_128 rfl j l j (col 1 l) (by simp) (by simp)).trans (hR.k _ _ _)
  have hs0 : ∀ a l, s0 (ix2 a l) = (T.S 0 (row kj a) : EReal) :=
    fun a l => (rd2 a8.view X8 (k0_off2_inb i) o2 a l (row kj a) (col 0 l) rfl (by simp)).trans (hR.s _ _ _)
  have hs1 : ∀ a l, s1 (ix2 a l) = (T.S 1 (row kj a) : EReal) :=
    fun a l => (rd2 a8.view X8 (k0_off4_inb i) o4 a l (row kj a) (col 1 l) rfl (by simp)).trans (hR.s _ _ _)
  have hm0 : ∀ a l, m0 (ix3 0 a l) = (T.M 0 (row kj a) : EReal) :=
    fun a l => (rd3 a12.view X12 (k0_off3_inb i) o3 a l 0 (row kj a) l rfl rfl (Nat.zero_add _).symm).trans (hR.m _ _ _)
  have hm1 : ∀ a l, m1 (ix3 0 a l) = (T.M 1 (row kj a) : EReal) :=
    fun a l => (rd3 a12.view X12 (k0_off5_inb i) o5 a l 1 (row kj a) l rfl rfl (Nat.zero_add _).symm).trans (hR.m _ _ _)
  have g0 := pay20_at hg
  have g1 := pay4_at hg
  have hp0 := fun a j => (pay38_at hq0 hk0 hs0 a j).trans (congrArg _ (wtd_row T 0 kj a j))
  have hp1 := fun a j => (pay38_at hq1 hk1 hs1 a j).trans (congrArg _ (wtd_row T 1 kj a j))
  have e0 := pay41_at g0 hR.v hm0 hp0
  have e1 : ∀ a j, d1 (ix2 a j) = _ := pay47_at (v2 := lanes) (v3 := rows) (v4 := cols) g1 hR.v hm1 hp1
  refine ⟨⟨fun x j => (pay43_at hq0 e0 x j).trans (congrArg _ ?_), fun x j => (pay2_at hq1 e1 x j).trans (congrArg _ ?_),
    fun x j => (pay1_at (v3 := rows) (v4 := cols) (pay42_at g0 hp0) g1 hp1 x j).trans (congrArg _ ?_)⟩, fun a x => ?_, fun a x => ?_⟩
  · rw [upTo_first kj _ fun r hr => by rw [T.D_of_lt (Fin.lt_def.mpr (by rw [row_val]; omega)), mul_zero]]; rfl
  · rw [upTo_first kj _ fun r hr => by rw [T.D_of_lt (Fin.lt_def.mpr (by rw [row_val]; omega)), mul_zero]]; rfl
  · rw [upTo_first kj _ fun r hr => by rw [T.P_of_lt (Fin.lt_def.mpr (by rw [row_val]; omega)), mul_zero],
      upTo_first kj _ fun r hr => by rw [T.P_of_lt (Fin.lt_def.mpr (by rw [row_val]; omega)), mul_zero]]; rfl
  · exact (pay44_at a x (hy0 a x) hk0 e0).trans (congrArg _ (part_step T kj 0 a x))
  · exact (pay3_at a x (hy1 a x) hk1 e1).trans (congrArg _ (part_step T kj 1 a x))

/-- The sweep of one point from the diagonal block's stores on. -/
theorem sweep (hR : Reads a3 a4 a7 a8 a12 v8 X3 X4 X7 X8 X12 T kj) (hi : kj.val + (i 2).val = 3)
    (hL : Sums a14 T kj (512 * kj.val) (a14.view.writes (Elt Ideal) f L))
    {init : FVec Ideal S128x512 .f32 × FVec Ideal S128x512 .f32 × FVec Ideal S128x512 .f32} (hc : Carry T kj (512 * (kj.val + 1)) init)
    {w0 w1 : (⟨2, ![512, 128]⟩ : Shape).Idx → Elt Ideal .f32}
    (hw0 : ∀ a x, w0 (ix2 a x) = (part T kj (512 * (kj.val + 1)) 0 (row kj a) x : EReal))
    (hw1 : ∀ a x, w1 (ix2 a x) = (part T kj (512 * (kj.val + 1)) 1 (row kj a) x : EReal)) {n1 n2 : ℕ} (hn1 : n1 = (i 2).val) (hn2 : n2 = 0)
    {st1 st2 : (FVec Ideal S128x512 .f32 × FVec Ideal S128x512 .f32 × FVec Ideal S128x512 .f32) × List (View.Piece (Elt Ideal) S2048x256 .f32)}
    {L' : List (View.Piece (Elt Ideal) S2048x256 .f32)}
    (hL' : L' = (⟨Rect.unit (s := S2048x256) (k0_off4 i) ![512, 128] (k0_off4_inb i), w1⟩ : View.Piece (Elt Ideal) S2048x256 .f32)
      :: ⟨Rect.unit (s := S2048x256) (k0_off2 i) ![512, 128] (k0_off2_inb i), w0⟩ :: L)
    (hst1 : st1 = st_k0_t1 (F := Ideal) Variants.none c none i a3 h3 a4 h4 a5 h5 a6 h6 a7 h7 a8 h8 a9 h9 a10 h10 a11 h11 a12 h12 a13 h13 a14 h14 lanes v8 v91 X3 X4 X7 X8 X12 (a14.view.writes (Elt Ideal) f L') init n1)
    (hst2 : st2 = st_k0_t2 (F := Ideal) Variants.none c none i a3 h3 a4 h4 a5 h5 a6 h6 a7 h7 a8 h8 a9 h9 a10 h10 a11 h11 a12 h12 a13 h13 a14 h14 lanes v8 v96 X3 X4 X7 X8 X12 (a14.view.writes (Elt Ideal) f (st1.2 ++ L')) (st1.1.1, st1.1.2.1, st1.1.2.2) n2) :
    Carry T kj 2048 st2.1 ∧ Sums a14 T kj 2048 (a14.view.writes (Elt Ideal) f (st2.2 ++ (st1.2 ++ L'))) := by
  subst hn1 hn2
  have o2 : k0_off2 i = ![512 * kj.val, 0] := by rw [k0_off2_eq, show 1536 - 512 * (i 2).val = 512 * kj.val by omega]
  have o4 : k0_off4 i = ![512 * kj.val, 128] := by rw [k0_off4_eq, show 1536 - 512 * (i 2).val = 512 * kj.val by omega]
  have hG : Sums a14 T kj (512 * (kj.val + 1)) (a14.view.writes (Elt Ideal) f L') := by
    subst hL'
    intro h r x
    refine two_stores a14.view f (k0_off2_inb i) (k0_off4_inb i) o2 o4 _ _ L
      (fun h r x => (part T kj (512 * (kj.val + 1)) h r x : EReal)) (fun h r x hr => ?_) hw0 hw1 h r x
    rw [hL, part_other T kj h r x hr]
  have t := trips c i h3 h4 a5 h5 a6 h6 h7 h8 a9 h9 a10 h10 a11 h11 h12 a13 h13 h14 v91 hR hi hc hG (i 2).val le_rfl
  rw [show 512 * (kj.val + 1 + (i 2).val) = 2048 by omega, ← hst1] at t
  subst hst2
  refine ⟨t.1, ?_⟩
  show Sums a14 T kj 2048 (a14.view.writes (Elt Ideal) f (st1.2 ++ L'))
  rw [View.writes_append]
  exact t.2

end Loop

end Cert.KernelIdeal.Sweep
-- ==== Proof.BodyValue.lean ====
/- What the kernel's body leaves at one grid point, over the real numbers: the gradients of the block's keys and values, the rows' means,
   and the queries' gradient as far as it has come. -/
module

public import proofs.«01_k».proof.Proof.LoopValue
public import proofs.«01_k».proof.Proof.KernelIdealRun

@[expose] public section

set_option maxRecDepth 16384

noncomputable section

namespace Cert.KernelIdeal.Sweep

open Cert.KernelIdeal Cert.KernelIdeal.Gen Cert.KernelIdeal.Tile Cert.KernelIdeal.Hand Cert.Attn
open Idealize.ShloMosaic Idealize.ShloMosaic.TcCoe

variable (c : Dev nD) (i : grid0.Coords)
  (a3 : Memref sig .tc .vmem S2048x256 .bf16) (h3 : a3.IsWhole) (a4 : Memref sig .tc .vmem S512x256 .bf16) (h4 : a4.IsWhole)
  (a5 : Memref sig .tc .vmem S512x128 .bf16) (h5 : a5.IsWhole) (a6 : Memref sig .tc .vmem S2048x128 .f32) (h6 : a6.IsWhole)
  (a7 : Memref sig .tc .vmem S2048x128 .bf16) (h7 : a7.IsWhole) (a8 : Memref sig .tc .vmem S2048x256 .f32) (h8 : a8.IsWhole)
  (a9 : Memref sig .tc .vmem S2048x256 .bf16) (h9 : a9.IsWhole) (a10 : Memref sig .tc .vmem S512x256 .bf16) (h10 : a10.IsWhole)
  (a11 : Memref sig .tc .vmem S512x128 .bf16) (h11 : a11.IsWhole) (a12 : Memref sig .tc .vmem S2x2048x128 .f32) (h12 : a12.IsWhole)
  (a13 : Memref sig .tc .vmem S2x8x128 .f32) (h13 : a13.IsWhole) (a14 : Memref sig .tc .vmem S2048x256 .f32) (h14 : a14.IsWhole)
  (x3 : Vec Ideal S2048x256 .bf16) (x4 : Vec Ideal S512x256 .bf16) (x5 : Vec Ideal S512x128 .bf16) (x6 : Vec Ideal S2048x128 .f32)
  (x7 : Vec Ideal S2048x128 .bf16) (x8 : Vec Ideal S2048x256 .f32) (x9 : Vec Ideal S2048x256 .bf16)
  (x10 : Vec Ideal S512x256 .bf16) (x11 : Vec Ideal S512x128 .bf16) (x12 : Vec Ideal S2x2048x128 .f32) (x14 : Vec Ideal S2048x256 .f32)
  (T : Tab) (kj : Fin 4)

attribute [local irreducible] st_k0_t1 st_k0_t2

/-- The blocks the body is handed are those of the tables. -/
structure Ins : Prop where
  q : ∀ h r l, x3 (ix2 r (col h l)) = (T.Q h r l : EReal)
  k : ∀ h j l, x4 (ix2 j (col h l)) = (T.K h (row kj j) l : EReal)
  v : ∀ j x, x5 (ix2 j x) = (T.V (row kj j) x : EReal)
  o : ∀ r x, x6 (ix2 r x) = (T.O r x : EReal)
  g : ∀ r x, x7 (ix2 r x) = (T.G r x : EReal)
  s : ∀ h r l, x8 (ix2 r (col h l)) = (T.S h r : EReal)

/-- The gradients of the keys' block, -/
def OutK (x : Vec Ideal S512x256 .bf16) : Prop :=
  ∀ h j l, x (ix2 j (col h l)) = ((∑ r, T.Q h r l * T.D h r (row kj j) : ℝ) : EReal)

/-- of the values' block, -/
def OutV (x : Vec Ideal S512x128 .bf16) : Prop :=
  ∀ j l, x (ix2 j l) = (((∑ r, T.H 0 r l * T.P 0 r (row kj j)) + (∑ r, T.H 1 r l * T.P 1 r (row kj j)) : ℝ) : EReal)

/-- the rows' means, -/
def Means (x : Vec Ideal S2x2048x128 .f32) : Prop := ∀ h r l, x (ix3 h r l) = (T.M h r : EReal)

/-- and the queries' gradient, over the keys from `N` on. -/
def SumQ (N : ℕ) (x : Vec Ideal S2048x256 .f32) : Prop :=
  ∀ h r l, x (ix2 r (col h l)) = ((fromOn N fun j => T.D h r j * T.K h j l : ℝ) : EReal)

theorem part_start (h : Fin 2) (r : Fin 2048) (x : Fin 128) :
    part T kj (512 * kj.val) h r x = fromOn (512 * (kj.val + 1)) fun j => T.D h r j * T.K h j x := by
  rw [part]
  by_cases hr : r.val < 512 * kj.val
  · rw [if_pos hr]
    exact fromOn_skip kj _ fun a => by rw [T.D_of_lt (Fin.lt_def.mpr (by rw [row_val]; omega)), zero_mul]
  · rw [if_neg hr]

theorem part_end (h : Fin 2) (r : Fin 2048) (x : Fin 128) :
    part T kj 2048 h r x = fromOn (512 * kj.val) fun j => T.D h r j * T.K h j x := by
  rw [part, if_pos r.isLt]

variable {i x3 x4 x5 x6 x7 x8 x12 x14 T kj}

theorem reads_unread (hI : Ins x3 x4 x5 x6 x7 x8 T kj) {X12 : BufTy.Contents (Elt Ideal) a12.view.ty}
    (hm : ∀ h r l, a12.view.read (Elt Ideal) X12 (ix3 h r l) = (T.M h r : EReal)) {v8 : Vec Ideal S512x128 .bf16} (hv : v8 = x5) :
    Reads a3 a4 a7 a8 a12 v8 (h3.unread x3) (h4.unread x4) (h7.unread x7) (h8.unread x8) X12 T kj := by
  subst hv
  refine ⟨?_, ?_, hI.v, ?_, ?_, hm⟩
  · intro h r l; rw [h3.read_unread]; exact hI.q h r l
  · intro h r l; rw [h4.read_unread]; exact hI.k h r l
  · intro r l; rw [h7.read_unread]; exact hI.g r l
  · intro h r l; rw [h8.read_unread]; exact hI.s h r l

/-- A load of a whole buffer reads its contents. -/
theorem whole2 {sig' : RefSig} {n w : ℕ} {e : EltTy} {a : Memref sig' .tc .vmem (⟨2, ![n, w]⟩ : Shape) e} (h : a.IsWhole) (x : Vec Ideal (⟨2, ![n, w]⟩ : Shape) e)
    (inb : ∀ k : Fin 2, (![0, 0] : Fin 2 → ℕ) k + (![n, w] : Fin 2 → ℕ) k ≤ (![n, w] : Fin 2 → ℕ) k) (r : Fin n) (l : Fin w) :
    View.readAt (Elt Ideal) a.view (Rect.unit (s := ⟨2, ![n, w]⟩) ![0, 0] ![n, w] inb).toLoadRect (h.unread x) (ix2 r l) = x (ix2 r l) := by
  rw [rd2 a.view _ inb rfl r l r l (by simp) (by simp), h.read_unread]

theorem vec_ext {n w : ℕ} {e : EltTy} {x y : Vec Ideal (⟨2, ![n, w]⟩ : Shape) e} (h : ∀ r l, x (ix2 r l) = y (ix2 r l)) : x = y := by
  funext k
  have := h (k 0) (k 1)
  have e : k = ix2 (k 0) (k 1) := funext fun a => by fin_cases a <;> rfl
  rw [e]; exact this

/-- A stored rectangle reads back what was stored. -/
theorem wr2 {sig' : RefSig} {sp : Space} {R C n w : ℕ} {e : EltTy} (v : View sig' .tc sp (⟨2, ![R, C]⟩ : Shape) e) (f : v.ty.Contents (Elt Ideal)) {off : Fin 2 → ℕ}
    (inb : ∀ a : Fin 2, off a + (![n, w] : Fin 2 → ℕ) a ≤ (![R, C] : Fin 2 → ℕ) a) {r0 c0 : ℕ} (hoff : off = ![r0, c0])
    (W : (⟨2, ![n, w]⟩ : Shape).Idx → Elt Ideal e) (L : List (View.Piece (Elt Ideal) (⟨2, ![R, C]⟩ : Shape) e))
    (a : Fin n) (l : Fin w) (r : Fin R) (c : Fin C) (hr : r.val = r0 + a.val) (hc : c.val = c0 + l.val) :
    v.read (Elt Ideal) (v.writes (Elt Ideal) f (⟨Rect.unit (s := ⟨2, ![R, C]⟩) off ![n, w] inb, W⟩ :: L)) (ix2 r c) = W (ix2 a l) :=
  View.read_writes_cons_unit_of_mem (s := ⟨2, ![R, C]⟩) v f inb W L (ix2 r c) (ix2 a l) hoff (Fin.forall_fin_two.mpr ⟨hr, hc⟩)

/-- What the stores of the carried gradients leave. -/
theorem outs {X3 : FVec Ideal S128x512 .f32 × FVec Ideal S128x512 .f32 × FVec Ideal S128x512 .f32} (hC : Carry T kj 2048 X3)
    (f10 : BufTy.Contents (Elt Ideal) a10.view.ty) (f11 : BufTy.Contents (Elt Ideal) a11.view.ty) :
    OutK T kj (a10.view.read (Elt Ideal) (a10.view.writes (Elt Ideal) f10
        [⟨Rect.unit (s := S512x256) ![0, 128] ![512, 128] inb_S512x256_S512x128_0_128, k0_pay17 (F := Ideal) X3.2.1⟩,
         ⟨Rect.unit (s := S512x256) ![0, 0] ![512, 128] inb_S512x256_S512x128_0_0, k0_pay16 (F := Ideal) X3.1⟩]))
      ∧ OutV T kj (a11.view.read (Elt Ideal) (a11.view.writes (Elt Ideal) f11
        [⟨Rect.unit (s := S512x128) ![0, 0] ![512, 128] inb_S512x128_S512x128_0_0, k0_pay18 (F := Ideal) X3.2.2⟩])) := by
  constructor
  · intro h j l
    rcases (by fin_cases h <;> simp : h = 0 ∨ h = 1) with rfl | rfl
    · refine (View.read_writes_cons_unit_of_not_mem (s := S512x256) (off' := ![0, 128]) a10.view f10 _ _ _ (ix2 j (col 0 l)) rfl (1 : Fin 2)
        (Or.inl (by show 128 * 0 + l.val < 128; omega))).trans ?_
      refine (wr2 a10.view f10 _ rfl _ _ j l j (col 0 l) (by simp) (by simp)).trans ?_
      rw [pay16_at, hC.k0, upTo_all]
    · refine (wr2 a10.view f10 _ rfl _ _ j l j (col 1 l) (by simp) (by simp)).trans ?_
      rw [pay17_at, hC.k1, upTo_all]
  · intro j l
    refine (wr2 a11.view f11 _ rfl _ _ j l j l (by simp) (by simp)).trans ?_
    rw [pay18_at, hC.v, upTo_all, upTo_all]

set_option maxHeartbeats 400000 in
/-- A middle point. -/
theorem mid_value (hc0 : ¬ opens i) (hc1 : ¬ k0_cond2 i = 1#1) (hi : kj.val + (i 2).val = 3) (hI : Ins x3 x4 x5 x6 x7 x8 T kj)
    (hm : Means T x12) (hq : SumQ T (512 * (kj.val + 1)) x14) :
    let L := (runMid c i a3 h3 a4 h4 a5 h5 a6 h6 a7 h7 a8 h8 a9 h9 a10 h10 a11 h11 a12 h12 a13 h13 a14 h14 x3 x4 x5 x6 x7 x8 x9 x10 x11 x12 x14 hc0 hc1).1
    (OutK T kj L.2.1 ∧ OutV T kj L.2.2.1) ∧ L.2.2.2.1 = x12 ∧ SumQ T (512 * kj.val) L.2.2.2.2 := by
  have hL : Sums a14 T kj (512 * kj.val) (a14.view.writes (Elt Ideal) (h14.unread x14) []) := by
    intro h r x; rw [View.writes_nil, h14.read_unread, hq, part_start]
  have hy0 : ∀ a x, View.readAt (Elt Ideal) a14.view (Rect.unit (s := S2048x256) (k0_off2 i) S512x128.size (k0_off2_inb i)).toLoadRect (h14.unread x14) (ix2 a x)
      = (part T kj (512 * kj.val) 0 (row kj a) x : EReal) := fun a x =>
    (rd2 a14.view _ (k0_off2_inb i) (k0_off2_eq i) a x (row kj a) (col 0 x) (by simp; omega) (by simp)).trans (hL _ _ _)
  have hy1 : ∀ a x, View.readAt (Elt Ideal) a14.view (Rect.unit (s := S2048x256) (k0_off4 i) S512x128.size (k0_off4_inb i)).toLoadRect (h14.unread x14) (ix2 a x)
      = (part T kj (512 * kj.val) 1 (row kj a) x : EReal) := fun a x =>
    (rd2 a14.view _ (k0_off4_inb i) (k0_off4_eq i) a x (row kj a) (col 1 x) (by simp; omega) (by simp)).trans (hL _ _ _)
  have hv : View.readAt (Elt Ideal) a5.view (Rect.unit (s := S512x128) ![0, 0] S512x128.size inb_S512x128_S512x128_0_0).toLoadRect (h5.unread x5) = x5 :=
    vec_ext fun j l => whole2 h5 x5 inb_S512x128_S512x128_0_0 j l
  have hR := reads_unread a3 h3 a4 h4 a7 h7 a8 h8 a12 hI (X12 := h12.unread x12) (fun h r l => by rw [h12.read_unread]; exact hm h r l) hv
  have D := diagonal i hR hi hy0 hy1
  unfold runMid
  dsimp only
  refine ⟨outs a10 a11 (sweep c i h3 h4 a5 h5 a6 h6 h7 h8 a9 h9 a10 h10 a11 h11 h12 a13 h13 h14 _ _ hR hi hL D.1 D.2.1 D.2.2 ?_ ?_ rfl rfl rfl).1 _ _, rfl, fun h r l => ((sweep c i h3 h4 a5 h5 a6 h6 h7 h8 a9 h9 a10 h10 a11 h11 h12 a13 h13 h14 _ _ hR hi hL D.1 D.2.1 D.2.2 ?_ ?_ rfl rfl rfl).2 h r l).trans ?_⟩
  · exact trips1 i
  · exact trips2 i
  · exact trips1 i
  · exact trips2 i
  · rw [part_end]

set_option maxHeartbeats 400000 in
/-- The last point of a batch and pair of heads. -/
theorem close_value (hc0 : ¬ opens i) (hc1 : k0_cond2 i = 1#1) (hi : kj.val + (i 2).val = 3) (hI : Ins x3 x4 x5 x6 x7 x8 T kj)
    (hm : Means T x12) (hq : SumQ T (512 * (kj.val + 1)) x14) :
    let L := (runClose c i a3 h3 a4 h4 a5 h5 a6 h6 a7 h7 a8 h8 a9 h9 a10 h10 a11 h11 a12 h12 a13 h13 a14 h14 x3 x4 x5 x6 x7 x8 x9 x10 x11 x12 x14 hc0 hc1).1
    (OutK T kj L.2.1 ∧ OutV T kj L.2.2.1) ∧ SumQ T (512 * kj.val) L.1 := by
  have hL : Sums a14 T kj (512 * kj.val) (a14.view.writes (Elt Ideal) (h14.unread x14) []) := by
    intro h r x; rw [View.writes_nil, h14.read_unread, hq, part_start]
  have hy0 : ∀ a x, View.readAt (Elt Ideal) a14.view (Rect.unit (s := S2048x256) (k0_off2 i) S512x128.size (k0_off2_inb i)).toLoadRect (h14.unread x14) (ix2 a x)
      = (part T kj (512 * kj.val) 0 (row kj a) x : EReal) := fun a x =>
    (rd2 a14.view _ (k0_off2_inb i) (k0_off2_eq i) a x (row kj a) (col 0 x) (by simp; omega) (by simp)).trans (hL _ _ _)
  have hy1 : ∀ a x, View.readAt (Elt Ideal) a14.view (Rect.unit (s := S2048x256) (k0_off4 i) S512x128.size (k0_off4_inb i)).toLoadRect (h14.unread x14) (ix2 a x)
      = (part T kj (512 * kj.val) 1 (row kj a) x : EReal) := fun a x =>
    (rd2 a14.view _ (k0_off4_inb i) (k0_off4_eq i) a x (row kj a) (col 1 x) (by simp; omega) (by simp)).trans (hL _ _ _)
  have hv : View.readAt (Elt Ideal) a5.view (Rect.unit (s := S512x128) ![0, 0] S512x128.size inb_S512x128_S512x128_0_0).toLoadRect (h5.unread x5) = x5 :=
    vec_ext fun j l => whole2 h5 x5 inb_S512x128_S512x128_0_0 j l
  have hR := reads_unread a3 h3 a4 h4 a7 h7 a8 h8 a12 hI (X12 := h12.unread x12) (fun h r l => by rw [h12.read_unread]; exact hm h r l) hv
  have D := diagonal i hR hi hy0 hy1
  unfold runClose
  dsimp only
  refine ⟨outs a10 a11 (sweep c i h3 h4 a5 h5 a6 h6 h7 h8 a9 h9 a10 h10 a11 h11 h12 a13 h13 h14 _ _ hR hi hL D.1 D.2.1 D.2.2 ?_ ?_ rfl rfl rfl).1 _ _, fun h r l => ?_⟩
  · exact trips1 i
  · exact trips2 i
  refine (wr2 a9.view _ _ rfl _ _ r (col h l) r (col h l) (by simp) (by simp)).trans ?_
  rw [pay19_eq]
  refine (rd2 a14.view _ _ rfl r (col h l) r (col h l) (by simp) (by simp)).trans (((sweep c i h3 h4 a5 h5 a6 h6 h7 h8 a9 h9 a10 h10 a11 h11 h12 a13 h13 h14 _ _ hR hi hL D.1 D.2.1 D.2.2 ?_ ?_ rfl rfl rfl).2 h r l).trans ?_)
  · exact trips1 i
  · exact trips2 i
  · rw [part_end]

/-- The opening branch's stores: the rows' means, -/
theorem means_stores (hI : Ins x3 x4 x5 x6 x7 x8 T kj) (f : BufTy.Contents (Elt Ideal) a12.view.ty) (h : Fin 2) (r : Fin 2048) (l : Fin 128) :
    a12.view.read (Elt Ideal) (a12.view.writes (Elt Ideal) f
      [⟨Rect.unit (s := S2x2048x128) ![1, 0, 0] S1x2048x128.size inb_S2x2048x128_S1x2048x128_1_0_0, k0_pay35 (F := Ideal)
          (View.readAt (Elt Ideal) a7.view (Rect.unit (s := S2048x128) ![0, 0] S2048x128.size inb_S2048x128_S2048x128_0_0).toLoadRect (h7.unread x7))
          (View.readAt (Elt Ideal) a6.view (Rect.unit (s := S2048x128) ![0, 0] S2048x128.size inb_S2048x128_S2048x128_0_0).toLoadRect (h6.unread x6))⟩,
        ⟨Rect.unit (s := S2x2048x128) ![0, 0, 0] S1x2048x128.size inb_S2x2048x128_S1x2048x128_0_0_0, k0_pay34 (F := Ideal)
          (View.readAt (Elt Ideal) a7.view (Rect.unit (s := S2048x128) ![0, 0] S2048x128.size inb_S2048x128_S2048x128_0_0).toLoadRect (h7.unread x7))
          (View.readAt (Elt Ideal) a6.view (Rect.unit (s := S2048x128) ![0, 0] S2048x128.size inb_S2048x128_S2048x128_0_0).toLoadRect (h6.unread x6))⟩])
      (ix3 h r l) = (T.M h r : EReal) := by
  have hg : ∀ r x, View.readAt (Elt Ideal) a7.view (Rect.unit (s := S2048x128) ![0, 0] S2048x128.size inb_S2048x128_S2048x128_0_0).toLoadRect (h7.unread x7) (ix2 r x) = (T.G r x : EReal) :=
    fun r x => (whole2 h7 x7 inb_S2048x128_S2048x128_0_0 r x).trans (hI.g r x)
  have ho : ∀ r x, View.readAt (Elt Ideal) a6.view (Rect.unit (s := S2048x128) ![0, 0] S2048x128.size inb_S2048x128_S2048x128_0_0).toLoadRect (h6.unread x6) (ix2 r x) = (T.O r x : EReal) :=
    fun r x => (whole2 h6 x6 inb_S2048x128_S2048x128_0_0 r x).trans (hI.o r x)
  rcases (by fin_cases h <;> simp : h = 0 ∨ h = 1) with rfl | rfl
  · refine (View.read_writes_cons_unit_of_not_mem (s := S2x2048x128) (off' := ![1, 0, 0]) a12.view f _ _ _ (ix3 0 r l) rfl (0 : Fin 3)
      (Or.inl (by show 0 < 1; omega))).trans ?_
    refine (View.read_writes_cons_unit_of_mem (s := S2x2048x128) (off' := ![0, 0, 0]) a12.view f _ _ _ (ix3 0 r l) (ix3 0 r l) rfl
      (fun a => by fin_cases a <;> simp <;> rfl)).trans ?_
    exact pay34_at hg ho r l
  · refine (View.read_writes_cons_unit_of_mem (s := S2x2048x128) (off' := ![1, 0, 0]) a12.view f _ _ _ (ix3 1 r l) (ix3 0 r l) rfl
      (fun a => by fin_cases a <;> simp <;> rfl)).trans ?_
    exact pay35_at hg ho r l

set_option maxHeartbeats 400000 in
/-- The first point of a batch and pair of heads. -/
theorem open_value (hc0 : opens i) (hc1 : ¬ k0_cond2 i = 1#1) (hi : kj.val + (i 2).val = 3) (hk : kj.val = 3) (hI : Ins x3 x4 x5 x6 x7 x8 T kj) :
    let L := (runOpen c i a3 h3 a4 h4 a5 h5 a6 h6 a7 h7 a8 h8 a9 h9 a10 h10 a11 h11 a12 h12 a13 h13 a14 h14 x3 x4 x5 x6 x7 x8 x9 x10 x11 x12 x14 hc0 hc1).1
    (OutK T kj L.2.1 ∧ OutV T kj L.2.2.1) ∧ Means T L.2.2.2.1 ∧ SumQ T (512 * kj.val) L.2.2.2.2 := by
  have hL : Sums a14 T kj (512 * kj.val) (a14.view.writes (Elt Ideal) a14.view.junk
      [⟨Rect.unit (s := S2048x256) ![0, 0] S2048x256.size inb_S2048x256_S2048x256_0_0, k0_pay32 (F := Ideal)⟩]) := by
    intro h r x
    refine (wr2 a14.view _ _ rfl _ _ r (col h x) r (col h x) (by simp) (by simp)).trans ?_
    rw [pay32_at, part_start, hk, fromOn_none]
  have hy0 : ∀ a x, View.readAt (Elt Ideal) a14.view (Rect.unit (s := S2048x256) (k0_off2 i) S512x128.size (k0_off2_inb i)).toLoadRect
      (a14.view.writes (Elt Ideal) a14.view.junk
        [⟨Rect.unit (s := S2048x256) ![0, 0] S2048x256.size inb_S2048x256_S2048x256_0_0, k0_pay32 (F := Ideal)⟩]) (ix2 a x)
      = (part T kj (512 * kj.val) 0 (row kj a) x : EReal) := fun a x =>
    (rd2 a14.view _ (k0_off2_inb i) (k0_off2_eq i) a x (row kj a) (col 0 x) (by simp; omega) (by simp)).trans (hL _ _ _)
  have hy1 : ∀ w a x, View.readAt (Elt Ideal) a14.view (Rect.unit (s := S2048x256) (k0_off4 i) S512x128.size (k0_off4_inb i)).toLoadRect
      (a14.view.writes (Elt Ideal) a14.view.junk (⟨Rect.unit (s := S2048x256) (k0_off2 i) ![512, 128] (k0_off2_inb i), w⟩ ::
        [⟨Rect.unit (s := S2048x256) ![0, 0] S2048x256.size inb_S2048x256_S2048x256_0_0, k0_pay32 (F := Ideal)⟩])) (ix2 a x)
      = (part T kj (512 * kj.val) 1 (row kj a) x : EReal) := fun w a x =>
    (rd2 a14.view _ (k0_off4_inb i) (k0_off4_eq i) a x (row kj a) (col 1 x) (by simp; omega) (by simp)).trans
      ((View.read_writes_cons_unit_of_not_mem (s := S2048x256) a14.view _ _ _ _ (ix2 (row kj a) (col 1 x)) (k0_off2_eq i) (1 : Fin 2)
        (Or.inr (by show 0 + 128 ≤ 128 * 1 + x.val; omega))).trans (hL _ _ _))
  have hv : View.readAt (Elt Ideal) a5.view (Rect.unit (s := S512x128) ![0, 0] S512x128.size inb_S512x128_S512x128_0_0).toLoadRect (h5.unread x5) = x5 :=
    vec_ext fun j l => whole2 h5 x5 inb_S512x128_S512x128_0_0 j l
  have hM := means_stores a6 h6 a7 h7 a12 hI a12.view.junk
  have hR := reads_unread a3 h3 a4 h4 a7 h7 a8 h8 a12 hI hM hv
  have hy2 : ∀ a x, runOpen.sl.v84 c i a3 h3 a4 h4 a5 h5 a6 h6 a7 h7 a8 h8 a12 a14 x3 x4 x5 x6 x7 x8 (ix2 a x)
      = (part T kj (512 * kj.val) 1 (row kj a) x : EReal) := hy1 _
  have D := diagonal i hR hi hy0 hy2
  unfold runOpen
  dsimp only
  refine ⟨outs a10 a11 (sweep c i h3 h4 a5 h5 a6 h6 h7 h8 a9 h9 a10 h10 a11 h11 h12 a13 h13 h14 _ _ hR hi hL D.1 D.2.1 D.2.2 ?_ ?_ rfl rfl rfl).1 _ _, hM, fun h r l => ((sweep c i h3 h4 a5 h5 a6 h6 h7 h8 a9 h9 a10 h10 a11 h11 h12 a13 h13 h14 _ _ hR hi hL D.1 D.2.1 D.2.2 ?_ ?_ rfl rfl rfl).2 h r l).trans ?_⟩
  · exact trips1 i
  · exact trips2 i
  · exact trips1 i
  · exact trips2 i
  · rw [part_end]

end Cert.KernelIdeal.Sweep
-- ==== Proof.HostValue.lean ====
/- What the host lines before the kernel make of the arguments: the output of the attention and the logarithm of each query's
   mass, index by index. -/
module

public import proofs.«01_k».proof.Proof.Gen.KernelIdeal.Frame
public import proofs.«01_k».proof.Proof.Heads
public import Idealize.ShloMosaic.Lib.Claim
public import Idealize.ShloMosaic.Lib.StableHlo.Run

@[expose] public section

set_option maxRecDepth 16384

noncomputable section

namespace Cert.HostValue

open Cert.KernelIdeal Cert.KernelIdeal.Gen Cert.Attn
open Idealize.ShloMosaic Idealize.ShloMosaic.TcCoe Idealize.ShloMosaic.StableHlo

/-- The masked logits of every head. -/
def scores (x0 x1 : S8192x1024.Idx → EReal) : FVec Ideal S4x8x2048x2048 .f32 :=
  select (broadcastInDim S4x8x2048x2048 ![2, 3] bcast_S2048x2048_S4x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (Host.dotGeneral (F := Ideal) (φ₁ := .bf16) (φ₂ := .f32) dot_S4x8x2048x128_S4x8x2048x128_S4x8x2048x2048_3_3_2_2_01_01 none
      (transpose S4x8x2048x128 [0, 2, 1, 3] (shapeCast S4x2048x8x128 x0 shapeCasts_S8192x1024_S4x2048x8x128) transposes_S4x2048x8x128_S4x8x2048x128_0_2_1_3)
      (transpose S4x8x2048x128 [0, 2, 1, 3] (shapeCast S4x2048x8x128 x1 shapeCasts_S8192x1024_S4x2048x8x128) transposes_S4x2048x8x128_S4x8x2048x128_0_2_1_3))
    (broadcastInDim S4x8x2048x2048 ![] bcast_S_S4x8x2048x2048 (constant S_ .f32 0xFF800000#32))

/-- The greatest logit of every query, as a column. -/
def tops (s : FVec Ideal S4x8x2048x2048 .f32) : FVec Ideal S4x8x2048x1 .f32 :=
  broadcastInDim S4x8x2048x1 ![0, 1, 2] bcast_S4x8x2048_S4x8x2048x1_0_1_2
    (Host.reduce (FloatOps.maximumf (F := Ideal) (φ := .f32)) s (constant S_ .f32 0xFF800000#32) reducesTo_S4x8x2048x2048_S4x8x2048_d3 h_S_)

/-- The exponentials of the logits less the greatest. -/
def exps (s : FVec Ideal S4x8x2048x2048 .f32) (t : FVec Ideal S4x8x2048x1 .f32) : FVec Ideal S4x8x2048x2048 .f32 :=
  Host.exp (subf s (broadcastInDim S4x8x2048x2048 ![0, 1, 2, 3] bcast_S4x8x2048x1_S4x8x2048x2048_0_1_2_3 t))

/-- Their sums, as a column. -/
def sums (e : FVec Ideal S4x8x2048x2048 .f32) : FVec Ideal S4x8x2048x1 .f32 :=
  broadcastInDim S4x8x2048x1 ![0, 1, 2] bcast_S4x8x2048_S4x8x2048x1_0_1_2
    (Host.reduceAdd e (constant S_ .f32 0x00000000#32) reducesTo_S4x8x2048x2048_S4x8x2048_d3 h_S_)

/-- The output of every head, in the layout of the values. -/
def outs (e : FVec Ideal S4x8x2048x2048 .f32) (l : FVec Ideal S4x8x2048x1 .f32) (x2 : S8192x512.Idx → EReal) : FVec Ideal S8192x512 .f32 :=
  shapeCast S8192x512 (transpose S4x2048x8x64 [0, 2, 1, 3]
    (Host.dotGeneral (F := Ideal) (φ₁ := .f32) (φ₂ := .f32) dot_S4x8x2048x2048_S4x8x2048x64_S4x8x2048x64_3_2_2_3_01_01 none
      (Host.divf e (broadcastInDim S4x8x2048x2048 ![0, 1, 2, 3] bcast_S4x8x2048x1_S4x8x2048x2048_0_1_2_3 l))
      (extf (F := Ideal) (φ := .bf16) .f32 (transpose S4x8x2048x64 [0, 2, 1, 3] (shapeCast S4x2048x8x64 x2 shapeCasts_S8192x512_S4x2048x8x64) transposes_S4x2048x8x64_S4x8x2048x64_0_2_1_3) bitsLt_bf16_f32))
    transposes_S4x8x2048x64_S4x2048x8x64_0_2_1_3) shapeCasts_S4x2048x8x64_S8192x512

/-- The logarithm of every query's mass, repeated over 128 lanes a head. -/
def logs (t l : FVec Ideal S4x8x2048x1 .f32) : FVec Ideal S8192x1024 .f32 :=
  shapeCast S8192x1024 (transpose S4x2048x8x128 [0, 2, 1, 3]
    (broadcastInDim S4x8x2048x128 ![0, 1, 2, 3] bcast_S4x8x2048x1_S4x8x2048x128_0_1_2_3 (addf t (Host.log l)))
    transposes_S4x8x2048x128_S4x2048x8x128_0_2_1_3) shapeCasts_S4x2048x8x128_S8192x1024

variable (m : (ℓ : Loc nD τ sig) → Buf (Elt Ideal) ℓ) (c : Dev nD)

set_option maxHeartbeats 4000000 in
theorem V_v12 : V m c main_v12 = scores (m ((c : Thread nD τ).loc main_arg0)) (m ((c : Thread nD τ).loc main_arg1)) := by
  unfold_abbrev_sides
  simp only [hostOps0, hostOps0_1, hostOps0_2, List.flatten_cons, List.flatten_nil, List.cons_append, List.nil_append, List.append_nil, TRef.nullary, TRef.ternary, TRef.unary, TRef.toBuf, TRef.ofBuf, cast_eq]
  after_results_simp <;> rfl

set_option maxHeartbeats 4000000 in
theorem V_v27 : V m c main_v27
    = outs (exps (V m c main_v12) (tops (V m c main_v12))) (sums (exps (V m c main_v12) (tops (V m c main_v12)))) (m ((c : Thread nD τ).loc main_arg2)) := by
  rw [V_v12]
  unfold_abbrev_sides
  simp only [hostOps0, hostOps0_1, hostOps0_2, List.flatten_cons, List.flatten_nil, List.cons_append, List.nil_append, List.append_nil, TRef.nullary, TRef.ternary, TRef.unary, TRef.toBuf, TRef.ofBuf, cast_eq]
  after_results_simp <;> rfl

set_option maxHeartbeats 4000000 in
theorem V_v32 : V m c main_v32
    = logs (tops (V m c main_v12)) (sums (exps (V m c main_v12) (tops (V m c main_v12)))) := by
  rw [V_v12]
  unfold_abbrev_sides
  simp only [hostOps0, hostOps0_1, hostOps0_2, List.flatten_cons, List.flatten_nil, List.cons_append, List.nil_append, List.append_nil, TRef.nullary, TRef.ternary, TRef.unary, TRef.toBuf, TRef.ofBuf, cast_eq]
  after_results_simp <;> rfl

/-! ## The stages at an index -/

section
variable {x0 x1 : S8192x1024.Idx → EReal} {x2 : S8192x512.Idx → EReal} (b : Fin 4) (h : Fin 8)

/-- The masked logits. -/
theorem scores_at (h0 : AllReal x0) (h1 : AllReal x1) (r j : Fin 2048) :
    scores x0 x1 (ix4 b h r j) = if j ≤ r then (logit (wide x0 b h) (wide x1 b h) r j : EReal) else ⊥ := by
  pointwise [scores]
  rw [select_sle _ _ (by omega) (by omega)]
  simp only [show constant (F := Ideal) S_ FTy.f32 0xFF800000#32 ix0 = ⊥ from neg_inf, Fin.val_fin_le]
  congr 1
  simp only [logit, coe_sum, EReal.coe_mul]
  refine Finset.sum_congr rfl fun l _ => ?_
  exact congrArg₂ (· * ·) (h0.coe _) (h1.coe _)

variable (s : FVec Ideal S4x8x2048x2048 .f32)

theorem tops_at (r : Fin 2048) (a : Fin 1) : tops s (ix4 b h r a) = Finset.univ.fold max ⊥ fun j : Fin 2048 => s (ix4 b h r j) := by
  unfold tops
  generalize hg : Host.reduce (FloatOps.maximumf (F := Ideal) (φ := .f32)) s (constant S_ .f32 0xFF800000#32) reducesTo_S4x8x2048x2048_S4x8x2048_d3 h_S_ = g
  have e : broadcastInDim S4x8x2048x1 ![0, 1, 2] bcast_S4x8x2048_S4x8x2048x1_0_1_2 g (ix4 b h r a) = g (ix3 b h r) := by
    pointwise []
  rw [e, ← hg, reduce_last]
  rw [show constant (F := Ideal) S_ FTy.f32 0xFF800000#32 (Shape.Idx.first h_S_) = ⊥ from neg_inf]

theorem exps_at (t : FVec Ideal S4x8x2048x1 .f32) (r j : Fin 2048) :
    exps s t (ix4 b h r j) = Ideal.exp (s (ix4 b h r j) - t (ix4 b h r 0)) := by
  pointwise [exps]

theorem sums_at (r : Fin 2048) (a : Fin 1) : sums s (ix4 b h r a) = 0 + ∑ j, s (ix4 b h r j) := by
  pointwise [sums]

theorem outs_at (l : FVec Ideal S4x8x2048x1 .f32) (r : Fin 2048) (e : Fin 64) :
    outs s l x2 (ix2 ⟨b.val * 2048 + r.val, by omega⟩ ⟨h.val * 64 + e.val, by omega⟩)
      = ∑ j : Fin 2048, Ideal.div (s (ix4 b h r j)) (l (ix4 b h r 0))
          * x2 (ix2 ⟨b.val * 2048 + j.val, by omega⟩ ⟨h.val * 64 + e.val, by omega⟩) := by
  pointwise [outs]

theorem logs_at (t l : FVec Ideal S4x8x2048x1 .f32) (r : Fin 2048) (e : Fin 128) :
    logs t l (ix2 ⟨b.val * 2048 + r.val, by omega⟩ ⟨h.val * 128 + e.val, by omega⟩)
      = t (ix4 b h r 0) + Ideal.log (l (ix4 b h r 0)) := by
  pointwise [logs]

/-- The shifted exponentials and their sum. -/
theorem shifted (h0 : AllReal x0) (h1 : AllReal x1) (r : Fin 2048) :
    ∃ M : ℝ, tops (scores x0 x1) (ix4 b h r 0) = (M : EReal)
      ∧ (∀ j, exps (scores x0 x1) (tops (scores x0 x1)) (ix4 b h r j)
        = ((if j ≤ r then Real.exp (logit (wide x0 b h) (wide x1 b h) r j - M) else 0 : ℝ) : EReal))
      ∧ sums (exps (scores x0 x1) (tops (scores x0 x1))) (ix4 b h r 0)
        = ((mass (wide x0 b h) (wide x1 b h) r * Real.exp (-M) : ℝ) : EReal) := by
  obtain ⟨M, hM⟩ := fold_max_coe (fun j => scores x0 x1 (ix4 b h r j))
    (fun j => by rw [scores_at b h h0 h1]; split <;> simp) r (by rw [scores_at b h h0 h1, if_pos le_rfl]; simp)
  have key : ∀ j, exps (scores x0 x1) (tops (scores x0 x1)) (ix4 b h r j)
        = ((if j ≤ r then Real.exp (logit (wide x0 b h) (wide x1 b h) r j - M) else 0 : ℝ) : EReal) := by
    intro j
    rw [exps_at, tops_at, hM, scores_at b h h0 h1]
    by_cases hjr : j ≤ r
    · rw [if_pos hjr, if_pos hjr, ← EReal.coe_sub, exp_coe]
    · rw [if_neg hjr, if_neg hjr, EReal.bot_sub, exp_bot, EReal.coe_zero]
  refine ⟨M, by rw [tops_at, hM], key, ?_⟩
  rw [sums_at, zero_add, Finset.sum_congr rfl fun j _ => key j, ← coe_sum, mass_shift]

end

section
variable {x0 x1 : S8192x1024.Idx → EReal} {x2 : S8192x512.Idx → EReal} (b : Fin 4) (h : Fin 8) (r : Fin 2048)

theorem outs_eq (h0 : AllReal x0) (h1 : AllReal x1) (h2 : AllReal x2) (l : Fin 64) :
    outs (exps (scores x0 x1) (tops (scores x0 x1))) (sums (exps (scores x0 x1) (tops (scores x0 x1)))) x2
        (ix2 ⟨b.val * 2048 + r.val, by omega⟩ ⟨h.val * 64 + l.val, by omega⟩)
      = (out (wide x0 b h) (wide x1 b h) (slim x2 b h) r l : EReal) := by
  obtain ⟨M, -, he, hs⟩ := shifted b h h0 h1 r
  rw [outs_at]
  unfold out
  rw [coe_sum]
  refine Finset.sum_congr rfl fun j _ => ?_
  rw [he, hs, div_coe _ _ (mul_pos (mass_pos _ _ _) (Real.exp_pos _)).ne', weight_shift, EReal.coe_mul]
  exact congrArg _ (h2.coe _)

theorem logs_eq (h0 : AllReal x0) (h1 : AllReal x1) (l : Fin 128) :
    logs (tops (scores x0 x1)) (sums (exps (scores x0 x1) (tops (scores x0 x1))))
        (ix2 ⟨b.val * 2048 + r.val, by omega⟩ ⟨h.val * 128 + l.val, by omega⟩)
      = (Real.log (mass (wide x0 b h) (wide x1 b h) r) : EReal) := by
  obtain ⟨M, ht, -, hs⟩ := shifted b h h0 h1 r
  have e : ∀ Z : ℝ, 0 < Z → (M : EReal) + Ideal.log ((Z * Real.exp (-M) : ℝ) : EReal) = (Real.log Z : EReal) := by
    intro Z hZ
    rw [log_coe _ (mul_pos hZ (Real.exp_pos _)), Real.log_mul hZ.ne' (Real.exp_pos _).ne', Real.log_exp, ← EReal.coe_add,
      show M + (Real.log Z + -M) = Real.log Z by ring]
  rw [logs_at, ht, hs]
  exact e _ (mass_pos _ _ _)

/-- The output of the attention, at row `r` of sequence `b` and lane `l` of head `h`. -/
theorem v27 (h0 : AllReal (m ((c : Thread nD τ).loc main_arg0))) (h1 : AllReal (m ((c : Thread nD τ).loc main_arg1)))
    (h2 : AllReal (m ((c : Thread nD τ).loc main_arg2))) (l : Fin 64) :
    V m c main_v27 (ix2 ⟨b.val * 2048 + r.val, by omega⟩ ⟨h.val * 64 + l.val, by omega⟩)
      = (out (wide (m ((c : Thread nD τ).loc main_arg0)) b h) (wide (m ((c : Thread nD τ).loc main_arg1)) b h)
          (slim (m ((c : Thread nD τ).loc main_arg2)) b h) r l : EReal) := by
  rw [V_v27, V_v12]
  exact outs_eq b h r h0 h1 h2 l

/-- The logarithm of the mass of query `r` of sequence `b` and head `h`, at each of its 128 lanes. -/
theorem v32 (h0 : AllReal (m ((c : Thread nD τ).loc main_arg0))) (h1 : AllReal (m ((c : Thread nD τ).loc main_arg1))) (l : Fin 128) :
    V m c main_v32 (ix2 ⟨b.val * 2048 + r.val, by omega⟩ ⟨h.val * 128 + l.val, by omega⟩)
      = (Real.log (mass (wide (m ((c : Thread nD τ).loc main_arg0)) b h) (wide (m ((c : Thread nD τ).loc main_arg1)) b h) r) : EReal) := by
  rw [V_v32, V_v12]
  exact logs_eq b h r h0 h1 l

end

end Cert.HostValue

end
-- ==== Proof.Points.lean ====
/- What the launch holds at every grid point: the blocks the body is handed, and that the body's runs keep the rows' means and the
   queries' gradient on the way and give the gradients of the blocks. -/
module

public import proofs.«01_k».proof.Proof.Pair
public import proofs.«01_k».proof.Proof.BodyValue
public import proofs.«01_k».proof.Proof.HostValue
public import proofs.«01_k».proof.Proof.KernelIdealFrame
public import Idealize.ShloMosaic.Lib.Pipeline.ValueKit

@[expose] public section

set_option maxRecDepth 16384

noncomputable section

namespace Cert.KernelIdeal.Sweep

open Cert.KernelIdeal Cert.KernelIdeal.Gen Cert.KernelIdeal.Tile Cert.KernelIdeal.Hand Cert.Attn
open Idealize.ShloMosaic Idealize.ShloMosaic.TcCoe

/-- The batch, -/
def bAt (n : ℕ) : Fin 4 := ⟨n / 16 % 4, by omega⟩
/-- the pair of heads, -/
def pAt (n : ℕ) : Fin 4 := ⟨n / 4 % 4, by omega⟩
/-- and the block of keys of a point. -/
def kAt (n : ℕ) : Fin 4 := ⟨3 - n % 4, by omega⟩

/-- The windows that follow the batch. -/
theorem idx_rows : ∀ t : Fin cfg0.N, win0_0.index t = ![t.val / 16 % 4, t.val / 4 % 4] ∧ win0_3.index t = ![t.val / 16 % 4, t.val / 4 % 4]
    ∧ win0_4.index t = ![t.val / 16 % 4, t.val / 4 % 4] ∧ win0_5.index t = ![t.val / 16 % 4, t.val / 4 % 4]
    ∧ win0_6.index t = ![t.val / 16 % 4, t.val / 4 % 4] := by decide +kernel

/-- The windows that follow the block of keys. -/
theorem idx_keys : ∀ t : Fin cfg0.N, win0_1.index t = ![t.val / 16 % 4 * 4 + (3 - t.val % 4), t.val / 4 % 4]
    ∧ win0_2.index t = ![t.val / 16 % 4 * 4 + (3 - t.val % 4), t.val / 4 % 4]
    ∧ win0_7.index t = ![t.val / 16 % 4 * 4 + (3 - t.val % 4), t.val / 4 % 4]
    ∧ win0_8.index t = ![t.val / 16 % 4 * 4 + (3 - t.val % 4), t.val / 4 % 4] := by decide +kernel

variable (m : (ℓ : Loc nD τ sig) → Buf (Elt Ideal) ℓ) (c : Dev nD)

/-- The tables of a point. -/
abbrev tabAt (n : ℕ) : Tab := tab (m ((c : Thread nD τ).loc main_arg0)) (m ((c : Thread nD τ).loc main_arg1)) (m ((c : Thread nD τ).loc main_arg2))
  (m ((c : Thread nD τ).loc main_arg3)) (bAt n) (pAt n)

section
variable (t : Fin cfg0.N)

theorem blk0 (h : Fin 2) (r : Fin 2048) (l : Fin 128) : iblk m c 0 t (ix2 r (col h l))
    = m ((c : Thread nD τ).loc main_arg0) (ix2 ⟨(bAt t.val).val * 2048 + r.val, by omega⟩ ⟨(head (pAt t.val) h).val * 128 + l.val, by omega⟩) := by
  have e : V m c (Pipeline.arrRef spec0 0) = m ((c : Thread nD τ).loc main_arg0) := V_main_arg0 m c
  blk_ext [iblk, e, (idx_rows t).1, bAt, pAt, head, col]

theorem blk1 (h : Fin 2) (j : Fin 512) (l : Fin 128) : iblk m c 1 t (ix2 j (col h l))
    = m ((c : Thread nD τ).loc main_arg1) (ix2 ⟨(bAt t.val).val * 2048 + (row (kAt t.val) j).val, by omega⟩ ⟨(head (pAt t.val) h).val * 128 + l.val, by omega⟩) := by
  have e : V m c (Pipeline.arrRef spec0 1) = m ((c : Thread nD τ).loc main_arg1) := V_main_arg1 m c
  blk_ext [iblk, e, (idx_keys t).1, bAt, pAt, kAt, head, col, row]

theorem blk2 (j : Fin 512) (x : Fin 128) : iblk m c 2 t (ix2 j x)
    = m ((c : Thread nD τ).loc main_arg2) (ix2 ⟨(bAt t.val).val * 2048 + (row (kAt t.val) j).val, by omega⟩ ⟨(head (pAt t.val) (side x)).val * 64 + (lane x).val, by omega⟩) := by
  have e : V m c (Pipeline.arrRef spec0 2) = m ((c : Thread nD τ).loc main_arg2) := V_main_arg2 m c
  blk_ext [iblk, e, (idx_keys t).2.1, bAt, pAt, kAt, head, row, side, lane]

theorem blk3 (f : S8192x512.Idx → EReal) (r : Fin 2048) (x : Fin 128) : View.read (Elt Ideal) ((cfg0.win 3).blk t).view f (ix2 r x)
    = f (ix2 ⟨(bAt t.val).val * 2048 + r.val, by omega⟩ ⟨(head (pAt t.val) (side x)).val * 64 + (lane x).val, by omega⟩) := by
  blk_ext [(idx_rows t).2.1, bAt, pAt, head, side, lane]

theorem blk4 (r : Fin 2048) (x : Fin 128) : iblk m c 4 t (ix2 r x)
    = m ((c : Thread nD τ).loc main_arg3) (ix2 ⟨(bAt t.val).val * 2048 + r.val, by omega⟩ ⟨(head (pAt t.val) (side x)).val * 64 + (lane x).val, by omega⟩) := by
  have e : V m c (Pipeline.arrRef spec0 4) = m ((c : Thread nD τ).loc main_arg3) := V_main_arg3 m c
  blk_ext [iblk, e, (idx_rows t).2.2.1, bAt, pAt, head, side, lane]

theorem blk5 (f : S8192x1024.Idx → EReal) (h : Fin 2) (r : Fin 2048) (l : Fin 128) : View.read (Elt Ideal) ((cfg0.win 5).blk t).view f (ix2 r (col h l))
    = f (ix2 ⟨(bAt t.val).val * 2048 + r.val, by omega⟩ ⟨(head (pAt t.val) h).val * 128 + l.val, by omega⟩) := by
  blk_ext [(idx_rows t).2.2.2.1, bAt, pAt, head, col]

/-- The arrays that the windows of the output and of the row sums' logarithms lie over. -/
theorem iblk3 : iblk m c 3 t = View.read (Elt Ideal) ((cfg0.win 3).blk t).view (V m c main_v27) := rfl
theorem iblk5 : iblk m c 5 t = View.read (Elt Ideal) ((cfg0.win 5).blk t).view (V m c main_v32) := rfl

end

/-- The arguments hold real numbers. -/
structure Fin4 : Prop where
  a0 : AllReal (m ((c : Thread nD τ).loc main_arg0))
  a1 : AllReal (m ((c : Thread nD τ).loc main_arg1))
  a2 : AllReal (m ((c : Thread nD τ).loc main_arg2))
  a3 : AllReal (m ((c : Thread nD τ).loc main_arg3))

variable {m c}

/-- The blocks of a point are those of its tables. -/
theorem ins_at (hf : Fin4 m c) (t : Fin cfg0.N) :
    Ins (iblk m c 0 t) (iblk m c 1 t) (iblk m c 2 t) (iblk m c 3 t) (iblk m c 4 t) (iblk m c 5 t) (tabAt m c t.val) (kAt t.val) where
  q h r l := (blk0 m c t h r l).trans (hf.a0.coe _)
  k h j l := (blk1 m c t h j l).trans (hf.a1.coe _)
  v j x := (blk2 m c t j x).trans (hf.a2.coe _)
  o r x := (congrFun (iblk3 m c t) _).trans <| (blk3 t _ r x).trans (HostValue.v27 m c _ _ _ hf.a0 hf.a1 hf.a2 _)
  g r x := (blk4 m c t r x).trans (hf.a3.coe _)
  s h r l := (congrFun (iblk5 m c t) _).trans <| (blk5 t _ h r l).trans (HostValue.v32 m c _ _ _ hf.a0 hf.a1 _)

theorem step_at (t : Fin cfg0.N) : (kAt t.val).val + (grid0.coords t 2).val = 3 := by
  rw [coords_step]; show 3 - t.val % 4 + t.val % 4 = 3; omega

variable (m)

/-- What is followed: the means and the partial gradient of the queries before a point that is not the first of its batch and pair; the
    gradients of the blocks after it. -/
def track : Track Ideal where
  inv c n x12 x14 := n % 4 ≠ 0 → Means (tabAt m c n) x12 ∧ SumQ (tabAt m c n) (512 * (4 - n % 4)) x14
  outQ c t X := SumQ (tabAt m c t.val) 0 X
  outK c t X := OutK (tabAt m c t.val) (kAt t.val) X
  outV c t X := OutV (tabAt m c t.val) (kAt t.val) X

variable {m}

theorem tabAt_succ (n : ℕ) (h : (n + 1) % 4 ≠ 0) : tabAt m c (n + 1) = tabAt m c n := by
  have e1 : bAt (n + 1) = bAt n := Fin.ext (by show (n + 1) / 16 % 4 = n / 16 % 4; omega)
  have e2 : pAt (n + 1) = pAt n := Fin.ext (by show (n + 1) / 4 % 4 = n / 4 % 4; omega)
  unfold tabAt; rw [e1, e2]

attribute [local irreducible] runOpen runMid runClose

section
variable (t : Fin cfg0.N) (x9 : Vec Ideal S2048x256 .bf16) (x10 : Vec Ideal S512x256 .bf16) (x11 : Vec Ideal S512x128 .bf16)
  {x12 : Vec Ideal S2x2048x128 .f32} {x14 : Vec Ideal S2048x256 .f32}

/-- The first point of a batch and pair of heads, -/
theorem open_at (hf : Fin4 m c) (h0 : t.val % 4 = 0) : let L := (runAt m c t x9 x10 x11 x12 x14).1
    (OutK (tabAt m c t.val) (kAt t.val) L.2.1 ∧ OutV (tabAt m c t.val) (kAt t.val) L.2.2.1)
      ∧ Means (tabAt m c t.val) L.2.2.2.1 ∧ SumQ (tabAt m c t.val) (512 * (kAt t.val).val) L.2.2.2.2 := by
  unfold runAt
  rw [dif_pos h0]
  exact open_value (hi := step_at t) (hk := by show 3 - t.val % 4 = 3; omega) (hI := ins_at hf t) ..

/-- the last, -/
theorem close_at (hf : Fin4 m c) (h3 : t.val % 4 = 3) (hm : Means (tabAt m c t.val) x12) (hq : SumQ (tabAt m c t.val) (512 * ((kAt t.val).val + 1)) x14) :
    let L := (runAt m c t x9 x10 x11 x12 x14).1
    (OutK (tabAt m c t.val) (kAt t.val) L.2.1 ∧ OutV (tabAt m c t.val) (kAt t.val) L.2.2.1)
      ∧ SumQ (tabAt m c t.val) (512 * (kAt t.val).val) L.1 := by
  unfold runAt
  rw [dif_neg (by omega), dif_pos h3]
  exact close_value (hi := step_at t) (hI := ins_at hf t) (hm := hm) (hq := hq) ..

/-- and the others. -/
theorem mid_at (hf : Fin4 m c) (h0 : t.val % 4 ≠ 0) (h3 : t.val % 4 ≠ 3) (hm : Means (tabAt m c t.val) x12)
    (hq : SumQ (tabAt m c t.val) (512 * ((kAt t.val).val + 1)) x14) :
    let L := (runAt m c t x9 x10 x11 x12 x14).1
    (OutK (tabAt m c t.val) (kAt t.val) L.2.1 ∧ OutV (tabAt m c t.val) (kAt t.val) L.2.2.1)
      ∧ L.2.2.2.1 = x12 ∧ SumQ (tabAt m c t.val) (512 * (kAt t.val).val) L.2.2.2.2 := by
  unfold runAt
  rw [dif_neg h0, dif_neg h3]
  exact mid_value (hi := step_at t) (hI := ins_at hf t) (hm := hm) (hq := hq) ..

end

attribute [local irreducible] runAt

/-- The runs keep what is followed. -/
theorem track_kept (hf : ∀ c, Fin4 m c) : (track m).Kept m where
  start c x12 x14 h := absurd rfl h
  step c t x9 x10 x11 x12 x14 hinv := by
    by_cases h0 : t.val % 4 = 0
    · have key := open_at t x9 x10 x11 (hf := hf c) (x12 := x12) (x14 := x14) (h0 := h0)
      revert key
      generalize (runAt m c t x9 x10 x11 x12 x14).1 = L
      rintro ⟨⟨hK, hV⟩, hM, hS⟩
      refine ⟨fun h => ?_, fun h => absurd h (by omega), hK, hV⟩
      rw [tabAt_succ t.val h, show 512 * (4 - (t.val + 1) % 4) = 512 * (kAt t.val).val by show _ = 512 * (3 - t.val % 4); omega]
      exact ⟨hM, hS⟩
    · obtain ⟨hm, hq⟩ := hinv h0
      rw [show 512 * (4 - t.val % 4) = 512 * ((kAt t.val).val + 1) by show _ = 512 * (3 - t.val % 4 + 1); omega] at hq
      by_cases h3 : t.val % 4 = 3
      · have key := close_at t x9 x10 x11 (hf := hf c) (x12 := x12) (x14 := x14) (h3 := h3) (hm := hm) (hq := hq)
        revert key
        generalize (runAt m c t x9 x10 x11 x12 x14).1 = L
        rintro ⟨⟨hK, hV⟩, hS⟩
        rw [show 512 * (kAt t.val).val = 0 by show 512 * (3 - t.val % 4) = 0; omega] at hS
        exact ⟨fun h => absurd (by omega) h, fun _ => hS, hK, hV⟩
      · have key := mid_at t x9 x10 x11 (hf := hf c) (x12 := x12) (x14 := x14) (h0 := h0) (h3 := h3) (hm := hm) (hq := hq)
        revert key
        generalize (runAt m c t x9 x10 x11 x12 x14).1 = L
        rintro ⟨⟨hK, hV⟩, hM, hS⟩
        refine ⟨fun h => ?_, fun h => absurd h h3, hK, hV⟩
        rw [tabAt_succ t.val h, show 512 * (4 - (t.val + 1) % 4) = 512 * (kAt t.val).val by show _ = 512 * (3 - t.val % 4); omega]
        exact ⟨hM.symm ▸ hm, hS⟩

end Cert.KernelIdeal.Sweep

end
-- ==== Proof.Arrays.lean ====
/- The kernel's three arrays after the run are the attention's gradients. -/
module

public import proofs.«01_k».proof.Proof.Points
public import Idealize.ShloMosaic.Lib.Pipeline.ArrRel

@[expose] public section

set_option maxRecDepth 16384

noncomputable section

namespace Cert.KernelIdeal.Sweep

open Cert.KernelIdeal Cert.KernelIdeal.Gen Cert.KernelIdeal.Tile Cert.KernelIdeal.Hand Cert.Attn
open Idealize.ShloMosaic Idealize.ShloMosaic.TcCoe Idealize.ShloMosaic.Pipeline

theorem covers6 : (cfg0.win 6).Covers := by decide +kernel
theorem covers7 : (cfg0.win 7).Covers := by decide +kernel
theorem covers8 : (cfg0.win 8).Covers := by decide +kernel

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)

section
variable (t : Fin cfg0.N)

/-- Where a block's element lies in its array. -/
theorem emb6 (y : (⟨2, ![2048, 256]⟩ : Shape).Idx) : ((((cfg0.win 6).blk t).view.emb y) 0 : Fin 8192).val = (bAt t.val).val * 2048 + (y 0).val
    ∧ ((((cfg0.win 6).blk t).view.emb y) 1 : Fin 1024).val = (pAt t.val).val * 256 + (y 1).val := by
  constructor <;> blk_simp [(idx_rows t).2.2.2.2] <;> rfl

theorem emb7 (y : (⟨2, ![512, 256]⟩ : Shape).Idx) : ((((cfg0.win 7).blk t).view.emb y) 0 : Fin 8192).val = ((bAt t.val).val * 4 + (kAt t.val).val) * 512 + (y 0).val
    ∧ ((((cfg0.win 7).blk t).view.emb y) 1 : Fin 1024).val = (pAt t.val).val * 256 + (y 1).val := by
  constructor <;> blk_simp [(idx_keys t).2.2.1] <;> rfl

theorem emb8 (y : (⟨2, ![512, 128]⟩ : Shape).Idx) : ((((cfg0.win 8).blk t).view.emb y) 0 : Fin 8192).val = ((bAt t.val).val * 4 + (kAt t.val).val) * 512 + (y 0).val
    ∧ ((((cfg0.win 8).blk t).view.emb y) 1 : Fin 512).val = (pAt t.val).val * 128 + (y 1).val := by
  constructor <;> blk_simp [(idx_keys t).2.2.2] <;> rfl

variable {m c t}

/-- A block of the queries' gradient is the array's there, -/
theorem blockQ {X : Vec Ideal S2048x256 .bf16} (hX : SumQ (tabAt m c t.val) 0 X) (y : (⟨2, ![2048, 256]⟩ : Shape).Idx) :
    X y = allDq (a0 m c) (a1 m c) (a2 m c) (a3 m c) (((cfg0.win 6).blk t).view.emb y) := by
  have hy : y = ix2 (y 0) (col ⟨(y 1).val / 128, by have := (y 1).isLt; change (y 1).val < 256 at this; omega⟩ ⟨(y 1).val % 128, by omega⟩) :=
    funext fun a => by
      fin_cases a
      · rfl
      · exact Fin.ext (by show (y 1).val = 128 * ((y 1).val / 128) + (y 1).val % 128; omega)
  obtain ⟨e0, e1⟩ := emb6 t y
  refine (congrArg X hy).trans ((hX _ _ _).trans ((congrArg Real.toEReal (tab_dq _ _ _ _ _ _ _ _ _)).trans ?_))
  refine (allDq_at _ _ _ _ _ _ _ _ e0 (e1.trans ?_)).symm
  show (pAt t.val).val * 256 + (y 1).val = (2 * (pAt t.val).val + (y 1).val / 128) * 128 + (y 1).val % 128
  omega

/-- of the keys' -/
theorem blockK {X : Vec Ideal S512x256 .bf16} (hX : OutK (tabAt m c t.val) (kAt t.val) X) (y : (⟨2, ![512, 256]⟩ : Shape).Idx) :
    X y = allDk (a0 m c) (a1 m c) (a2 m c) (a3 m c) (((cfg0.win 7).blk t).view.emb y) := by
  have hy : y = ix2 (y 0) (col ⟨(y 1).val / 128, by have := (y 1).isLt; change (y 1).val < 256 at this; omega⟩ ⟨(y 1).val % 128, by omega⟩) :=
    funext fun a => by
      fin_cases a
      · rfl
      · exact Fin.ext (by show (y 1).val = 128 * ((y 1).val / 128) + (y 1).val % 128; omega)
  obtain ⟨e0, e1⟩ := emb7 t y
  refine (congrArg X hy).trans ((hX _ _ _).trans ((congrArg Real.toEReal (tab_dk _ _ _ _ _ _ _ _ _)).trans ?_))
  refine (allDk_at _ _ _ _ _ _ _ _ (e0.trans ?_) (e1.trans ?_)).symm
  · show ((bAt t.val).val * 4 + (kAt t.val).val) * 512 + (y 0).val = (bAt t.val).val * 2048 + (512 * (kAt t.val).val + (y 0).val)
    omega
  · show (pAt t.val).val * 256 + (y 1).val = (2 * (pAt t.val).val + (y 1).val / 128) * 128 + (y 1).val % 128
    omega

/-- and of the values'. -/
theorem blockV {X : Vec Ideal S512x128 .bf16} (hX : OutV (tabAt m c t.val) (kAt t.val) X) (y : (⟨2, ![512, 128]⟩ : Shape).Idx) :
    X y = allDv (a0 m c) (a1 m c) (a3 m c) (((cfg0.win 8).blk t).view.emb y) := by
  have hy : y = ix2 (y 0) (y 1) := funext fun a => by fin_cases a <;> rfl
  obtain ⟨e0, e1⟩ := emb8 t y
  refine (congrArg X hy).trans ((hX _ _).trans ((congrArg Real.toEReal (tab_dv _ _ _ _ _ _ _ _)).trans ?_))
  refine (allDv_at _ _ _ _ _ _ _ (e0.trans ?_) (e1.trans ?_)).symm
  · show ((bAt t.val).val * 4 + (kAt t.val).val) * 512 + (y 0).val = (bAt t.val).val * 2048 + (512 * (kAt t.val).val + (y 0).val)
    omega
  · show (pAt t.val).val * 128 + (y 1).val = (2 * (pAt t.val).val + (y 1).val / 64) * 64 + (y 1).val % 64
    omega

end

variable {m} (ρ : Dev nD → PrngReg)

/-- The kernel's run: the three arrays hold the gradients, the arguments what they held. -/
theorem run_value (hf : ∀ c, Fin4 m c) : θ_run defs (onTc (τ := τ) (main (F := Ideal))) ⟨m, fun _ => 0, ρ⟩ (fun r => ∀ c : Dev nD,
    (r.2.mem ((c : Thread nD τ).loc main_v33_0) = allDq (a0 m c) (a1 m c) (a2 m c) (a3 m c)
      ∧ r.2.mem ((c : Thread nD τ).loc main_v33_1) = allDk (a0 m c) (a1 m c) (a2 m c) (a3 m c)
      ∧ r.2.mem ((c : Thread nD τ).loc main_v33_2) = allDv (a0 m c) (a1 m c) (a3 m c))) := by
  refine (θ_run defs (onTc main) (s₀ m ρ)).mono (fun r h c => ?_) (run_main m ρ (track m) (track_kept hf))
  obtain ⟨after, hL, hA⟩ := h.1.exists_exact c
  have e6 := (hA 6).trans (Dat.arrAt_eq_of_covers _ 6 (allDq (a0 m c) (a1 m c) (a2 m c) (a3 m c)) covers6 fun t hfl y => by
    obtain ⟨Y, -, hX⟩ := hL 6 t hfl
    exact blockQ (hX ((flush0_6 t).mp hfl)) y)
  have e7 := (hA 7).trans (Dat.arrAt_eq_of_covers _ 7 (allDk (a0 m c) (a1 m c) (a2 m c) (a3 m c)) covers7 fun t hfl y => by
    obtain ⟨Y, -, hX⟩ := hL 7 t hfl
    exact blockK hX y)
  have e8 := (hA 8).trans (Dat.arrAt_eq_of_covers _ 8 (allDv (a0 m c) (a1 m c) (a3 m c)) covers8 fun t hfl y => by
    obtain ⟨Y, -, hX⟩ := hL 8 t hfl
    exact blockV hX y)
  exact ⟨e6, e7, e8⟩

end Cert.KernelIdeal.Sweep

end
-- ==== Proof.RefValue.lean ====
/- What the reference computes: the three gradients of each head, index by index. -/
module

public import proofs.«01_k».proof.Proof.Gen.ReferenceIdeal.Read
public import proofs.«01_k».proof.Proof.Heads

@[expose] public section

set_option maxRecDepth 16384

noncomputable section

namespace Cert.RefValue

open Cert.ReferenceIdeal Cert.ReferenceIdeal.Gen Cert.ReferenceIdeal.Read Cert.Attn
open Idealize.ShloMosaic

variable {x0 x1 : (⟨S8192x1024, .bf16⟩ : BufTy).Contents (Elt Ideal)} {x2 x3 : (⟨S8192x512, .bf16⟩ : BufTy).Contents (Elt Ideal)}

section
variable (b : Fin 4) (h : Fin 8)

theorem v5 (hx : AllReal x0) (r : Fin 2048) (l : Fin 128) :
    val_main_v5 (F := Ideal) x0 (ix4 b h r l) = (wide x0 b h r l : EReal) := by
  have : val_main_v5 (F := Ideal) x0 (ix4 b h r l) = x0 (ix2 ⟨b.val * 2048 + r.val, by omega⟩ ⟨h.val * 128 + l.val, by omega⟩) := by
    pointwise [val_main_v5, val_main_v4, val_main_v0]
  rw [this]; exact hx.coe _

theorem v7 (hx : AllReal x1) (r : Fin 2048) (l : Fin 128) :
    val_main_v7 (F := Ideal) x1 (ix4 b h r l) = (wide x1 b h r l : EReal) := v5 b h hx r l

theorem v9 (hx : AllReal x2) (r : Fin 2048) (l : Fin 64) :
    val_main_v9 (F := Ideal) x2 (ix4 b h r l) = (slim x2 b h r l : EReal) := by
  have : val_main_v9 (F := Ideal) x2 (ix4 b h r l) = x2 (ix2 ⟨b.val * 2048 + r.val, by omega⟩ ⟨h.val * 64 + l.val, by omega⟩) := by
    pointwise [val_main_v9, val_main_v8, val_main_v2]
  rw [this]; exact hx.coe _

theorem v50 (hx : AllReal x3) (r : Fin 2048) (l : Fin 64) :
    val_main_v50 (F := Ideal) x3 (ix4 b h r l) = (slim x3 b h r l : EReal) := v9 b h hx r l

/-- The logits. -/
theorem v10 (h0 : AllReal x0) (h1 : AllReal x1) (r j : Fin 2048) :
    val_main_v10 (F := Ideal) x0 x1 (ix4 b h r j) = (logit (wide x0 b h) (wide x1 b h) r j : EReal) := by
  pointwise [val_main_v10]
  simp only [v5 b h h0, v7 b h h1, logit, coe_sum, EReal.coe_mul]

/-- The logits, minus infinity at the keys after the query. -/
theorem v17 (h0 : AllReal x0) (h1 : AllReal x1) (r j : Fin 2048) :
    val_main_v17_0 (F := Ideal) x0 x1 (ix4 b h r j)
      = if j ≤ r then (logit (wide x0 b h) (wide x1 b h) r j : EReal) else ⊥ := by
  pointwise [val_main_v17_0, val_main_v17_1, val_main_v16, val_main_v15, val_main_v14, val_main_v13, val_main_v12, val_main_v11,
    val_main_call0_v2, val_main_call0_v0, val_main_cst]
  rw [select_sle _ _ (by omega) (by omega), v10 b h h0 h1]
  simp only [show constant (F := Ideal) S_ FTy.f32 0xFF800000#32 ix0 = ⊥ from neg_inf, id, Fin.val_fin_le]

/-- The greatest logit of a query is real. -/
theorem v18 (h0 : AllReal x0) (h1 : AllReal x1) (r : Fin 2048) :
    ∃ M : ℝ, val_main_v18 (F := Ideal) x0 x1 (ix3 b h r) = (M : EReal) := by
  obtain ⟨M, hM⟩ := fold_max_coe (fun j => val_main_v17_0 (F := Ideal) x0 x1 (ix4 b h r j))
    (fun j => by rw [v17 b h h0 h1]; split <;> simp) r (by rw [v17 b h h0 h1, if_pos le_rfl]; simp)
  refine ⟨M, ?_⟩
  rw [← hM, val_main_v18, reduce_last]
  rw [show val_main_cst_0 (F := Ideal) (Shape.Idx.first h_S_) = ⊥ from neg_inf]

theorem v38_read (r j : Fin 2048) :
    val_main_v38 (F := Ideal) x0 x1 (ix4 b h r j) = Ideal.exp (val_main_v17_0 (F := Ideal) x0 x1 (ix4 b h r j)
      - max ⊥ (val_main_v18 (F := Ideal) x0 x1 (ix3 b h r))) := by
  rw [val_main_v38_apply, val_main_v37_apply, val_main_v36_apply, val_main_v35_apply, val_main_v25_apply, val_main_v24_apply,
    val_main_cst_2_apply]
  rw [show idx_main_v35 (idx_main_v36 (ix4 b h r j)) = ix3 b h r from by
    funext a; match a with | ⟨0, _⟩ => rfl | ⟨1, _⟩ => rfl | ⟨2, _⟩ => rfl]
  rw [← neg_inf]
  rfl

/-- The exponentials of the shifted logits, their sums, and the weights. -/
theorem v38 (h0 : AllReal x0) (h1 : AllReal x1) (r : Fin 2048) :
    ∃ M : ℝ, (∀ j, val_main_v38 (F := Ideal) x0 x1 (ix4 b h r j)
        = ((if j ≤ r then Real.exp (logit (wide x0 b h) (wide x1 b h) r j - M) else 0 : ℝ) : EReal))
      ∧ val_main_v39 (F := Ideal) x0 x1 (ix3 b h r) = ((mass (wide x0 b h) (wide x1 b h) r * Real.exp (-M) : ℝ) : EReal) := by
  obtain ⟨M, hM⟩ := v18 b h h0 h1 r
  have key : ∀ j, val_main_v38 (F := Ideal) x0 x1 (ix4 b h r j)
        = ((if j ≤ r then Real.exp (logit (wide x0 b h) (wide x1 b h) r j - M) else 0 : ℝ) : EReal) := by
    intro j
    rw [v38_read, v17 b h h0 h1, hM, max_eq_right bot_le]
    by_cases hjr : j ≤ r
    · rw [if_pos hjr, if_pos hjr, ← EReal.coe_sub, exp_coe]
    · rw [if_neg hjr, if_neg hjr, EReal.bot_sub, exp_bot, EReal.coe_zero]
  refine ⟨M, key, ?_⟩
  have h39 : val_main_v39 (F := Ideal) x0 x1 (ix3 b h r) = 0 + ∑ j, val_main_v38 (F := Ideal) x0 x1 (ix4 b h r j) := by
    pointwise [val_main_v39, val_main_cst_8]
  rw [h39, zero_add, Finset.sum_congr rfl fun j _ => key j, ← coe_sum, mass_shift]

/-- The weights. -/
theorem v42 (h0 : AllReal x0) (h1 : AllReal x1) (r j : Fin 2048) :
    val_main_v42 (F := Ideal) x0 x1 (ix4 b h r j) = (weight (wide x0 b h) (wide x1 b h) r j : EReal) := by
  obtain ⟨M, h38, h39⟩ := v38 b h h0 h1 r
  pointwise [val_main_v42, val_main_v41, val_main_v40]
  rw [h38, h39, div_coe _ _ (mul_pos (mass_pos _ _ _) (Real.exp_pos _)).ne', weight_shift]

/-- The gradients of the weights. -/
theorem v53 (h2 : AllReal x2) (h3 : AllReal x3) (r j : Fin 2048) :
    val_main_v53 (F := Ideal) x2 x3 (ix4 b h r j) = (dweight (slim x2 b h) (slim x3 b h) r j : EReal) := by
  pointwise [val_main_v53]
  simp only [v9 b h h2, v50 b h h3, dweight, coe_sum, EReal.coe_mul]

/-- The gradients of the logits. -/
theorem v66 (h0 : AllReal x0) (h1 : AllReal x1) (h2 : AllReal x2) (h3 : AllReal x3) (r j : Fin 2048) :
    val_main_v66 (F := Ideal) x0 x1 x2 x3 (ix4 b h r j)
      = (dlogit (wide x0 b h) (wide x1 b h) (slim x2 b h) (slim x3 b h) r j : EReal) := by
  obtain ⟨M, h38, h39⟩ := v38 b h h0 h1 r
  pointwise [val_main_v66, val_main_v65, val_main_v64, val_main_v63, val_main_v62, val_main_v61, val_main_v60, val_main_v59,
    val_main_v58, val_main_v57, val_main_v56, val_main_v55, val_main_v54, val_main_v45, val_main_v44, val_main_v43, val_main_v40]
  have hZ : (mass (wide x0 b h) (wide x1 b h) r * Real.exp (-M)) ≠ 0 := (mul_pos (mass_pos _ _ _) (Real.exp_pos _)).ne'
  have h17 : ∀ y z : EReal, Scalar.select (val_main_v17_1 (F := Ideal) (ix4 b h r j)) y z = if j ≤ r then y else z := by
    intro y z
    pointwise [val_main_v17_1, val_main_v16, val_main_v15, val_main_v14, val_main_v13, val_main_v12, val_main_v11]
    rw [select_sle _ _ (by omega) (by omega)]
    simp only [Fin.val_fin_le]
  have c0 : ∀ i, val_main_cst_10 (F := Ideal) i = 0 := fun _ => Ideal.ofBits_zero_f32
  have c1 : ∀ i, val_main_cst_11 (F := Ideal) i = 0 := fun _ => Ideal.ofBits_zero_f32
  have c2 : ∀ i, val_main_cst_9 (F := Ideal) i = ((1 : ℝ) : EReal) := fun _ => Ideal.ofBits_one_f32
  rw [h17]
  by_cases hjr : j ≤ r
  swap
  · rw [if_neg hjr, dlogit_of_lt _ _ _ _ (not_le.mp hjr)]
    exact Ideal.ofBits_zero_f32
  rw [if_pos hjr]
  simp only [c0, c1, c2, h38, h39, v53 b h h2 h3, zero_add, ← EReal.coe_mul, div_coe _ _ hZ, div_coe _ _ (mul_ne_zero hZ hZ), ← coe_sum,
    ← EReal.coe_neg, ← EReal.coe_add, Finset.univ_unique, Finset.sum_singleton]
  congr 1
  have e : ∀ k, weight (wide x0 b h) (wide x1 b h) r k = (if k ≤ r then Real.exp (logit (wide x0 b h) (wide x1 b h) r k - M) else 0)
      / (mass (wide x0 b h) (wide x1 b h) r * Real.exp (-M)) := fun k => (weight_shift _ _ r k M).symm
  unfold dlogit mean
  simp only [e]
  generalize (mass (wide x0 b h) (wide x1 b h) r * Real.exp (-M)) = Z at hZ ⊢
  have : ∀ k, dweight (slim x2 b h) (slim x3 b h) r k * (1 / (Z * Z)) * (if k ≤ r then Real.exp (logit (wide x0 b h) (wide x1 b h) r k - M) else 0)
      = (1 / Z) * ((if k ≤ r then Real.exp (logit (wide x0 b h) (wide x1 b h) r k - M) else 0) / Z * dweight (slim x2 b h) (slim x3 b h) r k) := by
    intro k; field_simp
  simp only [this, ← Finset.mul_sum]
  field_simp
  ring

/-- The gradient of the queries. -/
theorem v68 (h0 : AllReal x0) (h1 : AllReal x1) (h2 : AllReal x2) (h3 : AllReal x3) (r : Fin 2048) (l : Fin 128) :
    val_main_v68 (F := Ideal) x0 x1 x2 x3 (ix4 b h r l)
      = (dq (wide x0 b h) (wide x1 b h) (slim x2 b h) (slim x3 b h) r l : EReal) := by
  pointwise [val_main_v68]
  simp only [v66 b h h0 h1 h2 h3, v7 b h h1, dq, coe_sum, EReal.coe_mul]

/-- The gradient of the keys. -/
theorem v67 (h0 : AllReal x0) (h1 : AllReal x1) (h2 : AllReal x2) (h3 : AllReal x3) (j : Fin 2048) (l : Fin 128) :
    val_main_v67 (F := Ideal) x0 x1 x2 x3 (ix4 b h j l)
      = (dk (wide x0 b h) (wide x1 b h) (slim x2 b h) (slim x3 b h) j l : EReal) := by
  pointwise [val_main_v67]
  simp only [v66 b h h0 h1 h2 h3, v5 b h h0, dk, coe_sum, EReal.coe_mul]

/-- The gradient of the values. -/
theorem v52 (h0 : AllReal x0) (h1 : AllReal x1) (h3 : AllReal x3) (j : Fin 2048) (l : Fin 64) :
    val_main_v52 (F := Ideal) x0 x1 x3 (ix4 b h j l)
      = (dv (wide x0 b h) (wide x1 b h) (slim x3 b h) j l : EReal) := by
  pointwise [val_main_v52, val_main_v51]
  simp only [v42 b h h0 h1, v50 b h h3, dv, coe_sum, EReal.coe_mul]
  exact Finset.sum_congr rfl fun k _ => mul_comm _ _

end

section
variable (b : Fin 4) (h : Fin 8) (r : Fin 2048)

/-- The first result, at row `r` of sequence `b` and lane `l` of head `h`. -/
theorem v75 (h0 : AllReal x0) (h1 : AllReal x1) (h2 : AllReal x2) (h3 : AllReal x3) (l : Fin 128) :
    val_main_v75 (F := Ideal) x0 x1 x2 x3 (ix2 ⟨b.val * 2048 + r.val, by omega⟩ ⟨h.val * 128 + l.val, by omega⟩)
      = (dq (wide x0 b h) (wide x1 b h) (slim x2 b h) (slim x3 b h) r l : EReal) := by
  rw [← v68 b h h0 h1 h2 h3]
  pointwise [val_main_v75, val_main_v74, val_main_v73]

/-- The second result. -/
theorem v76 (h0 : AllReal x0) (h1 : AllReal x1) (h2 : AllReal x2) (h3 : AllReal x3) (l : Fin 128) :
    val_main_v76 (F := Ideal) x0 x1 x2 x3 (ix2 ⟨b.val * 2048 + r.val, by omega⟩ ⟨h.val * 128 + l.val, by omega⟩)
      = (dk (wide x0 b h) (wide x1 b h) (slim x2 b h) (slim x3 b h) r l : EReal) := by
  rw [← v67 b h h0 h1 h2 h3]
  pointwise [val_main_v76, val_main_v72, val_main_v71]

/-- The third result. -/
theorem v77 (h0 : AllReal x0) (h1 : AllReal x1) (h3 : AllReal x3) (l : Fin 64) :
    val_main_v77 (F := Ideal) x0 x1 x3 (ix2 ⟨b.val * 2048 + r.val, by omega⟩ ⟨h.val * 64 + l.val, by omega⟩)
      = (dv (wide x0 b h) (wide x1 b h) (slim x3 b h) r l : EReal) := by
  rw [← v52 b h h0 h1 h3]
  pointwise [val_main_v77, val_main_v70, val_main_v69]

end

end Cert.RefValue

end
-- ==== Proof.RefArrays.lean ====
/- The reference's three arrays are the attention's gradients. -/
module

public import proofs.«01_k».proof.Proof.RefValue
public import proofs.«01_k».proof.Proof.Pair

@[expose] public section

set_option maxRecDepth 16384

noncomputable section

namespace Cert.RefValue

open Cert.ReferenceIdeal Cert.ReferenceIdeal.Gen Cert.ReferenceIdeal.Read Cert.Attn Cert.KernelIdeal.Sweep
open Idealize.ShloMosaic

/-- A row and a lane of 1024, by sequence, row, head and lane there. -/
theorem split_wide (i : (⟨2, ![8192, 1024]⟩ : Shape).Idx) : ∃ (b : Fin 4) (h : Fin 8) (r : Fin 2048) (l : Fin 128),
    i = ix2 ⟨b.val * 2048 + r.val, by omega⟩ ⟨h.val * 128 + l.val, by omega⟩ := by
  have h0 := (i 0).isLt; change (i 0).val < 8192 at h0
  have h1 := (i 1).isLt; change (i 1).val < 1024 at h1
  refine ⟨⟨(i 0).val / 2048, by omega⟩, ⟨(i 1).val / 128, by omega⟩, ⟨(i 0).val % 2048, by omega⟩, ⟨(i 1).val % 128, by omega⟩, ?_⟩
  funext a
  fin_cases a
  · exact Fin.ext (by show (i 0).val = (i 0).val / 2048 * 2048 + (i 0).val % 2048; omega)
  · exact Fin.ext (by show (i 1).val = (i 1).val / 128 * 128 + (i 1).val % 128; omega)

/-- And a lane of 512. -/
theorem split_slim (i : (⟨2, ![8192, 512]⟩ : Shape).Idx) : ∃ (b : Fin 4) (h : Fin 8) (r : Fin 2048) (l : Fin 64),
    i = ix2 ⟨b.val * 2048 + r.val, by omega⟩ ⟨h.val * 64 + l.val, by omega⟩ := by
  have h0 := (i 0).isLt; change (i 0).val < 8192 at h0
  have h1 := (i 1).isLt; change (i 1).val < 512 at h1
  refine ⟨⟨(i 0).val / 2048, by omega⟩, ⟨(i 1).val / 64, by omega⟩, ⟨(i 0).val % 2048, by omega⟩, ⟨(i 1).val % 64, by omega⟩, ?_⟩
  funext a
  fin_cases a
  · exact Fin.ext (by show (i 0).val = (i 0).val / 2048 * 2048 + (i 0).val % 2048; omega)
  · exact Fin.ext (by show (i 1).val = (i 1).val / 64 * 64 + (i 1).val % 64; omega)

variable {x0 x1 : (⟨S8192x1024, .bf16⟩ : BufTy).Contents (Elt Ideal)} {x2 x3 : (⟨S8192x512, .bf16⟩ : BufTy).Contents (Elt Ideal)}

theorem arrQ (h0 : AllReal x0) (h1 : AllReal x1) (h2 : AllReal x2) (h3 : AllReal x3) : val_main_v75 (F := Ideal) x0 x1 x2 x3 = allDq x0 x1 x2 x3 := by
  funext i
  obtain ⟨b, h, r, l, rfl⟩ := split_wide i
  exact (v75 b h r h0 h1 h2 h3 l).trans (allDq_at _ _ _ _ b h r l rfl rfl).symm

theorem arrK (h0 : AllReal x0) (h1 : AllReal x1) (h2 : AllReal x2) (h3 : AllReal x3) : val_main_v76 (F := Ideal) x0 x1 x2 x3 = allDk x0 x1 x2 x3 := by
  funext i
  obtain ⟨b, h, r, l, rfl⟩ := split_wide i
  exact (v76 b h r h0 h1 h2 h3 l).trans (allDk_at _ _ _ _ b h r l rfl rfl).symm

theorem arrV (h0 : AllReal x0) (h1 : AllReal x1) (h3 : AllReal x3) : val_main_v77 (F := Ideal) x0 x1 x3 = allDv x0 x1 x3 := by
  funext i
  obtain ⟨b, h, r, l, rfl⟩ := split_slim i
  exact (v77 b h r h0 h1 h3 l).trans (allDv_at _ _ _ b h r l rfl rfl).symm

end Cert.RefValue

end
-- ==== Proof.Finite.lean ====
/- The precondition says of each argument that every number of it is real. -/
module

public import proofs.«01_k».proof.Proof.Gen.Pre_finite
public import proofs.«01_k».proof.Proof.Heads
public import Idealize.ShloMosaic.Lib.ReduceAll
public import Idealize.ShloMosaic.Lib.Pointwise

@[expose] public section

set_option maxRecDepth 16384

noncomputable section

namespace Cert.Finite

open Cert.Attn Cert.Pre_finite Idealize.ShloMosaic

theorem inf : Ideal.ofBits .f32 0x7F800000#32 = ⊤ := by
  simp [Ideal.ofBits, Ideal.ieee]

/-- A number below plus infinity in size is real. -/
theorem real_of_lt (x : EReal) (h : FloatOps.cmpf (F := Ideal) (φ := .f32) .olt (FloatOps.absf (F := Ideal) (φ := .f32) x) ⊤ = 1#1) : x ≠ ⊤ ∧ x ≠ ⊥ := by
  constructor
  · rintro rfl
    revert h
    simp [FloatOps.cmpf, Ideal.cmp, FloatOps.absf]
  · rintro rfl
    revert h
    simp [FloatOps.cmpf, Ideal.cmp, FloatOps.absf]

attribute [local irreducible] Host.reduce

instance : Subsingleton S_.Idx := ⟨fun _ _ => funext fun a => a.elim0⟩

/-- An array all of whose numbers are below plus infinity in size. -/
theorem all_lt {s : Shape} (x : FVec Ideal s .bf16) (hb : FTy.bits .bf16 < FTy.bits .f32) (hd : S_.BroadcastsInDim s ![]) {axes : List (Fin s.rank)}
    (hr : s.ReducesTo axes S_) (hu : 0 < S_.numel)
    (e : Host.reduce IntOp.andi (cmpf .olt (Host.absf (extf .f32 x hb)) (broadcastInDim s ![] hd (constant (F := Ideal) S_ .f32 0x7F800000#32)))
      (constantI S_ 1 1#1) hr hu = fun _ => 1#1) : AllReal (s := s) x := fun i => by
  have := Host.reduce_andi_all _ _ _ _ (fun a => a.elim0) (congrFun e _) i
  refine real_of_lt _ ?_
  rw [← inf]
  exact this

/-- The precondition's reading. -/
theorem allReal {x0 x1 : FVec Ideal S8192x1024 .bf16} {x2 x3 : FVec Ideal S8192x512 .bf16}
    (h : (fn (F := Ideal) x0 x1 x2 x3).1 = (fun _ => 1#1) ∧ (fn (F := Ideal) x0 x1 x2 x3).2.1 = (fun _ => 1#1)
      ∧ (fn (F := Ideal) x0 x1 x2 x3).2.2.1 = (fun _ => 1#1) ∧ (fn (F := Ideal) x0 x1 x2 x3).2.2.2 = (fun _ => 1#1)) :
    AllReal (s := S8192x1024) x0 ∧ AllReal (s := S8192x1024) x1 ∧ AllReal (s := S8192x512) x2 ∧ AllReal (s := S8192x512) x3 := by
  obtain ⟨e0, e1, e2, e3⟩ := h
  unfold fn fn_part1 at e0 e1 e2 e3
  dsimp only at e0 e1 e2 e3
  exact ⟨all_lt (s := S8192x1024) x0 Facts.bitsLt_bf16_f32 Facts.bcast_S_S8192x1024 Facts.reducesTo_S8192x1024_S_d0_1 Facts.h_S_ e0,
    all_lt (s := S8192x1024) x1 Facts.bitsLt_bf16_f32 Facts.bcast_S_S8192x1024 Facts.reducesTo_S8192x1024_S_d0_1 Facts.h_S_ e1,
    all_lt (s := S8192x512) x2 Facts.bitsLt_bf16_f32 Facts.bcast_S_S8192x512 Facts.reducesTo_S8192x512_S_d0_1 Facts.h_S_ e2,
    all_lt (s := S8192x512) x3 Facts.bitsLt_bf16_f32 Facts.bcast_S_S8192x512 Facts.reducesTo_S8192x512_S_d0_1 Facts.h_S_ e3⟩

end Cert.Finite

end
-- ==== Proof.MiddleIdealRun.lean ====
/- The body of the middle of the block at one grid point, run from any contents of its buffers: what it leaves in each of the ten
   buffers it writes, at the first point (which clears the running sums) and at a later one. -/
module

public import proofs.«01_k».proof.Proof.Gen.MiddleIdeal.Frame
public import proofs.«01_k».proof.Proof.Gen.MiddleIdeal.Skeleton

@[expose] public section

set_option maxRecDepth 16384

noncomputable section

namespace Cert.MiddleIdeal.Hand

open Cert.MiddleIdeal Cert.MiddleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a1 : Memref sig .tc .vmem S256x512 .f32) (h1 : a1.IsWhole)
  (a2 : Memref sig .tc .vmem S256x512 .f32) (h2 : a2.IsWhole)
  (a3 : Memref sig .tc .vmem S256x1024 .f32) (h3 : a3.IsWhole)
  (a4 : Memref sig .tc .vmem S256x1024 .f32) (h4 : a4.IsWhole)
  (a5 : Memref sig .tc .vmem S1x512 .f32) (h5 : a5.IsWhole) (a6 : Memref sig .tc .vmem S1x512 .f32) (h6 : a6.IsWhole)
  (a7 : Memref sig .tc .vmem S1x1024 .f32) (h7 : a7.IsWhole) (a8 : Memref sig .tc .vmem S1x1024 .f32) (h8 : a8.IsWhole)
  (a9 : Memref sig .tc .vmem S1024x1024 .bf16) (h9 : a9.IsWhole)
  (a10 : Memref sig .tc .vmem S2816x1024 .bf16) (h10 : a10.IsWhole)
  (a11 : Memref sig .tc .vmem S2816x1024 .bf16) (h11 : a11.IsWhole)
  (a12 : Memref sig .tc .vmem S2816x1024 .bf16) (h12 : a12.IsWhole)
  (a13 : Memref sig .tc .vmem S256x1024 .bf16) (h13 : a13.IsWhole)
  (a14 : Memref sig .tc .vmem S256x1024 .bf16) (h14 : a14.IsWhole)
  (a15 : Memref sig .tc .vmem S256x2816 .bf16) (h15 : a15.IsWhole)
  (a16 : Memref sig .tc .vmem S256x2816 .bf16) (h16 : a16.IsWhole)
  (a17 : Memref sig .tc .vmem S256x2816 .bf16) (h17 : a17.IsWhole)
  (a18 : Memref sig .tc .vmem S256x1024 .bf16) (h18 : a18.IsWhole)
  (a19 : Memref sig .tc .vmem S256x1024 .f32) (h19 : a19.IsWhole)
  (a20 : Memref sig .tc .vmem S256x512 .bf16) (h20 : a20.IsWhole)
  (a21 : Memref sig .tc .vmem S256x512 .bf16) (h21 : a21.IsWhole)
  (a22 : Memref sig .tc .vmem S8x1024 .f32) (h22 : a22.IsWhole)
  (x1 : Vec F S256x512 .f32) (x2 : Vec F S256x512 .f32) (x3 : Vec F S256x1024 .f32) (x4 : Vec F S256x1024 .f32)
  (x5 : Vec F S1x512 .f32) (x6 : Vec F S1x512 .f32) (x7 : Vec F S1x1024 .f32) (x8 : Vec F S1x1024 .f32)
  (x9 : Vec F S1024x1024 .bf16) (x10 : Vec F S2816x1024 .bf16) (x11 : Vec F S2816x1024 .bf16)
  (x12 : Vec F S2816x1024 .bf16) (x13 : Vec F S256x1024 .bf16) (x14 : Vec F S256x1024 .bf16)
  (x15 : Vec F S256x2816 .bf16) (x16 : Vec F S256x2816 .bf16) (x17 : Vec F S256x2816 .bf16)
  (x18 : Vec F S256x1024 .bf16) (x19 : Vec F S256x1024 .f32) (x20 : Vec F S256x512 .bf16) (x21 : Vec F S256x512 .bf16)
  (x22 : Vec F S8x1024 .f32)

/-- The twelve inputs' buffers, each at its contents. -/
abbrev ins : sProp 𝕄 :=
  iprop(owns (c : Thread nD τ) a1 fullShare x1 ∗ owns (c : Thread nD τ) a2 fullShare x2 ∗
    owns (c : Thread nD τ) a3 fullShare x3 ∗ owns (c : Thread nD τ) a4 fullShare x4 ∗
    owns (c : Thread nD τ) a5 fullShare x5 ∗ owns (c : Thread nD τ) a6 fullShare x6 ∗
    owns (c : Thread nD τ) a7 fullShare x7 ∗ owns (c : Thread nD τ) a8 fullShare x8 ∗
    owns (c : Thread nD τ) a9 fullShare x9 ∗ owns (c : Thread nD τ) a10 fullShare x10 ∗
    owns (c : Thread nD τ) a11 fullShare x11 ∗ owns (c : Thread nD τ) a12 fullShare x12)

/-- The point is the first, as the body's only branch reads it. -/
abbrev opens : Prop :=
  Scalar.cmpi .ne (Scalar.extui (Scalar.cmpi .eq (BitVec.ofNat 32 (i 0).val) 0#32) : BitVec 32) 0#32 = 1#1

/-- A whole buffer at the contents that read as `X`: its reading is `X`. -/
theorem owns_unread {s : Shape} {e : EltTy} {a : Memref sig .tc .vmem s e} (h : a.IsWhole) (X : s.Idx → Elt F e) :
    (a.view.loc (c : Thread nD τ) ↦[a.view.set]{fullShare} h.unread X : sProp 𝕄)
      ⊢ iprop(∃ f, ⌜a.view.read (Elt F) f = X⌝ ∗ a.view.loc (c : Thread nD τ) ↦[a.view.set]{fullShare} f) := by
  iintro H
  iexists _; isplitr
  swap
  · iexact H
  ipureintro; exact h.read_unread _

/-- A buffer at any contents, and what they read as. -/
theorem owns_read {s : Shape} {e : EltTy} (a : Memref sig .tc .vmem s e) {f : BufTy.Contents (Elt F) a.view.ty} :
    (a.view.loc (c : Thread nD τ) ↦[a.view.set]{fullShare} f : sProp 𝕄)
      ⊢ iprop(∃ g, ⌜a.view.read (Elt F) g = a.view.read (Elt F) f⌝ ∗ a.view.loc (c : Thread nD τ) ↦[a.view.set]{fullShare} g) := by
  iintro H
  iexists _; isplitr
  swap
  · iexact H
  ipureintro; rfl

/-- What a run of the body leaves in the ten output buffers. -/
abbrev Left (F : FTy → Type) : Type :=
  Vec F S256x1024 .bf16 × Vec F S256x1024 .bf16 × Vec F S256x2816 .bf16 × Vec F S256x2816 .bf16 ×
  Vec F S256x2816 .bf16 × Vec F S256x1024 .bf16 × Vec F S256x1024 .f32 × Vec F S256x512 .bf16 × Vec F S256x512 .bf16 ×
  Vec F S8x1024 .f32

/-- The body, started with its buffers at the given contents, runs and leaves `L`, its inputs unchanged. -/
abbrev Runs (L : Left F) : Prop :=
  ∀ (E : Set ℕ) (K : PUnit → sProp 𝕄),
    iprop(ins c a1 a2 a3 a4 a5 a6 a7 a8 a9 a10 a11 a12 x1 x2 x3 x4 x5 x6 x7 x8 x9 x10 x11 x12
        ∗ owns (c : Thread nD τ) a13 fullShare x13 ∗ owns (c : Thread nD τ) a14 fullShare x14 ∗
        owns (c : Thread nD τ) a15 fullShare x15 ∗ owns (c : Thread nD τ) a16 fullShare x16 ∗
        owns (c : Thread nD τ) a17 fullShare x17 ∗ owns (c : Thread nD τ) a18 fullShare x18 ∗
        owns (c : Thread nD τ) a19 fullShare x19 ∗ owns (c : Thread nD τ) a20 fullShare x20 ∗
        owns (c : Thread nD τ) a21 fullShare x21 ∗ owns (c : Thread nD τ) a22 fullShare x22
        ∗ (iprop(ins c a1 a2 a3 a4 a5 a6 a7 a8 a9 a10 a11 a12 x1 x2 x3 x4 x5 x6 x7 x8 x9 x10 x11 x12
            ∗ owns (c : Thread nD τ) a13 fullShare L.1 ∗ owns (c : Thread nD τ) a14 fullShare L.2.1 ∗
            owns (c : Thread nD τ) a15 fullShare L.2.2.1 ∗ owns (c : Thread nD τ) a16 fullShare L.2.2.2.1 ∗
            owns (c : Thread nD τ) a17 fullShare L.2.2.2.2.1 ∗ owns (c : Thread nD τ) a18 fullShare L.2.2.2.2.2.1 ∗
            owns (c : Thread nD τ) a19 fullShare L.2.2.2.2.2.2.1 ∗
            owns (c : Thread nD τ) a20 fullShare L.2.2.2.2.2.2.2.1 ∗
            owns (c : Thread nD τ) a21 fullShare L.2.2.2.2.2.2.2.2.1 ∗
            owns (c : Thread nD τ) a22 fullShare L.2.2.2.2.2.2.2.2.2)
          -∗ K ⟨⟩))
      ⊢ wp frame (wpE (defs₀ (F := F)) Variants.none c none) E
          (cc0_mid i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22) K

set_option maxHeartbeats 2000000 in
/-- A later point: the running sums are added to. -/
noncomputable def runLater (hc0 : ¬ opens i) :
    { L : Left F // Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22
      x1 x2 x3 x4 x5 x6 x7 x8 x9 x10 x11 x12 x13 x14 x15 x16 x17 x18 x19 x20 x21 x22 L } := by
  refine ⟨⟨?_, ?_, ?_, ?_, ?_, ?_, ?_, ?_, ?_, ?_⟩, fun E K => ?run⟩
  case run =>
    simp only [cc0_mid_eq_skeleton]; unfold cc0_mid_skel
    simp only [k0_part1_eq_skeleton, k0_part2_eq_skeleton, k0_part3_eq_skeleton, k0_part4_eq_skeleton, k0_part5_eq_skeleton]
    unfold ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩,
      ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7; obtain rfl := h8.eq_unread hf8; obtain rfl := h9.eq_unread hf9
    obtain rfl := h10.eq_unread hf10; obtain rfl := h11.eq_unread hf11; obtain rfl := h12.eq_unread hf12
    obtain rfl := h13.eq_unread hf13; obtain rfl := h14.eq_unread hf14; obtain rfl := h15.eq_unread hf15
    obtain rfl := h16.eq_unread hf16; obtain rfl := h17.eq_unread hf17; obtain rfl := h18.eq_unread hf18
    obtain rfl := h19.eq_unread hf19; obtain rfl := h20.eq_unread hf20; obtain rfl := h21.eq_unread hf21
    obtain rfl := h22.eq_unread hf22
    sl_exec (disch := first | sl_exact hc0)
    sl_step
    iapply Hk
    isplitl [H1 H2 H3 H4 H5 H6 H7 H8 H9 H10 H11 H12]
    · isplitl [H1]; · iapply (owns_unread c h1 x1); iexact H1
      isplitl [H2]; · iapply (owns_unread c h2 x2); iexact H2
      isplitl [H3]; · iapply (owns_unread c h3 x3); iexact H3
      isplitl [H4]; · iapply (owns_unread c h4 x4); iexact H4
      isplitl [H5]; · iapply (owns_unread c h5 x5); iexact H5
      isplitl [H6]; · iapply (owns_unread c h6 x6); iexact H6
      isplitl [H7]; · iapply (owns_unread c h7 x7); iexact H7
      isplitl [H8]; · iapply (owns_unread c h8 x8); iexact H8
      isplitl [H9]; · iapply (owns_unread c h9 x9); iexact H9
      isplitl [H10]; · iapply (owns_unread c h10 x10); iexact H10
      isplitl [H11]; · iapply (owns_unread c h11 x11); iexact H11
      iapply (owns_unread c h12 x12); iexact H12
    isplitl [H13]; · iapply (owns_read c a13); iexact H13
    isplitl [H14]; · iapply (owns_read c a14); iexact H14
    isplitl [H15]; · iapply (owns_read c a15); iexact H15
    isplitl [H16]; · iapply (owns_read c a16); iexact H16
    isplitl [H17]; · iapply (owns_read c a17); iexact H17
    isplitl [H18]; · iapply (owns_read c a18); iexact H18
    isplitl [H19]; · iapply (owns_read c a19); iexact H19
    isplitl [H20]; · iapply (owns_read c a20); iexact H20
    isplitl [H21]; · iapply (owns_read c a21); iexact H21
    iapply (owns_read c a22); iexact H22

set_option maxHeartbeats 2000000 in
/-- The first point: the running sums are cleared, then added to. -/
noncomputable def runFirst (hc0 : opens i) :
    { L : Left F // Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22
      x1 x2 x3 x4 x5 x6 x7 x8 x9 x10 x11 x12 x13 x14 x15 x16 x17 x18 x19 x20 x21 x22 L } := by
  refine ⟨⟨?_, ?_, ?_, ?_, ?_, ?_, ?_, ?_, ?_, ?_⟩, fun E K => ?run⟩
  case run =>
    simp only [cc0_mid_eq_skeleton]; unfold cc0_mid_skel
    simp only [k0_part1_eq_skeleton, k0_part2_eq_skeleton, k0_part3_eq_skeleton, k0_part4_eq_skeleton, k0_part5_eq_skeleton]
    unfold ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩,
      ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7; obtain rfl := h8.eq_unread hf8; obtain rfl := h9.eq_unread hf9
    obtain rfl := h10.eq_unread hf10; obtain rfl := h11.eq_unread hf11; obtain rfl := h12.eq_unread hf12
    obtain rfl := h13.eq_unread hf13; obtain rfl := h14.eq_unread hf14; obtain rfl := h15.eq_unread hf15
    obtain rfl := h16.eq_unread hf16; obtain rfl := h17.eq_unread hf17; obtain rfl := h18.eq_unread hf18
    obtain rfl := h19.eq_unread hf19; obtain rfl := h20.eq_unread hf20; obtain rfl := h21.eq_unread hf21
    obtain rfl := h22.eq_unread hf22
    sl_exec (disch := first | sl_exact hc0)
    sl_step
    iapply Hk
    isplitl [H1 H2 H3 H4 H5 H6 H7 H8 H9 H10 H11 H12]
    · isplitl [H1]; · iapply (owns_unread c h1 x1); iexact H1
      isplitl [H2]; · iapply (owns_unread c h2 x2); iexact H2
      isplitl [H3]; · iapply (owns_unread c h3 x3); iexact H3
      isplitl [H4]; · iapply (owns_unread c h4 x4); iexact H4
      isplitl [H5]; · iapply (owns_unread c h5 x5); iexact H5
      isplitl [H6]; · iapply (owns_unread c h6 x6); iexact H6
      isplitl [H7]; · iapply (owns_unread c h7 x7); iexact H7
      isplitl [H8]; · iapply (owns_unread c h8 x8); iexact H8
      isplitl [H9]; · iapply (owns_unread c h9 x9); iexact H9
      isplitl [H10]; · iapply (owns_unread c h10 x10); iexact H10
      isplitl [H11]; · iapply (owns_unread c h11 x11); iexact H11
      iapply (owns_unread c h12 x12); iexact H12
    isplitl [H13]; · iapply (owns_read c a13); iexact H13
    isplitl [H14]; · iapply (owns_read c a14); iexact H14
    isplitl [H15]; · iapply (owns_read c a15); iexact H15
    isplitl [H16]; · iapply (owns_read c a16); iexact H16
    isplitl [H17]; · iapply (owns_read c a17); iexact H17
    isplitl [H18]; · iapply (owns_read c a18); iexact H18
    isplitl [H19]; · iapply (owns_read c a19); iexact H19
    isplitl [H20]; · iapply (owns_read c a20); iexact H20
    isplitl [H21]; · iapply (owns_read c a21); iexact H21
    iapply (owns_read c a22); iexact H22

end Cert.MiddleIdeal.Hand
-- ==== Proof.MiddleIdealFrame.lean ====
/- The frame of the middle of the block: the body's obligation at every grid point, from the runs of its two kinds of point, for any
   predicates of the outputs that the runs give, that of the running sums from the one before; the whole program's run from
   it. The frame takes the predicates that always hold. -/
module

public import proofs.«01_k».proof.Proof.MiddleIdealRun

@[expose] public section

set_option maxRecDepth 16384

noncomputable section

namespace Cert.MiddleIdeal.Hand

open Cert.MiddleIdeal Cert.MiddleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's coordinate is its number. -/
theorem coords_step (t : Fin cfg0.N) : (grid0.coords t 0).val = t.val := by
  have ht : t.val < 32 := Nat.lt_of_lt_of_eq t.isLt N_0
  have h : (grid0.coords t 0).val = t.val / 1 % 32 := Pipeline.Grid.coords_val t 0 (by decide) rfl
  rw [h, Nat.div_one, Nat.mod_eq_of_lt ht]

/-- The branch is taken at the first point only. -/
theorem opens_iff : ∀ t : Fin cfg0.N, opens (grid0.coords t) ↔ t.val = 0 := fun t => by
  have ht : t.val < 32 := Nat.lt_of_lt_of_eq t.isLt N_0
  simp only [opens, coords_step]
  word_cmp

/-- The body's run at point `t`, on what the launch calls it with there: the inputs at their blocks, the outputs at given
    contents. -/
def runAt (c : Dev nD) (t : Fin cfg0.N)
    (x13 : Vec F S256x1024 .bf16) (x14 : Vec F S256x1024 .bf16) (x15 : Vec F S256x2816 .bf16)
    (x16 : Vec F S256x2816 .bf16) (x17 : Vec F S256x2816 .bf16) (x18 : Vec F S256x1024 .bf16)
    (x19 : Vec F S256x1024 .f32) (x20 : Vec F S256x512 .bf16) (x21 : Vec F S256x512 .bf16) (x22 : Vec F S8x1024 .f32) :
    { L : Left F // Runs c (grid0.coords t)
        (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (win0_3.stage (cfg0.slots t 3)) (hstage0_3 ((cfg0.slots t 3).cast nbuf0_3))
        (win0_4.stage (cfg0.slots t 4)) (hstage0_4 ((cfg0.slots t 4).cast nbuf0_4))
        (win0_5.stage (cfg0.slots t 5)) (hstage0_5 ((cfg0.slots t 5).cast nbuf0_5))
        (win0_6.stage (cfg0.slots t 6)) (hstage0_6 ((cfg0.slots t 6).cast nbuf0_6))
        (win0_7.stage (cfg0.slots t 7)) (hstage0_7 ((cfg0.slots t 7).cast nbuf0_7))
        (win0_8.stage (cfg0.slots t 8)) (hstage0_8 ((cfg0.slots t 8).cast nbuf0_8))
        (win0_9.stage (cfg0.slots t 9)) (hstage0_9 ((cfg0.slots t 9).cast nbuf0_9))
        (win0_10.stage (cfg0.slots t 10)) (hstage0_10 ((cfg0.slots t 10).cast nbuf0_10))
        (win0_11.stage (cfg0.slots t 11)) (hstage0_11 ((cfg0.slots t 11).cast nbuf0_11))
        (win0_12.stage (cfg0.slots t 12)) (hstage0_12 ((cfg0.slots t 12).cast nbuf0_12))
        (win0_13.stage (cfg0.slots t 13)) (hstage0_13 ((cfg0.slots t 13).cast nbuf0_13))
        (win0_14.stage (cfg0.slots t 14)) (hstage0_14 ((cfg0.slots t 14).cast nbuf0_14))
        (win0_15.stage (cfg0.slots t 15)) (hstage0_15 ((cfg0.slots t 15).cast nbuf0_15))
        (win0_16.stage (cfg0.slots t 16)) (hstage0_16 ((cfg0.slots t 16).cast nbuf0_16))
        (win0_17.stage (cfg0.slots t 17)) (hstage0_17 ((cfg0.slots t 17).cast nbuf0_17))
        (win0_18.stage (cfg0.slots t 18)) (hstage0_18 ((cfg0.slots t 18).cast nbuf0_18))
        (win0_19.stage (cfg0.slots t 19)) (hstage0_19 ((cfg0.slots t 19).cast nbuf0_19))
        (win0_20.stage (cfg0.slots t 20)) (hstage0_20 ((cfg0.slots t 20).cast nbuf0_20))
        (win0_21.stage (cfg0.slots t 21)) (hstage0_21 ((cfg0.slots t 21).cast nbuf0_21))
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
        x13 x14 x15 x16 x17 x18 x19 x20 x21 x22 L } :=
  if h0 : t.val = 0 then runFirst (hc0 := (opens_iff t).mpr h0) ..
  else runLater (hc0 := fun h => h0 ((opens_iff t).mp h)) ..

/-- What is followed through the launch: a predicate of each output's staging buffer after a point. -/
structure Track (F : FTy → Type) where
  /-- Of the merged activations after a point. -/
  a : Dev nD → Fin cfg0.N → Vec F S256x1024 .bf16 → Prop
  /-- Of the second norm's output after a point. -/
  h2 : Dev nD → Fin cfg0.N → Vec F S256x1024 .bf16 → Prop
  /-- Of the hidden layer after a point. -/
  hid : Dev nD → Fin cfg0.N → Vec F S256x2816 .bf16 → Prop
  /-- Of the gate's gradient after a point. -/
  dg : Dev nD → Fin cfg0.N → Vec F S256x2816 .bf16 → Prop
  /-- Of the up-projection's gradient after a point. -/
  du : Dev nD → Fin cfg0.N → Vec F S256x2816 .bf16 → Prop
  /-- Of the gradient at the block's end after a point. -/
  dx3 : Dev nD → Fin cfg0.N → Vec F S256x1024 .bf16 → Prop
  /-- Of the gradient at the block's middle after a point. -/
  dx2 : Dev nD → Fin cfg0.N → Vec F S256x1024 .f32 → Prop
  /-- Of the first attention's gradient after a point. -/
  dof : Dev nD → Fin cfg0.N → Vec F S256x512 .bf16 → Prop
  /-- Of the second attention's gradient after a point. -/
  dom : Dev nD → Fin cfg0.N → Vec F S256x512 .bf16 → Prop
  /-- Of the running sums after a point. -/
  st : Dev nD → Fin cfg0.N → Vec F S8x1024 .f32 → Prop

/-- The runs give what is followed, the running sums' from that at the point before. -/
abbrev Track.Kept (K : Track F) : Prop :=
  ∀ (c : Dev nD) (t : Fin cfg0.N) x13 x14 x15 x16 x17 x18 x19 x20 x21 x22, (∀ h : t.val ≠ 0, K.st c ⟨t.val - 1, Nat.lt_of_le_of_lt (Nat.sub_le _ _) t.isLt⟩ x22) →
    K.a c t (runAt m c t x13 x14 x15 x16 x17 x18 x19 x20 x21 x22).1.1
      ∧ K.h2 c t (runAt m c t x13 x14 x15 x16 x17 x18 x19 x20 x21 x22).1.2.1
      ∧ K.hid c t (runAt m c t x13 x14 x15 x16 x17 x18 x19 x20 x21 x22).1.2.2.1
      ∧ K.dg c t (runAt m c t x13 x14 x15 x16 x17 x18 x19 x20 x21 x22).1.2.2.2.1
      ∧ K.du c t (runAt m c t x13 x14 x15 x16 x17 x18 x19 x20 x21 x22).1.2.2.2.2.1
      ∧ K.dx3 c t (runAt m c t x13 x14 x15 x16 x17 x18 x19 x20 x21 x22).1.2.2.2.2.2.1
      ∧ K.dx2 c t (runAt m c t x13 x14 x15 x16 x17 x18 x19 x20 x21 x22).1.2.2.2.2.2.2.1
      ∧ K.dof c t (runAt m c t x13 x14 x15 x16 x17 x18 x19 x20 x21 x22).1.2.2.2.2.2.2.2.1
      ∧ K.dom c t (runAt m c t x13 x14 x15 x16 x17 x18 x19 x20 x21 x22).1.2.2.2.2.2.2.2.2.1
      ∧ K.st c t (runAt m c t x13 x14 x15 x16 x17 x18 x19 x20 x21 x22).1.2.2.2.2.2.2.2.2.2

variable (K : Track F)

/-- The launch's proof data: the inputs' buffers are left as found; of the outputs what is followed. -/
def rdat (c : Dev nD) : RDat τ (Elt F) Unit ℕ (UR sig nD τ) ℕ cfg0 c where
  A w := V m c (Pipeline.arrRef spec0 w)
  after w t := match w with
    | ⟨12, _⟩ => fun _ X => K.a c t X
    | ⟨13, _⟩ => fun _ X => K.h2 c t X
    | ⟨14, _⟩ => fun _ X => K.hid c t X
    | ⟨15, _⟩ => fun _ X => K.dg c t X
    | ⟨16, _⟩ => fun _ X => K.du c t X
    | ⟨17, _⟩ => fun _ X => K.dx3 c t X
    | ⟨18, _⟩ => fun _ X => K.dx2 c t X
    | ⟨19, _⟩ => fun _ X => K.dof c t X
    | ⟨20, _⟩ => fun _ X => K.dom c t X
    | ⟨21, _⟩ => fun _ X => K.st c t X
    | _ => fun Y X => X = Y
  Φ _ := Pipeline.ΦA spec0 c
  q _ := fullShare
  owed _ := 0

theorem rdat_A (c : Dev nD) (w : Fin cfg0.W) : (rdat m K c).A w = V m c (Pipeline.arrRef spec0 w) := by
  dsimp only [rdat]

/-- Input window 0's buffer holds its block at every point. -/
theorem finds_0 (c : Dev nD) (t : Fin cfg0.N) (Y) (h : (rdat m K c).Finds 0 t Y) : Y = iblk m c 0 t := by
  obtain ⟨d, rfl⟩ := (rdat m K c).finds_in_eq_fetched 0 rfl (fun _ _ _ => rfl) (fun _ _ _ h => h) t Y h
  unfold RDat.fetched RDat.blockOf iblk; rw [rdat_A]; try rfl

/-- Input window 1's buffer holds its block at every point. -/
theorem finds_1 (c : Dev nD) (t : Fin cfg0.N) (Y) (h : (rdat m K c).Finds 1 t Y) : Y = iblk m c 1 t := by
  obtain ⟨d, rfl⟩ := (rdat m K c).finds_in_eq_fetched 1 rfl (fun _ _ _ => rfl) (fun _ _ _ h => h) t Y h
  unfold RDat.fetched RDat.blockOf iblk; rw [rdat_A]; try rfl

/-- Input window 2's buffer holds its block at every point. -/
theorem finds_2 (c : Dev nD) (t : Fin cfg0.N) (Y) (h : (rdat m K c).Finds 2 t Y) : Y = iblk m c 2 t := by
  obtain ⟨d, rfl⟩ := (rdat m K c).finds_in_eq_fetched 2 rfl (fun _ _ _ => rfl) (fun _ _ _ h => h) t Y h
  unfold RDat.fetched RDat.blockOf iblk; rw [rdat_A]; try rfl

/-- Input window 3's buffer holds its block at every point. -/
theorem finds_3 (c : Dev nD) (t : Fin cfg0.N) (Y) (h : (rdat m K c).Finds 3 t Y) : Y = iblk m c 3 t := by
  obtain ⟨d, rfl⟩ := (rdat m K c).finds_in_eq_fetched 3 rfl (fun _ _ _ => rfl) (fun _ _ _ h => h) t Y h
  unfold RDat.fetched RDat.blockOf iblk; rw [rdat_A]; try rfl

/-- Input window 4's buffer holds its block at every point. -/
theorem finds_4 (c : Dev nD) (t : Fin cfg0.N) (Y) (h : (rdat m K c).Finds 4 t Y) : Y = iblk m c 4 t := by
  obtain ⟨d, rfl⟩ := (rdat m K c).finds_in_eq_fetched 4 rfl (fun _ _ _ => rfl) (fun _ _ _ h => h) t Y h
  unfold RDat.fetched RDat.blockOf iblk; rw [rdat_A]; try rfl

/-- Input window 5's buffer holds its block at every point. -/
theorem finds_5 (c : Dev nD) (t : Fin cfg0.N) (Y) (h : (rdat m K c).Finds 5 t Y) : Y = iblk m c 5 t := by
  obtain ⟨d, rfl⟩ := (rdat m K c).finds_in_eq_fetched 5 rfl (fun _ _ _ => rfl) (fun _ _ _ h => h) t Y h
  unfold RDat.fetched RDat.blockOf iblk; rw [rdat_A]; try rfl

/-- Input window 6's buffer holds its block at every point. -/
theorem finds_6 (c : Dev nD) (t : Fin cfg0.N) (Y) (h : (rdat m K c).Finds 6 t Y) : Y = iblk m c 6 t := by
  obtain ⟨d, rfl⟩ := (rdat m K c).finds_in_eq_fetched 6 rfl (fun _ _ _ => rfl) (fun _ _ _ h => h) t Y h
  unfold RDat.fetched RDat.blockOf iblk; rw [rdat_A]; try rfl

/-- Input window 7's buffer holds its block at every point. -/
theorem finds_7 (c : Dev nD) (t : Fin cfg0.N) (Y) (h : (rdat m K c).Finds 7 t Y) : Y = iblk m c 7 t := by
  obtain ⟨d, rfl⟩ := (rdat m K c).finds_in_eq_fetched 7 rfl (fun _ _ _ => rfl) (fun _ _ _ h => h) t Y h
  unfold RDat.fetched RDat.blockOf iblk; rw [rdat_A]; try rfl

/-- Input window 8's buffer holds its block at every point. -/
theorem finds_8 (c : Dev nD) (t : Fin cfg0.N) (Y) (h : (rdat m K c).Finds 8 t Y) : Y = iblk m c 8 t := by
  obtain ⟨d, rfl⟩ := (rdat m K c).finds_in_eq_fetched 8 rfl (fun _ _ _ => rfl) (fun _ _ _ h => h) t Y h
  unfold RDat.fetched RDat.blockOf iblk; rw [rdat_A]; try rfl

/-- Input window 9's buffer holds its block at every point. -/
theorem finds_9 (c : Dev nD) (t : Fin cfg0.N) (Y) (h : (rdat m K c).Finds 9 t Y) : Y = iblk m c 9 t := by
  obtain ⟨d, rfl⟩ := (rdat m K c).finds_in_eq_fetched 9 rfl (fun _ _ _ => rfl) (fun _ _ _ h => h) t Y h
  unfold RDat.fetched RDat.blockOf iblk; rw [rdat_A]; try rfl

/-- Input window 10's buffer holds its block at every point. -/
theorem finds_10 (c : Dev nD) (t : Fin cfg0.N) (Y) (h : (rdat m K c).Finds 10 t Y) : Y = iblk m c 10 t := by
  obtain ⟨d, rfl⟩ := (rdat m K c).finds_in_eq_fetched 10 rfl (fun _ _ _ => rfl) (fun _ _ _ h => h) t Y h
  unfold RDat.fetched RDat.blockOf iblk; rw [rdat_A]; try rfl

/-- Input window 11's buffer holds its block at every point. -/
theorem finds_11 (c : Dev nD) (t : Fin cfg0.N) (Y) (h : (rdat m K c).Finds 11 t Y) : Y = iblk m c 11 t := by
  obtain ⟨d, rfl⟩ := (rdat m K c).finds_in_eq_fetched 11 rfl (fun _ _ _ => rfl) (fun _ _ _ h => h) t Y h
  unfold RDat.fetched RDat.blockOf iblk; rw [rdat_A]; try rfl

/-- The running sums' buffer holds, after the first point, what the point before left. -/
theorem finds_st (c : Dev nD) (t : Fin cfg0.N) (Y) (h : (rdat m K c).Finds 21 t Y) (h0 : t.val ≠ 0) :
    K.st c ⟨t.val - 1, Nat.lt_of_le_of_lt (Nat.sub_le _ _) t.isLt⟩ Y := by
  have ht : t.val < 32 := Nat.lt_of_lt_of_eq t.isLt N_0
  rcases ((rdat m K c).finds_of_pos rfl h0 Y).mp h with h | ⟨_, -, h⟩
  · have h : (t.val - 1) % 32 = 31 := (flush0_21 _).mp h
    omega
  · exact h

/-- The body's row in the launch's table at a point. -/
theorem row_eq (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation (hK : K.Kept m) (c : Dev nD) : (rdat m K c).BodyObligation (defs₀ (F := F)) Variants.none () Set.univ := by
  intro t Y hY
  have y0 := finds_0 m K c t _ (hY 0); have y1 := finds_1 m K c t _ (hY 1); have y2 := finds_2 m K c t _ (hY 2)
  have y3 := finds_3 m K c t _ (hY 3); have y4 := finds_4 m K c t _ (hY 4); have y5 := finds_5 m K c t _ (hY 5)
  have y6 := finds_6 m K c t _ (hY 6); have y7 := finds_7 m K c t _ (hY 7); have y8 := finds_8 m K c t _ (hY 8)
  have y9 := finds_9 m K c t _ (hY 9); have y10 := finds_10 m K c t _ (hY 10); have y11 := finds_11 m K c t _ (hY 11)
  have hs := hK c t (Y 12) (Y 13) (Y 14) (Y 15) (Y 16) (Y 17) (Y 18) (Y 19) (Y 20) (Y 21) (finds_st m K c t _ (hY 21))
  rw [bigSep_W0, bigSep_W0, row_eq]
  have body : iprop(Pipeline.ΦA spec0 c ∗ (rdat m K c).owesAt () t.castSucc
        ∗ owns (c : Thread nD τ) (st0_0 t) fullShare (Y 0) ∗ owns (c : Thread nD τ) (st0_1 t) fullShare (Y 1) ∗
        owns (c : Thread nD τ) (st0_2 t) fullShare (Y 2) ∗ owns (c : Thread nD τ) (st0_3 t) fullShare (Y 3) ∗
        owns (c : Thread nD τ) (st0_4 t) fullShare (Y 4) ∗ owns (c : Thread nD τ) (st0_5 t) fullShare (Y 5) ∗
        owns (c : Thread nD τ) (st0_6 t) fullShare (Y 6) ∗ owns (c : Thread nD τ) (st0_7 t) fullShare (Y 7) ∗
        owns (c : Thread nD τ) (st0_8 t) fullShare (Y 8) ∗ owns (c : Thread nD τ) (st0_9 t) fullShare (Y 9) ∗
        owns (c : Thread nD τ) (st0_10 t) fullShare (Y 10) ∗ owns (c : Thread nD τ) (st0_11 t) fullShare (Y 11) ∗
        owns (c : Thread nD τ) (st0_12 t) fullShare (Y 12) ∗ owns (c : Thread nD τ) (st0_13 t) fullShare (Y 13) ∗
        owns (c : Thread nD τ) (st0_14 t) fullShare (Y 14) ∗ owns (c : Thread nD τ) (st0_15 t) fullShare (Y 15) ∗
        owns (c : Thread nD τ) (st0_16 t) fullShare (Y 16) ∗ owns (c : Thread nD τ) (st0_17 t) fullShare (Y 17) ∗
        owns (c : Thread nD τ) (st0_18 t) fullShare (Y 18) ∗ owns (c : Thread nD τ) (st0_19 t) fullShare (Y 19) ∗
        owns (c : Thread nD τ) (st0_20 t) fullShare (Y 20) ∗ owns (c : Thread nD τ) (st0_21 t) fullShare (Y 21))
      ⊢ wp frame (wpE (defs₀ (F := F)) Variants.none c none) Set.univ (bodyAt0 t) (fun _ =>
        iprop(Pipeline.ΦA spec0 c ∗ (rdat m K c).owesAt () t.succ
          ∗ (∃ X, ⌜X = Y 0⌝ ∗ owns (c : Thread nD τ) (st0_0 t) fullShare X)
          ∗ (∃ X, ⌜X = Y 1⌝ ∗ owns (c : Thread nD τ) (st0_1 t) fullShare X)
          ∗ (∃ X, ⌜X = Y 2⌝ ∗ owns (c : Thread nD τ) (st0_2 t) fullShare X)
          ∗ (∃ X, ⌜X = Y 3⌝ ∗ owns (c : Thread nD τ) (st0_3 t) fullShare X)
          ∗ (∃ X, ⌜X = Y 4⌝ ∗ owns (c : Thread nD τ) (st0_4 t) fullShare X)
          ∗ (∃ X, ⌜X = Y 5⌝ ∗ owns (c : Thread nD τ) (st0_5 t) fullShare X)
          ∗ (∃ X, ⌜X = Y 6⌝ ∗ owns (c : Thread nD τ) (st0_6 t) fullShare X)
          ∗ (∃ X, ⌜X = Y 7⌝ ∗ owns (c : Thread nD τ) (st0_7 t) fullShare X)
          ∗ (∃ X, ⌜X = Y 8⌝ ∗ owns (c : Thread nD τ) (st0_8 t) fullShare X)
          ∗ (∃ X, ⌜X = Y 9⌝ ∗ owns (c : Thread nD τ) (st0_9 t) fullShare X)
          ∗ (∃ X, ⌜X = Y 10⌝ ∗ owns (c : Thread nD τ) (st0_10 t) fullShare X)
          ∗ (∃ X, ⌜X = Y 11⌝ ∗ owns (c : Thread nD τ) (st0_11 t) fullShare X)
          ∗ (∃ X, ⌜K.a c t X⌝ ∗ owns (c : Thread nD τ) (st0_12 t) fullShare X)
          ∗ (∃ X, ⌜K.h2 c t X⌝ ∗ owns (c : Thread nD τ) (st0_13 t) fullShare X)
          ∗ (∃ X, ⌜K.hid c t X⌝ ∗ owns (c : Thread nD τ) (st0_14 t) fullShare X)
          ∗ (∃ X, ⌜K.dg c t X⌝ ∗ owns (c : Thread nD τ) (st0_15 t) fullShare X)
          ∗ (∃ X, ⌜K.du c t X⌝ ∗ owns (c : Thread nD τ) (st0_16 t) fullShare X)
          ∗ (∃ X, ⌜K.dx3 c t X⌝ ∗ owns (c : Thread nD τ) (st0_17 t) fullShare X)
          ∗ (∃ X, ⌜K.dx2 c t X⌝ ∗ owns (c : Thread nD τ) (st0_18 t) fullShare X)
          ∗ (∃ X, ⌜K.dof c t X⌝ ∗ owns (c : Thread nD τ) (st0_19 t) fullShare X)
          ∗ (∃ X, ⌜K.dom c t X⌝ ∗ owns (c : Thread nD τ) (st0_20 t) fullShare X)
          ∗ (∃ X, ⌜K.st c t X⌝ ∗ owns (c : Thread nD τ) (st0_21 t) fullShare X))) := by
    rw [y0, y1, y2, y3, y4, y5, y6, y7, y8, y9, y10, y11, show (rdat m K c).owesAt () t.succ = (rdat m K c).owesAt () t.castSucc from rfl]
    unfold bodyAt0
    iintro ⟨Hg, Ho, H0, H1, H2, H3, H4, H5, H6, H7, H8, H9, H10, H11, H12, H13, H14, H15, H16, H17, H18, H19, H20, H21⟩
    generalize hr : runAt m c t (Y 12) (Y 13) (Y 14) (Y 15) (Y 16) (Y 17) (Y 18) (Y 19) (Y 20) (Y 21) = r at hs
    obtain ⟨L, hL⟩ := r
    dsimp only at hs
    iapply (hL Set.univ _)
    unfold ins
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iintro ⟨⟨H0, H1, H2, H3, H4, H5, H6, H7, H8, H9, H10, H11⟩, H12, H13, H14, H15, H16, H17, H18, H19, H20, H21⟩
    isplitl [Hg]; · iexact Hg
    isplitl [Ho]; · iexact Ho
    isplitl [H0]; · iexists _; isplitr; · (ipureintro; rfl)
                    iexact H0
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    isplitl [H4]; · iexists _; isplitr; · (ipureintro; rfl)
                    iexact H4
    isplitl [H5]; · iexists _; isplitr; · (ipureintro; rfl)
                    iexact H5
    isplitl [H6]; · iexists _; isplitr; · (ipureintro; rfl)
                    iexact H6
    isplitl [H7]; · iexists _; isplitr; · (ipureintro; rfl)
                    iexact H7
    isplitl [H8]; · iexists _; isplitr; · (ipureintro; rfl)
                    iexact H8
    isplitl [H9]; · iexists _; isplitr; · (ipureintro; rfl)
                    iexact H9
    isplitl [H10]; · iexists _; isplitr; · (ipureintro; rfl)
                     iexact H10
    isplitl [H11]; · iexists _; isplitr; · (ipureintro; rfl)
                     iexact H11
    isplitl [H12]; · iexists _; isplitr; · (ipureintro; exact hs.1)
                     iexact H12
    isplitl [H13]; · iexists _; isplitr; · (ipureintro; exact hs.2.1)
                     iexact H13
    isplitl [H14]; · iexists _; isplitr; · (ipureintro; exact hs.2.2.1)
                     iexact H14
    isplitl [H15]; · iexists _; isplitr; · (ipureintro; exact hs.2.2.2.1)
                     iexact H15
    isplitl [H16]; · iexists _; isplitr; · (ipureintro; exact hs.2.2.2.2.1)
                     iexact H16
    isplitl [H17]; · iexists _; isplitr; · (ipureintro; exact hs.2.2.2.2.2.1)
                     iexact H17
    isplitl [H18]; · iexists _; isplitr; · (ipureintro; exact hs.2.2.2.2.2.2.1)
                     iexact H18
    isplitl [H19]; · iexists _; isplitr; · (ipureintro; exact hs.2.2.2.2.2.2.2.1)
                     iexact H19
    isplitl [H20]; · iexists _; isplitr; · (ipureintro; exact hs.2.2.2.2.2.2.2.2.1)
                     iexact H20
    iexists _; isplitr; · (ipureintro; exact hs.2.2.2.2.2.2.2.2.2)
    iexact H21
  exact triple_restated body rfl .rfl fun _ => .rfl

set_option backward.isDefEq.respectTransparency.types false in
/-- The whole program's run: every weakly fair execution terminates with the inputs as they were, the outputs as the
    launch's proof data say, and every counter at zero. -/
theorem run_main (hK : K.Kept m) : θ_run defs (onTc (τ := τ) (main (F := F))) (s₀ m ρ)
    (fun r => RDat.FramePost (cfgs 0) (rdat m K) (V m) r ∧ r.2.sem = fun _ => 0) :=
  RDat.θ_run_frame_track (Q' := _) cfgs (0 : Fin 1) launch0 defs₀ Variants.none (rdat m K) m ρ main
    (hbody := body_obligation m K hK) (hshare := fun c => (rdat m K c).share_full fun _ => rfl)
    (howed := fun _ _ => rfl) (V := V m) (hmain := hmain m Variants.none) (hA := rdat_A m K)
    (hin := fun _ => .rfl) (hout := fun _ => .rfl)

/-- Nothing followed. -/
def noTrack : Track F where
  a _ _ _ := True
  h2 _ _ _ := True
  hid _ _ _ := True
  dg _ _ _ := True
  du _ _ _ := True
  dx3 _ _ _ := True
  dx2 _ _ _ := True
  dof _ _ _ := True
  dom _ _ _ := True
  st _ _ _ := True

theorem noTrack_kept : (noTrack (F := F)).Kept m := fun _ _ _ _ _ _ _ _ _ _ _ _ _ =>
  ⟨trivial, trivial, trivial, trivial, trivial, trivial, trivial, trivial, trivial, trivial⟩

/-- The frame: the program terminates with its twelve arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨
      (h.1.arr_in c 0 rfl).trans ((rdat_A m noTrack c 0).trans (V_main_arg0 m c)),
      (h.1.arr_in c 1 rfl).trans ((rdat_A m noTrack c 1).trans (V_main_arg1 m c)),
      (h.1.arr_in c 2 rfl).trans ((rdat_A m noTrack c 2).trans (V_main_arg2 m c)),
      (h.1.arr_in c 3 rfl).trans ((rdat_A m noTrack c 3).trans (V_main_arg3 m c)),
      (h.1.arr_in c 4 rfl).trans ((rdat_A m noTrack c 4).trans (V_main_arg4 m c)),
      (h.1.arr_in c 5 rfl).trans ((rdat_A m noTrack c 5).trans (V_main_arg5 m c)),
      (h.1.arr_in c 6 rfl).trans ((rdat_A m noTrack c 6).trans (V_main_arg6 m c)),
      (h.1.arr_in c 7 rfl).trans ((rdat_A m noTrack c 7).trans (V_main_arg7 m c)),
      (h.1.arr_in c 8 rfl).trans ((rdat_A m noTrack c 8).trans (V_main_arg8 m c)),
      (h.1.arr_in c 9 rfl).trans ((rdat_A m noTrack c 9).trans (V_main_arg9 m c)),
      (h.1.arr_in c 10 rfl).trans ((rdat_A m noTrack c 10).trans (V_main_arg10 m c)),
      (h.1.arr_in c 11 rfl).trans ((rdat_A m noTrack c 11).trans (V_main_arg11 m c))⟩, h.2⟩)
    (run_main m ρ noTrack (noTrack_kept m))

end Cert.MiddleIdeal.Hand
-- ==== Proof.MiddleFrame.lean ====
/- The frame of the traced kernel: its launch and its body are those of the kernel over the real numbers. -/
module

public import proofs.«01_k».proof.Defs
public import proofs.«01_k».proof.Proof.Gen.Middle.Frame
public import proofs.«01_k».proof.Proof.MiddleIdealFrame

@[expose] public section

set_option maxRecDepth 65536

noncomputable section

namespace Cert.Middle.Hand

open Idealize.ShloMosaic
variable {F : FTy → Type} [FloatOps F]

set_option maxHeartbeats 4000000 in
/-- The two tables of bodies are the same. -/
theorem e_defs0 : (Middle.defs₀ : Defs Middle.nD Middle.τ Middle.sig (Elt F) Middle.Λ₀) = MiddleIdeal.defs₀ := by
  unfold Middle.defs₀ MiddleIdeal.defs₀
  refine congrArg Defs.onTc (funext fun l => funext fun a => ?_)
  match l, a with
  | 0, (t, s) => rfl
  | ⟨_ + 1, h⟩, _ => exact absurd h (Nat.not_lt.2 (Nat.le_add_left _ _))

set_option maxHeartbeats 4000000 in
/-- So are the two tables of all functions. -/
theorem e_defs : Middle.defs (F := F) = MiddleIdeal.defs (F := F) := by
  unfold Middle.defs MiddleIdeal.defs
  rw [e_defs0]; rfl

/-- The traced kernel runs to its end, leaves its arguments as they were and no signal behind. -/
theorem frame : Cert.quiescent_Middle := fun m ρ _ => by
  rw [e_defs]
  exact MiddleIdeal.Hand.frame (F := Bits) m ρ

end Cert.Middle.Hand
-- ==== Proof.MiddleSpec.lean ====
/- The middle of the step over the real numbers, one token at a time: the two norms of the attentions' outputs, the output
projection, the gated feed-forward layer, the loss, and the gradients on the way back to the attentions' outputs. -/
module

public import proofs.«01_k».proof.Proof.Heads

@[expose] public section

noncomputable section

namespace Cert.Mid

open Cert.Attn Idealize.ShloMosaic

/-- The small number under the norms' roots. -/
def ε : ℝ := (Ideal.ofBits .f32 0x358637BD#32).toReal

theorem eps_eq : Ideal.ofBits .f32 0x358637BD#32 = (ε : EReal) := by
  rw [ε]; simp [Ideal.ofBits, Ideal.ieee]; norm_cast

theorem eps_pos : 0 < ε := by
  rw [ε]; simp [Ideal.ofBits, Ideal.ieee]; norm_cast; norm_num

theorem c512 : Ideal.ofBits .f32 0x3B000000#32 = ((1 / 512 : ℝ) : EReal) := by
  simp [Ideal.ofBits, Ideal.ieee]; norm_cast; norm_num

theorem c1024 : Ideal.ofBits .f32 0x3A800000#32 = ((1 / 1024 : ℝ) : EReal) := by
  simp [Ideal.ofBits, Ideal.ieee]; norm_cast; norm_num

theorem c2048 : Ideal.ofBits .f32 0x3A000000#32 = ((1 / 2048 : ℝ) : EReal) := by
  simp [Ideal.ofBits, Ideal.ieee]; norm_cast; norm_num

theorem n512 : Ideal.ofBits .f32 0x44000000#32 = ((512 : ℝ) : EReal) := by
  simp [Ideal.ofBits, Ideal.ieee]; norm_cast; norm_num

theorem n1024 : Ideal.ofBits .f32 0x44800000#32 = ((1024 : ℝ) : EReal) := by
  simp [Ideal.ofBits, Ideal.ieee]; norm_cast; norm_num

theorem nhalf : Ideal.ofBits .f32 0xBF000000#32 = ((-(1 / 2) : ℝ) : EReal) := by
  simp [Ideal.ofBits, Ideal.ieee]; norm_cast; norm_num

theorem half : Ideal.ofBits .f32 0x3F000000#32 = ((1 / 2 : ℝ) : EReal) := by
  simp [Ideal.ofBits, Ideal.ieee]; norm_cast; norm_num

theorem two : Ideal.ofBits .f32 0x40000000#32 = ((2 : ℝ) : EReal) := by
  simp [Ideal.ofBits, Ideal.ieee]; norm_cast; norm_num

theorem one : Ideal.ofBits .f32 0x3F800000#32 = ((1 : ℝ) : EReal) := Ideal.ofBits_one_f32

/-! ## The norm of a row and its gradient -/

section Norm

variable {n : ℕ} (u v : Fin n → ℝ)

/-- The mean square and the small number. -/
def ms : ℝ := (∑ i, v i * v i) * (1 / (n : ℝ)) + ε

/-- The reciprocal of its root. -/
def inv : ℝ := (Real.sqrt (ms v))⁻¹

/-- The row over its root mean square. -/
def hat (i : Fin n) : ℝ := v i * inv v

/-- The gradient of the row, given the gradient of `hat`. -/
def back (i : Fin n) : ℝ := inv v * (u i - hat v i * ((∑ j, u j * hat v j) * (1 / (n : ℝ))))

theorem ms_pos : 0 < ms v :=
  add_pos_of_nonneg_of_pos (mul_nonneg (Finset.sum_nonneg fun i _ => mul_self_nonneg _) (by positivity)) eps_pos

theorem rsqrt_ms : Ideal.rsqrt (ms v : EReal) = (inv v : EReal) := by
  rw [Ideal.rsqrt_coe, if_neg (ms_pos v).not_gt, if_neg (ms_pos v).ne', inv]

theorem inv_div : inv v / ms v = inv v * inv v * inv v := by
  have h : Real.sqrt (ms v) * Real.sqrt (ms v) = ms v := Real.mul_self_sqrt (ms_pos v).le
  have h0 : Real.sqrt (ms v) ≠ 0 := (Real.sqrt_pos.mpr (ms_pos v)).ne'
  rw [inv]
  generalize Real.sqrt (ms v) = s at h h0 ⊢
  rw [← h]; field_simp

/-- The gradient as the sum of the three terms of the chain rule. -/
theorem back_eq (i : Fin n) : back u v i
    = u i * inv v + (v i * ((∑ j, v j * u j) * (-(1 / 2) * (inv v / ms v)) / n)
      + ((∑ j, v j * u j) * (-(1 / 2) * (inv v / ms v)) / n) * v i) := by
  have : ∑ j, u j * hat v j = (∑ j, v j * u j) * inv v := by
    rw [Finset.sum_mul]; exact Finset.sum_congr rfl fun j _ => by rw [hat]; ring
  rw [back, this, inv_div, hat]; ring

end Norm

/-! ## A token's numbers -/

/-- What every token shares: the gains of the four norms, the output projection, and the three matrices of the
feed-forward layer. -/
structure Weights where
  gf : Fin 512 → ℝ
  gm : Fin 512 → ℝ
  g2 : Fin 1024 → ℝ
  g3 : Fin 1024 → ℝ
  wo : Fin 1024 → Fin 1024 → ℝ
  wg : Fin 2816 → Fin 1024 → ℝ
  wu : Fin 2816 → Fin 1024 → ℝ
  wd : Fin 2816 → Fin 1024 → ℝ

/-- What is a token's own: the two attentions' outputs, the residual, the target. -/
structure Token where
  f : Fin 512 → ℝ
  m : Fin 512 → ℝ
  x : Fin 1024 → ℝ
  t : Fin 1024 → ℝ

/-- Two rows side by side. -/
def join (p q : Fin 512 → ℝ) (e : Fin 1024) : ℝ := if h : e.val < 512 then p ⟨e.val, h⟩ else q ⟨e.val - 512, by omega⟩

/-- The first half of a row, -/
def fst (p : Fin 1024 → ℝ) (e : Fin 512) : ℝ := p ⟨e.val, by omega⟩

/-- and the second. -/
def snd (p : Fin 1024 → ℝ) (e : Fin 512) : ℝ := p ⟨512 + e.val, by omega⟩

/-- The logistic function. -/
def sig (x : ℝ) : ℝ := (1 + Real.exp (-x))⁻¹

section Tok

variable (W : Weights) (k : Token)

def nf (e : Fin 512) : ℝ := hat k.f e * W.gf e
def nm (e : Fin 512) : ℝ := hat k.m e * W.gm e
def a : Fin 1024 → ℝ := join (nf W k) (nm W k)
def x2 (e : Fin 1024) : ℝ := k.x e + ∑ d, a W k d * W.wo d e
def h2 (e : Fin 1024) : ℝ := hat (x2 W k) e * W.g2 e
def gate (j : Fin 2816) : ℝ := ∑ d, h2 W k d * W.wg j d
def up (j : Fin 2816) : ℝ := ∑ d, h2 W k d * W.wu j d
def sg (j : Fin 2816) : ℝ := sig (gate W k j)
def sl (j : Fin 2816) : ℝ := gate W k j * sg W k j
def hid (j : Fin 2816) : ℝ := sl W k j * up W k j
def x3 (e : Fin 1024) : ℝ := x2 W k e + ∑ j, hid W k j * W.wd j e
def diff (e : Fin 1024) : ℝ := hat (x3 W k) e * W.g3 e - k.t e
def dy (e : Fin 1024) : ℝ := diff W k e * (1 / 1024)
def u3 (e : Fin 1024) : ℝ := dy W k e * W.g3 e
def dx3 : Fin 1024 → ℝ := back (u3 W k) (x3 W k)
def dhid (j : Fin 2816) : ℝ := ∑ e, dx3 W k e * W.wd j e
def dg (j : Fin 2816) : ℝ := dhid W k j * up W k j * (sg W k j * (1 + gate W k j * (1 - sg W k j)))
def du (j : Fin 2816) : ℝ := dhid W k j * sl W k j
def dh2 (e : Fin 1024) : ℝ := (∑ j, dg W k j * W.wg j e) + ∑ j, du W k j * W.wu j e
def u2 (e : Fin 1024) : ℝ := dh2 W k e * W.g2 e
def dx2 (e : Fin 1024) : ℝ := dx3 W k e + back (u2 W k) (x2 W k) e
def da (d : Fin 1024) : ℝ := ∑ e, dx2 W k e * W.wo d e
def uf (e : Fin 512) : ℝ := fst (da W k) e * W.gf e
def um (e : Fin 512) : ℝ := snd (da W k) e * W.gm e
def dof : Fin 512 → ℝ := back (uf W k) k.f
def dom : Fin 512 → ℝ := back (um W k) k.m

/-- What a token adds to the eight rows of sums: the gains' gradients in rows one to three, the loss in row seven. -/
def stat (r : Fin 8) (e : Fin 1024) : ℝ :=
  if r = 1 then dh2 W k e * hat (x2 W k) e
  else if r = 2 then dy W k e * hat (x3 W k) e
  else if r = 3 then join (fun i => fst (da W k) i * hat k.f i) (fun i => snd (da W k) i * hat k.m i) e
  else if r = 7 then diff W k e * diff W k e * (1 / 2048)
  else 0

end Tok

end Cert.Mid
-- ==== Proof.MiddleTile.lean ====
/- The payloads of the middle's body at an index: what each is over the real numbers, given that what it reads is real. -/
module

public import proofs.«01_k».proof.Proof.Gen.MiddleIdeal.Skeleton
public import proofs.«01_k».proof.Proof.MiddleSpec

@[expose] public section

set_option maxRecDepth 16384

noncomputable section

namespace Cert.MiddleIdeal.Tile

open Cert.MiddleIdeal Cert.MiddleIdeal.Gen Cert.Mid Cert.Attn
open Idealize.ShloMosaic Idealize.ShloMosaic.TcCoe

section Norms

variable {p : Vec Ideal S256x512 .f32} {f : Fin 256 → Fin 512 → ℝ}

theorem pay4_at (hp : ∀ a i, p (ix2 a i) = (f a i : EReal)) (a : Fin 256) (o : Fin 1) :
    k0_pay4 (F := Ideal) p (ix2 a o) = (inv (f a) : EReal) := by
  pointwise [k0_pay4]
  simp only [hp, c512, eps_eq, dite_eq_ite, ite_self, ← EReal.coe_mul, ← coe_sum, ← EReal.coe_add]
  rw [← rsqrt_ms, ms]; norm_num

theorem pay5_eq : k0_pay5 (F := Ideal) p = k0_pay4 (F := Ideal) p := rfl

theorem pay6_at (hp : ∀ a i, p (ix2 a i) = (f a i : EReal)) (a : Fin 256) (i : Fin 512) :
    k0_pay6 (F := Ideal) p (ix2 a i) = (hat (f a) i : EReal) := by
  pointwise [k0_pay6]
  simp only [hp, pay4_at hp, dite_eq_ite, ite_self, ← EReal.coe_mul, hat]

theorem pay7_eq : k0_pay7 (F := Ideal) p = k0_pay6 (F := Ideal) p := rfl

end Norms

variable {W : Weights} {K : Fin 256 → Token}

/-! ## The way forward -/

section Forward

variable {v3 v4 : Vec Ideal S256x512 .f32} {v25 v28 : Vec Ideal S1x512 .f32} {v32 : FVec Ideal S256x1024 .bf16} {v34 : Vec Ideal S256x1024 .f32}
  {v35 : Vec Ideal S1024x1024 .bf16} {v48 : Vec Ideal S1x1024 .f32} {v53 v55 v62 : Vec Ideal S2816x1024 .bf16}

theorem pay8_at (h3 : ∀ a i, v3 (ix2 a i) = ((K a).f i : EReal)) (h4 : ∀ a i, v4 (ix2 a i) = ((K a).m i : EReal))
    (h25 : ∀ o i, v25 (ix2 o i) = (W.gf i : EReal)) (h28 : ∀ o i, v28 (ix2 o i) = (W.gm i : EReal)) (a : Fin 256) (e : Fin 1024) :
    k0_pay8 (F := Ideal) v3 v4 v25 v28 (ix2 a e) = (Mid.a W (K a) e : EReal) := by
  pointwise [k0_pay8]
  simp only [pay6_at h3, pay7_eq, pay6_at h4, h25, h28, dite_eq_ite, ite_self, ← EReal.coe_mul, Mid.a, join, nf, nm]
  split <;> rfl

variable (h32 : ∀ a e, v32 (ix2 a e) = (Mid.a W (K a) e : EReal)) (h34 : ∀ a e, v34 (ix2 a e) = ((K a).x e : EReal))
  (h35 : ∀ d e, v35 (ix2 d e) = (W.wo d e : EReal)) (h48 : ∀ o e, v48 (ix2 o e) = (W.g2 e : EReal))
  (h53 : ∀ j e, v53 (ix2 j e) = (W.wg j e : EReal)) (h55 : ∀ j e, v55 (ix2 j e) = (W.wu j e : EReal))
  (h62 : ∀ j e, v62 (ix2 j e) = (W.wd j e : EReal))
include h32 h34 h35

theorem pay9_at (a : Fin 256) (e : Fin 1024) : k0_pay9 (F := Ideal) v32 v34 v35 (ix2 a e) = (x2 W (K a) e : EReal) := by
  pointwise [k0_pay9]
  simp only [h32, h34, h35, dite_eq_ite, ite_self, ← EReal.coe_mul, ← coe_sum, ← EReal.coe_add, x2]

theorem pay10_at (a : Fin 256) (o : Fin 1) : k0_pay10 (F := Ideal) v32 v34 v35 (ix2 a o) = (inv (x2 W (K a)) : EReal) := by
  pointwise [k0_pay10]
  simp only [pay9_at h32 h34 h35, c1024, eps_eq, dite_eq_ite, ite_self, ← EReal.coe_mul, ← coe_sum, ← EReal.coe_add]
  rw [← rsqrt_ms, ms]; norm_num

theorem pay11_at (a : Fin 256) (e : Fin 1024) : k0_pay11 (F := Ideal) v32 v34 v35 (ix2 a e) = (hat (x2 W (K a)) e : EReal) := by
  pointwise [k0_pay11]
  simp only [pay9_at h32 h34 h35, pay10_at h32 h34 h35, dite_eq_ite, ite_self, ← EReal.coe_mul, hat]

include h48

theorem pay12_at (a : Fin 256) (e : Fin 1024) : k0_pay12 (F := Ideal) v32 v34 v35 v48 (ix2 a e) = (h2 W (K a) e : EReal) := by
  pointwise [k0_pay12]
  simp only [pay11_at h32 h34 h35, h48, dite_eq_ite, ite_self, ← EReal.coe_mul, h2]

theorem pay14_at (h55 : ∀ j e, v55 (ix2 j e) = (W.wu j e : EReal)) (a : Fin 256) (j : Fin 2816) :
    k0_pay14 (F := Ideal) v32 v34 v35 v48 v55 (ix2 a j) = (up W (K a) j : EReal) := by
  pointwise [k0_pay14]
  simp only [pay12_at h32 h34 h35 h48, h55, dite_eq_ite, ite_self, ← EReal.coe_mul, ← coe_sum, up]

include h53

theorem pay13_at (a : Fin 256) (j : Fin 2816) : k0_pay13 (F := Ideal) v32 v34 v35 v48 v53 (ix2 a j) = (gate W (K a) j : EReal) := by
  pointwise [k0_pay13]
  simp only [pay12_at h32 h34 h35 h48, h53, dite_eq_ite, ite_self, ← EReal.coe_mul, ← coe_sum, gate]

theorem pay15_at (a : Fin 256) (j : Fin 2816) : k0_pay15 (F := Ideal) v32 v34 v35 v48 v53 (ix2 a j) = (sg W (K a) j : EReal) := by
  pointwise [k0_pay15]
  rw [pay13_at h32 h34 h35 h48 h53, Ideal.logistic_coe]
  rfl

theorem pay16_at (a : Fin 256) (j : Fin 2816) : k0_pay16 (F := Ideal) v32 v34 v35 v48 v53 (ix2 a j) = (sl W (K a) j : EReal) := by
  pointwise [k0_pay16]
  rw [pay13_at h32 h34 h35 h48 h53, pay15_at h32 h34 h35 h48 h53, ← EReal.coe_mul, sl]

include h55

theorem pay17_at (a : Fin 256) (j : Fin 2816) : k0_pay17 (F := Ideal) v32 v34 v35 v48 v53 v55 (ix2 a j) = (hid W (K a) j : EReal) := by
  pointwise [k0_pay17]
  rw [pay16_at h32 h34 h35 h48 h53, pay14_at h32 h34 h35 h48 h55, ← EReal.coe_mul, hid]

include h62

theorem pay18_at (a : Fin 256) (e : Fin 1024) : k0_pay18 (F := Ideal) v32 v34 v35 v48 v53 v55 v62 (ix2 a e) = (x3 W (K a) e : EReal) := by
  pointwise [k0_pay18]
  simp only [pay9_at h32 h34 h35, pay17_at h32 h34 h35 h48 h53 h55, h62, dite_eq_ite, ite_self, ← EReal.coe_mul, ← coe_sum, ← EReal.coe_add, x3]

/-- The reciprocal root of the last norm. -/
theorem pay21_at (a : Fin 256) (o : Fin 1) : k0_pay21 (F := Ideal) (k0_pay19 v32 v34 v35 v48 v53 v55 v62) k0_pay20 (ix2 a o)
    = (inv (x3 W (K a)) : EReal) := by
  pointwise [k0_pay21, k0_pay19, k0_pay20]
  simp only [pay18_at h32 h34 h35 h48 h53 h55 h62, c1024, eps_eq, dite_eq_ite, ite_self, ← EReal.coe_mul, ← coe_sum, ← EReal.coe_add]
  rw [← rsqrt_ms, ms]; norm_num

end Forward

/-! ## The loss and the last norm's gradient -/

section Loss

variable {v64 : FVec Ideal S256x1024 .f32} {v69 v70 : FVec Ideal S256x1 .f32} {v75 : Vec Ideal S1x1024 .f32} {v78 : Vec Ideal S256x1024 .f32}
  {v82 v91 : Vec Ideal S1x1024 .f32} {w : Fin 1024 → ℝ}
  (h64 : ∀ a e, v64 (ix2 a e) = (x3 W (K a) e : EReal)) (h72 : ∀ a o, k0_pay21 (F := Ideal) v69 v70 (ix2 a o) = (inv (x3 W (K a)) : EReal))
  (h75 : ∀ o e, v75 (ix2 o e) = (W.g3 e : EReal)) (h78 : ∀ a e, v78 (ix2 a e) = ((K a).t e : EReal))
include h64 h72

theorem pay22_at (a : Fin 256) (e : Fin 1024) : k0_pay22 (F := Ideal) v64 v69 v70 (ix2 a e) = (hat (x3 W (K a)) e : EReal) := by
  pointwise [k0_pay22]
  simp only [h64, h72, dite_eq_ite, ite_self, ← EReal.coe_mul, hat]

include h75 h78

theorem pay23_at (a : Fin 256) (e : Fin 1024) : k0_pay23 (F := Ideal) v64 v69 v70 v75 v78 (ix2 a e) = (diff W (K a) e : EReal) := by
  pointwise [k0_pay23]
  simp only [pay22_at h64 h72, h75, h78, dite_eq_ite, ite_self, ← EReal.coe_mul, ← EReal.coe_sub, diff]

theorem pay24_at (a : Fin 256) (e : Fin 1024) : k0_pay24 (F := Ideal) v64 v69 v70 v75 v78 (ix2 a e) = (dy W (K a) e : EReal) := by
  pointwise [k0_pay24]
  simp only [pay23_at h64 h72 h75 h78, c1024, dite_eq_ite, ite_self, ← EReal.coe_mul, dy]

/-- The loss of the tile, on top of what the row held. -/
theorem pay25_at (h : ∀ o e, v82 (ix2 o e) = (w e : EReal)) (o : Fin 1) (e : Fin 1024) :
    k0_pay25 (F := Ideal) v64 v69 v70 v75 v78 v82 (ix2 o e) = ((w e + ∑ a, stat W (K a) 7 e : ℝ) : EReal) := by
  pointwise [k0_pay25]
  simp only [pay23_at h64 h72 h75 h78, h, c2048, dite_eq_ite, ite_self, ← EReal.coe_mul, ← coe_sum, ← EReal.coe_add]
  rw [Finset.sum_mul]; rfl

/-- The gradient of the last gain of the tile, on top of what the row held. -/
theorem pay26_at (h : ∀ o e, v91 (ix2 o e) = (w e : EReal)) (o : Fin 1) (e : Fin 1024) :
    k0_pay26 (F := Ideal) v64 v69 v70 v75 v78 v91 (ix2 o e) = ((w e + ∑ a, stat W (K a) 2 e : ℝ) : EReal) := by
  pointwise [k0_pay26]
  simp only [pay24_at h64 h72 h75 h78, pay22_at h64 h72, h, dite_eq_ite, ite_self, ← EReal.coe_mul, ← coe_sum, ← EReal.coe_add]
  rfl

theorem pay28_at (a : Fin 256) (e : Fin 1024) :
    k0_pay28 (F := Ideal) (k0_pay21 v69 v70) (k0_pay27 v64 v69 v70 v75 v78 v75) (ix2 a e) = (dx3 W (K a) e : EReal) := by
  pointwise [k0_pay28, k0_pay27]
  simp only [pay24_at h64 h72 h75 h78, pay22_at h64 h72, h72, h75, c1024, dite_eq_ite, ite_self, ← EReal.coe_mul, ← coe_sum, ← EReal.coe_sub]
  rw [dx3, back]; simp only [u3]; norm_num

end Loss

/-! ## The feed-forward layer's gradients -/

section Gated

variable {v54 v56 v57 v58 : FVec Ideal S256x2816 .f32} {v72 : FVec Ideal S256x1 .f32} {v108 : FVec Ideal S256x1024 .f32}
  {v113 v128 v130 : Vec Ideal S2816x1024 .bf16} {v47 : FVec Ideal S256x1024 .f32} {v133 : Vec Ideal S1x1024 .f32} {w : Fin 1024 → ℝ}
  (h54 : ∀ a j, v54 (ix2 a j) = (gate W (K a) j : EReal)) (h56 : ∀ a j, v56 (ix2 a j) = (up W (K a) j : EReal))
  (h57 : ∀ a j, v57 (ix2 a j) = (sg W (K a) j : EReal)) (h58 : ∀ a j, v58 (ix2 a j) = (sl W (K a) j : EReal))
  (h110 : ∀ a e, k0_pay28 (F := Ideal) v72 v108 (ix2 a e) = (dx3 W (K a) e : EReal)) (h113 : ∀ j e, v113 (ix2 j e) = (W.wd j e : EReal))
  (h128 : ∀ j e, v128 (ix2 j e) = (W.wg j e : EReal)) (h130 : ∀ j e, v130 (ix2 j e) = (W.wu j e : EReal))

include h110 in
theorem pay29_at (a : Fin 256) (e : Fin 1024) : k0_pay29 (F := Ideal) v72 v108 (ix2 a e) = (dx3 W (K a) e : EReal) := by
  pointwise [k0_pay29]
  exact h110 a e

include h110 h113

theorem pay30_at (a : Fin 256) (j : Fin 2816) : k0_pay30 (F := Ideal) v72 v108 v113 (ix2 a j) = (dhid W (K a) j : EReal) := by
  pointwise [k0_pay30]
  simp only [pay29_at h110, h113, dite_eq_ite, ite_self, ← EReal.coe_mul, ← coe_sum, dhid]

include h58 in
theorem pay32_at (a : Fin 256) (j : Fin 2816) : k0_pay32 (F := Ideal) v58 v72 v108 v113 (ix2 a j) = (du W (K a) j : EReal) := by
  pointwise [k0_pay32]
  rw [pay30_at h110 h113, h58, ← EReal.coe_mul, du]

include h54 h56 h57

theorem pay31_at (a : Fin 256) (j : Fin 2816) : k0_pay31 (F := Ideal) v54 v56 v57 v72 v108 v113 (ix2 a j) = (dg W (K a) j : EReal) := by
  pointwise [k0_pay31]
  simp only [pay30_at h110 h113, h54, h56, h57, ← EReal.coe_one, dite_eq_ite, ite_self, ← EReal.coe_mul, ← EReal.coe_sub, ← EReal.coe_add, dg]

include h58 h128 h130

theorem pay33_at (a : Fin 256) (e : Fin 1024) :
    k0_pay33 (F := Ideal) v54 v56 v57 v58 v72 v108 v113 v128 v130 (ix2 a e) = (dh2 W (K a) e : EReal) := by
  pointwise [k0_pay33]
  simp only [pay31_at h54 h56 h57 h110 h113, pay32_at h58 h110 h113, h128, h130, dite_eq_ite, ite_self, ← EReal.coe_mul, ← coe_sum,
    ← EReal.coe_add, dh2]

/-- The gradient of the middle gain of the tile, on top of what the row held. -/
theorem pay34_at (h47 : ∀ a e, v47 (ix2 a e) = (hat (x2 W (K a)) e : EReal)) (h : ∀ o e, v133 (ix2 o e) = (w e : EReal)) (o : Fin 1) (e : Fin 1024) :
    k0_pay34 (F := Ideal) v47 v54 v56 v57 v58 v72 v108 v113 v128 v130 v133 (ix2 o e) = ((w e + ∑ a, stat W (K a) 1 e : ℝ) : EReal) := by
  pointwise [k0_pay34]
  simp only [pay33_at h54 h56 h57 h58 h110 h113 h128 h130, h47, h, dite_eq_ite, ite_self, ← EReal.coe_mul, ← coe_sum, ← EReal.coe_add]
  rfl

end Gated

/-! ## Back to the attentions' outputs -/

section Back

variable {v12 v20 v45 : FVec Ideal S256x1 .f32} {v22 v24 : FVec Ideal S256x512 .f32} {v47 v110 v132 : FVec Ideal S256x1024 .f32}
  {v140 : Vec Ideal S1x1024 .f32} {v156 : Vec Ideal S1024x1024 .bf16} {v160 v167 v174 v189 : Vec Ideal S1x512 .f32} {w : Fin 512 → ℝ}
  (h12 : ∀ a o, v12 (ix2 a o) = (inv (K a).f : EReal)) (h20 : ∀ a o, v20 (ix2 a o) = (inv (K a).m : EReal))
  (h22 : ∀ a i, v22 (ix2 a i) = (hat (K a).f i : EReal)) (h24 : ∀ a i, v24 (ix2 a i) = (hat (K a).m i : EReal))
  (h45 : ∀ a o, v45 (ix2 a o) = (inv (x2 W (K a)) : EReal)) (h47 : ∀ a e, v47 (ix2 a e) = (hat (x2 W (K a)) e : EReal))
  (h110 : ∀ a e, v110 (ix2 a e) = (dx3 W (K a) e : EReal)) (h132 : ∀ a e, v132 (ix2 a e) = (dh2 W (K a) e : EReal))
  (h140 : ∀ o e, v140 (ix2 o e) = (W.g2 e : EReal)) (h156 : ∀ d e, v156 (ix2 d e) = (W.wo d e : EReal))
  (h174 : ∀ o i, v174 (ix2 o i) = (W.gf i : EReal)) (h189 : ∀ o i, v189 (ix2 o i) = (W.gm i : EReal))
include h45 h47 h110 h132 h140

theorem pay35_at (a : Fin 256) (e : Fin 1024) : k0_pay35 (F := Ideal) v45 v47 v110 v132 v140 (ix2 a e) = (dx2 W (K a) e : EReal) := by
  pointwise [k0_pay35]
  simp only [h45, h47, h110, h132, h140, c1024, dite_eq_ite, ite_self, ← EReal.coe_mul, ← coe_sum, ← EReal.coe_sub, ← EReal.coe_add]
  rw [dx2, back]; simp only [u2]; norm_num

include h156

theorem pay36_at (a : Fin 256) (d : Fin 1024) : k0_pay36 (F := Ideal) v45 v47 v110 v132 v140 v156 (ix2 a d) = (da W (K a) d : EReal) := by
  pointwise [k0_pay36]
  simp only [pay35_at h45 h47 h110 h132 h140, h156, dite_eq_ite, ite_self, ← EReal.coe_mul, ← coe_sum, da]

theorem pay37_at (a : Fin 256) (i : Fin 512) : k0_pay37 (F := Ideal) v45 v47 v110 v132 v140 v156 (ix2 a i) = (fst (da W (K a)) i : EReal) := by
  pointwise [k0_pay37]
  simp only [pay36_at h45 h47 h110 h132 h140 h156, fst]

theorem pay38_at (a : Fin 256) (i : Fin 512) : k0_pay38 (F := Ideal) v45 v47 v110 v132 v140 v156 (ix2 a i) = (snd (da W (K a)) i : EReal) := by
  pointwise [k0_pay38]
  simp only [pay36_at h45 h47 h110 h132 h140 h156, snd]

include h22 in
/-- The gradients of the attentions' gains of the tile, on top of what the half rows held. -/
theorem pay39_at (h : ∀ o i, v160 (ix2 o i) = (w i : EReal)) (o : Fin 1) (i : Fin 512) :
    k0_pay39 (F := Ideal) v22 v45 v47 v110 v132 v140 v156 v160 (ix2 o i) = ((w i + ∑ a, fst (da W (K a)) i * hat (K a).f i : ℝ) : EReal) := by
  pointwise [k0_pay39]
  simp only [pay37_at h45 h47 h110 h132 h140 h156, h22, h, dite_eq_ite, ite_self, ← EReal.coe_mul, ← coe_sum, ← EReal.coe_add]

include h24 in
theorem pay40_at (h : ∀ o i, v167 (ix2 o i) = (w i : EReal)) (o : Fin 1) (i : Fin 512) :
    k0_pay40 (F := Ideal) v24 v45 v47 v110 v132 v140 v156 v167 (ix2 o i) = ((w i + ∑ a, snd (da W (K a)) i * hat (K a).m i : ℝ) : EReal) := by
  pointwise [k0_pay40]
  simp only [pay38_at h45 h47 h110 h132 h140 h156, h24, h, dite_eq_ite, ite_self, ← EReal.coe_mul, ← coe_sum, ← EReal.coe_add]

include h12 h22 h174 in
theorem pay1_at (a : Fin 256) (i : Fin 512) : k0_pay1 (F := Ideal) v12 v22 (k0_pay41 v45 v47 v110 v132 v140 v156 v174)
    (k0_pay42 v22 v45 v47 v110 v132 v140 v156 v174) (ix2 a i) = (dof W (K a) i : EReal) := by
  pointwise [k0_pay1, k0_pay41, k0_pay42]
  simp only [pay37_at h45 h47 h110 h132 h140 h156, h12, h22, h174, c512, dite_eq_ite, ite_self, ← EReal.coe_mul, ← coe_sum, ← EReal.coe_sub]
  rw [dof, back]; simp only [uf]; norm_num

include h20 h24 h189 in
theorem pay2_at (a : Fin 256) (i : Fin 512) :
    k0_pay2 (F := Ideal) v20 v24 (k0_pay38 v45 v47 v110 v132 v140 v156) v189 (ix2 a i) = (dom W (K a) i : EReal) := by
  pointwise [k0_pay2]
  simp only [pay38_at h45 h47 h110 h132 h140 h156, h20, h24, h189, c512, dite_eq_ite, ite_self, ← EReal.coe_mul, ← coe_sum, ← EReal.coe_sub]
  rw [dom, back]; simp only [um]; norm_num

end Back

end Cert.MiddleIdeal.Tile
-- ==== Proof.MiddleBody.lean ====
/- What the middle's body leaves at one grid point, over the real numbers: nine blocks of its tile's tokens, and the eight rows of sums
with the tile's added. -/
module

public import proofs.«01_k».proof.Proof.MiddleTile
public import proofs.«01_k».proof.Proof.MiddleIdealRun
public import proofs.«01_k».proof.Proof.BodyValue

@[expose] public section

set_option maxRecDepth 16384

noncomputable section

namespace Cert.MiddleIdeal.Sums

open Cert.MiddleIdeal Cert.MiddleIdeal.Gen Cert.MiddleIdeal.Tile Cert.MiddleIdeal.Hand Cert.Mid Cert.Attn
open Cert.KernelIdeal.Sweep (rd2 wr2 whole2 vec_ext)
open Idealize.ShloMosaic Idealize.ShloMosaic.TcCoe

variable (c : Dev nD) (i : grid0.Coords)
  (a1 : Memref sig .tc .vmem S256x512 .f32) (h1 : a1.IsWhole)
  (a2 : Memref sig .tc .vmem S256x512 .f32) (h2 : a2.IsWhole)
  (a3 : Memref sig .tc .vmem S256x1024 .f32) (h3 : a3.IsWhole)
  (a4 : Memref sig .tc .vmem S256x1024 .f32) (h4 : a4.IsWhole)
  (a5 : Memref sig .tc .vmem S1x512 .f32) (h5 : a5.IsWhole) (a6 : Memref sig .tc .vmem S1x512 .f32) (h6 : a6.IsWhole)
  (a7 : Memref sig .tc .vmem S1x1024 .f32) (h7 : a7.IsWhole) (a8 : Memref sig .tc .vmem S1x1024 .f32) (h8 : a8.IsWhole)
  (a9 : Memref sig .tc .vmem S1024x1024 .bf16) (h9 : a9.IsWhole)
  (a10 : Memref sig .tc .vmem S2816x1024 .bf16) (h10 : a10.IsWhole)
  (a11 : Memref sig .tc .vmem S2816x1024 .bf16) (h11 : a11.IsWhole)
  (a12 : Memref sig .tc .vmem S2816x1024 .bf16) (h12 : a12.IsWhole)
  (a13 : Memref sig .tc .vmem S256x1024 .bf16) (h13 : a13.IsWhole)
  (a14 : Memref sig .tc .vmem S256x1024 .bf16) (h14 : a14.IsWhole)
  (a15 : Memref sig .tc .vmem S256x2816 .bf16) (h15 : a15.IsWhole)
  (a16 : Memref sig .tc .vmem S256x2816 .bf16) (h16 : a16.IsWhole)
  (a17 : Memref sig .tc .vmem S256x2816 .bf16) (h17 : a17.IsWhole)
  (a18 : Memref sig .tc .vmem S256x1024 .bf16) (h18 : a18.IsWhole)
  (a19 : Memref sig .tc .vmem S256x1024 .f32) (h19 : a19.IsWhole)
  (a20 : Memref sig .tc .vmem S256x512 .bf16) (h20 : a20.IsWhole)
  (a21 : Memref sig .tc .vmem S256x512 .bf16) (h21 : a21.IsWhole)
  (a22 : Memref sig .tc .vmem S8x1024 .f32) (h22 : a22.IsWhole)
  (x1 : Vec Ideal S256x512 .f32) (x2 : Vec Ideal S256x512 .f32) (x3 : Vec Ideal S256x1024 .f32) (x4 : Vec Ideal S256x1024 .f32)
  (x5 : Vec Ideal S1x512 .f32) (x6 : Vec Ideal S1x512 .f32) (x7 : Vec Ideal S1x1024 .f32) (x8 : Vec Ideal S1x1024 .f32)
  (x9 : Vec Ideal S1024x1024 .bf16) (x10 : Vec Ideal S2816x1024 .bf16) (x11 : Vec Ideal S2816x1024 .bf16)
  (x12 : Vec Ideal S2816x1024 .bf16) (x13 : Vec Ideal S256x1024 .bf16) (x14 : Vec Ideal S256x1024 .bf16)
  (x15 : Vec Ideal S256x2816 .bf16) (x16 : Vec Ideal S256x2816 .bf16) (x17 : Vec Ideal S256x2816 .bf16)
  (x18 : Vec Ideal S256x1024 .bf16) (x19 : Vec Ideal S256x1024 .f32) (x20 : Vec Ideal S256x512 .bf16) (x21 : Vec Ideal S256x512 .bf16)
  (x22 : Vec Ideal S8x1024 .f32)
  (W : Weights) (K : Fin 256 → Token)

/-- The blocks the body is handed are those of the tile's tokens and of the weights. -/
structure Ins : Prop where
  f : ∀ a e, x1 (ix2 a e) = ((K a).f e : EReal)
  m : ∀ a e, x2 (ix2 a e) = ((K a).m e : EReal)
  x : ∀ a e, x3 (ix2 a e) = ((K a).x e : EReal)
  t : ∀ a e, x4 (ix2 a e) = ((K a).t e : EReal)
  gf : ∀ o e, x5 (ix2 o e) = (W.gf e : EReal)
  gm : ∀ o e, x6 (ix2 o e) = (W.gm e : EReal)
  g2 : ∀ o e, x7 (ix2 o e) = (W.g2 e : EReal)
  g3 : ∀ o e, x8 (ix2 o e) = (W.g3 e : EReal)
  wo : ∀ d e, x9 (ix2 d e) = (W.wo d e : EReal)
  wg : ∀ j e, x10 (ix2 j e) = (W.wg j e : EReal)
  wu : ∀ j e, x11 (ix2 j e) = (W.wu j e : EReal)
  wd : ∀ j e, x12 (ix2 j e) = (W.wd j e : EReal)

/-- The nine blocks of the tile. -/
structure Outs (L : Left Ideal) : Prop where
  a : ∀ r e, L.1 (ix2 r e) = (Mid.a W (K r) e : EReal)
  h2 : ∀ r e, L.2.1 (ix2 r e) = (Mid.h2 W (K r) e : EReal)
  hid : ∀ r j, L.2.2.1 (ix2 r j) = (Mid.hid W (K r) j : EReal)
  dg : ∀ r j, L.2.2.2.1 (ix2 r j) = (Mid.dg W (K r) j : EReal)
  du : ∀ r j, L.2.2.2.2.1 (ix2 r j) = (Mid.du W (K r) j : EReal)
  dx3 : ∀ r e, L.2.2.2.2.2.1 (ix2 r e) = (Mid.dx3 W (K r) e : EReal)
  dx2 : ∀ r e, L.2.2.2.2.2.2.1 (ix2 r e) = (Mid.dx2 W (K r) e : EReal)
  dof : ∀ r e, L.2.2.2.2.2.2.2.1 (ix2 r e) = (Mid.dof W (K r) e : EReal)
  dom : ∀ r e, L.2.2.2.2.2.2.2.2.1 (ix2 r e) = (Mid.dom W (K r) e : EReal)

/-- The eight rows, at given numbers. -/
def Rows (w : Fin 8 → Fin 1024 → ℝ) (x : Vec Ideal S8x1024 .f32) : Prop := ∀ r e, x (ix2 r e) = (w r e : EReal)

/-! ## The rows of sums -/

section Stats

variable {v : View sig .tc .vmem S8x1024 .f32} {f : v.ty.Contents (Elt Ideal)} {L : List (View.Piece (Elt Ideal) S8x1024 .f32)}

/-- A stored part of one row leaves the other rows as they were, -/
theorem skip_row {p q n : ℕ} (inb : ∀ a : Fin 2, (![p, q] : Fin 2 → ℕ) a + (![1, n] : Fin 2 → ℕ) a ≤ (![8, 1024] : Fin 2 → ℕ) a)
    (z : (⟨2, ![1, n]⟩ : Shape).Idx → Elt Ideal .f32) (r : Fin 8) (e : Fin 1024) (h : r.val ≠ p) :
    v.read (Elt Ideal) (v.writes (Elt Ideal) f (⟨Rect.unit (s := S8x1024) ![p, q] ![1, n] inb, z⟩ :: L)) (ix2 r e)
      = v.read (Elt Ideal) (v.writes (Elt Ideal) f L) (ix2 r e) :=
  View.read_writes_cons_unit_of_not_mem (s := S8x1024) (off' := ![p, q]) v f inb z L (ix2 r e) rfl (0 : Fin 2)
    (by show r.val < p ∨ p + 1 ≤ r.val; omega)

/-- and the rest of its own row. -/
theorem skip_col {p q n : ℕ} (inb : ∀ a : Fin 2, (![p, q] : Fin 2 → ℕ) a + (![1, n] : Fin 2 → ℕ) a ≤ (![8, 1024] : Fin 2 → ℕ) a)
    (z : (⟨2, ![1, n]⟩ : Shape).Idx → Elt Ideal .f32) (r : Fin 8) (e : Fin 1024) (h : e.val < q ∨ q + n ≤ e.val) :
    v.read (Elt Ideal) (v.writes (Elt Ideal) f (⟨Rect.unit (s := S8x1024) ![p, q] ![1, n] inb, z⟩ :: L)) (ix2 r e)
      = v.read (Elt Ideal) (v.writes (Elt Ideal) f L) (ix2 r e) :=
  View.read_writes_cons_unit_of_not_mem (s := S8x1024) (off' := ![p, q]) v f inb z L (ix2 r e) rfl (1 : Fin 2) h

variable {W K} {w : Fin 8 → Fin 1024 → ℝ} {p7 p2 p1 : Vec Ideal S1x1024 .f32} {p3 p3' : Vec Ideal S1x512 .f32}

/-- The five stores add the tile's sums to what the rows held. -/
theorem rows_stored (hL : ∀ r e, v.read (Elt Ideal) (v.writes (Elt Ideal) f L) (ix2 r e) = (w r e : EReal))
    (h7 : ∀ o e, p7 (ix2 o e) = ((w 7 e + ∑ a, stat W (K a) 7 e : ℝ) : EReal))
    (h2 : ∀ o e, p2 (ix2 o e) = ((w 2 e + ∑ a, stat W (K a) 2 e : ℝ) : EReal))
    (h1 : ∀ o e, p1 (ix2 o e) = ((w 1 e + ∑ a, stat W (K a) 1 e : ℝ) : EReal))
    (h3 : ∀ o e, p3 (ix2 o e) = ((fst (w 3) e + ∑ a, fst (da W (K a)) e * hat (K a).f e : ℝ) : EReal))
    (h3' : ∀ o e, p3' (ix2 o e) = ((snd (w 3) e + ∑ a, snd (da W (K a)) e * hat (K a).m e : ℝ) : EReal)) :
    Rows (fun r e => w r e + ∑ a, stat W (K a) r e) (v.read (Elt Ideal) (v.writes (Elt Ideal) f
      (⟨Rect.unit (s := S8x1024) ![3, 512] ![1, 512] inb_S8x1024_S1x512_3_512, p3'⟩ ::
        ⟨Rect.unit (s := S8x1024) ![3, 0] ![1, 512] inb_S8x1024_S1x512_3_0, p3⟩ ::
        ⟨Rect.unit (s := S8x1024) ![1, 0] ![1, 1024] inb_S8x1024_S1x1024_1_0, p1⟩ ::
        ⟨Rect.unit (s := S8x1024) ![2, 0] ![1, 1024] inb_S8x1024_S1x1024_2_0, p2⟩ ::
        ⟨Rect.unit (s := S8x1024) ![7, 0] ![1, 1024] inb_S8x1024_S1x1024_7_0, p7⟩ :: L))) := by
  have cases : ∀ r : Fin 8, r = 1 ∨ r = 2 ∨ r = 3 ∨ r = 7 ∨ (r ≠ 1 ∧ r ≠ 2 ∧ r ≠ 3 ∧ r ≠ 7) := by decide
  intro r e
  have other : r ≠ 1 → r ≠ 2 → r ≠ 3 → r ≠ 7 → w r e = w r e + ∑ a, stat W (K a) r e := by
    intro n1 n2 n3 n7
    simp only [stat, if_neg n1, if_neg n2, if_neg n3, if_neg n7, Finset.sum_const_zero, add_zero]
  rcases cases r with rfl | rfl | rfl | rfl | ⟨n1, n2, n3, n7⟩
  · rw [skip_row _ _ _ _ (by decide), skip_row _ _ _ _ (by decide)]
    exact (wr2 v f _ rfl _ _ 0 e 1 e (by simp) (by simp)).trans (h1 0 e)
  · rw [skip_row _ _ _ _ (by decide), skip_row _ _ _ _ (by decide), skip_row _ _ _ _ (by decide)]
    exact (wr2 v f _ rfl _ _ 0 e 2 e (by simp) (by simp)).trans (h2 0 e)
  · by_cases he : e.val < 512
    · rw [skip_col _ _ _ _ (Or.inl he)]
      refine (wr2 v f _ rfl _ _ 0 ⟨e.val, he⟩ 3 e (by simp) (by simp)).trans ((h3 0 _).trans ?_)
      simp [stat, join, he, fst]
    · refine (wr2 v f _ rfl _ _ 0 ⟨e.val - 512, by omega⟩ 3 e (by simp) (by show e.val = 512 + (e.val - 512); omega)).trans ((h3' 0 _).trans ?_)
      have : (⟨512 + (e.val - 512), by omega⟩ : Fin 1024) = e := Fin.ext (by show 512 + (e.val - 512) = e.val; omega)
      simp [stat, join, he, snd, this]
  · rw [skip_row _ _ _ _ (by decide), skip_row _ _ _ _ (by decide), skip_row _ _ _ _ (by decide), skip_row _ _ _ _ (by decide)]
    exact (wr2 v f _ rfl _ _ 0 e 7 e (by simp) (by simp)).trans (h7 0 e)
  · have m1 : r.val ≠ 1 := fun h => n1 (Fin.ext h)
    have m2 : r.val ≠ 2 := fun h => n2 (Fin.ext h)
    have m3 : r.val ≠ 3 := fun h => n3 (Fin.ext h)
    have m7 : r.val ≠ 7 := fun h => n7 (Fin.ext h)
    rw [skip_row _ _ _ _ m3, skip_row _ _ _ _ m3, skip_row _ _ _ _ m1, skip_row _ _ _ _ m2,
      skip_row _ _ _ _ m7]
    exact (hL r e).trans (congrArg _ (other n1 n2 n3 n7))

end Stats

/-- A load of a whole buffer is what it holds. -/
theorem load_whole {n w : ℕ} {e : EltTy} {a : Memref sig .tc .vmem (⟨2, ![n, w]⟩ : Shape) e} (h : a.IsWhole) (x : Vec Ideal (⟨2, ![n, w]⟩ : Shape) e)
    (inb : ∀ k : Fin 2, (![0, 0] : Fin 2 → ℕ) k + (![n, w] : Fin 2 → ℕ) k ≤ (![n, w] : Fin 2 → ℕ) k) :
    View.readAt (Elt Ideal) a.view (Rect.unit (s := ⟨2, ![n, w]⟩) ![0, 0] ![n, w] inb).toLoadRect (h.unread x) = x :=
  vec_ext fun r l => whole2 h x inb r l

variable {c i x1 x2 x3 x4 x5 x6 x7 x8 x9 x10 x11 x12 x22 W K}

/-- What the body computes on the way, at its places. -/
structure Way (v32 : FVec Ideal S256x1024 .bf16) (v45 : FVec Ideal S256x1 .f32) (v47 : FVec Ideal S256x1024 .f32)
    (v54 v56 v57 v58 : FVec Ideal S256x2816 .f32) (v64 : FVec Ideal S256x1024 .f32) (v72 : FVec Ideal S256x1 .f32)
    (v108 v132 : FVec Ideal S256x1024 .f32) : Prop where
  h32 : ∀ r e, v32 (ix2 r e) = (Mid.a W (K r) e : EReal)
  h45 : ∀ r o, v45 (ix2 r o) = (inv (Mid.x2 W (K r)) : EReal)
  h47 : ∀ r e, v47 (ix2 r e) = (hat (Mid.x2 W (K r)) e : EReal)
  h54 : ∀ r j, v54 (ix2 r j) = (gate W (K r) j : EReal)
  h56 : ∀ r j, v56 (ix2 r j) = (up W (K r) j : EReal)
  h57 : ∀ r j, v57 (ix2 r j) = (sg W (K r) j : EReal)
  h58 : ∀ r j, v58 (ix2 r j) = (sl W (K r) j : EReal)
  h64 : ∀ r e, v64 (ix2 r e) = (Mid.x3 W (K r) e : EReal)
  h72 : ∀ r o, v72 (ix2 r o) = (inv (Mid.x3 W (K r)) : EReal)
  h110 : ∀ r e, k0_pay28 (F := Ideal) v72 v108 (ix2 r e) = (Mid.dx3 W (K r) e : EReal)
  h132 : ∀ r e, v132 (ix2 r e) = (Mid.dh2 W (K r) e : EReal)

theorem way (I : Ins x1 x2 x3 x4 x5 x6 x7 x8 x9 x10 x11 x12 W K) {v32 : FVec Ideal S256x1024 .bf16}
    (e : v32 = k0_pay8 (F := Ideal) x1 x2 x5 x6) :
    Way (W := W) (K := K) v32 (k0_pay10 v32 x3 x9) (k0_pay11 v32 x3 x9) (k0_pay13 v32 x3 x9 x7 x10) (k0_pay14 v32 x3 x9 x7 x11)
      (k0_pay15 v32 x3 x9 x7 x10) (k0_pay16 v32 x3 x9 x7 x10) (k0_pay18 v32 x3 x9 x7 x10 x11 x12)
      (k0_pay21 (k0_pay19 v32 x3 x9 x7 x10 x11 x12) k0_pay20)
      (k0_pay27 (k0_pay18 v32 x3 x9 x7 x10 x11 x12) (k0_pay19 v32 x3 x9 x7 x10 x11 x12) k0_pay20 x8 x4 x8)
      (k0_pay33 (k0_pay13 v32 x3 x9 x7 x10) (k0_pay14 v32 x3 x9 x7 x11) (k0_pay15 v32 x3 x9 x7 x10) (k0_pay16 v32 x3 x9 x7 x10)
        (k0_pay21 (k0_pay19 v32 x3 x9 x7 x10 x11 x12) k0_pay20)
        (k0_pay27 (k0_pay18 v32 x3 x9 x7 x10 x11 x12) (k0_pay19 v32 x3 x9 x7 x10 x11 x12) k0_pay20 x8 x4 x8) x12 x10 x11) := by
  have h32 : ∀ r e, v32 (ix2 r e) = (Mid.a W (K r) e : EReal) := e ▸ pay8_at I.f I.m I.gf I.gm
  have h54 := pay13_at h32 I.x I.wo I.g2 I.wg
  have h56 := pay14_at h32 I.x I.wo I.g2 I.wu
  have h57 := pay15_at h32 I.x I.wo I.g2 I.wg
  have h58 := pay16_at h32 I.x I.wo I.g2 I.wg
  have h64 := pay18_at h32 I.x I.wo I.g2 I.wg I.wu I.wd
  have h72 := pay21_at h32 I.x I.wo I.g2 I.wg I.wu I.wd
  have h110 := pay28_at h64 h72 I.g3 I.t
  exact ⟨h32, pay10_at h32 I.x I.wo, pay11_at h32 I.x I.wo, h54, h56, h57, h58, h64, h72, h110,
    pay33_at h54 h56 h57 h58 h110 I.wd I.wg I.wu⟩

set_option maxHeartbeats 1000000 in
/-- A later point. -/
theorem later_value (hc0 : ¬ opens i) (I : Ins x1 x2 x3 x4 x5 x6 x7 x8 x9 x10 x11 x12 W K) {w : Fin 8 → Fin 1024 → ℝ} (hw : Rows w x22) :
    let L := (runLater c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x1 x2 x3 x4 x5 x6 x7 x8 x9 x10 x11 x12 x13 x14 x15 x16 x17 x18 x19 x20 x21 x22 hc0).1
    Outs W K L ∧ Rows (fun r e => w r e + ∑ a, stat W (K a) r e) L.2.2.2.2.2.2.2.2.2 := by
  have P := way I rfl
  have hu : ∀ {n p q : ℕ} (inb : ∀ a : Fin 2, (![p, q] : Fin 2 → ℕ) a + (![1, n] : Fin 2 → ℕ) a ≤ (![8, 1024] : Fin 2 → ℕ) a) (o : Fin 1) (l : Fin n)
      (r : Fin 8) (e : Fin 1024) (hr : r.val = p) (he : e.val = q + l.val),
      View.readAt (Elt Ideal) a22.view (Rect.unit (s := S8x1024) ![p, q] ![1, n] inb).toLoadRect (h22.unread x22) (ix2 o l) = (w r e : EReal) :=
    fun inb o l r e hr he => (rd2 a22.view _ inb rfl o l r e (by omega) he).trans (by rw [h22.read_unread]; exact hw r e)
  unfold runLater
  dsimp only
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, load_whole]
  refine ⟨⟨fun r e => ?_, fun r e => ?_, fun r e => ?_, fun r e => ?_, fun r e => ?_, fun r e => ?_, fun r e => ?_, fun r e => ?_, fun r e => ?_⟩, ?_⟩
  · exact (wr2 a13.view _ _ rfl _ _ r e r e (by simp) (by simp)).trans (P.h32 r e)
  · exact (wr2 a14.view _ _ rfl _ _ r e r e (by simp) (by simp)).trans (pay12_at P.h32 I.x I.wo I.g2 r e)
  · exact (wr2 a15.view _ _ rfl _ _ r e r e (by simp) (by simp)).trans (pay17_at P.h32 I.x I.wo I.g2 I.wg I.wu r e)
  · exact (wr2 a16.view _ _ rfl _ _ r e r e (by simp) (by simp)).trans (pay31_at P.h54 P.h56 P.h57 P.h110 I.wd r e)
  · exact (wr2 a17.view _ _ rfl _ _ r e r e (by simp) (by simp)).trans (pay32_at P.h58 P.h110 I.wd r e)
  · exact (wr2 a18.view _ _ rfl _ _ r e r e (by simp) (by simp)).trans (pay29_at P.h110 r e)
  · exact (wr2 a19.view _ _ rfl _ _ r e r e (by simp) (by simp)).trans (pay35_at P.h45 P.h47 P.h110 P.h132 I.g2 r e)
  · exact (wr2 a20.view _ _ rfl _ _ r e r e (by simp) (by simp)).trans
      (pay1_at (pay4_at I.f) (pay6_at I.f) P.h45 P.h47 P.h110 P.h132 I.g2 I.wo I.gf r e)
  · exact (wr2 a21.view _ _ rfl _ _ r e r e (by simp) (by simp)).trans
      (pay2_at (pay4_at I.m) (pay6_at I.m) P.h45 P.h47 P.h110 P.h132 I.g2 I.wo I.gm r e)
  · refine rows_stored (fun r e => by rw [View.writes_nil, h22.read_unread]; exact hw r e) ?_ ?_ ?_ ?_ ?_
    · exact pay25_at P.h64 P.h72 I.g3 I.t fun o e => hu _ o e 7 e rfl (by simp)
    · exact pay26_at P.h64 P.h72 I.g3 I.t fun o e => hu _ o e 2 e rfl (by simp)
    · exact pay34_at P.h54 P.h56 P.h57 P.h58 P.h110 I.wd I.wg I.wu P.h47 fun o e => hu _ o e 1 e rfl (by simp)
    · exact pay39_at (pay6_at I.f) P.h45 P.h47 P.h110 P.h132 I.g2 I.wo fun o e => hu _ o e 3 _ rfl (by simp)
    · exact pay40_at (pay6_at I.m) P.h45 P.h47 P.h110 P.h132 I.g2 I.wo fun o e => hu _ o e 3 _ rfl (by simp)

/-- What the first point clears. -/
theorem cleared (v : View sig .tc .vmem S8x1024 .f32) (f : v.ty.Contents (Elt Ideal)) (r : Fin 8) (e : Fin 1024) :
    v.read (Elt Ideal) (v.writes (Elt Ideal) f
      [⟨Rect.unit (s := S8x1024) ![0, 0] ![8, 1024] inb_S8x1024_S8x1024_0_0, k0_pay3 (F := Ideal)⟩]) (ix2 r e) = ((0 : ℝ) : EReal) := by
  refine (wr2 v f _ rfl _ _ r e r e (by simp) (by simp)).trans ?_
  pointwise [k0_pay3]
  rfl

set_option maxHeartbeats 1000000 in
/-- The first point. -/
theorem first_value (hc0 : opens i) (I : Ins x1 x2 x3 x4 x5 x6 x7 x8 x9 x10 x11 x12 W K) :
    let L := (runFirst c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x1 x2 x3 x4 x5 x6 x7 x8 x9 x10 x11 x12 x13 x14 x15 x16 x17 x18 x19 x20 x21 x22 hc0).1
    Outs W K L ∧ Rows (fun r e => 0 + ∑ a, stat W (K a) r e) L.2.2.2.2.2.2.2.2.2 := by
  have P := way I rfl
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21,
    runFirst.sl.v82, runFirst.sl.v91, runFirst.sl.v133, runFirst.sl.v160, runFirst.sl.v167, runFirst.sl.H22_1, runFirst.sl.H22_2, runFirst.sl.H22_3,
    runFirst.sl.H22_4, runFirst.sl.H22_5, load_whole]
  refine ⟨⟨fun r e => ?_, fun r e => ?_, fun r e => ?_, fun r e => ?_, fun r e => ?_, fun r e => ?_, fun r e => ?_, fun r e => ?_, fun r e => ?_⟩, ?_⟩
  · exact (wr2 a13.view _ _ rfl _ _ r e r e (by simp) (by simp)).trans (P.h32 r e)
  · exact (wr2 a14.view _ _ rfl _ _ r e r e (by simp) (by simp)).trans (pay12_at P.h32 I.x I.wo I.g2 r e)
  · exact (wr2 a15.view _ _ rfl _ _ r e r e (by simp) (by simp)).trans (pay17_at P.h32 I.x I.wo I.g2 I.wg I.wu r e)
  · exact (wr2 a16.view _ _ rfl _ _ r e r e (by simp) (by simp)).trans (pay31_at P.h54 P.h56 P.h57 P.h110 I.wd r e)
  · exact (wr2 a17.view _ _ rfl _ _ r e r e (by simp) (by simp)).trans (pay32_at P.h58 P.h110 I.wd r e)
  · exact (wr2 a18.view _ _ rfl _ _ r e r e (by simp) (by simp)).trans (pay29_at P.h110 r e)
  · exact (wr2 a19.view _ _ rfl _ _ r e r e (by simp) (by simp)).trans (pay35_at P.h45 P.h47 P.h110 P.h132 I.g2 r e)
  · exact (wr2 a20.view _ _ rfl _ _ r e r e (by simp) (by simp)).trans
      (pay1_at (pay4_at I.f) (pay6_at I.f) P.h45 P.h47 P.h110 P.h132 I.g2 I.wo I.gf r e)
  · exact (wr2 a21.view _ _ rfl _ _ r e r e (by simp) (by simp)).trans
      (pay2_at (pay4_at I.m) (pay6_at I.m) P.h45 P.h47 P.h110 P.h132 I.g2 I.wo I.gm r e)
  · refine rows_stored (w := fun _ _ => 0) (fun r e => cleared a22.view _ r e) ?_ ?_ ?_ ?_ ?_
    · refine pay25_at P.h64 P.h72 I.g3 I.t fun o e => (rd2 a22.view _ _ rfl o e 7 e (by simp) (by simp)).trans ?_
      exact cleared a22.view _ 7 e
    · refine pay26_at P.h64 P.h72 I.g3 I.t fun o e => (rd2 a22.view _ _ rfl o e 2 e (by simp) (by simp)).trans ?_
      exact (skip_row _ _ 2 e (by decide)).trans (cleared a22.view _ 2 e)
    · refine pay34_at P.h54 P.h56 P.h57 P.h58 P.h110 I.wd I.wg I.wu P.h47 fun o e => (rd2 a22.view _ _ rfl o e 1 e (by simp) (by simp)).trans ?_
      exact ((skip_row _ _ 1 e (by decide)).trans (skip_row _ _ 1 e (by decide))).trans (cleared a22.view _ 1 e)
    · refine pay39_at (pay6_at I.f) P.h45 P.h47 P.h110 P.h132 I.g2 I.wo fun o e =>
        (rd2 a22.view _ _ rfl o e 3 ⟨e.val, by omega⟩ (by simp) (by simp)).trans ?_
      exact (((skip_row _ _ 3 _ (by decide)).trans (skip_row _ _ 3 _ (by decide))).trans (skip_row _ _ 3 _ (by decide))).trans (cleared a22.view _ 3 _)
    · refine pay40_at (pay6_at I.m) P.h45 P.h47 P.h110 P.h132 I.g2 I.wo fun o e =>
        (rd2 a22.view _ _ rfl o e 3 ⟨512 + e.val, by omega⟩ (by simp) (by simp)).trans ?_
      exact ((((skip_col _ _ 3 _ (Or.inr (by show 0 + 512 ≤ 512 + e.val; omega))).trans (skip_row _ _ 3 _ (by decide))).trans
        (skip_row _ _ 3 _ (by decide))).trans (skip_row _ _ 3 _ (by decide))).trans (cleared a22.view _ 3 _)

end Cert.MiddleIdeal.Sums
-- ==== Proof.MiddleWhole.lean ====
/- The whole call's arrays as the mathematics has them: the parameters and the tokens read off the arguments, the arrays whose
   rows are the tokens' values, and the eight rows of sums over all tokens. -/
module

public import proofs.«01_k».proof.Proof.MiddleSpec
public import proofs.«01_k».proof.Proof.Heads
public import Idealize.ShloMosaic.PureOps
public import Idealize.ShloMosaic.Lib.Pointwise

@[expose] public section

noncomputable section

namespace Cert.Mid

open Idealize.ShloMosaic Cert.Attn

/-- The numbers of an array of two axes. -/
abbrev Mat (n w : ℕ) := (⟨2, ![n, w]⟩ : Shape).Idx → EReal

/-- The parameters that the arguments hold. -/
def weights (x4 x5 : Mat 1 512) (x6 x7 : Mat 1 1024) (x8 : Mat 1024 1024) (x9 x10 x11 : Mat 2816 1024) : Weights where
  gf e := (x4 (ix2 0 e)).toReal
  gm e := (x5 (ix2 0 e)).toReal
  g2 e := (x6 (ix2 0 e)).toReal
  g3 e := (x7 (ix2 0 e)).toReal
  wo d e := (x8 (ix2 d e)).toReal
  wg j e := (x9 (ix2 j e)).toReal
  wu j e := (x10 (ix2 j e)).toReal
  wd j e := (x11 (ix2 j e)).toReal

/-- The token of a row. -/
def token (x0 x1 : Mat 8192 512) (x2 x3 : Mat 8192 1024) (r : Fin 8192) : Token where
  f e := (x0 (ix2 r e)).toReal
  m e := (x1 (ix2 r e)).toReal
  x e := (x2 (ix2 r e)).toReal
  t e := (x3 (ix2 r e)).toReal

/-- The row of a number. -/
def rowAt (n : ℕ) : Fin 8192 := ⟨n % 8192, Nat.mod_lt _ (by norm_num)⟩

theorem rowAt_val {n : ℕ} (h : n < 8192) : (rowAt n).val = n := Nat.mod_eq_of_lt h

/-- The array whose row at a token is the token's value. -/
def rows {n : ℕ} (g : Fin 8192 → Fin n → ℝ) : Mat 8192 n := fun y => (g (y 0) (y 1) : EReal)

/-- The eight rows of sums over the first tokens, -/
def upTo (W : Weights) (k : Fin 8192 → Token) (N : ℕ) (r : Fin 8) (e : Fin 1024) : ℝ := ∑ n ∈ Finset.range N, stat W (k (rowAt n)) r e

/-- and over all of them. -/
def total (W : Weights) (k : Fin 8192 → Token) : Mat 8 1024 := fun y => ((∑ n, stat W (k n) (y 0) (y 1) : ℝ) : EReal)

/-- A tile adds its tokens' part. -/
theorem upTo_add (W : Weights) (k : Fin 8192 → Token) (N : ℕ) (r : Fin 8) (e : Fin 1024) :
    upTo W k N r e + ∑ a : Fin 256, stat W (k (rowAt (N + a.val))) r e = upTo W k (N + 256) r e := by
  unfold upTo
  rw [Finset.sum_range_add, Finset.sum_range (fun x => stat W (k (rowAt (N + x))) r e)]

theorem upTo_zero (W : Weights) (k : Fin 8192 → Token) (r : Fin 8) (e : Fin 1024) : upTo W k 0 r e = 0 := Finset.sum_range_zero _

/-- After the last tile they are the sums over all tokens. -/
theorem upTo_all (W : Weights) (k : Fin 8192 → Token) (r : Fin 8) (e : Fin 1024) : upTo W k 8192 r e = ∑ n, stat W (k n) r e := by
  unfold upTo
  rw [Finset.sum_range]
  exact Finset.sum_congr rfl fun n _ => by rw [show rowAt n.val = n from Fin.ext (rowAt_val n.isLt)]

/-- The arguments hold real numbers. -/
structure Fin12 (x0 x1 : Mat 8192 512) (x2 x3 : Mat 8192 1024) (x4 x5 : Mat 1 512) (x6 x7 : Mat 1 1024) (x8 : Mat 1024 1024)
    (x9 x10 x11 : Mat 2816 1024) : Prop where
  h0 : AllReal x0
  h1 : AllReal x1
  h2 : AllReal x2
  h3 : AllReal x3
  h4 : AllReal x4
  h5 : AllReal x5
  h6 : AllReal x6
  h7 : AllReal x7
  h8 : AllReal x8
  h9 : AllReal x9
  h10 : AllReal x10
  h11 : AllReal x11

end Cert.Mid

end
-- ==== Proof.MiddlePoints.lean ====
/- What the launch of the middle holds at every grid point: the blocks the body is handed are a tile's tokens and the whole parameters,
   and the body's runs give the tile's values and keep the rows of sums over the tokens so far. -/
module

public import proofs.«01_k».proof.Proof.MiddleBody
public import proofs.«01_k».proof.Proof.MiddleWhole
public import proofs.«01_k».proof.Proof.MiddleIdealFrame
public import Idealize.ShloMosaic.Lib.Pipeline.ValueKit

@[expose] public section

set_option maxRecDepth 16384

noncomputable section

namespace Cert.MiddleIdeal.Sums

open Cert.MiddleIdeal Cert.MiddleIdeal.Gen Cert.MiddleIdeal.Hand Cert.Mid Cert.Attn
open Idealize.ShloMosaic Idealize.ShloMosaic.TcCoe

/-- The windows that follow the tiles, -/
theorem idx_tile : ∀ t : Fin cfg0.N, win0_0.index t = ![t.val, 0] ∧ win0_1.index t = ![t.val, 0] ∧ win0_2.index t = ![t.val, 0]
    ∧ win0_3.index t = ![t.val, 0] := by decide +kernel

/-- and those that stay. -/
theorem idx_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

variable (m : (ℓ : Loc nD τ sig) → Buf (Elt Ideal) ℓ) (c : Dev nD)

/-- The parameters on a device, -/
abbrev par : Weights := weights (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11))

/-- and its tokens. -/
abbrev tok : Fin 8192 → Token := token (m ((c : Thread nD τ).loc main_arg0)) (m ((c : Thread nD τ).loc main_arg1))
  (m ((c : Thread nD τ).loc main_arg2)) (m ((c : Thread nD τ).loc main_arg3))

/-- The arguments on a device hold real numbers. -/
abbrev Real12 : Prop := Fin12 (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

/-- A tile's token. -/
abbrev tile (n : ℕ) (a : Fin 256) : Token := tok m c (rowAt (256 * n + a.val))

section
variable (t : Fin cfg0.N)

theorem row_tile (a : Fin 256) : (rowAt (256 * t.val + a.val)).val = t.val * 256 + a.val := by
  have ht : t.val < 32 := Nat.lt_of_lt_of_eq t.isLt N_0
  rw [rowAt_val (by omega)]; omega

theorem blk0 (f : S8192x512.Idx → EReal) (a : Fin 256) (e : Fin 512) : View.read (Elt Ideal) ((cfg0.win 0).blk t).view f (ix2 a e)
    = f (ix2 (rowAt (256 * t.val + a.val)) e) := by
  blk_ext [(idx_tile t).1, row_tile]

theorem blk1 (f : S8192x512.Idx → EReal) (a : Fin 256) (e : Fin 512) : View.read (Elt Ideal) ((cfg0.win 1).blk t).view f (ix2 a e)
    = f (ix2 (rowAt (256 * t.val + a.val)) e) := by
  blk_ext [(idx_tile t).2.1, row_tile]

theorem blk2 (f : S8192x1024.Idx → EReal) (a : Fin 256) (e : Fin 1024) : View.read (Elt Ideal) ((cfg0.win 2).blk t).view f (ix2 a e)
    = f (ix2 (rowAt (256 * t.val + a.val)) e) := by
  blk_ext [(idx_tile t).2.2.1, row_tile]

theorem blk3 (f : S8192x1024.Idx → EReal) (a : Fin 256) (e : Fin 1024) : View.read (Elt Ideal) ((cfg0.win 3).blk t).view f (ix2 a e)
    = f (ix2 (rowAt (256 * t.val + a.val)) e) := by
  blk_ext [(idx_tile t).2.2.2, row_tile]

theorem blk4 (f : S1x512.Idx → EReal) (o : Fin 1) (e : Fin 512) : View.read (Elt Ideal) ((cfg0.win 4).blk t).view f (ix2 o e) = f (ix2 0 e) := by
  obtain rfl := Subsingleton.elim o 0
  blk_ext [(idx_whole t).1]

theorem blk5 (f : S1x512.Idx → EReal) (o : Fin 1) (e : Fin 512) : View.read (Elt Ideal) ((cfg0.win 5).blk t).view f (ix2 o e) = f (ix2 0 e) := by
  obtain rfl := Subsingleton.elim o 0
  blk_ext [(idx_whole t).2.1]

theorem blk6 (f : S1x1024.Idx → EReal) (o : Fin 1) (e : Fin 1024) : View.read (Elt Ideal) ((cfg0.win 6).blk t).view f (ix2 o e) = f (ix2 0 e) := by
  obtain rfl := Subsingleton.elim o 0
  blk_ext [(idx_whole t).2.2.1]

theorem blk7 (f : S1x1024.Idx → EReal) (o : Fin 1) (e : Fin 1024) : View.read (Elt Ideal) ((cfg0.win 7).blk t).view f (ix2 o e) = f (ix2 0 e) := by
  obtain rfl := Subsingleton.elim o 0
  blk_ext [(idx_whole t).2.2.2.1]

theorem blk8 (f : S1024x1024.Idx → EReal) (d e : Fin 1024) : View.read (Elt Ideal) ((cfg0.win 8).blk t).view f (ix2 d e) = f (ix2 d e) := by
  blk_ext [(idx_whole t).2.2.2.2.1]

theorem blk9 (f : S2816x1024.Idx → EReal) (d : Fin 2816) (e : Fin 1024) : View.read (Elt Ideal) ((cfg0.win 9).blk t).view f (ix2 d e) = f (ix2 d e) := by
  blk_ext [(idx_whole t).2.2.2.2.2.1]

theorem blk10 (f : S2816x1024.Idx → EReal) (d : Fin 2816) (e : Fin 1024) : View.read (Elt Ideal) ((cfg0.win 10).blk t).view f (ix2 d e) = f (ix2 d e) := by
  blk_ext [(idx_whole t).2.2.2.2.2.2.1]

theorem blk11 (f : S2816x1024.Idx → EReal) (d : Fin 2816) (e : Fin 1024) : View.read (Elt Ideal) ((cfg0.win 11).blk t).view f (ix2 d e) = f (ix2 d e) := by
  blk_ext [(idx_whole t).2.2.2.2.2.2.2]

end

variable {m c}

/-- The blocks of a point are its tile's tokens and the parameters. -/
theorem ins_at (hf : Real12 m c) (t : Fin cfg0.N) :
    Ins (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (par m c) (tile m c t.val) where
  f a e := (blk0 t _ a e).trans (hf.h0.coe _)
  m a e := (blk1 t _ a e).trans (hf.h1.coe _)
  x a e := (blk2 t _ a e).trans (hf.h2.coe _)
  t a e := (blk3 t _ a e).trans (hf.h3.coe _)
  gf o e := (blk4 t _ o e).trans (hf.h4.coe _)
  gm o e := (blk5 t _ o e).trans (hf.h5.coe _)
  g2 o e := (blk6 t _ o e).trans (hf.h6.coe _)
  g3 o e := (blk7 t _ o e).trans (hf.h7.coe _)
  wo d e := (blk8 t _ d e).trans (hf.h8.coe _)
  wg d e := (blk9 t _ d e).trans (hf.h9.coe _)
  wu d e := (blk10 t _ d e).trans (hf.h10.coe _)
  wd d e := (blk11 t _ d e).trans (hf.h11.coe _)

variable (m)

/-- What is followed: the tile's values, and the rows of sums over the tokens up to the tile's end. -/
def track : Track Ideal where
  a c t X := ∀ r e, X (ix2 r e) = (Mid.a (par m c) (tile m c t.val r) e : EReal)
  h2 c t X := ∀ r e, X (ix2 r e) = (Mid.h2 (par m c) (tile m c t.val r) e : EReal)
  hid c t X := ∀ r e, X (ix2 r e) = (Mid.hid (par m c) (tile m c t.val r) e : EReal)
  dg c t X := ∀ r e, X (ix2 r e) = (Mid.dg (par m c) (tile m c t.val r) e : EReal)
  du c t X := ∀ r e, X (ix2 r e) = (Mid.du (par m c) (tile m c t.val r) e : EReal)
  dx3 c t X := ∀ r e, X (ix2 r e) = (Mid.dx3 (par m c) (tile m c t.val r) e : EReal)
  dx2 c t X := ∀ r e, X (ix2 r e) = (Mid.dx2 (par m c) (tile m c t.val r) e : EReal)
  dof c t X := ∀ r e, X (ix2 r e) = (Mid.dof (par m c) (tile m c t.val r) e : EReal)
  dom c t X := ∀ r e, X (ix2 r e) = (Mid.dom (par m c) (tile m c t.val r) e : EReal)
  st c t X := Rows (upTo (par m c) (tok m c) (256 * (t.val + 1))) X

variable {m}

attribute [local irreducible] runFirst runLater

/-- The body's run at a point gives the tile's values and adds its part to the rows of sums. -/
theorem value_at (hf : Real12 m c) (t : Fin cfg0.N) (x13 x14 x15 x16 x17 x18 x19 x20 x21 x22)
    (hw : t.val ≠ 0 → Rows (upTo (par m c) (tok m c) (256 * t.val)) x22) :
    let L := (runAt m c t x13 x14 x15 x16 x17 x18 x19 x20 x21 x22).1
    Outs (par m c) (tile m c t.val) L ∧ Rows (upTo (par m c) (tok m c) (256 * (t.val + 1))) L.2.2.2.2.2.2.2.2.2 := by
  have step : (fun r e => upTo (par m c) (tok m c) (256 * t.val) r e + ∑ a, stat (par m c) (tile m c t.val a) r e)
      = upTo (par m c) (tok m c) (256 * (t.val + 1)) := by
    funext r e
    exact upTo_add _ _ _ _ _
  rw [← step]
  unfold runAt
  by_cases h0 : t.val = 0
  · rw [dif_pos h0]
    have zero : ∀ r e, upTo (par m c) (tok m c) (256 * t.val) r e = 0 := fun r e => by rw [h0]; exact upTo_zero _ _ _ _
    simp only [zero]
    exact first_value (hc0 := (opens_iff t).mpr h0) (I := ins_at hf t) ..
  · rw [dif_neg h0]
    exact later_value (hc0 := fun h => h0 ((opens_iff t).mp h)) (I := ins_at hf t) (hw := hw h0) ..

attribute [local irreducible] runAt

/-- The runs keep what is followed. -/
theorem track_kept (hf : ∀ c, Real12 m c) : (track m).Kept m := by
  intro c t x13 x14 x15 x16 x17 x18 x19 x20 x21 x22 hw
  have key := value_at (hf c) t x13 x14 x15 x16 x17 x18 x19 x20 x21 x22 fun h => by
    have := hw h
    have e : t.val - 1 + 1 = t.val := Nat.succ_pred_eq_of_ne_zero h
    rwa [show (track m).st c ⟨t.val - 1, Nat.lt_of_le_of_lt (Nat.sub_le _ _) t.isLt⟩ x22
      = Rows (upTo (par m c) (tok m c) (256 * (t.val - 1 + 1))) x22 from rfl, e] at this
  revert key
  generalize (runAt m c t x13 x14 x15 x16 x17 x18 x19 x20 x21 x22).1 = L
  rintro ⟨O, R⟩
  exact ⟨O.a, O.h2, O.hid, O.dg, O.du, O.dx3, O.dx2, O.dof, O.dom, R⟩

end Cert.MiddleIdeal.Sums

end
-- ==== Proof.MiddleArrays.lean ====
/- The ten arrays of the middle after the run. -/
module

public import proofs.«01_k».proof.Proof.MiddlePoints
public import Idealize.ShloMosaic.Lib.Pipeline.ArrRel

@[expose] public section

set_option maxRecDepth 16384

noncomputable section

namespace Cert.MiddleIdeal.Sums

open Cert.MiddleIdeal Cert.MiddleIdeal.Gen Cert.MiddleIdeal.Hand Cert.Mid Cert.Attn
open Idealize.ShloMosaic Idealize.ShloMosaic.TcCoe Idealize.ShloMosaic.Pipeline

theorem covers12 : (cfg0.win 12).Covers := by decide +kernel
theorem covers13 : (cfg0.win 13).Covers := by decide +kernel
theorem covers14 : (cfg0.win 14).Covers := by decide +kernel
theorem covers15 : (cfg0.win 15).Covers := by decide +kernel
theorem covers16 : (cfg0.win 16).Covers := by decide +kernel
theorem covers17 : (cfg0.win 17).Covers := by decide +kernel
theorem covers18 : (cfg0.win 18).Covers := by decide +kernel
theorem covers19 : (cfg0.win 19).Covers := by decide +kernel
theorem covers20 : (cfg0.win 20).Covers := by decide +kernel
theorem covers21 : (cfg0.win 21).Covers := by decide +kernel

/-- The windows of the tokens' arrays, -/
theorem idx_out : ∀ t : Fin cfg0.N, win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] := by decide +kernel

/-- and of the sums. -/
theorem idx_sums : ∀ t : Fin cfg0.N, win0_21.index t = ![0, 0] := by decide +kernel

section
variable (t : Fin cfg0.N)

/-- Where a block's element lies in its array. -/
theorem emb12 (y : (⟨2, ![256, 1024]⟩ : Shape).Idx) : ((((cfg0.win 12).blk t).view.emb y) 0 : Fin 8192).val = t.val * 256 + (y 0).val
    ∧ ((((cfg0.win 12).blk t).view.emb y) 1 : Fin 1024).val = (y 1).val := by
  constructor <;> blk_simp [(idx_out t).1] <;> rfl

theorem emb13 (y : (⟨2, ![256, 1024]⟩ : Shape).Idx) : ((((cfg0.win 13).blk t).view.emb y) 0 : Fin 8192).val = t.val * 256 + (y 0).val
    ∧ ((((cfg0.win 13).blk t).view.emb y) 1 : Fin 1024).val = (y 1).val := by
  constructor <;> blk_simp [(idx_out t).2.1] <;> rfl

theorem emb14 (y : (⟨2, ![256, 2816]⟩ : Shape).Idx) : ((((cfg0.win 14).blk t).view.emb y) 0 : Fin 8192).val = t.val * 256 + (y 0).val
    ∧ ((((cfg0.win 14).blk t).view.emb y) 1 : Fin 2816).val = (y 1).val := by
  constructor <;> blk_simp [(idx_out t).2.2.1] <;> rfl

theorem emb15 (y : (⟨2, ![256, 2816]⟩ : Shape).Idx) : ((((cfg0.win 15).blk t).view.emb y) 0 : Fin 8192).val = t.val * 256 + (y 0).val
    ∧ ((((cfg0.win 15).blk t).view.emb y) 1 : Fin 2816).val = (y 1).val := by
  constructor <;> blk_simp [(idx_out t).2.2.2.1] <;> rfl

theorem emb16 (y : (⟨2, ![256, 2816]⟩ : Shape).Idx) : ((((cfg0.win 16).blk t).view.emb y) 0 : Fin 8192).val = t.val * 256 + (y 0).val
    ∧ ((((cfg0.win 16).blk t).view.emb y) 1 : Fin 2816).val = (y 1).val := by
  constructor <;> blk_simp [(idx_out t).2.2.2.2.1] <;> rfl

theorem emb17 (y : (⟨2, ![256, 1024]⟩ : Shape).Idx) : ((((cfg0.win 17).blk t).view.emb y) 0 : Fin 8192).val = t.val * 256 + (y 0).val
    ∧ ((((cfg0.win 17).blk t).view.emb y) 1 : Fin 1024).val = (y 1).val := by
  constructor <;> blk_simp [(idx_out t).2.2.2.2.2.1] <;> rfl

theorem emb18 (y : (⟨2, ![256, 1024]⟩ : Shape).Idx) : ((((cfg0.win 18).blk t).view.emb y) 0 : Fin 8192).val = t.val * 256 + (y 0).val
    ∧ ((((cfg0.win 18).blk t).view.emb y) 1 : Fin 1024).val = (y 1).val := by
  constructor <;> blk_simp [(idx_out t).2.2.2.2.2.2.1] <;> rfl

theorem emb19 (y : (⟨2, ![256, 512]⟩ : Shape).Idx) : ((((cfg0.win 19).blk t).view.emb y) 0 : Fin 8192).val = t.val * 256 + (y 0).val
    ∧ ((((cfg0.win 19).blk t).view.emb y) 1 : Fin 512).val = (y 1).val := by
  constructor <;> blk_simp [(idx_out t).2.2.2.2.2.2.2.1] <;> rfl

theorem emb20 (y : (⟨2, ![256, 512]⟩ : Shape).Idx) : ((((cfg0.win 20).blk t).view.emb y) 0 : Fin 8192).val = t.val * 256 + (y 0).val
    ∧ ((((cfg0.win 20).blk t).view.emb y) 1 : Fin 512).val = (y 1).val := by
  constructor <;> blk_simp [(idx_out t).2.2.2.2.2.2.2.2] <;> rfl

theorem emb21 (y : (⟨2, ![8, 1024]⟩ : Shape).Idx) : ((((cfg0.win 21).blk t).view.emb y) 0 : Fin 8).val = (y 0).val
    ∧ ((((cfg0.win 21).blk t).view.emb y) 1 : Fin 1024).val = (y 1).val := by
  constructor <;> blk_simp [idx_sums t] <;> rfl

variable {t}

/-- A tile's block is its array's there, -/
theorem tile_block {n : ℕ} {K : Fin 8192 → Token} {s : Token → Fin n → ℝ} {X : (⟨2, ![256, n]⟩ : Shape).Idx → EReal}
    (hX : ∀ a e, X (ix2 a e) = (s (K (rowAt (256 * t.val + a.val))) e : EReal)) (y : (⟨2, ![256, n]⟩ : Shape).Idx) (z : (⟨2, ![8192, n]⟩ : Shape).Idx)
    (h : (z 0).val = t.val * 256 + (y 0).val ∧ (z 1).val = (y 1).val) : X y = rows (fun r e => s (K r) e) z := by
  have hy : y = ix2 (y 0) (y 1) := funext fun a => by fin_cases a <;> rfl
  refine (congrArg X hy).trans ((hX _ _).trans ?_)
  have e0 : rowAt (256 * t.val + ((y 0 : Fin 256)).val) = z 0 := Fin.ext ((row_tile t _).trans h.1.symm)
  have e1 : (y 1 : Fin n) = z 1 := Fin.ext h.2.symm
  show ((s (K (rowAt (256 * t.val + ((y 0 : Fin 256)).val))) (y 1) : ℝ) : EReal) = ((s (K (z 0)) (z 1) : ℝ) : EReal)
  rw [e0, e1]

/-- and the sums after the last tile are those over all tokens. -/
theorem sums_block {W : Weights} {K : Fin 8192 → Token} {X : Vec Ideal S8x1024 .f32} (ht : t.val = 31) (hX : Rows (upTo W K (256 * (t.val + 1))) X)
    (y : (⟨2, ![8, 1024]⟩ : Shape).Idx) (z : (⟨2, ![8, 1024]⟩ : Shape).Idx) (h : (z 0).val = (y 0).val ∧ (z 1).val = (y 1).val) : X y = total W K z := by
  have hy : y = ix2 (y 0) (y 1) := funext fun a => by fin_cases a <;> rfl
  obtain rfl : y = z := funext fun a => by
    fin_cases a
    · exact Fin.ext h.1.symm
    · exact Fin.ext h.2.symm
  refine (congrArg X hy).trans ((hX _ _).trans ?_)
  rw [ht]
  exact congrArg Real.toEReal (upTo_all W K _ _)

end

variable {m : (ℓ : Loc nD τ sig) → Buf (Elt Ideal) ℓ} (ρ : Dev nD → PrngReg)

set_option maxHeartbeats 2000000 in
/-- The run: the nine arrays hold the tokens' values, the tenth the sums over all tokens. -/
theorem run_value (hf : ∀ c, Real12 m c) : θ_run defs (onTc (τ := τ) (main (F := Ideal))) ⟨m, fun _ => 0, ρ⟩ (fun r => ∀ c : Dev nD,
    (r.2.mem ((c : Thread nD τ).loc main_v0_0) = rows (fun r e => Mid.a (par m c) (tok m c r) e)
      ∧ r.2.mem ((c : Thread nD τ).loc main_v0_1) = rows (fun r e => Mid.h2 (par m c) (tok m c r) e)
      ∧ r.2.mem ((c : Thread nD τ).loc main_v0_2) = rows (fun r e => Mid.hid (par m c) (tok m c r) e)
      ∧ r.2.mem ((c : Thread nD τ).loc main_v0_3) = rows (fun r e => Mid.dg (par m c) (tok m c r) e)
      ∧ r.2.mem ((c : Thread nD τ).loc main_v0_4) = rows (fun r e => Mid.du (par m c) (tok m c r) e)
      ∧ r.2.mem ((c : Thread nD τ).loc main_v0_5) = rows (fun r e => Mid.dx3 (par m c) (tok m c r) e)
      ∧ r.2.mem ((c : Thread nD τ).loc main_v0_6) = rows (fun r e => Mid.dx2 (par m c) (tok m c r) e)
      ∧ r.2.mem ((c : Thread nD τ).loc main_v0_7) = rows (fun r e => Mid.dof (par m c) (tok m c r) e)
      ∧ r.2.mem ((c : Thread nD τ).loc main_v0_8) = rows (fun r e => Mid.dom (par m c) (tok m c r) e)
      ∧ r.2.mem ((c : Thread nD τ).loc main_v0_9) = total (par m c) (tok m c))) := by
  refine (θ_run defs (onTc main) (s₀ m ρ)).mono (fun r h c => ?_) (run_main m ρ (track m) (track_kept hf))
  obtain ⟨after, hL, hA⟩ := h.1.exists_exact c
  have e12 := (hA 12).trans (Dat.arrAt_eq_of_covers _ 12 (rows fun r e => Mid.a (par m c) (tok m c r) e) covers12 fun t hfl y => by
    obtain ⟨Y, -, hX⟩ := hL 12 t hfl
    exact tile_block (t := t) (K := tok m c) (s := Mid.a (par m c)) hX y _ (emb12 t y))
  have e13 := (hA 13).trans (Dat.arrAt_eq_of_covers _ 13 (rows fun r e => Mid.h2 (par m c) (tok m c r) e) covers13 fun t hfl y => by
    obtain ⟨Y, -, hX⟩ := hL 13 t hfl
    exact tile_block (t := t) (K := tok m c) (s := Mid.h2 (par m c)) hX y _ (emb13 t y))
  have e14 := (hA 14).trans (Dat.arrAt_eq_of_covers _ 14 (rows fun r e => Mid.hid (par m c) (tok m c r) e) covers14 fun t hfl y => by
    obtain ⟨Y, -, hX⟩ := hL 14 t hfl
    exact tile_block (t := t) (K := tok m c) (s := Mid.hid (par m c)) hX y _ (emb14 t y))
  have e15 := (hA 15).trans (Dat.arrAt_eq_of_covers _ 15 (rows fun r e => Mid.dg (par m c) (tok m c r) e) covers15 fun t hfl y => by
    obtain ⟨Y, -, hX⟩ := hL 15 t hfl
    exact tile_block (t := t) (K := tok m c) (s := Mid.dg (par m c)) hX y _ (emb15 t y))
  have e16 := (hA 16).trans (Dat.arrAt_eq_of_covers _ 16 (rows fun r e => Mid.du (par m c) (tok m c r) e) covers16 fun t hfl y => by
    obtain ⟨Y, -, hX⟩ := hL 16 t hfl
    exact tile_block (t := t) (K := tok m c) (s := Mid.du (par m c)) hX y _ (emb16 t y))
  have e17 := (hA 17).trans (Dat.arrAt_eq_of_covers _ 17 (rows fun r e => Mid.dx3 (par m c) (tok m c r) e) covers17 fun t hfl y => by
    obtain ⟨Y, -, hX⟩ := hL 17 t hfl
    exact tile_block (t := t) (K := tok m c) (s := Mid.dx3 (par m c)) hX y _ (emb17 t y))
  have e18 := (hA 18).trans (Dat.arrAt_eq_of_covers _ 18 (rows fun r e => Mid.dx2 (par m c) (tok m c r) e) covers18 fun t hfl y => by
    obtain ⟨Y, -, hX⟩ := hL 18 t hfl
    exact tile_block (t := t) (K := tok m c) (s := Mid.dx2 (par m c)) hX y _ (emb18 t y))
  have e19 := (hA 19).trans (Dat.arrAt_eq_of_covers _ 19 (rows fun r e => Mid.dof (par m c) (tok m c r) e) covers19 fun t hfl y => by
    obtain ⟨Y, -, hX⟩ := hL 19 t hfl
    exact tile_block (t := t) (K := tok m c) (s := Mid.dof (par m c)) hX y _ (emb19 t y))
  have e20 := (hA 20).trans (Dat.arrAt_eq_of_covers _ 20 (rows fun r e => Mid.dom (par m c) (tok m c r) e) covers20 fun t hfl y => by
    obtain ⟨Y, -, hX⟩ := hL 20 t hfl
    exact tile_block (t := t) (K := tok m c) (s := Mid.dom (par m c)) hX y _ (emb20 t y))
  have e21 := (hA 21).trans (Dat.arrAt_eq_of_covers _ 21 (total (par m c) (tok m c)) covers21 fun t hfl y => by
    obtain ⟨Y, -, hX⟩ := hL 21 t hfl
    have ht : t.val = 31 := by
      have h1 := (flush0_21 t).mp hfl
      have h2 : t.val < 32 := Nat.lt_of_lt_of_eq t.isLt N_0
      omega
    exact sums_block ht hX y _ (emb21 t y))
  exact ⟨e12, e13, e14, e15, e16, e17, e18, e19, e20, e21⟩

end Cert.MiddleIdeal.Sums

end
-- ==== Proof.MiddleRefForward.lean ====
/- What the reference of the middle computes on the way forward, index by index: the two norms of the attentions' outputs, the output
   projection, the feed-forward layer, the last norm and its distance from the target. -/
module

public import proofs.«01_k».proof.Proof.Gen.MiddleReferenceIdeal.Read
public import proofs.«01_k».proof.Proof.MiddleWhole

@[expose] public section

set_option maxRecDepth 16384

noncomputable section

namespace Cert.MiddleRef

open Cert.MiddleReferenceIdeal Cert.MiddleReferenceIdeal.Gen Cert.MiddleReferenceIdeal.Read Cert.Mid Cert.Attn
open Idealize.ShloMosaic

/-- What the arguments hold: the parameters and the tokens. -/
structure Args (x0 x1 : Mat 8192 512) (x2 x3 : Mat 8192 1024) (x4 x5 : Mat 1 512) (x6 x7 : Mat 1 1024) (x8 : Mat 1024 1024)
    (x9 x10 x11 : Mat 2816 1024) (W : Weights) (k : Fin 8192 → Token) : Prop where
  f : ∀ r e, x0 (ix2 r e) = ((k r).f e : EReal)
  m : ∀ r e, x1 (ix2 r e) = ((k r).m e : EReal)
  x : ∀ r e, x2 (ix2 r e) = ((k r).x e : EReal)
  t : ∀ r e, x3 (ix2 r e) = ((k r).t e : EReal)
  gf : ∀ e, x4 (ix2 0 e) = (W.gf e : EReal)
  gm : ∀ e, x5 (ix2 0 e) = (W.gm e : EReal)
  g2 : ∀ e, x6 (ix2 0 e) = (W.g2 e : EReal)
  g3 : ∀ e, x7 (ix2 0 e) = (W.g3 e : EReal)
  wo : ∀ d e, x8 (ix2 d e) = (W.wo d e : EReal)
  wg : ∀ j e, x9 (ix2 j e) = (W.wg j e : EReal)
  wu : ∀ j e, x10 (ix2 j e) = (W.wu j e : EReal)
  wd : ∀ j e, x11 (ix2 j e) = (W.wd j e : EReal)

/-- Arguments that hold real numbers hold parameters and tokens. -/
theorem args {x0 x1 : Mat 8192 512} {x2 x3 : Mat 8192 1024} {x4 x5 : Mat 1 512} {x6 x7 : Mat 1 1024} {x8 : Mat 1024 1024}
    {x9 x10 x11 : Mat 2816 1024} (h : Fin12 x0 x1 x2 x3 x4 x5 x6 x7 x8 x9 x10 x11) :
    Args x0 x1 x2 x3 x4 x5 x6 x7 x8 x9 x10 x11 (weights x4 x5 x6 x7 x8 x9 x10 x11) (token x0 x1 x2 x3) where
  f _ _ := h.h0.coe _
  m _ _ := h.h1.coe _
  x _ _ := h.h2.coe _
  t _ _ := h.h3.coe _
  gf _ := h.h4.coe _
  gm _ := h.h5.coe _
  g2 _ := h.h6.coe _
  g3 _ := h.h7.coe _
  wo _ _ := h.h8.coe _
  wg _ _ := h.h9.coe _
  wu _ _ := h.h10.coe _
  wd _ _ := h.h11.coe _

/-- A number of a constant. -/
theorem num (b : BitVec 32) (i : S_.Idx) : constant (F := Ideal) S_ .f32 b i = Ideal.ofBits .f32 b := rfl

/-- The mean square and the small number, as the reference takes it. -/
theorem ms_eq {n : ℕ} {N : ℝ} (v : Fin n → ℝ) (hN : (n : ℝ) = N) : (∑ i, v i * v i) / N + ε = ms v := by
  rw [ms, hN]; ring

variable {x0 x1 : Mat 8192 512} {x2 x3 : Mat 8192 1024} {x4 x5 : Mat 1 512} {x6 x7 : Mat 1 1024} {x8 : Mat 1024 1024}
  {x9 x10 x11 : Mat 2816 1024} {W : Weights} {k : Fin 8192 → Token}

section Norms
variable (A : Args x0 x1 x2 x3 x4 x5 x6 x7 x8 x9 x10 x11 W k) (r : Fin 8192)
include A

theorem v10 (o : Fin 1) : val_main_v10 (F := Ideal) x0 (ix2 r o) = (ms (k r).f : EReal) := by
  pointwise [val_main_v10, val_main_v9, val_main_v8, val_main_v7, val_main_v6, val_main_v5, val_main_v4, val_main_cst, val_main_cst_0, val_main_cst_1]
  simp only [A.f, num, n512, eps_eq, Ideal.ofBits_zero_f32, zero_add, ← EReal.coe_mul, ← coe_sum, div_coe _ _ (show (512 : ℝ) ≠ 0 by norm_num), ← EReal.coe_add]
  rw [ms_eq _ (by norm_num)]

theorem v11 (o : Fin 1) : val_main_v11 (F := Ideal) x0 (ix2 r o) = (inv (k r).f : EReal) :=
  (congrArg Ideal.rsqrt (v10 A r o)).trans (rsqrt_ms _)

theorem v14 (o : Fin 1) : val_main_v14 (F := Ideal) x0 (ix2 r o) = ((-(1 / 2) * (inv (k r).f / ms (k r).f) : ℝ) : EReal) := by
  pointwise [val_main_v14, val_main_v13, val_main_v12, val_main_cst_2]
  simp only [v10 A, v11 A, num, nhalf, div_coe _ _ (ms_pos _).ne', ← EReal.coe_mul]

theorem v16 (e : Fin 512) : val_main_v16 (F := Ideal) x0 (ix2 r e) = (hat (k r).f e : EReal) := by
  pointwise [val_main_v16, val_main_v15]
  simp only [A.f, v11 A, ← EReal.coe_mul, hat]

theorem v18 (e : Fin 512) : val_main_v18 (F := Ideal) x0 x4 (ix2 r e) = (nf W (k r) e : EReal) := by
  pointwise [val_main_v18, val_main_v17]
  simp only [A.gf, v16 A, ← EReal.coe_mul, nf]

theorem v25 (o : Fin 1) : val_main_v25 (F := Ideal) x1 (ix2 r o) = (ms (k r).m : EReal) := by
  pointwise [val_main_v25, val_main_v24, val_main_v23, val_main_v22, val_main_v21, val_main_v20, val_main_v19, val_main_cst_3, val_main_cst_4, val_main_cst_5]
  simp only [A.m, num, n512, eps_eq, Ideal.ofBits_zero_f32, zero_add, ← EReal.coe_mul, ← coe_sum, div_coe _ _ (show (512 : ℝ) ≠ 0 by norm_num), ← EReal.coe_add]
  rw [ms_eq _ (by norm_num)]

theorem v26 (o : Fin 1) : val_main_v26 (F := Ideal) x1 (ix2 r o) = (inv (k r).m : EReal) :=
  (congrArg Ideal.rsqrt (v25 A r o)).trans (rsqrt_ms _)

theorem v29 (o : Fin 1) : val_main_v29 (F := Ideal) x1 (ix2 r o) = ((-(1 / 2) * (inv (k r).m / ms (k r).m) : ℝ) : EReal) := by
  pointwise [val_main_v29, val_main_v28, val_main_v27, val_main_cst_6]
  simp only [v25 A, v26 A, num, nhalf, div_coe _ _ (ms_pos _).ne', ← EReal.coe_mul]

theorem v31 (e : Fin 512) : val_main_v31 (F := Ideal) x1 (ix2 r e) = (hat (k r).m e : EReal) := by
  pointwise [val_main_v31, val_main_v30]
  simp only [A.m, v26 A, ← EReal.coe_mul, hat]

theorem v33 (e : Fin 512) : val_main_v33 (F := Ideal) x1 x5 (ix2 r e) = (nm W (k r) e : EReal) := by
  pointwise [val_main_v33, val_main_v32]
  simp only [A.gm, v31 A, ← EReal.coe_mul, nm]

end Norms

section Feed
variable (A : Args x0 x1 x2 x3 x4 x5 x6 x7 x8 x9 x10 x11 W k) (r : Fin 8192)
include A

/-- The merged activations, -/
theorem v34 (e : Fin 1024) : val_main_v34 (F := Ideal) x0 x1 x4 x5 (ix2 r e) = (Mid.a W (k r) e : EReal) := by
  pointwise [val_main_v34]
  simp only [v18 A, v33 A, Mid.a, join]
  split <;> rfl

/-- the residual after the output projection, -/
theorem v36 (e : Fin 1024) : val_main_v36 (F := Ideal) x0 x1 x2 x4 x5 x8 (ix2 r e) = (Mid.x2 W (k r) e : EReal) := by
  pointwise [val_main_v36, val_main_v35, val_main_v0]
  simp only [A.x, A.wo, v34 A, ← EReal.coe_mul, ← coe_sum, ← EReal.coe_add, Mid.x2]

/-- and its norm. -/
theorem v43 (o : Fin 1) : val_main_v43 (F := Ideal) x0 x1 x2 x4 x5 x8 (ix2 r o) = (ms (Mid.x2 W (k r)) : EReal) := by
  pointwise [val_main_v43, val_main_v42, val_main_v41, val_main_v40, val_main_v39, val_main_v38, val_main_v37, val_main_cst_7, val_main_cst_8, val_main_cst_9]
  simp only [v36 A, num, n1024, eps_eq, Ideal.ofBits_zero_f32, zero_add, ← EReal.coe_mul, ← coe_sum, div_coe _ _ (show (1024 : ℝ) ≠ 0 by norm_num), ← EReal.coe_add]
  rw [ms_eq _ (by norm_num)]

theorem v44 (o : Fin 1) : val_main_v44 (F := Ideal) x0 x1 x2 x4 x5 x8 (ix2 r o) = (inv (Mid.x2 W (k r)) : EReal) :=
  (congrArg Ideal.rsqrt (v43 A r o)).trans (rsqrt_ms _)

theorem v47 (o : Fin 1) : val_main_v47 (F := Ideal) x0 x1 x2 x4 x5 x8 (ix2 r o)
    = ((-(1 / 2) * (inv (Mid.x2 W (k r)) / ms (Mid.x2 W (k r))) : ℝ) : EReal) := by
  pointwise [val_main_v47, val_main_v46, val_main_v45, val_main_cst_10]
  simp only [v43 A, v44 A, num, nhalf, div_coe _ _ (ms_pos _).ne', ← EReal.coe_mul]

theorem v49 (e : Fin 1024) : val_main_v49 (F := Ideal) x0 x1 x2 x4 x5 x8 (ix2 r e) = (hat (Mid.x2 W (k r)) e : EReal) := by
  pointwise [val_main_v49, val_main_v48]
  simp only [v36 A, v44 A, ← EReal.coe_mul, hat]

theorem v51 (e : Fin 1024) : val_main_v51 (F := Ideal) x0 x1 x2 x4 x5 x6 x8 (ix2 r e) = (Mid.h2 W (k r) e : EReal) := by
  pointwise [val_main_v51, val_main_v50]
  simp only [A.g2, v49 A, ← EReal.coe_mul, Mid.h2]

/-- The gate, -/
theorem v52 (j : Fin 2816) : val_main_v52 (F := Ideal) x0 x1 x2 x4 x5 x6 x8 x9 (ix2 r j) = (gate W (k r) j : EReal) := by
  pointwise [val_main_v52, val_main_v1]
  simp only [A.wg, v51 A, ← EReal.coe_mul, ← coe_sum, gate]

/-- the other half of the hidden layer, -/
theorem v53 (j : Fin 2816) : val_main_v53 (F := Ideal) x0 x1 x2 x4 x5 x6 x8 x10 (ix2 r j) = (up W (k r) j : EReal) := by
  pointwise [val_main_v53, val_main_v2]
  simp only [A.wu, v51 A, ← EReal.coe_mul, ← coe_sum, up]

/-- the logistic function of the gate, -/
theorem v54_2 (j : Fin 2816) : val_main_v54_2 (F := Ideal) x0 x1 x2 x4 x5 x6 x8 x9 (ix2 r j) = (sg W (k r) j : EReal) := by
  pointwise [val_main_v54_2, val_main_call0_v4, val_main_call0_v3, val_main_call0_v2, val_main_call0_v1, val_main_call0_v0, val_main_call0_cst, val_main_call0_cst_0]
  have h : (1 + Real.exp (-gate W (k r) j)) ≠ 0 := (add_pos one_pos (Real.exp_pos _)).ne'
  simp only [v52 A, num, ← EReal.coe_one, ← EReal.coe_neg, exp_coe, ← EReal.coe_add, div_coe _ _ h]
  rw [one_div]; rfl

theorem v54_1 (j : Fin 2816) : val_main_v54_1 (F := Ideal) x0 x1 x2 x4 x5 x6 x8 x9 (ix2 r j) = ((sg W (k r) j * (1 - sg W (k r) j) : ℝ) : EReal) := by
  pointwise [val_main_v54_1, val_main_call0_v7, val_main_call0_v6, val_main_call0_cst_1]
  simp only [v54_2 A, num, ← EReal.coe_one, ← EReal.coe_sub, ← EReal.coe_mul]

theorem v54_0 (j : Fin 2816) : val_main_v54_0 (F := Ideal) x0 x1 x2 x4 x5 x6 x8 x9 (ix2 r j) = (sl W (k r) j : EReal) := by
  pointwise [val_main_v54_0]
  simp only [v54_2 A, v52 A, ← EReal.coe_mul, sl]

/-- and the hidden layer. -/
theorem v55 (j : Fin 2816) : val_main_v55 (F := Ideal) x0 x1 x2 x4 x5 x6 x8 x9 x10 (ix2 r j) = (hid W (k r) j : EReal) := by
  pointwise [val_main_v55]
  simp only [v54_0 A, v53 A, ← EReal.coe_mul, hid]

/-- The block's end, -/
theorem v57 (e : Fin 1024) : val_main_v57 (F := Ideal) x0 x1 x2 x4 x5 x6 x8 x9 x10 x11 (ix2 r e) = (Mid.x3 W (k r) e : EReal) := by
  pointwise [val_main_v57, val_main_v56, val_main_v3]
  simp only [v36 A, v55 A, A.wd, ← EReal.coe_mul, ← coe_sum, ← EReal.coe_add, Mid.x3]

/-- its norm, -/
theorem v64 (o : Fin 1) : val_main_v64 (F := Ideal) x0 x1 x2 x4 x5 x6 x8 x9 x10 x11 (ix2 r o) = (ms (Mid.x3 W (k r)) : EReal) := by
  pointwise [val_main_v64, val_main_v63, val_main_v62, val_main_v61, val_main_v60, val_main_v59, val_main_v58, val_main_cst_11, val_main_cst_12, val_main_cst_13]
  simp only [v57 A, num, n1024, eps_eq, Ideal.ofBits_zero_f32, zero_add, ← EReal.coe_mul, ← coe_sum, div_coe _ _ (show (1024 : ℝ) ≠ 0 by norm_num), ← EReal.coe_add]
  rw [ms_eq _ (by norm_num)]

theorem v65 (o : Fin 1) : val_main_v65 (F := Ideal) x0 x1 x2 x4 x5 x6 x8 x9 x10 x11 (ix2 r o) = (inv (Mid.x3 W (k r)) : EReal) :=
  (congrArg Ideal.rsqrt (v64 A r o)).trans (rsqrt_ms _)

theorem v68 (o : Fin 1) : val_main_v68 (F := Ideal) x0 x1 x2 x4 x5 x6 x8 x9 x10 x11 (ix2 r o)
    = ((-(1 / 2) * (inv (Mid.x3 W (k r)) / ms (Mid.x3 W (k r))) : ℝ) : EReal) := by
  pointwise [val_main_v68, val_main_v67, val_main_v66, val_main_cst_14]
  simp only [v64 A, v65 A, num, nhalf, div_coe _ _ (ms_pos _).ne', ← EReal.coe_mul]

theorem v70 (e : Fin 1024) : val_main_v70 (F := Ideal) x0 x1 x2 x4 x5 x6 x8 x9 x10 x11 (ix2 r e) = (hat (Mid.x3 W (k r)) e : EReal) := by
  pointwise [val_main_v70, val_main_v69]
  simp only [v57 A, v65 A, ← EReal.coe_mul, hat]

/-- the distance from the target -/
theorem v73 (e : Fin 1024) : val_main_v73 (F := Ideal) x0 x1 x2 x3 x4 x5 x6 x7 x8 x9 x10 x11 (ix2 r e) = (diff W (k r) e : EReal) := by
  pointwise [val_main_v73, val_main_v72, val_main_v71]
  simp only [v70 A, A.g3, A.t, ← EReal.coe_mul, ← EReal.coe_sub, diff]

/-- and the loss's gradient there. -/
theorem v88 (e : Fin 1024) : val_main_v88 (F := Ideal) x0 x1 x2 x3 x4 x5 x6 x7 x8 x9 x10 x11 (ix2 r e) = (dy W (k r) e : EReal) := by
  pointwise [val_main_v88, val_main_v87, val_main_v86, val_main_v85, val_main_v84, val_main_v83, val_main_v82, val_main_v76, val_main_v75,
    val_main_cst_15, val_main_cst_19, val_main_cst_20, val_main_cst_21]
  simp only [v73 A, num, ← EReal.coe_one, two, half, n1024, div_coe _ _ (show (1024 : ℝ) ≠ 0 by norm_num), ← EReal.coe_mul, dy]
  rw [show (1 / 2 * (1 / 1024) * (2 * diff W (k r) e) : ℝ) = diff W (k r) e * (1 / 1024) by ring]

end Feed

end Cert.MiddleRef

end
-- ==== Proof.MiddleRefBack.lean ====
/- What the reference of the middle computes on the way back, index by index: the gradients of the block's end, of the hidden layer, of
   the block's middle and of the attentions' outputs, and the rows of sums over the tokens. -/
module

public import proofs.«01_k».proof.Proof.MiddleRefForward

@[expose] public section

set_option maxRecDepth 16384

noncomputable section

namespace Cert.MiddleRef

open Cert.MiddleReferenceIdeal Cert.MiddleReferenceIdeal.Gen Cert.MiddleReferenceIdeal.Read Cert.Mid Cert.Attn
open Idealize.ShloMosaic

/-- The gradient of a norm's row, as the reference takes it. -/
theorem back_terms {n : ℕ} {N : ℝ} (u v : Fin n → ℝ) (i : Fin n) (hN : (n : ℝ) = N) :
    u i * inv v + v i * ((∑ j, v j * u j) * (-(1 / 2) * (inv v / ms v)) / N) + (∑ j, v j * u j) * (-(1 / 2) * (inv v / ms v)) / N * v i = back u v i := by
  rw [back_eq, hN, add_assoc]

variable {x0 x1 : Mat 8192 512} {x2 x3 : Mat 8192 1024} {x4 x5 : Mat 1 512} {x6 x7 : Mat 1 1024} {x8 : Mat 1024 1024}
  {x9 x10 x11 : Mat 2816 1024} {W : Weights} {k : Fin 8192 → Token}
  (A : Args x0 x1 x2 x3 x4 x5 x6 x7 x8 x9 x10 x11 W k)
include A

section Rows
variable (r : Fin 8192)

theorem v93 (e : Fin 1024) : val_main_v93 (F := Ideal) x0 x1 x2 x3 x4 x5 x6 x7 x8 x9 x10 x11 (ix2 r e) = (u3 W (k r) e : EReal) := by
  pointwise [val_main_v93, val_main_v92]
  simp only [v88 A, A.g3, ← EReal.coe_mul, u3]

theorem v102 : val_main_v102 (F := Ideal) x0 x1 x2 x3 x4 x5 x6 x7 x8 x9 x10 x11 (ix1 r)
    = (((∑ j, Mid.x3 W (k r) j * u3 W (k r) j) * (-(1 / 2) * (inv (Mid.x3 W (k r)) / ms (Mid.x3 W (k r)))) / 1024 : ℝ) : EReal) := by
  pointwise [val_main_v102, val_main_v101, val_main_v100, val_main_v99, val_main_v96, val_main_v95, val_main_v94, val_main_cst_23, val_main_cst_24, val_main_cst_25]
  simp only [v57 A, v93 A, v68 A, num, n1024, Ideal.ofBits_zero_f32, zero_add, Finset.univ_unique, Finset.sum_singleton, ← EReal.coe_mul, ← coe_sum,
    div_coe _ _ (show (1024 : ℝ) ≠ 0 by norm_num)]

/-- The gradient at the block's end, -/
theorem v107 (e : Fin 1024) : val_main_v107 (F := Ideal) x0 x1 x2 x3 x4 x5 x6 x7 x8 x9 x10 x11 (ix2 r e) = (Mid.dx3 W (k r) e : EReal) := by
  pointwise [val_main_v107, val_main_v106, val_main_v105, val_main_v104, val_main_v103, val_main_v98, val_main_v97]
  simp only [v57 A, v93 A, v65 A, v102 A, ← EReal.coe_mul, ← EReal.coe_add]
  rw [back_terms _ _ _ (by norm_num), Mid.dx3]

/-- of the hidden layer -/
theorem v108 (j : Fin 2816) : val_main_v108 (F := Ideal) x0 x1 x2 x3 x4 x5 x6 x7 x8 x9 x10 x11 (ix2 r j) = (dhid W (k r) j : EReal) := by
  pointwise [val_main_v108, val_main_v3]
  simp only [v107 A, A.wd, ← EReal.coe_mul, ← coe_sum, dhid]

/-- and of its two halves. -/
theorem v109 (j : Fin 2816) : val_main_v109 (F := Ideal) x0 x1 x2 x3 x4 x5 x6 x7 x8 x9 x10 x11 (ix2 r j) = (Mid.du W (k r) j : EReal) := by
  pointwise [val_main_v109]
  simp only [v108 A, v54_0 A, ← EReal.coe_mul, Mid.du]
  rw [mul_comm]

theorem v111 (j : Fin 2816) : val_main_v111 (F := Ideal) x0 x1 x2 x3 x4 x5 x6 x7 x8 x9 x10 x11 (ix2 r j) = (Mid.dg W (k r) j : EReal) := by
  pointwise [val_main_v111, val_main_call1_v2, val_main_call1_v1, val_main_call1_v0, val_main_v110]
  simp only [v108 A, v53 A, v52 A, v54_1 A, v54_2 A, ← EReal.coe_mul, ← EReal.coe_add, Mid.dg]
  exact congrArg Real.toEReal (by ring)

/-- The gradient of the second norm's output, -/
theorem v114 (e : Fin 1024) : val_main_v114 (F := Ideal) x0 x1 x2 x3 x4 x5 x6 x7 x8 x9 x10 x11 (ix2 r e) = (dh2 W (k r) e : EReal) := by
  pointwise [val_main_v114, val_main_v113, val_main_v112, val_main_v1, val_main_v2]
  simp only [v109 A, v111 A, A.wg, A.wu, ← EReal.coe_mul, ← coe_sum, ← EReal.coe_add, dh2]
  rw [add_comm]

theorem v119 (e : Fin 1024) : val_main_v119 (F := Ideal) x0 x1 x2 x3 x4 x5 x6 x7 x8 x9 x10 x11 (ix2 r e) = (u2 W (k r) e : EReal) := by
  pointwise [val_main_v119, val_main_v118]
  simp only [v114 A, A.g2, ← EReal.coe_mul, u2]

theorem v128 : val_main_v128 (F := Ideal) x0 x1 x2 x3 x4 x5 x6 x7 x8 x9 x10 x11 (ix1 r)
    = (((∑ j, Mid.x2 W (k r) j * u2 W (k r) j) * (-(1 / 2) * (inv (Mid.x2 W (k r)) / ms (Mid.x2 W (k r)))) / 1024 : ℝ) : EReal) := by
  pointwise [val_main_v128, val_main_v127, val_main_v126, val_main_v125, val_main_v122, val_main_v121, val_main_v120, val_main_cst_27, val_main_cst_28, val_main_cst_29]
  simp only [v36 A, v119 A, v47 A, num, n1024, Ideal.ofBits_zero_f32, zero_add, Finset.univ_unique, Finset.sum_singleton, ← EReal.coe_mul, ← coe_sum,
    div_coe _ _ (show (1024 : ℝ) ≠ 0 by norm_num)]

/-- at the block's middle, -/
theorem v134 (e : Fin 1024) : val_main_v134 (F := Ideal) x0 x1 x2 x3 x4 x5 x6 x7 x8 x9 x10 x11 (ix2 r e) = (Mid.dx2 W (k r) e : EReal) := by
  pointwise [val_main_v134, val_main_v133, val_main_v132, val_main_v131, val_main_v130, val_main_v129, val_main_v124, val_main_v123]
  simp only [v107 A, v36 A, v119 A, v44 A, v128 A, ← EReal.coe_mul, ← EReal.coe_add]
  rw [back_terms _ _ _ (by norm_num), Mid.dx2]

/-- and of the merged activations with its two halves. -/
theorem v135 (d : Fin 1024) : val_main_v135 (F := Ideal) x0 x1 x2 x3 x4 x5 x6 x7 x8 x9 x10 x11 (ix2 r d) = (da W (k r) d : EReal) := by
  pointwise [val_main_v135, val_main_v0]
  simp only [v134 A, A.wo, ← EReal.coe_mul, ← coe_sum, da]

theorem v136 (e : Fin 512) : val_main_v136 (F := Ideal) x0 x1 x2 x3 x4 x5 x6 x7 x8 x9 x10 x11 (ix2 r e) = (Mid.fst (da W (k r)) e : EReal) := by
  pointwise [val_main_v136]
  simp only [v135 A, Mid.fst]

theorem v137 (e : Fin 512) : val_main_v137 (F := Ideal) x0 x1 x2 x3 x4 x5 x6 x7 x8 x9 x10 x11 (ix2 r e) = (Mid.snd (da W (k r)) e : EReal) := by
  pointwise [val_main_v137]
  simp only [v135 A, Mid.snd]

theorem v142 (e : Fin 512) : val_main_v142 (F := Ideal) x0 x1 x2 x3 x4 x5 x6 x7 x8 x9 x10 x11 (ix2 r e) = (um W (k r) e : EReal) := by
  pointwise [val_main_v142, val_main_v141]
  simp only [v137 A, A.gm, ← EReal.coe_mul, um]

theorem v151 : val_main_v151 (F := Ideal) x0 x1 x2 x3 x4 x5 x6 x7 x8 x9 x10 x11 (ix1 r)
    = (((∑ j, (k r).m j * um W (k r) j) * (-(1 / 2) * (inv (k r).m / ms (k r).m)) / 512 : ℝ) : EReal) := by
  pointwise [val_main_v151, val_main_v150, val_main_v149, val_main_v148, val_main_v145, val_main_v144, val_main_v143, val_main_cst_31, val_main_cst_32, val_main_cst_33]
  simp only [A.m, v142 A, v29 A, num, n512, Ideal.ofBits_zero_f32, zero_add, Finset.univ_unique, Finset.sum_singleton, ← EReal.coe_mul, ← coe_sum,
    div_coe _ _ (show (512 : ℝ) ≠ 0 by norm_num)]

/-- The gradient of the second attention's output, -/
theorem v156 (e : Fin 512) : val_main_v156 (F := Ideal) x0 x1 x2 x3 x4 x5 x6 x7 x8 x9 x10 x11 (ix2 r e) = (Mid.dom W (k r) e : EReal) := by
  pointwise [val_main_v156, val_main_v155, val_main_v154, val_main_v153, val_main_v152, val_main_v147, val_main_v146]
  simp only [A.m, v142 A, v26 A, v151 A, ← EReal.coe_mul, ← EReal.coe_add]
  rw [back_terms _ _ _ (by norm_num), Mid.dom]

theorem v161 (e : Fin 512) : val_main_v161 (F := Ideal) x0 x1 x2 x3 x4 x5 x6 x7 x8 x9 x10 x11 (ix2 r e) = (uf W (k r) e : EReal) := by
  pointwise [val_main_v161, val_main_v160]
  simp only [v136 A, A.gf, ← EReal.coe_mul, uf]

theorem v170 : val_main_v170 (F := Ideal) x0 x1 x2 x3 x4 x5 x6 x7 x8 x9 x10 x11 (ix1 r)
    = (((∑ j, (k r).f j * uf W (k r) j) * (-(1 / 2) * (inv (k r).f / ms (k r).f)) / 512 : ℝ) : EReal) := by
  pointwise [val_main_v170, val_main_v169, val_main_v168, val_main_v167, val_main_v164, val_main_v163, val_main_v162, val_main_cst_35, val_main_cst_36, val_main_cst_37]
  simp only [A.f, v161 A, v14 A, num, n512, Ideal.ofBits_zero_f32, zero_add, Finset.univ_unique, Finset.sum_singleton, ← EReal.coe_mul, ← coe_sum,
    div_coe _ _ (show (512 : ℝ) ≠ 0 by norm_num)]

/-- and of the first's. -/
theorem v175 (e : Fin 512) : val_main_v175 (F := Ideal) x0 x1 x2 x3 x4 x5 x6 x7 x8 x9 x10 x11 (ix2 r e) = (Mid.dof W (k r) e : EReal) := by
  pointwise [val_main_v175, val_main_v174, val_main_v173, val_main_v172, val_main_v171, val_main_v166, val_main_v165]
  simp only [A.f, v161 A, v11 A, v170 A, ← EReal.coe_mul, ← EReal.coe_add]
  rw [back_terms _ _ _ (by norm_num), Mid.dof]

end Rows

/-! ## The rows of sums -/

theorem v117 (o : Fin 1) (e : Fin 1024) : val_main_v117 (F := Ideal) x0 x1 x2 x3 x4 x5 x6 x7 x8 x9 x10 x11 (ix2 o e)
    = ((∑ n, stat W (k n) 1 e : ℝ) : EReal) := by
  pointwise [val_main_v117, val_main_v116, val_main_v115, val_main_cst_26]
  simp only [v49 A, v114 A, num, Ideal.ofBits_zero_f32, zero_add, ← EReal.coe_mul, ← coe_sum]
  exact congrArg Real.toEReal (Finset.sum_congr rfl fun n _ => mul_comm _ _)

theorem v91 (o : Fin 1) (e : Fin 1024) : val_main_v91 (F := Ideal) x0 x1 x2 x3 x4 x5 x6 x7 x8 x9 x10 x11 (ix2 o e)
    = ((∑ n, stat W (k n) 2 e : ℝ) : EReal) := by
  pointwise [val_main_v91, val_main_v90, val_main_v89, val_main_cst_22]
  simp only [v70 A, v88 A, num, Ideal.ofBits_zero_f32, zero_add, ← EReal.coe_mul, ← coe_sum]
  exact congrArg Real.toEReal (Finset.sum_congr rfl fun n _ => mul_comm _ _)

theorem v159 (o : Fin 1) (e : Fin 512) : val_main_v159 (F := Ideal) x0 x1 x2 x3 x4 x5 x6 x7 x8 x9 x10 x11 (ix2 o e)
    = ((∑ n, Mid.fst (da W (k n)) e * hat (k n).f e : ℝ) : EReal) := by
  pointwise [val_main_v159, val_main_v158, val_main_v157, val_main_cst_34]
  simp only [v16 A, v136 A, num, Ideal.ofBits_zero_f32, zero_add, ← EReal.coe_mul, ← coe_sum]
  exact congrArg Real.toEReal (Finset.sum_congr rfl fun n _ => mul_comm _ _)

theorem v140 (o : Fin 1) (e : Fin 512) : val_main_v140 (F := Ideal) x0 x1 x2 x3 x4 x5 x6 x7 x8 x9 x10 x11 (ix2 o e)
    = ((∑ n, Mid.snd (da W (k n)) e * hat (k n).m e : ℝ) : EReal) := by
  pointwise [val_main_v140, val_main_v139, val_main_v138, val_main_cst_30]
  simp only [v31 A, v137 A, num, Ideal.ofBits_zero_f32, zero_add, ← EReal.coe_mul, ← coe_sum]
  exact congrArg Real.toEReal (Finset.sum_congr rfl fun n _ => mul_comm _ _)

theorem v177 (o : Fin 1) (e : Fin 1024) : val_main_v177 (F := Ideal) x0 x1 x2 x3 x4 x5 x6 x7 x8 x9 x10 x11 (ix2 o e)
    = ((∑ n, stat W (k n) 3 e : ℝ) : EReal) := by
  pointwise [val_main_v177]
  simp only [v159 A, v140 A]
  split <;> rename_i h <;> exact congrArg Real.toEReal (Finset.sum_congr rfl fun n _ => by simp [stat, join, h])

theorem v178 (o : Fin 1) (e : Fin 1024) : val_main_v178 (F := Ideal) x0 x1 x2 x3 x4 x5 x6 x7 x8 x9 x10 x11 (ix2 o e)
    = ((∑ n, stat W (k n) 7 e : ℝ) : EReal) := by
  pointwise [val_main_v178, val_main_v81, val_main_v80, val_main_v79, val_main_v78, val_main_v77, val_main_v74, val_main_cst_16, val_main_cst_17, val_main_cst_18]
  simp only [v73 A, num, half, n1024, Ideal.ofBits_zero_f32, zero_add, ← EReal.coe_mul, ← coe_sum, div_coe _ _ (show (1024 : ℝ) ≠ 0 by norm_num)]
  refine congrArg Real.toEReal ?_
  rw [Finset.mul_sum, Finset.sum_div]
  refine Finset.sum_congr rfl fun n _ => ?_
  simp [stat]
  ring

omit A in
theorem v176 (o : Fin 1) (e : Fin 1024) : val_main_v176 (F := Ideal) (ix2 o e) = ((0 : ℝ) : EReal) := by
  pointwise [val_main_v176, val_main_cst_38]
  rfl

/-- The eight rows. -/
theorem v179 (r : Fin 8) (e : Fin 1024) : val_main_v179 (F := Ideal) x0 x1 x2 x3 x4 x5 x6 x7 x8 x9 x10 x11 (ix2 r e)
    = ((∑ n, stat W (k n) r e : ℝ) : EReal) := by
  have zero : ∀ p : Fin 8, p ≠ 1 → p ≠ 2 → p ≠ 3 → p ≠ 7 → (0 : ℝ) = ∑ n, stat W (k n) p e := fun p n1 n2 n3 n7 => by
    simp only [stat, if_neg n1, if_neg n2, if_neg n3, if_neg n7, Finset.sum_const_zero]
  pointwise [val_main_v179]
  simp only [v176, v117 A, v91 A, v177 A, v178 A]
  fin_cases r
  · exact congrArg Real.toEReal (zero 0 (by decide) (by decide) (by decide) (by decide))
  · rfl
  · rfl
  · rfl
  · exact congrArg Real.toEReal (zero 4 (by decide) (by decide) (by decide) (by decide))
  · exact congrArg Real.toEReal (zero 5 (by decide) (by decide) (by decide) (by decide))
  · exact congrArg Real.toEReal (zero 6 (by decide) (by decide) (by decide) (by decide))
  · rfl

/-! ## The ten arrays -/

theorem arr_a : val_main_v180 (F := Ideal) x0 x1 x4 x5 = rows fun r e => Mid.a W (k r) e := by
  funext y; rw [show y = ix2 (y 0) (y 1) from funext fun a => by fin_cases a <;> rfl]; exact v34 A _ _
theorem arr_h2 : val_main_v181 (F := Ideal) x0 x1 x2 x4 x5 x6 x8 = rows fun r e => Mid.h2 W (k r) e := by
  funext y; rw [show y = ix2 (y 0) (y 1) from funext fun a => by fin_cases a <;> rfl]; exact v51 A _ _
theorem arr_hid : val_main_v182 (F := Ideal) x0 x1 x2 x4 x5 x6 x8 x9 x10 = rows fun r e => Mid.hid W (k r) e := by
  funext y; rw [show y = ix2 (y 0) (y 1) from funext fun a => by fin_cases a <;> rfl]; exact v55 A _ _
theorem arr_dg : val_main_v183 (F := Ideal) x0 x1 x2 x3 x4 x5 x6 x7 x8 x9 x10 x11 = rows fun r e => Mid.dg W (k r) e := by
  funext y; rw [show y = ix2 (y 0) (y 1) from funext fun a => by fin_cases a <;> rfl]; exact v111 A _ _
theorem arr_du : val_main_v184 (F := Ideal) x0 x1 x2 x3 x4 x5 x6 x7 x8 x9 x10 x11 = rows fun r e => Mid.du W (k r) e := by
  funext y; rw [show y = ix2 (y 0) (y 1) from funext fun a => by fin_cases a <;> rfl]; exact v109 A _ _
theorem arr_dx3 : val_main_v185 (F := Ideal) x0 x1 x2 x3 x4 x5 x6 x7 x8 x9 x10 x11 = rows fun r e => Mid.dx3 W (k r) e := by
  funext y; rw [show y = ix2 (y 0) (y 1) from funext fun a => by fin_cases a <;> rfl]; exact v107 A _ _
theorem arr_dx2 : val_main_v134 (F := Ideal) x0 x1 x2 x3 x4 x5 x6 x7 x8 x9 x10 x11 = rows fun r e => Mid.dx2 W (k r) e := by
  funext y; rw [show y = ix2 (y 0) (y 1) from funext fun a => by fin_cases a <;> rfl]; exact v134 A _ _
theorem arr_dof : val_main_v186 (F := Ideal) x0 x1 x2 x3 x4 x5 x6 x7 x8 x9 x10 x11 = rows fun r e => Mid.dof W (k r) e := by
  funext y; rw [show y = ix2 (y 0) (y 1) from funext fun a => by fin_cases a <;> rfl]; exact v175 A _ _
theorem arr_dom : val_main_v187 (F := Ideal) x0 x1 x2 x3 x4 x5 x6 x7 x8 x9 x10 x11 = rows fun r e => Mid.dom W (k r) e := by
  funext y; rw [show y = ix2 (y 0) (y 1) from funext fun a => by fin_cases a <;> rfl]; exact v156 A _ _
theorem arr_sums : val_main_v179 (F := Ideal) x0 x1 x2 x3 x4 x5 x6 x7 x8 x9 x10 x11 = total W k := by
  funext y; rw [show y = ix2 (y 0) (y 1) from funext fun a => by fin_cases a <;> rfl]; exact v179 A _ _

end Cert.MiddleRef

end
-- ==== Proof.MiddleFinite.lean ====
/- The precondition of the middle says of each of the twelve arguments that every number of it is real. -/
module

public import proofs.«01_k».proof.Proof.Gen.Pre_reals
public import proofs.«01_k».proof.Proof.Finite
public import proofs.«01_k».proof.Proof.MiddleWhole

@[expose] public section

set_option maxRecDepth 16384

noncomputable section

namespace Cert.MiddleFinite

open Cert.Attn Cert.Mid Cert.Finite Cert.Pre_reals Idealize.ShloMosaic

attribute [local irreducible] Host.reduce

/-- An array, not widened first, all of whose numbers are below plus infinity in size. -/
theorem below {s : Shape} (x : FVec Ideal s .f32) (hd : S_.BroadcastsInDim s ![]) {axes : List (Fin s.rank)}
    (hr : s.ReducesTo axes S_) (hu : 0 < S_.numel)
    (e : Host.reduce IntOp.andi (cmpf .olt (Host.absf x) (broadcastInDim s ![] hd (constant (F := Ideal) S_ .f32 0x7F800000#32)))
      (constantI S_ 1 1#1) hr hu = fun _ => 1#1) : AllReal (s := s) x := fun i => by
  have : Subsingleton S_.Idx := ⟨fun _ _ => funext fun a => a.elim0⟩
  have := Host.reduce_andi_all _ _ _ _ (fun a => a.elim0) (congrFun e _) i
  refine real_of_lt _ ?_
  rw [← inf]
  exact this

/-- The precondition's reading. -/
theorem allReal {x0 x1 : FVec Ideal S8192x512 .f32} {x2 x3 : FVec Ideal S8192x1024 .f32} {x4 x5 : FVec Ideal S1x512 .f32}
    {x6 x7 : FVec Ideal S1x1024 .f32} {x8 : FVec Ideal S1024x1024 .bf16} {x9 x10 x11 : FVec Ideal S2816x1024 .bf16}
    (h : (fn (F := Ideal) x0 x1 x2 x3 x4 x5 x6 x7 x8 x9 x10 x11).1 = (fun _ => 1#1)
      ∧ (fn (F := Ideal) x0 x1 x2 x3 x4 x5 x6 x7 x8 x9 x10 x11).2.1 = (fun _ => 1#1)
      ∧ (fn (F := Ideal) x0 x1 x2 x3 x4 x5 x6 x7 x8 x9 x10 x11).2.2.1 = (fun _ => 1#1)
      ∧ (fn (F := Ideal) x0 x1 x2 x3 x4 x5 x6 x7 x8 x9 x10 x11).2.2.2.1 = (fun _ => 1#1)
      ∧ (fn (F := Ideal) x0 x1 x2 x3 x4 x5 x6 x7 x8 x9 x10 x11).2.2.2.2.1 = (fun _ => 1#1)
      ∧ (fn (F := Ideal) x0 x1 x2 x3 x4 x5 x6 x7 x8 x9 x10 x11).2.2.2.2.2.1 = (fun _ => 1#1)
      ∧ (fn (F := Ideal) x0 x1 x2 x3 x4 x5 x6 x7 x8 x9 x10 x11).2.2.2.2.2.2.1 = (fun _ => 1#1)
      ∧ (fn (F := Ideal) x0 x1 x2 x3 x4 x5 x6 x7 x8 x9 x10 x11).2.2.2.2.2.2.2.1 = (fun _ => 1#1)
      ∧ (fn (F := Ideal) x0 x1 x2 x3 x4 x5 x6 x7 x8 x9 x10 x11).2.2.2.2.2.2.2.2.1 = (fun _ => 1#1)
      ∧ (fn (F := Ideal) x0 x1 x2 x3 x4 x5 x6 x7 x8 x9 x10 x11).2.2.2.2.2.2.2.2.2.1 = (fun _ => 1#1)
      ∧ (fn (F := Ideal) x0 x1 x2 x3 x4 x5 x6 x7 x8 x9 x10 x11).2.2.2.2.2.2.2.2.2.2.1 = (fun _ => 1#1)
      ∧ (fn (F := Ideal) x0 x1 x2 x3 x4 x5 x6 x7 x8 x9 x10 x11).2.2.2.2.2.2.2.2.2.2.2 = (fun _ => 1#1)) :
    Fin12 x0 x1 x2 x3 x4 x5 x6 x7 x8 x9 x10 x11 := by
  obtain ⟨e0, e1, e2, e3, e4, e5, e6, e7, e8, e9, e10, e11⟩ := h
  unfold fn fn_part1 fn_part2 fn_part3 at e0 e1 e2 e3 e4 e5 e6 e7 e8 e9 e10 e11
  dsimp only at e0 e1 e2 e3 e4 e5 e6 e7 e8 e9 e10 e11
  exact ⟨below (s := S8192x512) x0 Facts.bcast_S_S8192x512 Facts.reducesTo_S8192x512_S_d0_1 Facts.h_S_ e0,
    below (s := S8192x512) x1 Facts.bcast_S_S8192x512 Facts.reducesTo_S8192x512_S_d0_1 Facts.h_S_ e1,
    below (s := S8192x1024) x2 Facts.bcast_S_S8192x1024 Facts.reducesTo_S8192x1024_S_d0_1 Facts.h_S_ e2,
    below (s := S8192x1024) x3 Facts.bcast_S_S8192x1024 Facts.reducesTo_S8192x1024_S_d0_1 Facts.h_S_ e3,
    below (s := S1x512) x4 Facts.bcast_S_S1x512 Facts.reducesTo_S1x512_S_d0_1 Facts.h_S_ e4,
    below (s := S1x512) x5 Facts.bcast_S_S1x512 Facts.reducesTo_S1x512_S_d0_1 Facts.h_S_ e5,
    below (s := S1x1024) x6 Facts.bcast_S_S1x1024 Facts.reducesTo_S1x1024_S_d0_1 Facts.h_S_ e6,
    below (s := S1x1024) x7 Facts.bcast_S_S1x1024 Facts.reducesTo_S1x1024_S_d0_1 Facts.h_S_ e7,
    all_lt (s := S1024x1024) x8 Facts.bitsLt_bf16_f32 Facts.bcast_S_S1024x1024 Facts.reducesTo_S1024x1024_S_d0_1 Facts.h_S_ e8,
    all_lt (s := S2816x1024) x9 Facts.bitsLt_bf16_f32 Facts.bcast_S_S2816x1024 Facts.reducesTo_S2816x1024_S_d0_1 Facts.h_S_ e9,
    all_lt (s := S2816x1024) x10 Facts.bitsLt_bf16_f32 Facts.bcast_S_S2816x1024 Facts.reducesTo_S2816x1024_S_d0_1 Facts.h_S_ e10,
    all_lt (s := S2816x1024) x11 Facts.bitsLt_bf16_f32 Facts.bcast_S_S2816x1024 Facts.reducesTo_S2816x1024_S_d0_1 Facts.h_S_ e11⟩

end Cert.MiddleFinite

end
-- ==== Proof.WeightsValue.lean ====
/- What each of the five weight gradients holds after its grid: the sum over all tokens. -/
module

public import proofs.«01_k».proof.Proof.Gen.WeightsIdeal.Frame
public import Idealize.ShloMosaic.Lib.Pipeline.ValueKit

@[expose] public section

set_option maxRecDepth 16384

noncomputable section

namespace Cert.WeightsIdeal.Sums

open Cert.WeightsIdeal Cert.WeightsIdeal.Gen
open Idealize.ShloMosaic Idealize.ShloMosaic.TcCoe Idealize.SL.Sem
open Idealize.ShloMosaic.Pipeline (Dat)

/-- The gradient of a weight: one entry is the sum over the tokens of an entry of `x` times an entry of `y`. -/
def outer {n k : ℕ} (x : Shape.Idx ⟨2, ![8192, n]⟩ → EReal) (y : Shape.Idx ⟨2, ![8192, k]⟩ → EReal) :
    Shape.Idx ⟨2, ![n, k]⟩ → EReal := fun i => ∑ r : Fin 8192, x (ix2 r (i 0)) * y (ix2 r (i 1))

variable (V : (c : Dev nD) → (b : Ref sig .tc) → Buf (Elt Ideal) ((c : Thread nD τ).loc b))

/-! The three gradients of the SwiGLU weights: two blocks of rows, each summed over four runs of 2048 tokens. -/

/-! The three gradients of the SwiGLU weights: two blocks of rows, each summed over four runs of 2048 tokens. The three
   bodies are one. -/

theorem part1 (acc : Vec Ideal S1408x1024 .f32) (x : Vec Ideal S2048x1408 .bf16) (y : Vec Ideal S2048x1024 .bf16) (j) :
    k1_pay2 acc x y j = acc j + ∑ k : Fin 2048, x (ix2 k (j 0)) * y (ix2 k (j 1)) := by
  pointwise [k1_pay2]

theorem fill1 (j) : k1_pay1 (F := Ideal) j = 0 := by pointwise [k1_pay1]

theorem idx1 : ∀ t : Fin cfg1.N, win1_0.index t = ![t.val % 4, t.val / 4] ∧ win1_1.index t = ![t.val % 4, 0]
    ∧ win1_2.index t = ![t.val / 4, 0] := (by decide +kernel : ∀ t : Fin grid1.N, _)

theorem final1 (c : Dev nD) : (dat1 V c).arrAt 2 cfg1.N = outer (V c main_arg2) (V c main_arg3) := by
  refine (dat1 V c).arrAt_eq_of_covers 2 _ (by decide +kernel) fun t hf y => ?_
  blk_simp
  rw [after1_2, Pipeline.eq_sum_fin_of_reset_step_apply_of_flush (fun n h => outsAt1 V c n h) 4 (fun _ => 0) _
    (fun t h j => by rw [outsAt1_A V c t h]; frame_out; rw [part1, fill1])
    (fun t h j => by rw [outsAt1_B V c t h]; frame_out; rw [part1])
    t ((flush1_2 t).mp hf) _, zero_add]
  unfold outer
  refine Fin.sum_mul_add_congr fun s k hl => ?_
  blk_point [iblk1, idx1 t, idx1 ⟨_, Pipeline.run_point_lt_of_flush t ((flush1_2 t).mp hf) s⟩]

theorem idx2 : ∀ t : Fin cfg2.N, win2_0.index t = ![t.val % 4, t.val / 4] ∧ win2_1.index t = ![t.val % 4, 0]
    ∧ win2_2.index t = ![t.val / 4, 0] := (by decide +kernel : ∀ t : Fin grid2.N, _)

theorem final2 (c : Dev nD) : (dat2 V c).arrAt 2 cfg2.N = outer (V c main_arg4) (V c main_arg3) := by
  refine (dat2 V c).arrAt_eq_of_covers 2 _ (by decide +kernel) fun t hf y => ?_
  blk_simp
  rw [after2_2, Pipeline.eq_sum_fin_of_reset_step_apply_of_flush (fun n h => outsAt2 V c n h) 4 (fun _ => 0) _
    (fun t h j => by rw [outsAt2_A V c t h]; frame_out; exact (part1 _ _ _ _).trans (congrArg (· + _) (fill1 _)))
    (fun t h j => by rw [outsAt2_B V c t h]; frame_out; exact part1 _ _ _ _)
    t ((flush2_2 t).mp hf) _, zero_add]
  unfold outer
  refine Fin.sum_mul_add_congr fun s k hl => ?_
  blk_point [iblk2, idx2 t, idx2 ⟨_, Pipeline.run_point_lt_of_flush t ((flush2_2 t).mp hf) s⟩]

theorem idx3 : ∀ t : Fin cfg3.N, win3_0.index t = ![t.val % 4, t.val / 4] ∧ win3_1.index t = ![t.val % 4, 0]
    ∧ win3_2.index t = ![t.val / 4, 0] := (by decide +kernel : ∀ t : Fin grid3.N, _)

theorem final3 (c : Dev nD) : (dat3 V c).arrAt 2 cfg3.N = outer (V c main_arg5) (V c main_arg6) := by
  refine (dat3 V c).arrAt_eq_of_covers 2 _ (by decide +kernel) fun t hf y => ?_
  blk_simp
  rw [after3_2, Pipeline.eq_sum_fin_of_reset_step_apply_of_flush (fun n h => outsAt3 V c n h) 4 (fun _ => 0) _
    (fun t h j => by rw [outsAt3_A V c t h]; frame_out; exact (part1 _ _ _ _).trans (congrArg (· + _) (fill1 _)))
    (fun t h j => by rw [outsAt3_B V c t h]; frame_out; exact part1 _ _ _ _)
    t ((flush3_2 t).mp hf) _, zero_add]
  unfold outer
  refine Fin.sum_mul_add_congr fun s k hl => ?_
  blk_point [iblk3, idx3 t, idx3 ⟨_, Pipeline.run_point_lt_of_flush t ((flush3_2 t).mp hf) s⟩]

/-! The gradient of the output projection, and that of the input projection: one block. -/

theorem part0 (acc : Vec Ideal S1024x1024 .f32) (x : Vec Ideal S2048x1024 .bf16) (y : Vec Ideal S2048x1024 .f32) (j) :
    k0_pay2 acc x y j = acc j + ∑ k : Fin 2048, x (ix2 k (j 0)) * y (ix2 k (j 1)) := by
  pointwise [k0_pay2]

theorem fill0 (j) : k0_pay1 (F := Ideal) j = 0 := by pointwise [k0_pay1]

theorem idx0 : ∀ t : Fin cfg0.N, win0_0.index t = ![t.val % 4, t.val / 4] ∧ win0_1.index t = ![t.val % 4, 0]
    ∧ win0_2.index t = ![t.val / 4, 0] := (by decide +kernel : ∀ t : Fin grid0.N, _)

theorem final0 (c : Dev nD) : (dat0 V c).arrAt 2 cfg0.N = outer (V c main_arg0) (V c main_arg1) := by
  refine (dat0 V c).arrAt_eq_of_covers 2 _ (by decide +kernel) fun t hf y => ?_
  blk_simp
  rw [after0_2, Pipeline.eq_sum_fin_of_reset_step_apply_of_flush (fun n h => outsAt0 V c n h) 4 (fun _ => 0) _
    (fun t h j => by rw [outsAt0_A V c t h]; frame_out; rw [part0, fill0])
    (fun t h j => by rw [outsAt0_B V c t h]; frame_out; rw [part0])
    t ((flush0_2 t).mp hf) _, zero_add]
  unfold outer
  refine Fin.sum_mul_add_congr fun s k hl => ?_
  blk_point [iblk0, idx0 t, idx0 ⟨_, Pipeline.run_point_lt_of_flush t ((flush0_2 t).mp hf) s⟩]

theorem part4 (acc : Vec Ideal S2048x1024 .f32) (x : Vec Ideal S2048x2048 .bf16) (y : Vec Ideal S2048x1024 .bf16) (j) :
    k4_pay2 acc x y j = acc j + ∑ k : Fin 2048, x (ix2 k (j 0)) * y (ix2 k (j 1)) := by
  pointwise [k4_pay2]

theorem fill4 (j) : k4_pay1 (F := Ideal) j = 0 := by pointwise [k4_pay1]

theorem idx4 : ∀ t : Fin cfg4.N, win4_0.index t = ![t.val % 4, t.val / 4] ∧ win4_1.index t = ![t.val % 4, 0]
    ∧ win4_2.index t = ![t.val / 4, 0] := (by decide +kernel : ∀ t : Fin grid4.N, _)

theorem final4 (c : Dev nD) : (dat4 V c).arrAt 2 cfg4.N = outer (V c main_arg7) (V c main_arg8) := by
  refine (dat4 V c).arrAt_eq_of_covers 2 _ (by decide +kernel) fun t hf y => ?_
  blk_simp
  rw [after4_2, Pipeline.eq_sum_fin_of_reset_step_apply_of_flush (fun n h => outsAt4 V c n h) 4 (fun _ => 0) _
    (fun t h j => by rw [outsAt4_A V c t h]; frame_out; rw [part4, fill4])
    (fun t h j => by rw [outsAt4_B V c t h]; frame_out; rw [part4])
    t ((flush4_2 t).mp hf) _, zero_add]
  unfold outer
  refine Fin.sum_mul_add_congr fun s k hl => ?_
  blk_point [iblk4, idx4 t, idx4 ⟨_, Pipeline.run_point_lt_of_flush t ((flush4_2 t).mp hf) s⟩]

end Cert.WeightsIdeal.Sums

end
-- ==== Proof.WeightsRun.lean ====
/- The run of the five weight gradients: every array ends at what the five grids, one after the other, leave in it. -/
module

public import proofs.«01_k».proof.Proof.WeightsValue

@[expose] public section

set_option maxRecDepth 16384

noncomputable section

namespace Cert.WeightsIdeal.Sums

open Cert.WeightsIdeal Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the run every array of the program holds what the boundary after the fifth grid says. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W5 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨H, -, HO, -, Hp, -⟩, -⟩
      imodintro
      isplitl [H]; · iexact H
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨H, -⟩, HS⟩
      unfold StableHlo.held
      imodintro
      iapply (pointsTo_read_all (Pipeline.ucRefs τ sig) (fun b => (((c : Thread nD τ)).1, b)) (W5 m ρ c) s')
      isplitl [H] <;> iassumption)
    (hQ := fun s h hz => ⟨h, funext fun g => hz g (.inr (no_unscoped g.2))⟩)

/-! Each gradient is written by one grid only, and each grid reads the arguments as they were launched. -/

theorem end0 (c : Dev nD) : W5 m ρ c (Proc.devRef .tc main_v0)
    = outer (m ((c : Thread nD τ).loc main_arg0)) (m ((c : Thread nD τ).loc main_arg1)) := by
  rw [W5_of m ρ c main_v0 (by decide), W4_of m ρ c main_v0 (by decide), W3_of m ρ c main_v0 (by decide),
    W2_of m ρ c main_v0 (by decide)]
  exact (W1_arr m ρ c 2).trans (final0 (V0 m ρ) c)

theorem end1 (c : Dev nD) : W5 m ρ c (Proc.devRef .tc main_v1)
    = outer (m ((c : Thread nD τ).loc main_arg2)) (m ((c : Thread nD τ).loc main_arg3)) := by
  rw [W5_of m ρ c main_v1 (by decide), W4_of m ρ c main_v1 (by decide), W3_of m ρ c main_v1 (by decide),
    ← W1_args m ρ c main_arg2 (by decide), ← W1_args m ρ c main_arg3 (by decide)]
  exact (W2_arr m ρ c 2).trans (final1 (V1 m ρ) c)

theorem end2 (c : Dev nD) : W5 m ρ c (Proc.devRef .tc main_v2)
    = outer (m ((c : Thread nD τ).loc main_arg4)) (m ((c : Thread nD τ).loc main_arg3)) := by
  rw [W5_of m ρ c main_v2 (by decide), W4_of m ρ c main_v2 (by decide),
    ← W2_args m ρ c main_arg4 (by decide), ← W2_args m ρ c main_arg3 (by decide)]
  exact (W3_arr m ρ c 2).trans (final2 (V2 m ρ) c)

theorem end3 (c : Dev nD) : W5 m ρ c (Proc.devRef .tc main_v3)
    = outer (m ((c : Thread nD τ).loc main_arg5)) (m ((c : Thread nD τ).loc main_arg6)) := by
  rw [W5_of m ρ c main_v3 (by decide), ← W3_args m ρ c main_arg5 (by decide), ← W3_args m ρ c main_arg6 (by decide)]
  exact (W4_arr m ρ c 2).trans (final3 (V3 m ρ) c)

theorem end4 (c : Dev nD) : W5 m ρ c (Proc.devRef .tc main_v4)
    = outer (m ((c : Thread nD τ).loc main_arg7)) (m ((c : Thread nD τ).loc main_arg8)) := by
  rw [← W4_args m ρ c main_arg7 (by decide), ← W4_args m ρ c main_arg8 (by decide)]
  exact (W5_arr m ρ c 2).trans (final4 (V4 m ρ) c)

/-- The five weight gradients after the run. -/
theorem run_value : θ_run defs (onTc (τ := τ) (main (F := Ideal))) ⟨m, fun _ => 0, ρ⟩ (fun r => ∀ c : Dev nD,
    r.2.mem ((c.tc : Thread nD τ).loc main_v0) = outer (m ((c.tc : Thread nD τ).loc main_arg0)) (m ((c.tc : Thread nD τ).loc main_arg1))
    ∧ r.2.mem ((c.tc : Thread nD τ).loc main_v1) = outer (m ((c.tc : Thread nD τ).loc main_arg2)) (m ((c.tc : Thread nD τ).loc main_arg3))
    ∧ r.2.mem ((c.tc : Thread nD τ).loc main_v2) = outer (m ((c.tc : Thread nD τ).loc main_arg4)) (m ((c.tc : Thread nD τ).loc main_arg3))
    ∧ r.2.mem ((c.tc : Thread nD τ).loc main_v3) = outer (m ((c.tc : Thread nD τ).loc main_arg5)) (m ((c.tc : Thread nD τ).loc main_arg6))
    ∧ r.2.mem ((c.tc : Thread nD τ).loc main_v4) = outer (m ((c.tc : Thread nD τ).loc main_arg7)) (m ((c.tc : Thread nD τ).loc main_arg8))) :=
  (θ_run defs _ _).mono (fun r h c =>
    ⟨(h.1 c _ (mem_uc main_v0 (by decide))).trans (end0 m ρ c), (h.1 c _ (mem_uc main_v1 (by decide))).trans (end1 m ρ c),
      (h.1 c _ (mem_uc main_v2 (by decide))).trans (end2 m ρ c), (h.1 c _ (mem_uc main_v3 (by decide))).trans (end3 m ρ c),
      (h.1 c _ (mem_uc main_v4 (by decide))).trans (end4 m ρ c)⟩) (run_all m ρ)

end Cert.WeightsIdeal.Sums

end
-- ==== Proof.WeightsRef.lean ====
/- The weight gradients of the reference are the same sums. -/
module

public import proofs.«01_k».proof.Proof.WeightsValue
public import proofs.«01_k».proof.Proof.Gen.WeightsReferenceIdeal.Read

@[expose] public section

set_option maxRecDepth 16384

noncomputable section

namespace Cert.WeightsRef

open Cert.WeightsReferenceIdeal Cert.WeightsReferenceIdeal.Read Cert.WeightsIdeal.Sums Idealize.ShloMosaic

/-- The output projection. The reference has the two factors the other way round. -/
theorem project (x : FVec Ideal S8192x1024 .bf16) (y : FVec Ideal S8192x1024 .f32) :
    val_main_v9 (F := Ideal) x y = outer x y := by
  funext i
  unfold outer
  pointwise [val_main_v9, val_main_v8, val_main_v0]
  exact Finset.sum_congr rfl fun _ _ => mul_comm _ _

/-- The gate's weight. -/
theorem gate (x : FVec Ideal S8192x2816 .bf16) (y : FVec Ideal S8192x1024 .bf16) :
    val_main_v10 (F := Ideal) x y = outer x y := by
  funext i
  unfold outer
  pointwise [val_main_v10, val_main_v1, val_main_v2]

/-- The other half's weight. -/
theorem up (x : FVec Ideal S8192x2816 .bf16) (y : FVec Ideal S8192x1024 .bf16) :
    val_main_v11 (F := Ideal) y x = outer x y := by
  funext i
  unfold outer
  pointwise [val_main_v11, val_main_v3, val_main_v2]

/-- The weight back from the hidden layer. -/
theorem down (x : FVec Ideal S8192x2816 .bf16) (y : FVec Ideal S8192x1024 .bf16) :
    val_main_v13 (F := Ideal) x y = outer x y := by
  funext i
  unfold outer
  pointwise [val_main_v13, val_main_v12, val_main_v4, val_main_v5]
  exact Finset.sum_congr rfl fun _ _ => mul_comm _ _

/-- The input projection. -/
theorem inward (x : FVec Ideal S8192x2048 .bf16) (y : FVec Ideal S8192x1024 .bf16) :
    val_main_v14 (F := Ideal) x y = outer x y := by
  funext i
  unfold outer
  pointwise [val_main_v14, val_main_v6, val_main_v7]

end Cert.WeightsRef

end
-- ==== Proof.UpdateSpec.lean ====
/- One AdamW step of one number, and of an array of numbers. -/
module

public import Idealize.ShloMosaic.PureOps.Ideal
public import Idealize.ShloMosaic.Lib.Pointwise

@[expose] public section

noncomputable section

namespace Cert.Adam

open Idealize.ShloMosaic

/-- The number an f32 word stands for. -/
abbrev word (b : BitVec 32) : EReal := Ideal.ofBits .f32 b

variable {s : Shape} (w g m v : s.Idx → EReal)

/-- The new first moments: nine tenths of the old, and a tenth of the gradient. -/
def first : s.Idx → EReal := fun i => word 0x3F666666#32 * m i + word 0x3DCCCCCD#32 * g i

/-- The new second moments: 0.999 of the old, and 0.001 of the gradient's square. -/
def second : s.Idx → EReal := fun i => word 0x3F7FBE77#32 * v i + word 0x3A83126F#32 * (g i * g i)

/-- The change of the weights: the corrected first moment over the root of the corrected second, and the decay. -/
def change : s.Idx → EReal := fun i => word 0xBA83126F#32 *
  (Ideal.div (Ideal.div (first g m i) (word 0x3F26BD02#32))
      (Ideal.sqrt (Ideal.div (second g v i) (word 0x3C231ACC#32)) + word 0x322BCC77#32) + word 0x3C23D70A#32 * w i)

end Cert.Adam

end
-- ==== Proof.UpdateValue.lean ====
/- What the four AdamW calls leave in their arrays: the step of every number. -/
module

public import proofs.«01_k».proof.Proof.Gen.UpdateIdeal.Frame
public import proofs.«01_k».proof.Proof.UpdateSpec
public import Idealize.ShloMosaic.Lib.Pipeline.ValueKit

@[expose] public section

set_option maxRecDepth 16384

noncomputable section

namespace Cert.UpdateIdeal.Steps

open Cert.UpdateIdeal Cert.UpdateIdeal.Gen Cert.Adam
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The input projection: one block -/

theorem idx0 : win0_0.index t0_0 = ![0, 0] ∧ win0_1.index t0_0 = ![0, 0] ∧ win0_2.index t0_0 = ![0, 0] ∧ win0_3.index t0_0 = ![0, 0] := by
  decide +kernel

/-- The three arrays of `w_in` after its call. -/
theorem final0 (c : Dev nD) :
    (dat0 V c).arrAt 4 cfg0.N = change (V c main_arg0) (V c main_arg1) (V c main_arg2) (V c main_arg3)
    ∧ (dat0 V c).arrAt 5 cfg0.N = first (V c main_arg1) (V c main_arg2)
    ∧ (dat0 V c).arrAt 6 cfg0.N = second (V c main_arg1) (V c main_arg3) := by
  refine ⟨(dat0 V c).arrAt_eq_of_after_last 4 t0_0 (by decide +kernel) _ fun j => ?_,
    (dat0 V c).arrAt_eq_of_after_last 5 t0_0 (by decide +kernel) _ fun j => ?_,
    (dat0 V c).arrAt_eq_of_after_last 6 t0_0 (by decide +kernel) _ fun j => ?_⟩ <;> blk_simp
  · rw [after0_4]; frame_out
    pointwise [k0_pay1, k0_pay2, k0_pay3, change, first, second]
    blk_point [iblk0, idx0]
  · rw [after0_5]; frame_out
    pointwise [k0_pay1, first]
    blk_point [iblk0, idx0]
  · rw [after0_6]; frame_out
    pointwise [k0_pay2, second]
    blk_point [iblk0, idx0]

/-! ## The up-projections of the queries and of the keys and values, and the output projection: four blocks of rows -/

theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0] :=
  (by decide +kernel : ∀ t : Fin grid1.N, _)

/-- The three arrays of `w_uq` after its call. -/
theorem final1 (c : Dev nD) :
    (dat1 V c).arrAt 4 cfg1.N = change (V c main_arg4) (V c main_arg5) (V c main_arg6) (V c main_arg7)
    ∧ (dat1 V c).arrAt 5 cfg1.N = first (V c main_arg5) (V c main_arg6)
    ∧ (dat1 V c).arrAt 6 cfg1.N = second (V c main_arg5) (V c main_arg7) := by
  refine ⟨(dat1 V c).arrAt_eq_of_covers 4 _ (by decide +kernel) fun t _ y => ?_,
    (dat1 V c).arrAt_eq_of_covers 5 _ (by decide +kernel) fun t _ y => ?_,
    (dat1 V c).arrAt_eq_of_covers 6 _ (by decide +kernel) fun t _ y => ?_⟩ <;> blk_simp
  · rw [after1_4]; frame_out
    pointwise [k1_pay1, k1_pay2, k1_pay3, change, first, second]
    blk_point [iblk1, idx1 t]
  · rw [after1_5]; frame_out
    pointwise [k1_pay1, first]
    blk_point [iblk1, idx1 t]
  · rw [after1_6]; frame_out
    pointwise [k1_pay2, second]
    blk_point [iblk1, idx1 t]

theorem idx2 : ∀ t : Fin cfg2.N, win2_0.index t = ![t.val, 0] ∧ win2_1.index t = ![t.val, 0] ∧ win2_2.index t = ![t.val, 0]
    ∧ win2_3.index t = ![t.val, 0] ∧ win2_4.index t = ![t.val, 0] ∧ win2_5.index t = ![t.val, 0] ∧ win2_6.index t = ![t.val, 0] :=
  (by decide +kernel : ∀ t : Fin grid2.N, _)

/-- The three arrays of `w_ukv` after its call. -/
theorem final2 (c : Dev nD) :
    (dat2 V c).arrAt 4 cfg2.N = change (V c main_arg8) (V c main_arg9) (V c main_arg10) (V c main_arg11)
    ∧ (dat2 V c).arrAt 5 cfg2.N = first (V c main_arg9) (V c main_arg10)
    ∧ (dat2 V c).arrAt 6 cfg2.N = second (V c main_arg9) (V c main_arg11) := by
  refine ⟨(dat2 V c).arrAt_eq_of_covers 4 _ (by decide +kernel) fun t _ y => ?_,
    (dat2 V c).arrAt_eq_of_covers 5 _ (by decide +kernel) fun t _ y => ?_,
    (dat2 V c).arrAt_eq_of_covers 6 _ (by decide +kernel) fun t _ y => ?_⟩ <;> blk_simp
  · rw [after2_4]; frame_out
    pointwise [k2_pay1, k2_pay2, k2_pay3, change, first, second]
    blk_point [iblk2, idx2 t]
  · rw [after2_5]; frame_out
    pointwise [k2_pay1, first]
    blk_point [iblk2, idx2 t]
  · rw [after2_6]; frame_out
    pointwise [k2_pay2, second]
    blk_point [iblk2, idx2 t]

theorem idx3 : ∀ t : Fin cfg3.N, win3_0.index t = ![t.val, 0] ∧ win3_1.index t = ![t.val, 0] ∧ win3_2.index t = ![t.val, 0]
    ∧ win3_3.index t = ![t.val, 0] ∧ win3_4.index t = ![t.val, 0] ∧ win3_5.index t = ![t.val, 0] ∧ win3_6.index t = ![t.val, 0] :=
  (by decide +kernel : ∀ t : Fin grid3.N, _)

/-- The three arrays of `w_o` after its call. -/
theorem final3 (c : Dev nD) :
    (dat3 V c).arrAt 4 cfg3.N = change (V c main_arg12) (V c main_arg13) (V c main_arg14) (V c main_arg15)
    ∧ (dat3 V c).arrAt 5 cfg3.N = first (V c main_arg13) (V c main_arg14)
    ∧ (dat3 V c).arrAt 6 cfg3.N = second (V c main_arg13) (V c main_arg15) := by
  refine ⟨(dat3 V c).arrAt_eq_of_covers 4 _ (by decide +kernel) fun t _ y => ?_,
    (dat3 V c).arrAt_eq_of_covers 5 _ (by decide +kernel) fun t _ y => ?_,
    (dat3 V c).arrAt_eq_of_covers 6 _ (by decide +kernel) fun t _ y => ?_⟩ <;> blk_simp
  · rw [after3_4]; frame_out
    pointwise [k3_pay1, k3_pay2, k3_pay3, change, first, second]
    blk_point [iblk3, idx3 t]
  · rw [after3_5]; frame_out
    pointwise [k3_pay1, first]
    blk_point [iblk3, idx3 t]
  · rw [after3_6]; frame_out
    pointwise [k3_pay2, second]
    blk_point [iblk3, idx3 t]

end Cert.UpdateIdeal.Steps

end
-- ==== Proof.UpdateRun.lean ====
/- The run of the four AdamW calls: every array ends at what the four grids, one after the other, leave in it. -/
module

public import proofs.«01_k».proof.Proof.UpdateValue

@[expose] public section

set_option maxRecDepth 16384

noncomputable section

namespace Cert.UpdateIdeal.Steps

open Cert.UpdateIdeal Cert.UpdateIdeal.Gen Cert.Adam
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- After the run every array of the program holds what the boundary after the fourth grid says. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨H, -, HO, -, Hp, -⟩, -⟩
      imodintro
      isplitl [H]; · iexact H
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨H, -⟩, HS⟩
      unfold StableHlo.held
      imodintro
      iapply (pointsTo_read_all (Pipeline.ucRefs τ sig) (fun b => (((c : Thread nD τ)).1, b)) (W4 m ρ c) s')
      isplitl [H] <;> iassumption)
    (hQ := fun s h hz => ⟨h, funext fun g => hz g (.inr (no_unscoped g.2))⟩)

/-! Each array is written by one grid only, and each grid reads the arguments as they were launched. -/

/-- `w_in` after the run. -/
theorem end0 (c : Dev nD) :
    W4 m ρ c (Proc.devRef .tc main_v0_0) = change (m ((c : Thread nD τ).loc main_arg0)) (m ((c : Thread nD τ).loc main_arg1))
      (m ((c : Thread nD τ).loc main_arg2)) (m ((c : Thread nD τ).loc main_arg3))
    ∧ W4 m ρ c (Proc.devRef .tc main_v0_1) = first (m ((c : Thread nD τ).loc main_arg1)) (m ((c : Thread nD τ).loc main_arg2))
    ∧ W4 m ρ c (Proc.devRef .tc main_v0_2) = second (m ((c : Thread nD τ).loc main_arg1)) (m ((c : Thread nD τ).loc main_arg3)) := by
  rw [W4_of m ρ c main_v0_0 (by decide), W3_of m ρ c main_v0_0 (by decide), W2_of m ρ c main_v0_0 (by decide),
    W4_of m ρ c main_v0_1 (by decide), W3_of m ρ c main_v0_1 (by decide), W2_of m ρ c main_v0_1 (by decide),
    W4_of m ρ c main_v0_2 (by decide), W3_of m ρ c main_v0_2 (by decide), W2_of m ρ c main_v0_2 (by decide)]
  obtain ⟨h0, h1, h2⟩ := final0 (V0 m ρ) c
  exact ⟨(W1_arr m ρ c 4).trans h0, (W1_arr m ρ c 5).trans h1, (W1_arr m ρ c 6).trans h2⟩

/-- `w_uq` after the run. -/
theorem end1 (c : Dev nD) :
    W4 m ρ c (Proc.devRef .tc main_v1_0) = change (m ((c : Thread nD τ).loc main_arg4)) (m ((c : Thread nD τ).loc main_arg5))
      (m ((c : Thread nD τ).loc main_arg6)) (m ((c : Thread nD τ).loc main_arg7))
    ∧ W4 m ρ c (Proc.devRef .tc main_v1_1) = first (m ((c : Thread nD τ).loc main_arg5)) (m ((c : Thread nD τ).loc main_arg6))
    ∧ W4 m ρ c (Proc.devRef .tc main_v1_2) = second (m ((c : Thread nD τ).loc main_arg5)) (m ((c : Thread nD τ).loc main_arg7)) := by
  rw [W4_of m ρ c main_v1_0 (by decide), W3_of m ρ c main_v1_0 (by decide), W4_of m ρ c main_v1_1 (by decide),
    W3_of m ρ c main_v1_1 (by decide), W4_of m ρ c main_v1_2 (by decide), W3_of m ρ c main_v1_2 (by decide),
    ← W1_args m ρ c main_arg4 (by decide), ← W1_args m ρ c main_arg5 (by decide), ← W1_args m ρ c main_arg6 (by decide),
    ← W1_args m ρ c main_arg7 (by decide)]
  obtain ⟨h0, h1, h2⟩ := final1 (V1 m ρ) c
  exact ⟨(W2_arr m ρ c 4).trans h0, (W2_arr m ρ c 5).trans h1, (W2_arr m ρ c 6).trans h2⟩

/-- `w_ukv` after the run. -/
theorem end2 (c : Dev nD) :
    W4 m ρ c (Proc.devRef .tc main_v2_0) = change (m ((c : Thread nD τ).loc main_arg8)) (m ((c : Thread nD τ).loc main_arg9))
      (m ((c : Thread nD τ).loc main_arg10)) (m ((c : Thread nD τ).loc main_arg11))
    ∧ W4 m ρ c (Proc.devRef .tc main_v2_1) = first (m ((c : Thread nD τ).loc main_arg9)) (m ((c : Thread nD τ).loc main_arg10))
    ∧ W4 m ρ c (Proc.devRef .tc main_v2_2) = second (m ((c : Thread nD τ).loc main_arg9)) (m ((c : Thread nD τ).loc main_arg11)) := by
  rw [W4_of m ρ c main_v2_0 (by decide), W4_of m ρ c main_v2_1 (by decide), W4_of m ρ c main_v2_2 (by decide),
    ← W2_args m ρ c main_arg8 (by decide), ← W2_args m ρ c main_arg9 (by decide), ← W2_args m ρ c main_arg10 (by decide),
    ← W2_args m ρ c main_arg11 (by decide)]
  obtain ⟨h0, h1, h2⟩ := final2 (V2 m ρ) c
  exact ⟨(W3_arr m ρ c 4).trans h0, (W3_arr m ρ c 5).trans h1, (W3_arr m ρ c 6).trans h2⟩

/-- `w_o` after the run. -/
theorem end3 (c : Dev nD) :
    W4 m ρ c (Proc.devRef .tc main_v3_0) = change (m ((c : Thread nD τ).loc main_arg12)) (m ((c : Thread nD τ).loc main_arg13))
      (m ((c : Thread nD τ).loc main_arg14)) (m ((c : Thread nD τ).loc main_arg15))
    ∧ W4 m ρ c (Proc.devRef .tc main_v3_1) = first (m ((c : Thread nD τ).loc main_arg13)) (m ((c : Thread nD τ).loc main_arg14))
    ∧ W4 m ρ c (Proc.devRef .tc main_v3_2) = second (m ((c : Thread nD τ).loc main_arg13)) (m ((c : Thread nD τ).loc main_arg15)) := by
  rw [← W3_args m ρ c main_arg12 (by decide), ← W3_args m ρ c main_arg13 (by decide), ← W3_args m ρ c main_arg14 (by decide),
    ← W3_args m ρ c main_arg15 (by decide)]
  obtain ⟨h0, h1, h2⟩ := final3 (V3 m ρ) c
  exact ⟨(W4_arr m ρ c 4).trans h0, (W4_arr m ρ c 5).trans h1, (W4_arr m ρ c 6).trans h2⟩

/-- An argument as it was launched. -/
abbrev arg (c : Dev nD) (b : Ref sig .tc) : Buf (Elt Ideal) ((c.tc : Thread nD τ).loc b) := m ((c.tc : Thread nD τ).loc b)

/-- The changes and the new moments of the four weights after the run. -/
theorem run_value : θ_run defs (onTc (τ := τ) (main (F := Ideal))) ⟨m, fun _ => 0, ρ⟩ (fun r => ∀ c : Dev nD,
    (r.2.mem ((c.tc : Thread nD τ).loc main_v0_0) = change (m ((c : Thread nD τ).loc main_arg0)) (m ((c : Thread nD τ).loc main_arg1))
        (m ((c : Thread nD τ).loc main_arg2)) (m ((c : Thread nD τ).loc main_arg3))
      ∧ r.2.mem ((c.tc : Thread nD τ).loc main_v0_1) = first (m ((c : Thread nD τ).loc main_arg1)) (m ((c : Thread nD τ).loc main_arg2))
      ∧ r.2.mem ((c.tc : Thread nD τ).loc main_v0_2) = second (m ((c : Thread nD τ).loc main_arg1)) (m ((c : Thread nD τ).loc main_arg3)))
    ∧ (r.2.mem ((c.tc : Thread nD τ).loc main_v1_0) = change (m ((c : Thread nD τ).loc main_arg4)) (m ((c : Thread nD τ).loc main_arg5))
        (m ((c : Thread nD τ).loc main_arg6)) (m ((c : Thread nD τ).loc main_arg7))
      ∧ r.2.mem ((c.tc : Thread nD τ).loc main_v1_1) = first (m ((c : Thread nD τ).loc main_arg5)) (m ((c : Thread nD τ).loc main_arg6))
      ∧ r.2.mem ((c.tc : Thread nD τ).loc main_v1_2) = second (m ((c : Thread nD τ).loc main_arg5)) (m ((c : Thread nD τ).loc main_arg7)))
    ∧ (r.2.mem ((c.tc : Thread nD τ).loc main_v2_0) = change (m ((c : Thread nD τ).loc main_arg8)) (m ((c : Thread nD τ).loc main_arg9))
        (m ((c : Thread nD τ).loc main_arg10)) (m ((c : Thread nD τ).loc main_arg11))
      ∧ r.2.mem ((c.tc : Thread nD τ).loc main_v2_1) = first (m ((c : Thread nD τ).loc main_arg9)) (m ((c : Thread nD τ).loc main_arg10))
      ∧ r.2.mem ((c.tc : Thread nD τ).loc main_v2_2) = second (m ((c : Thread nD τ).loc main_arg9)) (m ((c : Thread nD τ).loc main_arg11)))
    ∧ (r.2.mem ((c.tc : Thread nD τ).loc main_v3_0) = change (m ((c : Thread nD τ).loc main_arg12)) (m ((c : Thread nD τ).loc main_arg13))
        (m ((c : Thread nD τ).loc main_arg14)) (m ((c : Thread nD τ).loc main_arg15))
      ∧ r.2.mem ((c.tc : Thread nD τ).loc main_v3_1) = first (m ((c : Thread nD τ).loc main_arg13)) (m ((c : Thread nD τ).loc main_arg14))
      ∧ r.2.mem ((c.tc : Thread nD τ).loc main_v3_2) = second (m ((c : Thread nD τ).loc main_arg13)) (m ((c : Thread nD τ).loc main_arg15)))) :=
  (θ_run defs _ _).mono (fun r h c => by
    have at_end (b : Ref sig .tc) (hb : Proc.devRef .tc b ∈ Pipeline.ucRefs τ sig) := h.1 c _ hb
    obtain ⟨⟨a0, a1, a2⟩, ⟨b0, b1, b2⟩, ⟨c0, c1, c2⟩, d0, d1, d2⟩ := And.intro (end0 m ρ c) (And.intro (end1 m ρ c) (And.intro (end2 m ρ c) (end3 m ρ c)))
    exact ⟨⟨(at_end main_v0_0 (mem_uc _ (by decide))).trans a0, (at_end main_v0_1 (mem_uc _ (by decide))).trans a1,
        (at_end main_v0_2 (mem_uc _ (by decide))).trans a2⟩,
      ⟨(at_end main_v1_0 (mem_uc _ (by decide))).trans b0, (at_end main_v1_1 (mem_uc _ (by decide))).trans b1,
        (at_end main_v1_2 (mem_uc _ (by decide))).trans b2⟩,
      ⟨(at_end main_v2_0 (mem_uc _ (by decide))).trans c0, (at_end main_v2_1 (mem_uc _ (by decide))).trans c1,
        (at_end main_v2_2 (mem_uc _ (by decide))).trans c2⟩,
      (at_end main_v3_0 (mem_uc _ (by decide))).trans d0, (at_end main_v3_1 (mem_uc _ (by decide))).trans d1,
      (at_end main_v3_2 (mem_uc _ (by decide))).trans d2⟩) (run_all m ρ)

end Cert.UpdateIdeal.Steps

end
-- ==== Proof.UpdateRef.lean ====
/- The reference's AdamW lines, on an array of any shape, are the same step. -/
module

public import proofs.«01_k».proof.Proof.UpdateSpec
public import proofs.«01_k».proof.UpdateReferenceIdeal

@[expose] public section

noncomputable section

namespace Cert.UpdateRef

open Cert.UpdateReferenceIdeal Cert.Adam Idealize.ShloMosaic

variable {s : Shape} (h : S_.BroadcastsInDim s (![] : Fin 0 → Fin s.rank)) (w g m v : FVec Ideal s .f32)

/-- A constant in every place of an array. -/
abbrev everywhere (b : BitVec 32) : FVec Ideal s .f32 := broadcastInDim s ![] h (constant S_ .f32 b)

/-- The reference's first moments. -/
theorem first_eq : addf (mulf (everywhere h 0x3F666666#32) m) (mulf (everywhere h 0x3DCCCCCD#32) g) = first g m := rfl

/-- The reference's second moments. -/
theorem second_eq :
    addf (mulf (everywhere h 0x3F7FBE77#32) v) (mulf (everywhere h 0x3A83126F#32) (mulf g g)) = second g v := rfl

/-- The reference's changes of the weights. -/
theorem change_eq :
    mulf (everywhere h 0xBA83126F#32)
      (addf (Host.divf (Host.divf (addf (mulf (everywhere h 0x3F666666#32) m) (mulf (everywhere h 0x3DCCCCCD#32) g)) (everywhere h 0x3F26BD02#32))
          (addf (Host.sqrt (Host.divf (addf (mulf (everywhere h 0x3F7FBE77#32) v) (mulf (everywhere h 0x3A83126F#32) (mulf g g)))
              (everywhere h 0x3C231ACC#32)))
            (everywhere h 0x322BCC77#32)))
        (mulf (everywhere h 0x3C23D70A#32) w)) = change w g m v := rfl

end Cert.UpdateRef

end
-- ==== Proof.FeedforwardValue.lean ====
/- AdamW on the three weights of the FFN: what its grid leaves in every array is the step of every number. -/
module

public import proofs.«01_k».proof.Proof.Gen.FeedforwardIdeal.Value
public import proofs.«01_k».proof.Proof.UpdateSpec

@[expose] public section

noncomputable section

namespace Cert.FeedforwardIdeal.Steps

open Cert.FeedforwardIdeal Cert.FeedforwardIdeal.Value Cert.Adam
open Idealize.ShloMosaic Idealize.ShloMosaic.TcCoe Idealize.SL.Sem

/-- An argument as it was launched. -/
abbrev arg (m : (ℓ : Loc nD τ sig) → Buf (Elt Ideal) ℓ) (c : Dev nD) (b : Ref sig .tc) :
    Buf (Elt Ideal) ((c.tc : Thread nD τ).loc b) := m ((c.tc : Thread nD τ).loc b)

variable (w g m v : Vec Ideal S704x1024 .f32)

/-- The arrays of `w_gate`. -/
theorem gate : G12 w g m v = change w g m v ∧ G13 g m = first g m ∧ G14 g v = second g v := ⟨rfl, rfl, rfl⟩

/-- The arrays of `w_up`. -/
theorem up : G15 w g m v = change w g m v ∧ G16 g m = first g m ∧ G17 g v = second g v := ⟨rfl, rfl, rfl⟩

/-- The arrays of `w_down`. -/
theorem down : G18 w g m v = change w g m v ∧ G19 g m = first g m ∧ G20 g v = second g v := ⟨rfl, rfl, rfl⟩

end Cert.FeedforwardIdeal.Steps

end
-- ==== Proof.TotalsValue.lean ====
/- The sum of the statistics over the devices, and the loss: what the call and the host lines after it leave. -/
module

public import proofs.«01_k».proof.Proof.Gen.TotalsIdeal.Frame
public import Idealize.ShloMosaic.Lib.Pipeline.ValueKit
public import Idealize.ShloMosaic.Lib.Pointwise

@[expose] public section

set_option maxRecDepth 16384

noncomputable section

namespace Cert.TotalsIdeal.Sums

open Cert.TotalsIdeal Cert.TotalsIdeal.Gen
open Idealize.ShloMosaic Idealize.ShloMosaic.TcCoe Idealize.ShloMosaic.StableHlo Idealize.SL.Sem
open Idealize.ShloMosaic.Pipeline (Dat)

/-- Every statistic summed over the eight devices. -/
def summed (x : FVec Ideal S8x8x1024 .f32) : FVec Ideal S8x1024 .f32 := fun i => ∑ d : Fin 8, x (ix3 d (i 0) (i 1))

/-- The loss: the last row, summed over the devices and the features. -/
def loss (x : FVec Ideal S8x8x1024 .f32) : FVec Ideal S_ .f32 := fun _ => ∑ d : Fin 8, ∑ j : Fin 1024, x (ix3 d 7 j)

variable (m : (ℓ : Loc nD τ sig) → Buf (Elt Ideal) ℓ) (ρ : Dev nD → PrngReg)

theorem idx0 : win0_0.index t0_0 = ![0, 0, 0] ∧ win0_1.index t0_0 = ![0, 0] := by decide +kernel

/-- The call's array. -/
theorem final (c : Dev nD) : (dats m 0 c).arrAt 1 cfg0.N = summed (m ((c : Thread nD τ).loc main_arg0)) := by
  refine (dats m 0 c).arrAt_eq_of_after_last 1 t0_0 (by decide +kernel) _ fun j => ?_
  blk_simp
  rw [after0_1]; frame_out
  pointwise [k0_pay1, summed]
  rw [Fin.sum_univ_eight]
  blk_point [iblk, idx0]

/-- The host lines after the call: they sum the last row of its array. -/
theorem tail_eq (x : FVec Ideal S8x8x1024 .f32) :
    Host.reduceAdd (shapeCast S1024 (extractStridedSlice S1x1024 ![7, 0] (summed x) slices_S8x1024_S1x1024_7_0) shapeCasts_S1x1024_S1024)
      (constant (F := Ideal) S_ .f32 0x00000000#32) reducesTo_S1024_S_d0 h_S_ = loss x := by
  funext i
  pointwise [summed, loss]
  exact Finset.sum_comm

/-- The two results after the run. -/
theorem run_value : θ_run defs (onTc (τ := τ) (main (F := Ideal))) ⟨m, fun _ => 0, ρ⟩ (fun r => ∀ c : Dev nD,
    r.2.mem ((c.tc : Thread nD τ).loc main_v0) = summed (m ((c.tc : Thread nD τ).loc main_arg0))
    ∧ r.2.mem ((c.tc : Thread nD τ).loc main_v3) = loss (m ((c.tc : Thread nD τ).loc main_arg0))) := by
  refine (θ_run defs _ _).mono (fun r h c => ⟨((h c).1 1).trans (final m c), ((h c).2 main_v3 (by decide)).trans ?_⟩) (run_main m ρ)
  rw [← tail_eq, ← final m c]
  have harr : Pipeline.withArrays (cfgs 0).spec c (V0 m c) (fun w => (dats m 0 c).arrAt w (cfgs 0).N) (Proc.devRef .tc main_v0)
      = (dats m 0 c).arrAt 1 cfg0.N := Pipeline.withArrays_arr spec0 launch0.win.arr_inj c _ _ 1
  rw [← harr]
  show StableHlo.after hostOps1 _ _ = _
  generalize Pipeline.withArrays (cfgs 0).spec c (V0 m c) (fun w => (dats m 0 c).arrAt w (cfgs 0).N) = W
  after_results <;> rfl

end Cert.TotalsIdeal.Sums

end
-- ==== Proof.TotalsRef.lean ====
/- The reference's sums over the devices. -/
module

public import proofs.«01_k».proof.Proof.TotalsValue
public import proofs.«01_k».proof.Proof.Gen.TotalsReferenceIdeal.Read

@[expose] public section

set_option maxRecDepth 16384

noncomputable section

namespace Cert.TotalsRef

open Cert.TotalsReferenceIdeal Cert.TotalsReferenceIdeal.Read Cert.TotalsIdeal.Sums Idealize.ShloMosaic

/-- The statistics. -/
theorem stats (x : FVec Ideal S8x8x1024 .f32) : val_main_v0 (F := Ideal) x = summed x := by
  funext i
  pointwise [val_main_v0, val_main_cst, summed]

/-- The loss. -/
theorem total (x : FVec Ideal S8x8x1024 .f32) : val_main_v3 (F := Ideal) x = loss x := by
  funext i
  pointwise [val_main_v3, val_main_v2, val_main_v1, val_main_cst_0, loss]

end Cert.TotalsRef

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Pre_finite
public import proofs.«01_k».proof.Proof.Gen.Middle.Frame
public import proofs.«01_k».proof.Proof.Gen.MiddleIdeal.Frame
public import proofs.«01_k».proof.Proof.Gen.MiddleReferenceIdeal.Run
public import proofs.«01_k».proof.Proof.Gen.MiddleReferenceIdeal.Read
public import proofs.«01_k».proof.Proof.Gen.Pre_reals
public import proofs.«01_k».proof.Proof.KernelFrame
public import proofs.«01_k».proof.Proof.KernelIdealFrame
public import proofs.«01_k».proof.Proof.Arrays
public import proofs.«01_k».proof.Proof.RefArrays
public import proofs.«01_k».proof.Proof.Finite
public import proofs.«01_k».proof.Proof.MiddleFrame
public import proofs.«01_k».proof.Proof.MiddleArrays
public import proofs.«01_k».proof.Proof.MiddleRefBack
public import proofs.«01_k».proof.Proof.MiddleFinite
public import proofs.«01_k».proof.Proof.Gen.Weights.Frame
public import proofs.«01_k».proof.Proof.WeightsRun
public import proofs.«01_k».proof.Proof.WeightsRef
public import proofs.«01_k».proof.Proof.Gen.WeightsReferenceIdeal.Run
public import Idealize.ShloMosaic.Adequacy
public import Idealize.ShloMosaic.Init
public import proofs.«01_k».proof.Proof.Gen.Update.Frame
public import proofs.«01_k».proof.Proof.UpdateRun
public import proofs.«01_k».proof.Proof.UpdateRef
public import proofs.«01_k».proof.Proof.Gen.Feedforward.Frame
public import proofs.«01_k».proof.Proof.FeedforwardValue
public import proofs.«01_k».proof.Proof.Gen.FeedforwardReferenceIdeal.Run
public import proofs.«01_k».proof.Proof.Gen.UpdateReferenceIdeal.Run
public import proofs.«01_k».proof.Proof.Gen.Totals.Frame
public import proofs.«01_k».proof.Proof.TotalsRef
public import proofs.«01_k».proof.Proof.Gen.TotalsReferenceIdeal.Run

@[expose] public section

noncomputable section

namespace Cert.Proof

open Idealize.ShloMosaic Idealize.SL.Sem
open Cert.KernelIdeal.Sweep (allDq allDk allDv a0 a1 a2 a3 Fin4)

/-- The kernel's frame. -/
theorem frame_p : Cert.quiescent_Kernel := fun m ρ _ => Cert.Kernel.Hand.frame m ρ

/-- The frame of the kernel with its mask named. -/
theorem frame_pi : Cert.quiescent_KernelIdeal := fun m ρ _ => Cert.KernelIdeal.Hand.frame m ρ

/-- The reference's frame: it runs on the host alone and has no counter. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The mask's name stands for the value it was given. -/
theorem preserves : Cert.preserves_Kernel_KernelIdeal :=
  IdealRules.named_const.statement Cert.KernelIdeal.κ "mask" .f32 0xF149F2CA#32 ⊥ rfl

/-- The kernel's three gradients are the reference's, on arguments that hold real numbers. -/
theorem algebraic : Cert.algebraic_KernelIdeal_ReferenceIdeal_pre_finite := by
  intro m g m' g' hpre hagree
  have hf : ∀ c, Fin4 m c := fun c =>
    let h := Cert.Finite.allReal (hpre c)
    ⟨h.1, h.2.1, h.2.2.1, h.2.2.2⟩
  refine ⟨fun c => allDq (a0 m c) (a1 m c) (a2 m c) (a3 m c), fun c => allDk (a0 m c) (a1 m c) (a2 m c) (a3 m c),
    fun c => allDv (a0 m c) (a1 m c) (a3 m c), ?_, ?_⟩
  · exact (θ_run Cert.KernelIdeal.defs _ _).mono (fun r h c => ⟨(h.1 c).1, (h.1 c).2.1, (h.1 c).2.2, h.2.1 c⟩)
      (θ_run_and (Cert.KernelIdeal.Sweep.run_value g hf) (Cert.KernelIdeal.Hand.frame m g))
  · refine (θ_run Cert.ReferenceIdeal.defs _ _).mono (fun r h c => ?_) (Cert.ReferenceIdeal.Value.run (F := Ideal) m' g')
    obtain ⟨e0, e1, e2, e3⟩ := hagree c
    refine ⟨(h c).1.trans ?_, (h c).2.1.trans ?_, (h c).2.2.1.trans ?_, (h c).2.2.2⟩
    · rw [Cert.ReferenceIdeal.Read.val_main_v75_eq, e0, e1, e2, e3]
      exact Cert.RefValue.arrQ (hf c).a0 (hf c).a1 (hf c).a2 (hf c).a3
    · rw [Cert.ReferenceIdeal.Read.val_main_v76_eq, e0, e1, e2, e3]
      exact Cert.RefValue.arrK (hf c).a0 (hf c).a1 (hf c).a2 (hf c).a3
    · rw [Cert.ReferenceIdeal.Read.val_main_v77_eq, e0, e1, e3]
      exact Cert.RefValue.arrV (hf c).a0 (hf c).a1 (hf c).a3

/-- The middle's frame. -/
theorem frame_mp : Cert.quiescent_Middle := Cert.Middle.Hand.frame

/-- The frame of the middle over the real numbers. -/
theorem frame_mi : Cert.quiescent_MiddleIdeal := fun m ρ _ => Cert.MiddleIdeal.Hand.frame m ρ

/-- The frame of the middle's reference. -/
theorem frame_mr : Cert.quiescent_MiddleReferenceIdeal := fun m ρ _ =>
  (θ_run Cert.MiddleReferenceIdeal.defs _ _).mono
    (fun r h => ⟨fun c => (h c).2.2.2.2.2.2.2.2.2.2, sem_eq_zero_of_no_sems (by decide) r.2⟩)
    (Cert.MiddleReferenceIdeal.Value.run (F := Ideal) m ρ)

open Cert.MiddleIdeal.Sums (par tok Real12) in
/-- The middle's ten arrays are its reference's, on arguments that hold real numbers. -/
theorem algebraic_middle : Cert.algebraic_MiddleIdeal_MiddleReferenceIdeal_pre_reals := by
  intro m g m' g' hpre hagree
  have hf : ∀ c, Real12 m c := fun c => Cert.MiddleFinite.allReal (hpre c)
  refine ⟨fun c => Cert.Mid.rows fun r e => Cert.Mid.a (par m c) (tok m c r) e,
    fun c => Cert.Mid.rows fun r e => Cert.Mid.h2 (par m c) (tok m c r) e,
    fun c => Cert.Mid.rows fun r e => Cert.Mid.hid (par m c) (tok m c r) e,
    fun c => Cert.Mid.rows fun r e => Cert.Mid.dg (par m c) (tok m c r) e,
    fun c => Cert.Mid.rows fun r e => Cert.Mid.du (par m c) (tok m c r) e,
    fun c => Cert.Mid.rows fun r e => Cert.Mid.dx3 (par m c) (tok m c r) e,
    fun c => Cert.Mid.rows fun r e => Cert.Mid.dx2 (par m c) (tok m c r) e,
    fun c => Cert.Mid.rows fun r e => Cert.Mid.dof (par m c) (tok m c r) e,
    fun c => Cert.Mid.rows fun r e => Cert.Mid.dom (par m c) (tok m c r) e,
    fun c => Cert.Mid.total (par m c) (tok m c), ?_, ?_⟩
  · refine (θ_run Cert.MiddleIdeal.defs _ _).mono (fun r h c => ?_)
      (θ_run_and (Cert.MiddleIdeal.Sums.run_value g hf) (Cert.MiddleIdeal.Hand.frame m g))
    obtain ⟨v0, v1, v2, v3, v4, v5, v6, v7, v8, v9⟩ := h.1 c
    exact ⟨v0, v1, v2, v3, v4, v5, v6, v7, v8, v9, h.2.1 c⟩
  · refine (θ_run Cert.MiddleReferenceIdeal.defs _ _).mono (fun r h c => ?_) (Cert.MiddleReferenceIdeal.Value.run (F := Ideal) m' g')
    obtain ⟨e0, e1, e2, e3, e4, e5, e6, e7, e8, e9, e10, e11⟩ := hagree c
    have A : Cert.MiddleRef.Args (m' ((c.tc : Thread Cert.MiddleReferenceIdeal.nD Cert.MiddleReferenceIdeal.τ).loc Cert.MiddleReferenceIdeal.main_arg0))
      (m' ((c.tc : Thread Cert.MiddleReferenceIdeal.nD Cert.MiddleReferenceIdeal.τ).loc Cert.MiddleReferenceIdeal.main_arg1))
      (m' ((c.tc : Thread Cert.MiddleReferenceIdeal.nD Cert.MiddleReferenceIdeal.τ).loc Cert.MiddleReferenceIdeal.main_arg2))
      (m' ((c.tc : Thread Cert.MiddleReferenceIdeal.nD Cert.MiddleReferenceIdeal.τ).loc Cert.MiddleReferenceIdeal.main_arg3))
      (m' ((c.tc : Thread Cert.MiddleReferenceIdeal.nD Cert.MiddleReferenceIdeal.τ).loc Cert.MiddleReferenceIdeal.main_arg4))
      (m' ((c.tc : Thread Cert.MiddleReferenceIdeal.nD Cert.MiddleReferenceIdeal.τ).loc Cert.MiddleReferenceIdeal.main_arg5))
      (m' ((c.tc : Thread Cert.MiddleReferenceIdeal.nD Cert.MiddleReferenceIdeal.τ).loc Cert.MiddleReferenceIdeal.main_arg6))
      (m' ((c.tc : Thread Cert.MiddleReferenceIdeal.nD Cert.MiddleReferenceIdeal.τ).loc Cert.MiddleReferenceIdeal.main_arg7))
      (m' ((c.tc : Thread Cert.MiddleReferenceIdeal.nD Cert.MiddleReferenceIdeal.τ).loc Cert.MiddleReferenceIdeal.main_arg8))
      (m' ((c.tc : Thread Cert.MiddleReferenceIdeal.nD Cert.MiddleReferenceIdeal.τ).loc Cert.MiddleReferenceIdeal.main_arg9))
      (m' ((c.tc : Thread Cert.MiddleReferenceIdeal.nD Cert.MiddleReferenceIdeal.τ).loc Cert.MiddleReferenceIdeal.main_arg10))
      (m' ((c.tc : Thread Cert.MiddleReferenceIdeal.nD Cert.MiddleReferenceIdeal.τ).loc Cert.MiddleReferenceIdeal.main_arg11)) (par m c) (tok m c) := by
      rw [e0, e1, e2, e3, e4, e5, e6, e7, e8, e9, e10, e11]
      exact Cert.MiddleRef.args (hf c)
    obtain ⟨v0, v1, v2, v3, v4, v5, v6, v7, v8, v9, kept⟩ := h c
    clear hpre hagree h e0 e1 e2 e3 e4 e5 e6 e7 e8 e9 e10 e11
    refine ⟨v0.trans ((Cert.MiddleReferenceIdeal.Read.val_main_v180_eq (F := Ideal) _).trans (Cert.MiddleRef.arr_a A)),
      v1.trans ((Cert.MiddleReferenceIdeal.Read.val_main_v181_eq (F := Ideal) _).trans (Cert.MiddleRef.arr_h2 A)),
      v2.trans ((Cert.MiddleReferenceIdeal.Read.val_main_v182_eq (F := Ideal) _).trans (Cert.MiddleRef.arr_hid A)),
      v3.trans ((Cert.MiddleReferenceIdeal.Read.val_main_v183_eq (F := Ideal) _).trans (Cert.MiddleRef.arr_dg A)),
      v4.trans ((Cert.MiddleReferenceIdeal.Read.val_main_v184_eq (F := Ideal) _).trans (Cert.MiddleRef.arr_du A)),
      v5.trans ((Cert.MiddleReferenceIdeal.Read.val_main_v185_eq (F := Ideal) _).trans (Cert.MiddleRef.arr_dx3 A)),
      v6.trans ((Cert.MiddleReferenceIdeal.Read.val_main_v134_eq (F := Ideal) _).trans (Cert.MiddleRef.arr_dx2 A)),
      v7.trans ((Cert.MiddleReferenceIdeal.Read.val_main_v186_eq (F := Ideal) _).trans (Cert.MiddleRef.arr_dof A)),
      v8.trans ((Cert.MiddleReferenceIdeal.Read.val_main_v187_eq (F := Ideal) _).trans (Cert.MiddleRef.arr_dom A)),
      v9.trans ((Cert.MiddleReferenceIdeal.Read.val_main_v179_eq (F := Ideal) _).trans (Cert.MiddleRef.arr_sums A)), kept⟩

/-- The frame of the weight gradients. -/
theorem frame_wp : Cert.quiescent_Weights := fun m ρ _ => Cert.Weights.Gen.frame m ρ

/-- The frame of the weight gradients over the real numbers. -/
theorem frame_wi : Cert.quiescent_WeightsIdeal := fun m ρ _ => Cert.WeightsIdeal.Gen.frame m ρ

/-- The frame of their reference. -/
theorem frame_wr : Cert.quiescent_WeightsReferenceIdeal := fun m ρ _ =>
  (θ_run Cert.WeightsReferenceIdeal.defs _ _).mono
    (fun r h => ⟨fun c => (h c).2.2.2.2.2, sem_eq_zero_of_no_sems (by decide) r.2⟩)
    (Cert.WeightsReferenceIdeal.Value.run (F := Ideal) m ρ)

open Cert.WeightsIdeal.Sums (outer) in
/-- The five weight gradients are the reference's, on all arguments. -/
theorem algebraic_weights : Cert.algebraic_WeightsIdeal_WeightsReferenceIdeal := by
  intro m g m' g' _ hagree
  refine ⟨fun c => outer (m ((c.tc : Thread Cert.WeightsIdeal.nD Cert.WeightsIdeal.τ).loc Cert.WeightsIdeal.main_arg0))
      (m ((c.tc : Thread Cert.WeightsIdeal.nD Cert.WeightsIdeal.τ).loc Cert.WeightsIdeal.main_arg1)),
    fun c => outer (m ((c.tc : Thread Cert.WeightsIdeal.nD Cert.WeightsIdeal.τ).loc Cert.WeightsIdeal.main_arg2))
      (m ((c.tc : Thread Cert.WeightsIdeal.nD Cert.WeightsIdeal.τ).loc Cert.WeightsIdeal.main_arg3)),
    fun c => outer (m ((c.tc : Thread Cert.WeightsIdeal.nD Cert.WeightsIdeal.τ).loc Cert.WeightsIdeal.main_arg4))
      (m ((c.tc : Thread Cert.WeightsIdeal.nD Cert.WeightsIdeal.τ).loc Cert.WeightsIdeal.main_arg3)),
    fun c => outer (m ((c.tc : Thread Cert.WeightsIdeal.nD Cert.WeightsIdeal.τ).loc Cert.WeightsIdeal.main_arg5))
      (m ((c.tc : Thread Cert.WeightsIdeal.nD Cert.WeightsIdeal.τ).loc Cert.WeightsIdeal.main_arg6)),
    fun c => outer (m ((c.tc : Thread Cert.WeightsIdeal.nD Cert.WeightsIdeal.τ).loc Cert.WeightsIdeal.main_arg7))
      (m ((c.tc : Thread Cert.WeightsIdeal.nD Cert.WeightsIdeal.τ).loc Cert.WeightsIdeal.main_arg8)), ?_, ?_⟩
  · refine (θ_run Cert.WeightsIdeal.defs _ _).mono (fun r h c => ?_)
      (θ_run_and (Cert.WeightsIdeal.Sums.run_value m g) (Cert.WeightsIdeal.Gen.frame m g))
    obtain ⟨v0, v1, v2, v3, v4⟩ := h.1 c
    exact ⟨v0, v1, v2, v3, v4, h.2.1 c⟩
  · refine (θ_run Cert.WeightsReferenceIdeal.defs _ _).mono (fun r h c => ?_)
      (Cert.WeightsReferenceIdeal.Value.run (F := Ideal) m' g')
    obtain ⟨e0, e1, e2, e3, e4, e5, e6, e7, e8⟩ := hagree c
    obtain ⟨v0, v1, v2, v3, v4, kept⟩ := h c
    exact ⟨v0.trans ((Cert.WeightsRef.project _ _).trans (congrArg₂ outer e0 e1)),
      v1.trans ((Cert.WeightsRef.gate _ _).trans (congrArg₂ outer e2 e3)),
      v2.trans ((Cert.WeightsRef.up _ _).trans (congrArg₂ outer e4 e3)),
      v3.trans ((Cert.WeightsRef.down _ _).trans (congrArg₂ outer e5 e6)),
      v4.trans ((Cert.WeightsRef.inward _ _).trans (congrArg₂ outer e7 e8)), kept⟩

/-- The frame of the four AdamW calls. -/
theorem frame_up : Cert.quiescent_Update := fun m ρ _ => Cert.Update.Gen.frame m ρ

/-- Their frame over the real numbers. -/
theorem frame_ui : Cert.quiescent_UpdateIdeal := fun m ρ _ => Cert.UpdateIdeal.Gen.frame m ρ

/-- The frame of their reference. -/
theorem frame_ur : Cert.quiescent_UpdateReferenceIdeal := fun m ρ _ =>
  (θ_run Cert.UpdateReferenceIdeal.defs _ _).mono
    (fun r h => ⟨fun c => (h c).2.2.2.2.2.2.2.2.2.2.2.2, sem_eq_zero_of_no_sems (by decide) r.2⟩)
    (Cert.UpdateReferenceIdeal.Value.run (F := Ideal) m ρ)

open Cert.UpdateRef (first_eq second_eq change_eq) in
open Cert.Adam (first second change) in
open Cert.UpdateIdeal.Steps (arg) in
open Cert.UpdateIdeal (main_arg0 main_arg1 main_arg2 main_arg3 main_arg4 main_arg5 main_arg6 main_arg7 main_arg8
  main_arg9 main_arg10 main_arg11 main_arg12 main_arg13 main_arg14 main_arg15) in
/-- The changes and the new moments of the four weights are the reference's, on all arguments. -/
theorem algebraic_update : Cert.algebraic_UpdateIdeal_UpdateReferenceIdeal := by
  intro m g m' g' _ hagree
  refine ⟨fun c => change (arg m c main_arg0) (arg m c main_arg1) (arg m c main_arg2) (arg m c main_arg3),
    fun c => first (arg m c main_arg1) (arg m c main_arg2),
    fun c => second (arg m c main_arg1) (arg m c main_arg3),
    fun c => change (arg m c main_arg4) (arg m c main_arg5) (arg m c main_arg6) (arg m c main_arg7),
    fun c => first (arg m c main_arg5) (arg m c main_arg6),
    fun c => second (arg m c main_arg5) (arg m c main_arg7),
    fun c => change (arg m c main_arg8) (arg m c main_arg9) (arg m c main_arg10) (arg m c main_arg11),
    fun c => first (arg m c main_arg9) (arg m c main_arg10),
    fun c => second (arg m c main_arg9) (arg m c main_arg11),
    fun c => change (arg m c main_arg12) (arg m c main_arg13) (arg m c main_arg14) (arg m c main_arg15),
    fun c => first (arg m c main_arg13) (arg m c main_arg14),
    fun c => second (arg m c main_arg13) (arg m c main_arg15), ?kernel, ?reference⟩
  case kernel =>
    exact (θ_run Cert.UpdateIdeal.defs _ _).mono
      (fun r h c => ⟨(h.1 c).1.1, (h.1 c).1.2.1, (h.1 c).1.2.2, (h.1 c).2.1.1, (h.1 c).2.1.2.1, (h.1 c).2.1.2.2,
        (h.1 c).2.2.1.1, (h.1 c).2.2.1.2.1, (h.1 c).2.2.1.2.2, (h.1 c).2.2.2.1, (h.1 c).2.2.2.2.1, (h.1 c).2.2.2.2.2, h.2.1 c⟩)
      (θ_run_and (Cert.UpdateIdeal.Steps.run_value m g) (Cert.UpdateIdeal.Gen.frame m g))
  case reference =>
    refine (θ_run Cert.UpdateReferenceIdeal.defs _ _).mono (fun r h c => ?_)
      (Cert.UpdateReferenceIdeal.Value.run (F := Ideal) m' g')
    obtain ⟨e0, e1, e2, e3, e4, e5, e6, e7, e8, e9, e10, e11, e12, e13, e14, e15⟩ := hagree c
    obtain ⟨v0, v1, v2, v3, v4, v5, v6, v7, v8, v9, v10, v11, kept⟩ := h c
    refine ⟨v0.trans ((change_eq _ _ _ _ _).trans ?_), v1.trans ((first_eq _ _ _).trans ?_), v2.trans ((second_eq _ _ _).trans ?_),
      v3.trans ((change_eq _ _ _ _ _).trans ?_), v4.trans ((first_eq _ _ _).trans ?_), v5.trans ((second_eq _ _ _).trans ?_),
      v6.trans ((change_eq _ _ _ _ _).trans ?_), v7.trans ((first_eq _ _ _).trans ?_), v8.trans ((second_eq _ _ _).trans ?_),
      v9.trans ((change_eq _ _ _ _ _).trans ?_), v10.trans ((first_eq _ _ _).trans ?_), v11.trans ((second_eq _ _ _).trans ?_), kept⟩
    · rw [e0, e1, e2, e3]
    · rw [e1, e2]
    · rw [e1, e3]
    · rw [e4, e5, e6, e7]
    · rw [e5, e6]
    · rw [e5, e7]
    · rw [e8, e9, e10, e11]
    · rw [e9, e10]
    · rw [e9, e11]
    · rw [e12, e13, e14, e15]
    · rw [e13, e14]
    · rw [e13, e15]

/-- The frame of the sum over the devices. -/
theorem frame_tp : Cert.quiescent_Totals := fun m ρ _ => Cert.Totals.Gen.frame m ρ

/-- Its frame over the real numbers. -/
theorem frame_ti : Cert.quiescent_TotalsIdeal := fun m ρ _ => Cert.TotalsIdeal.Gen.frame m ρ

/-- The frame of its reference. -/
theorem frame_tr : Cert.quiescent_TotalsReferenceIdeal := fun m ρ _ =>
  (θ_run Cert.TotalsReferenceIdeal.defs _ _).mono (fun r h => ⟨fun c => (h c).2.2, sem_eq_zero_of_no_sems (by decide) r.2⟩)
    (Cert.TotalsReferenceIdeal.Value.run (F := Ideal) m ρ)

open Cert.TotalsIdeal.Sums (summed loss) in
/-- The summed statistics and the loss are the reference's, on all arguments. -/
theorem algebraic_totals : Cert.algebraic_TotalsIdeal_TotalsReferenceIdeal := by
  intro m g m' g' _ hagree
  refine ⟨fun c => summed (m ((c.tc : Thread Cert.TotalsIdeal.nD Cert.TotalsIdeal.τ).loc Cert.TotalsIdeal.main_arg0)),
    fun c => loss (m ((c.tc : Thread Cert.TotalsIdeal.nD Cert.TotalsIdeal.τ).loc Cert.TotalsIdeal.main_arg0)), ?_, ?_⟩
  · exact (θ_run Cert.TotalsIdeal.defs _ _).mono (fun r h c => ⟨(h.1 c).1, (h.1 c).2, h.2.1 c⟩)
      (θ_run_and (Cert.TotalsIdeal.Sums.run_value m g) (Cert.TotalsIdeal.Gen.frame m g))
  · refine (θ_run Cert.TotalsReferenceIdeal.defs _ _).mono (fun r h c => ?_)
      (Cert.TotalsReferenceIdeal.Value.run (F := Ideal) m' g')
    exact ⟨(h c).1.trans ((Cert.TotalsRef.stats _).trans (congrArg summed (hagree c))),
      (h c).2.1.trans ((Cert.TotalsRef.total _).trans (congrArg loss (hagree c))), (h c).2.2⟩

/-- The frame of AdamW on the three weights of the FFN. -/
theorem frame_fp : Cert.quiescent_Feedforward := fun m ρ _ => Cert.Feedforward.Gen.frame m ρ

/-- Its frame over the real numbers. -/
theorem frame_fi : Cert.quiescent_FeedforwardIdeal := fun m ρ _ => Cert.FeedforwardIdeal.Gen.frame m ρ

/-- The frame of its reference. -/
theorem frame_fr : Cert.quiescent_FeedforwardReferenceIdeal := fun m ρ _ =>
  (θ_run Cert.FeedforwardReferenceIdeal.defs _ _).mono
    (fun r h => ⟨fun c => (h c).2.2.2.2.2.2.2.2.2, sem_eq_zero_of_no_sems (by decide) r.2⟩)
    (Cert.FeedforwardReferenceIdeal.Value.run (F := Ideal) m ρ)

open Cert.UpdateRef (first_eq second_eq change_eq) in
open Cert.Adam (first second change) in
open Cert.FeedforwardIdeal.Steps (arg gate up down) in
open Cert.FeedforwardIdeal (main_arg0 main_arg1 main_arg2 main_arg3 main_arg4 main_arg5 main_arg6 main_arg7 main_arg8
  main_arg9 main_arg10 main_arg11) in
/-- The changes and the new moments of the FFN's weights are the reference's, on all arguments. -/
theorem algebraic_feedforward : Cert.algebraic_FeedforwardIdeal_FeedforwardReferenceIdeal := by
  intro m g m' g' _ hagree
  refine ⟨fun c => change (arg m c main_arg0) (arg m c main_arg1) (arg m c main_arg2) (arg m c main_arg3),
    fun c => first (arg m c main_arg1) (arg m c main_arg2),
    fun c => second (arg m c main_arg1) (arg m c main_arg3),
    fun c => change (arg m c main_arg4) (arg m c main_arg5) (arg m c main_arg6) (arg m c main_arg7),
    fun c => first (arg m c main_arg5) (arg m c main_arg6),
    fun c => second (arg m c main_arg5) (arg m c main_arg7),
    fun c => change (arg m c main_arg8) (arg m c main_arg9) (arg m c main_arg10) (arg m c main_arg11),
    fun c => first (arg m c main_arg9) (arg m c main_arg10),
    fun c => second (arg m c main_arg9) (arg m c main_arg11), ?kernel, ?reference⟩
  case kernel =>
    refine (θ_run Cert.FeedforwardIdeal.defs _ _).mono (fun r h c => ?_) (Cert.FeedforwardIdeal.Value.run (F := Ideal) m g)
    obtain ⟨v0, v1, v2, v3, v4, v5, v6, v7, v8, kept⟩ := h c
    exact ⟨v0.trans (gate _ _ _ _).1, v1.trans (gate (arg m c main_arg0) _ _ (arg m c main_arg3)).2.1,
      v2.trans (gate (arg m c main_arg0) _ (arg m c main_arg2) _).2.2, v3.trans (up _ _ _ _).1,
      v4.trans (up (arg m c main_arg4) _ _ (arg m c main_arg7)).2.1, v5.trans (up (arg m c main_arg4) _ (arg m c main_arg6) _).2.2,
      v6.trans (down _ _ _ _).1, v7.trans (down (arg m c main_arg8) _ _ (arg m c main_arg11)).2.1,
      v8.trans (down (arg m c main_arg8) _ (arg m c main_arg10) _).2.2, kept⟩
  case reference =>
    refine (θ_run Cert.FeedforwardReferenceIdeal.defs _ _).mono (fun r h c => ?_)
      (Cert.FeedforwardReferenceIdeal.Value.run (F := Ideal) m' g')
    obtain ⟨e0, e1, e2, e3, e4, e5, e6, e7, e8, e9, e10, e11⟩ := hagree c
    obtain ⟨v0, v1, v2, v3, v4, v5, v6, v7, v8, kept⟩ := h c
    refine ⟨v0.trans ((change_eq _ _ _ _ _).trans ?_), v1.trans ((first_eq _ _ _).trans ?_), v2.trans ((second_eq _ _ _).trans ?_),
      v3.trans ((change_eq _ _ _ _ _).trans ?_), v4.trans ((first_eq _ _ _).trans ?_), v5.trans ((second_eq _ _ _).trans ?_),
      v6.trans ((change_eq _ _ _ _ _).trans ?_), v7.trans ((first_eq _ _ _).trans ?_), v8.trans ((second_eq _ _ _).trans ?_), kept⟩
    · rw [e0, e1, e2, e3]
    · rw [e1, e2]
    · rw [e1, e3]
    · rw [e4, e5, e6, e7]
    · rw [e5, e6]
    · rw [e5, e7]
    · rw [e8, e9, e10, e11]
    · rw [e9, e10]
    · rw [e9, e11]

theorem claim : Cert.Claim := ⟨Cert.Kernel.Gen.facts, Cert.KernelIdeal.Gen.facts, Cert.ReferenceIdeal.Gen.facts, Cert.Middle.Gen.facts,
  Cert.MiddleIdeal.Gen.facts, Cert.MiddleReferenceIdeal.Gen.facts, Cert.Weights.Gen.facts, Cert.WeightsIdeal.Gen.facts,
  Cert.WeightsReferenceIdeal.Gen.facts, Cert.Update.Gen.facts, Cert.UpdateIdeal.Gen.facts, Cert.UpdateReferenceIdeal.Gen.facts,
  Cert.Totals.Gen.facts, Cert.TotalsIdeal.Gen.facts, Cert.TotalsReferenceIdeal.Gen.facts,
  Cert.Feedforward.Gen.facts, Cert.FeedforwardIdeal.Gen.facts, Cert.FeedforwardReferenceIdeal.Gen.facts,
  Cert.Pre_finite.Gen.facts, Cert.Pre_reals.Gen.facts,
  frame_p, frame_pi, fun m ρ _ => frame_pi m ρ trivial, frame_ri, fun m ρ _ => frame_ri m ρ trivial,
  frame_mp, frame_mi, fun m ρ _ => frame_mi m ρ trivial, frame_mr, fun m ρ _ => frame_mr m ρ trivial,
  frame_wp, frame_wi, frame_wr, frame_up, frame_ui, frame_ur, frame_tp, frame_ti, frame_tr, frame_fp, frame_fi, frame_fr,
  preserves, algebraic, trivial, algebraic_middle, trivial, algebraic_weights, trivial, algebraic_update, trivial, algebraic_totals,
  trivial, algebraic_feedforward⟩

end Cert.Proof

end
